-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ranked [hPre_ranked : Cert.Pre_ranked.Facts] (m : (ℓ : Loc Cert.KernelIdeal.nD Cert.KernelIdeal.τ Cert.KernelIdeal.sig) → Buf (Elt Ideal) ℓ) : Prop :=
  ∀ c : Dev Cert.KernelIdeal.nD,
    (Cert.Pre_ranked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranked [hPre_ranked : Cert.Pre_ranked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Match (m : (ℓ : Loc Cert.Match.nD Cert.Match.τ Cert.Match.sig) → Buf (Elt Bits) ℓ) : Prop :=
  True

def Pre_MatchIdeal (m : (ℓ : Loc Cert.MatchIdeal.nD Cert.MatchIdeal.τ Cert.MatchIdeal.sig) → Buf (Elt Ideal) ℓ) : Prop :=
  True

def Pre_MatchIdeal_proper [hPre_proper : Cert.Pre_proper.Facts] (m : (ℓ : Loc Cert.MatchIdeal.nD Cert.MatchIdeal.τ Cert.MatchIdeal.sig) → Buf (Elt Ideal) ℓ) : Prop :=
  ∀ c : Dev Cert.MatchIdeal.nD,
    (Cert.Pre_proper.fn (F := Ideal) (m ((c.tc : Thread Cert.MatchIdeal.nD Cert.MatchIdeal.τ).loc Cert.MatchIdeal.main_arg0)) (m ((c.tc : Thread Cert.MatchIdeal.nD Cert.MatchIdeal.τ).loc Cert.MatchIdeal.main_arg1)) (m ((c.tc : Thread Cert.MatchIdeal.nD Cert.MatchIdeal.τ).loc Cert.MatchIdeal.main_arg2)) (m ((c.tc : Thread Cert.MatchIdeal.nD Cert.MatchIdeal.τ).loc Cert.MatchIdeal.main_arg3))) = (fun _ => 1#1)

def Pre_MatchReferenceIdeal (m : (ℓ : Loc Cert.MatchReferenceIdeal.nD Cert.MatchReferenceIdeal.τ Cert.MatchReferenceIdeal.sig) → Buf (Elt Ideal) ℓ) : Prop :=
  True

def Pre_MatchReferenceIdeal_proper [hPre_proper : Cert.Pre_proper.Facts] (m : (ℓ : Loc Cert.MatchReferenceIdeal.nD Cert.MatchReferenceIdeal.τ Cert.MatchReferenceIdeal.sig) → Buf (Elt Ideal) ℓ) : Prop :=
  ∀ c : Dev Cert.MatchReferenceIdeal.nD,
    (Cert.Pre_proper.fn (F := Ideal) (m ((c.tc : Thread Cert.MatchReferenceIdeal.nD Cert.MatchReferenceIdeal.τ).loc Cert.MatchReferenceIdeal.main_arg0)) (m ((c.tc : Thread Cert.MatchReferenceIdeal.nD Cert.MatchReferenceIdeal.τ).loc Cert.MatchReferenceIdeal.main_arg1)) (m ((c.tc : Thread Cert.MatchReferenceIdeal.nD Cert.MatchReferenceIdeal.τ).loc Cert.MatchReferenceIdeal.main_arg2)) (m ((c.tc : Thread Cert.MatchReferenceIdeal.nD Cert.MatchReferenceIdeal.τ).loc Cert.MatchReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ranked [hKernelIdeal : Cert.KernelIdeal.Facts] [hPre_ranked : Cert.Pre_ranked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ranked m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ranked [hReferenceIdeal : Cert.ReferenceIdeal.Facts] [hPre_ranked : Cert.Pre_ranked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Match [hMatch : Cert.Match.Facts] : Prop :=
  ∀ (m : (ℓ : Loc Cert.Match.nD Cert.Match.τ Cert.Match.sig) → Buf (Elt Bits) ℓ) (g : Dev Cert.Match.nD → PrngReg), Pre_Match m →
    θ_run (Cert.Match.defs (F := Bits)) (onTc (τ := Cert.Match.τ) (Cert.Match.main (F := Bits))) ⟨m, fun _ => 0, g⟩ (fun r => (∀ c : Dev Cert.Match.nD,
      r.2.mem ((c.tc : Thread Cert.Match.nD Cert.Match.τ).loc Cert.Match.main_arg0) = m ((c.tc : Thread Cert.Match.nD Cert.Match.τ).loc Cert.Match.main_arg0)
      ∧ r.2.mem ((c.tc : Thread Cert.Match.nD Cert.Match.τ).loc Cert.Match.main_arg1) = m ((c.tc : Thread Cert.Match.nD Cert.Match.τ).loc Cert.Match.main_arg1)
      ∧ r.2.mem ((c.tc : Thread Cert.Match.nD Cert.Match.τ).loc Cert.Match.main_arg2) = m ((c.tc : Thread Cert.Match.nD Cert.Match.τ).loc Cert.Match.main_arg2)
      ∧ r.2.mem ((c.tc : Thread Cert.Match.nD Cert.Match.τ).loc Cert.Match.main_arg3) = m ((c.tc : Thread Cert.Match.nD Cert.Match.τ).loc Cert.Match.main_arg3))
      ∧ r.2.sem = fun _ => 0)

def quiescent_MatchIdeal [hMatchIdeal : Cert.MatchIdeal.Facts] : Prop :=
  ∀ (m : (ℓ : Loc Cert.MatchIdeal.nD Cert.MatchIdeal.τ Cert.MatchIdeal.sig) → Buf (Elt Ideal) ℓ) (g : Dev Cert.MatchIdeal.nD → PrngReg), Pre_MatchIdeal m →
    θ_run (Cert.MatchIdeal.defs (F := Ideal)) (onTc (τ := Cert.MatchIdeal.τ) (Cert.MatchIdeal.main (F := Ideal))) ⟨m, fun _ => 0, g⟩ (fun r => (∀ c : Dev Cert.MatchIdeal.nD,
      r.2.mem ((c.tc : Thread Cert.MatchIdeal.nD Cert.MatchIdeal.τ).loc Cert.MatchIdeal.main_arg0) = m ((c.tc : Thread Cert.MatchIdeal.nD Cert.MatchIdeal.τ).loc Cert.MatchIdeal.main_arg0)
      ∧ r.2.mem ((c.tc : Thread Cert.MatchIdeal.nD Cert.MatchIdeal.τ).loc Cert.MatchIdeal.main_arg1) = m ((c.tc : Thread Cert.MatchIdeal.nD Cert.MatchIdeal.τ).loc Cert.MatchIdeal.main_arg1)
      ∧ r.2.mem ((c.tc : Thread Cert.MatchIdeal.nD Cert.MatchIdeal.τ).loc Cert.MatchIdeal.main_arg2) = m ((c.tc : Thread Cert.MatchIdeal.nD Cert.MatchIdeal.τ).loc Cert.MatchIdeal.main_arg2)
      ∧ r.2.mem ((c.tc : Thread Cert.MatchIdeal.nD Cert.MatchIdeal.τ).loc Cert.MatchIdeal.main_arg3) = m ((c.tc : Thread Cert.MatchIdeal.nD Cert.MatchIdeal.τ).loc Cert.MatchIdeal.main_arg3))
      ∧ r.2.sem = fun _ => 0)

def quiescent_MatchIdeal_pre_proper [hMatchIdeal : Cert.MatchIdeal.Facts] [hPre_proper : Cert.Pre_proper.Facts] : Prop :=
  ∀ (m : (ℓ : Loc Cert.MatchIdeal.nD Cert.MatchIdeal.τ Cert.MatchIdeal.sig) → Buf (Elt Ideal) ℓ) (g : Dev Cert.MatchIdeal.nD → PrngReg), Pre_MatchIdeal_proper m →
    θ_run (Cert.MatchIdeal.defs (F := Ideal)) (onTc (τ := Cert.MatchIdeal.τ) (Cert.MatchIdeal.main (F := Ideal))) ⟨m, fun _ => 0, g⟩ (fun r => (∀ c : Dev Cert.MatchIdeal.nD,
      r.2.mem ((c.tc : Thread Cert.MatchIdeal.nD Cert.MatchIdeal.τ).loc Cert.MatchIdeal.main_arg0) = m ((c.tc : Thread Cert.MatchIdeal.nD Cert.MatchIdeal.τ).loc Cert.MatchIdeal.main_arg0)
      ∧ r.2.mem ((c.tc : Thread Cert.MatchIdeal.nD Cert.MatchIdeal.τ).loc Cert.MatchIdeal.main_arg1) = m ((c.tc : Thread Cert.MatchIdeal.nD Cert.MatchIdeal.τ).loc Cert.MatchIdeal.main_arg1)
      ∧ r.2.mem ((c.tc : Thread Cert.MatchIdeal.nD Cert.MatchIdeal.τ).loc Cert.MatchIdeal.main_arg2) = m ((c.tc : Thread Cert.MatchIdeal.nD Cert.MatchIdeal.τ).loc Cert.MatchIdeal.main_arg2)
      ∧ r.2.mem ((c.tc : Thread Cert.MatchIdeal.nD Cert.MatchIdeal.τ).loc Cert.MatchIdeal.main_arg3) = m ((c.tc : Thread Cert.MatchIdeal.nD Cert.MatchIdeal.τ).loc Cert.MatchIdeal.main_arg3))
      ∧ r.2.sem = fun _ => 0)

def quiescent_MatchReferenceIdeal [hMatchReferenceIdeal : Cert.MatchReferenceIdeal.Facts] : Prop :=
  ∀ (m : (ℓ : Loc Cert.MatchReferenceIdeal.nD Cert.MatchReferenceIdeal.τ Cert.MatchReferenceIdeal.sig) → Buf (Elt Ideal) ℓ) (g : Dev Cert.MatchReferenceIdeal.nD → PrngReg), Pre_MatchReferenceIdeal m →
    θ_run (Cert.MatchReferenceIdeal.defs (F := Ideal)) (onTc (τ := Cert.MatchReferenceIdeal.τ) (Cert.MatchReferenceIdeal.main (F := Ideal))) ⟨m, fun _ => 0, g⟩ (fun r => (∀ c : Dev Cert.MatchReferenceIdeal.nD,
      r.2.mem ((c.tc : Thread Cert.MatchReferenceIdeal.nD Cert.MatchReferenceIdeal.τ).loc Cert.MatchReferenceIdeal.main_arg0) = m ((c.tc : Thread Cert.MatchReferenceIdeal.nD Cert.MatchReferenceIdeal.τ).loc Cert.MatchReferenceIdeal.main_arg0)
      ∧ r.2.mem ((c.tc : Thread Cert.MatchReferenceIdeal.nD Cert.MatchReferenceIdeal.τ).loc Cert.MatchReferenceIdeal.main_arg1) = m ((c.tc : Thread Cert.MatchReferenceIdeal.nD Cert.MatchReferenceIdeal.τ).loc Cert.MatchReferenceIdeal.main_arg1)
      ∧ r.2.mem ((c.tc : Thread Cert.MatchReferenceIdeal.nD Cert.MatchReferenceIdeal.τ).loc Cert.MatchReferenceIdeal.main_arg2) = m ((c.tc : Thread Cert.MatchReferenceIdeal.nD Cert.MatchReferenceIdeal.τ).loc Cert.MatchReferenceIdeal.main_arg2)
      ∧ r.2.mem ((c.tc : Thread Cert.MatchReferenceIdeal.nD Cert.MatchReferenceIdeal.τ).loc Cert.MatchReferenceIdeal.main_arg3) = m ((c.tc : Thread Cert.MatchReferenceIdeal.nD Cert.MatchReferenceIdeal.τ).loc Cert.MatchReferenceIdeal.main_arg3))
      ∧ r.2.sem = fun _ => 0)

def quiescent_MatchReferenceIdeal_pre_proper [hMatchReferenceIdeal : Cert.MatchReferenceIdeal.Facts] [hPre_proper : Cert.Pre_proper.Facts] : Prop :=
  ∀ (m : (ℓ : Loc Cert.MatchReferenceIdeal.nD Cert.MatchReferenceIdeal.τ Cert.MatchReferenceIdeal.sig) → Buf (Elt Ideal) ℓ) (g : Dev Cert.MatchReferenceIdeal.nD → PrngReg), Pre_MatchReferenceIdeal_proper m →
    θ_run (Cert.MatchReferenceIdeal.defs (F := Ideal)) (onTc (τ := Cert.MatchReferenceIdeal.τ) (Cert.MatchReferenceIdeal.main (F := Ideal))) ⟨m, fun _ => 0, g⟩ (fun r => (∀ c : Dev Cert.MatchReferenceIdeal.nD,
      r.2.mem ((c.tc : Thread Cert.MatchReferenceIdeal.nD Cert.MatchReferenceIdeal.τ).loc Cert.MatchReferenceIdeal.main_arg0) = m ((c.tc : Thread Cert.MatchReferenceIdeal.nD Cert.MatchReferenceIdeal.τ).loc Cert.MatchReferenceIdeal.main_arg0)
      ∧ r.2.mem ((c.tc : Thread Cert.MatchReferenceIdeal.nD Cert.MatchReferenceIdeal.τ).loc Cert.MatchReferenceIdeal.main_arg1) = m ((c.tc : Thread Cert.MatchReferenceIdeal.nD Cert.MatchReferenceIdeal.τ).loc Cert.MatchReferenceIdeal.main_arg1)
      ∧ r.2.mem ((c.tc : Thread Cert.MatchReferenceIdeal.nD Cert.MatchReferenceIdeal.τ).loc Cert.MatchReferenceIdeal.main_arg2) = m ((c.tc : Thread Cert.MatchReferenceIdeal.nD Cert.MatchReferenceIdeal.τ).loc Cert.MatchReferenceIdeal.main_arg2)
      ∧ r.2.mem ((c.tc : Thread Cert.MatchReferenceIdeal.nD Cert.MatchReferenceIdeal.τ).loc Cert.MatchReferenceIdeal.main_arg3) = m ((c.tc : Thread Cert.MatchReferenceIdeal.nD Cert.MatchReferenceIdeal.τ).loc Cert.MatchReferenceIdeal.main_arg3))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "init" .f32 0xF2177617#32 ⊥

def algebraic_KernelIdeal_ReferenceIdeal_pre_ranked [hKernelIdeal : Cert.KernelIdeal.Facts] [hReferenceIdeal : Cert.ReferenceIdeal.Facts] [hPre_ranked : Cert.Pre_ranked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ranked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Match_MatchIdeal : Prop :=
  True

def algebraic_MatchIdeal_MatchReferenceIdeal_pre_proper [hMatchIdeal : Cert.MatchIdeal.Facts] [hMatchReferenceIdeal : Cert.MatchReferenceIdeal.Facts] [hPre_proper : Cert.Pre_proper.Facts] : Prop :=
  ∀ (m : (ℓ : Loc Cert.MatchIdeal.nD Cert.MatchIdeal.τ Cert.MatchIdeal.sig) → Buf (Elt Ideal) ℓ) (g : Dev Cert.MatchIdeal.nD → PrngReg)
    (m' : (ℓ : Loc Cert.MatchReferenceIdeal.nD Cert.MatchReferenceIdeal.τ Cert.MatchReferenceIdeal.sig) → Buf (Elt Ideal) ℓ) (g' : Dev Cert.MatchReferenceIdeal.nD → PrngReg), Pre_MatchIdeal_proper m →
    (∀ c : Dev Cert.MatchIdeal.nD,
      m' ((c.tc : Thread Cert.MatchReferenceIdeal.nD Cert.MatchReferenceIdeal.τ).loc Cert.MatchReferenceIdeal.main_arg0) = m ((c.tc : Thread Cert.MatchIdeal.nD Cert.MatchIdeal.τ).loc Cert.MatchIdeal.main_arg0)
      ∧ m' ((c.tc : Thread Cert.MatchReferenceIdeal.nD Cert.MatchReferenceIdeal.τ).loc Cert.MatchReferenceIdeal.main_arg1) = m ((c.tc : Thread Cert.MatchIdeal.nD Cert.MatchIdeal.τ).loc Cert.MatchIdeal.main_arg1)
      ∧ m' ((c.tc : Thread Cert.MatchReferenceIdeal.nD Cert.MatchReferenceIdeal.τ).loc Cert.MatchReferenceIdeal.main_arg2) = m ((c.tc : Thread Cert.MatchIdeal.nD Cert.MatchIdeal.τ).loc Cert.MatchIdeal.main_arg2)
      ∧ m' ((c.tc : Thread Cert.MatchReferenceIdeal.nD Cert.MatchReferenceIdeal.τ).loc Cert.MatchReferenceIdeal.main_arg3) = m ((c.tc : Thread Cert.MatchIdeal.nD Cert.MatchIdeal.τ).loc Cert.MatchIdeal.main_arg3)) →
    ∃ (v0 : (c : Dev Cert.MatchIdeal.nD) → Buf (Elt Ideal) ((c.tc : Thread Cert.MatchIdeal.nD Cert.MatchIdeal.τ).loc Cert.MatchIdeal.main_v9)),
      θ_run (Cert.MatchIdeal.defs (F := Ideal)) (onTc (τ := Cert.MatchIdeal.τ) (Cert.MatchIdeal.main (F := Ideal))) ⟨m, fun _ => 0, g⟩ (fun r => ∀ c : Dev Cert.MatchIdeal.nD,
          r.2.mem ((c.tc : Thread Cert.MatchIdeal.nD Cert.MatchIdeal.τ).loc Cert.MatchIdeal.main_v9) = v0 c
          ∧ r.2.mem ((c.tc : Thread Cert.MatchIdeal.nD Cert.MatchIdeal.τ).loc Cert.MatchIdeal.main_arg0) = m ((c.tc : Thread Cert.MatchIdeal.nD Cert.MatchIdeal.τ).loc Cert.MatchIdeal.main_arg0)
          ∧ r.2.mem ((c.tc : Thread Cert.MatchIdeal.nD Cert.MatchIdeal.τ).loc Cert.MatchIdeal.main_arg1) = m ((c.tc : Thread Cert.MatchIdeal.nD Cert.MatchIdeal.τ).loc Cert.MatchIdeal.main_arg1)
          ∧ r.2.mem ((c.tc : Thread Cert.MatchIdeal.nD Cert.MatchIdeal.τ).loc Cert.MatchIdeal.main_arg2) = m ((c.tc : Thread Cert.MatchIdeal.nD Cert.MatchIdeal.τ).loc Cert.MatchIdeal.main_arg2)
          ∧ r.2.mem ((c.tc : Thread Cert.MatchIdeal.nD Cert.MatchIdeal.τ).loc Cert.MatchIdeal.main_arg3) = m ((c.tc : Thread Cert.MatchIdeal.nD Cert.MatchIdeal.τ).loc Cert.MatchIdeal.main_arg3))
      ∧ θ_run (Cert.MatchReferenceIdeal.defs (F := Ideal)) (onTc (τ := Cert.MatchReferenceIdeal.τ) (Cert.MatchReferenceIdeal.main (F := Ideal))) ⟨m', fun _ => 0, g'⟩ (fun r => ∀ c : Dev Cert.MatchReferenceIdeal.nD,
          r.2.mem ((c.tc : Thread Cert.MatchReferenceIdeal.nD Cert.MatchReferenceIdeal.τ).loc Cert.MatchReferenceIdeal.main_v208) = v0 c
          ∧ r.2.mem ((c.tc : Thread Cert.MatchReferenceIdeal.nD Cert.MatchReferenceIdeal.τ).loc Cert.MatchReferenceIdeal.main_arg0) = m' ((c.tc : Thread Cert.MatchReferenceIdeal.nD Cert.MatchReferenceIdeal.τ).loc Cert.MatchReferenceIdeal.main_arg0)
          ∧ r.2.mem ((c.tc : Thread Cert.MatchReferenceIdeal.nD Cert.MatchReferenceIdeal.τ).loc Cert.MatchReferenceIdeal.main_arg1) = m' ((c.tc : Thread Cert.MatchReferenceIdeal.nD Cert.MatchReferenceIdeal.τ).loc Cert.MatchReferenceIdeal.main_arg1)
          ∧ r.2.mem ((c.tc : Thread Cert.MatchReferenceIdeal.nD Cert.MatchReferenceIdeal.τ).loc Cert.MatchReferenceIdeal.main_arg2) = m' ((c.tc : Thread Cert.MatchReferenceIdeal.nD Cert.MatchReferenceIdeal.τ).loc Cert.MatchReferenceIdeal.main_arg2)
          ∧ r.2.mem ((c.tc : Thread Cert.MatchReferenceIdeal.nD Cert.MatchReferenceIdeal.τ).loc Cert.MatchReferenceIdeal.main_arg3) = m' ((c.tc : Thread Cert.MatchReferenceIdeal.nD Cert.MatchReferenceIdeal.τ).loc Cert.MatchReferenceIdeal.main_arg3))

def Claim : Prop :=
  ∃ (hKernel : Cert.Kernel.Facts) (hKernelIdeal : Cert.KernelIdeal.Facts) (hReferenceIdeal : Cert.ReferenceIdeal.Facts) (hMatch : Cert.Match.Facts) (hMatchIdeal : Cert.MatchIdeal.Facts) (hMatchReferenceIdeal : Cert.MatchReferenceIdeal.Facts) (hPre_ranked : Cert.Pre_ranked.Facts) (hPre_proper : Cert.Pre_proper.Facts),
    quiescent_Kernel (hKernel := hKernel)
    ∧ quiescent_KernelIdeal (hKernelIdeal := hKernelIdeal)
    ∧ quiescent_KernelIdeal_pre_ranked (hKernelIdeal := hKernelIdeal) (hPre_ranked := hPre_ranked)
    ∧ quiescent_ReferenceIdeal (hReferenceIdeal := hReferenceIdeal)
    ∧ quiescent_ReferenceIdeal_pre_ranked (hReferenceIdeal := hReferenceIdeal) (hPre_ranked := hPre_ranked)
    ∧ quiescent_Match (hMatch := hMatch)
    ∧ quiescent_MatchIdeal (hMatchIdeal := hMatchIdeal)
    ∧ quiescent_MatchIdeal_pre_proper (hMatchIdeal := hMatchIdeal) (hPre_proper := hPre_proper)
    ∧ quiescent_MatchReferenceIdeal (hMatchReferenceIdeal := hMatchReferenceIdeal)
    ∧ quiescent_MatchReferenceIdeal_pre_proper (hMatchReferenceIdeal := hMatchReferenceIdeal) (hPre_proper := hPre_proper)
    ∧ preserves_Kernel_KernelIdeal
    ∧ algebraic_KernelIdeal_ReferenceIdeal_pre_ranked (hKernelIdeal := hKernelIdeal) (hReferenceIdeal := hReferenceIdeal) (hPre_ranked := hPre_ranked)
    ∧ preserves_Match_MatchIdeal
    ∧ algebraic_MatchIdeal_MatchReferenceIdeal_pre_proper (hMatchIdeal := hMatchIdeal) (hMatchReferenceIdeal := hMatchReferenceIdeal) (hPre_proper := hPre_proper)
-- ==== Pre_proper.lean ====
abbrev S128x8732x4 : Shape := ⟨3, ![128, 8732, 4]⟩
abbrev S128x8732x2 : Shape := ⟨3, ![128, 8732, 2]⟩
abbrev S128x8x4 : Shape := ⟨3, ![128, 8, 4]⟩
abbrev S8732x4 : Shape := ⟨2, ![8732, 4]⟩
abbrev S_ : Shape := ⟨0, ![]⟩
abbrev S128x8x1 : Shape := ⟨3, ![128, 8, 1]⟩
abbrev S128x8 : Shape := ⟨2, ![128, 8]⟩
abbrev S8732x1 : Shape := ⟨2, ![8732, 1]⟩
abbrev S8732 : Shape := ⟨1, ![8732]⟩
abbrev S1x1x8732 : Shape := ⟨3, ![1, 1, 8732]⟩
abbrev S128x8x8732 : Shape := ⟨3, ![128, 8, 8732]⟩

class Facts : Prop where
  bcast_S_S128x8732x2 : S_.BroadcastsInDim S128x8732x2 (![] : Fin 0 → Fin S128x8732x2.rank)
  reducesTo_S128x8732x2_S_d0_1_2 : S128x8732x2.ReducesTo [0, 1, 2] S_
  h_S_ : 0 < S_.numel
  slices_S128x8x4_S128x8x1_0_0_0 : S128x8x4.Slices ![0, 0, 0] S128x8x1
  shapeCasts_S128x8x1_S128x8 : S128x8x1.ShapeCasts S128x8
  slices_S128x8x4_S128x8x1_0_0_1 : S128x8x4.Slices ![0, 0, 1] S128x8x1
  slices_S128x8x4_S128x8x1_0_0_2 : S128x8x4.Slices ![0, 0, 2] S128x8x1
  slices_S128x8x4_S128x8x1_0_0_3 : S128x8x4.Slices ![0, 0, 3] S128x8x1
  bcast_S_S128x8 : S_.BroadcastsInDim S128x8 (![] : Fin 0 → Fin S128x8.rank)
  bcast_S128x8_S128x8x1_0_1 : S128x8.BroadcastsInDim S128x8x1 (![0, 1] : Fin 2 → Fin S128x8x1.rank)
  slices_S8732x4_S8732x1_0_0 : S8732x4.Slices ![0, 0] S8732x1
  shapeCasts_S8732x1_S8732 : S8732x1.ShapeCasts S8732
  slices_S8732x4_S8732x1_0_1 : S8732x4.Slices ![0, 1] S8732x1
  slices_S8732x4_S8732x1_0_2 : S8732x4.Slices ![0, 2] S8732x1
  slices_S8732x4_S8732x1_0_3 : S8732x4.Slices ![0, 3] S8732x1
  bcast_S_S8732 : S_.BroadcastsInDim S8732 (![] : Fin 0 → Fin S8732.rank)
  bcast_S8732_S1x1x8732_2 : S8732.BroadcastsInDim S1x1x8732 (![2] : Fin 1 → Fin S1x1x8732.rank)
  bcast_S128x8x1_S128x8x8732_0_1_2 : S128x8x1.BroadcastsInDim S128x8x8732 (![0, 1, 2] : Fin 3 → Fin S128x8x8732.rank)
  bcast_S1x1x8732_S128x8x8732_0_1_2 : S1x1x8732.BroadcastsInDim S128x8x8732 (![0, 1, 2] : Fin 3 → Fin S128x8x8732.rank)
  bcast_S_S128x8x8732 : S_.BroadcastsInDim S128x8x8732 (![] : Fin 0 → Fin S128x8x8732.rank)
  reducesTo_S128x8x8732_S_d0_1_2 : S128x8x8732.ReducesTo [0, 1, 2] S_

variable [Facts]

def fn_part4 {F : FTy → Type} [FloatOps F] (main_v3 : IVec S_ 1) (main_v81 : FVec F S128x8x8732 .f32) (main_v82 : FVec F S128x8x8732 .f32) : IVec S_ 1 :=
  let main_v83 : IVec S128x8x8732 1 := cmpf .ogt main_v81 main_v82
  let main_c_11 : IVec S_ 1 := constantI S_ 1 1#1
  let main_v84 : IVec S_ 1 := (fun x v => Host.reduce IntOp.andi x v reducesTo_S128x8x8732_S_d0_1_2 h_S_) main_v83 main_c_11
  let main_v85 : IVec S_ 1 := andi main_v3 main_v84
  main_v85

def fn_part3 {F : FTy → Type} [FloatOps F] (main_v3 : IVec S_ 1) (main_v24 : FVec F S128x8x1 .f32) (main_v25 : FVec F S128x8x1 .f32) (main_v26 : FVec F S128x8x1 .f32) (main_v27 : FVec F S128x8x1 .f32) (main_v48 : FVec F S1x1x8732 .f32) (main_v49 : FVec F S1x1x8732 .f32) (main_v50 : FVec F S1x1x8732 .f32) (main_v51 : FVec F S1x1x8732 .f32) (main_v60 : FVec F S128x8x8732 .f32) : IVec S_ 1 :=
  let main_v61 : FVec F S128x8x8732 .f32 := broadcastInDim S128x8x8732 ![0, 1, 2] bcast_S128x8x1_S128x8x8732_0_1_2 main_v27
  let main_v62 : FVec F S128x8x8732 .f32 := broadcastInDim S128x8x8732 ![0, 1, 2] bcast_S1x1x8732_S128x8x8732_0_1_2 main_v51
  let main_v63 : FVec F S128x8x8732 .f32 := minimumf main_v61 main_v62
  let main_v64 : FVec F S128x8x8732 .f32 := broadcastInDim S128x8x8732 ![0, 1, 2] bcast_S128x8x1_S128x8x8732_0_1_2 main_v25
  let main_v65 : FVec F S128x8x8732 .f32 := broadcastInDim S128x8x8732 ![0, 1, 2] bcast_S1x1x8732_S128x8x8732_0_1_2 main_v49
  let main_v66 : FVec F S128x8x8732 .f32 := maximumf main_v64 main_v65
  let main_v67 : FVec F S128x8x8732 .f32 := subf main_v63 main_v66
  let main_cst_9 : FVec F S_ .f32 := constant S_ .f32 0x00000000#32
  let main_v68 : FVec F S128x8x8732 .f32 := broadcastInDim S128x8x8732 ![] bcast_S_S128x8x8732 main_cst_9
  let main_v69 : FVec F S128x8x8732 .f32 := maximumf main_v67 main_v68
  let main_v70 : FVec F S128x8x8732 .f32 := mulf main_v60 main_v69
  let main_v71 : FVec F S128x8x1 .f32 := subf main_v26 main_v24
  let main_v72 : FVec F S128x8x1 .f32 := subf main_v27 main_v25
  let main_v73 : FVec F S128x8x1 .f32 := mulf main_v71 main_v72
  let main_v74 : FVec F S1x1x8732 .f32 := subf main_v50 main_v48
  let main_v75 : FVec F S1x1x8732 .f32 := subf main_v51 main_v49
  let main_v76 : FVec F S1x1x8732 .f32 := mulf main_v74 main_v75
  let main_v77 : FVec F S128x8x8732 .f32 := broadcastInDim S128x8x8732 ![0, 1, 2] bcast_S128x8x1_S128x8x8732_0_1_2 main_v73
  let main_v78 : FVec F S128x8x8732 .f32 := broadcastInDim S128x8x8732 ![0, 1, 2] bcast_S1x1x8732_S128x8x8732_0_1_2 main_v76
  let main_v79 : FVec F S128x8x8732 .f32 := addf main_v77 main_v78
  let main_v80 : FVec F S128x8x8732 .f32 := subf main_v79 main_v70
  let main_v81 : FVec F S128x8x8732 .f32 := Host.divf main_v70 main_v80
  let main_cst_10 : FVec F S_ .f32 := constant S_ .f32 0xBF800000#32
  let main_v82 : FVec F S128x8x8732 .f32 := broadcastInDim S128x8x8732 ![] bcast_S_S128x8x8732 main_cst_10
  fn_part4 (F := F) main_v3 main_v81 main_v82

def fn_part2 {F : FTy → Type} [FloatOps F] (main_v3 : IVec S_ 1) (main_v24 : FVec F S128x8x1 .f32) (main_v25 : FVec F S128x8x1 .f32) (main_v26 : FVec F S128x8x1 .f32) (main_v27 : FVec F S128x8x1 .f32) (main_v29 : FVec F S8732 .f32) (main_v31 : FVec F S8732 .f32) (main_v33 : FVec F S8732 .f32) (main_v35 : FVec F S8732 .f32) (main_v38 : FVec F S8732 .f32) (main_v39 : FVec F S8732 .f32) : IVec S_ 1 :=
  let main_v40 : FVec F S8732 .f32 := Host.divf main_v35 main_v39
  let main_v41 : FVec F S8732 .f32 := subf main_v31 main_v40
  let main_cst_6 : FVec F S_ .f32 := constant S_ .f32 0x40000000#32
  let main_v42 : FVec F S8732 .f32 := broadcastInDim S8732 ![] bcast_S_S8732 main_cst_6
  let main_v43 : FVec F S8732 .f32 := Host.divf main_v33 main_v42
  let main_v44 : FVec F S8732 .f32 := addf main_v29 main_v43
  let main_cst_7 : FVec F S_ .f32 := constant S_ .f32 0x40000000#32
  let main_v45 : FVec F S8732 .f32 := broadcastInDim S8732 ![] bcast_S_S8732 main_cst_7
  let main_v46 : FVec F S8732 .f32 := Host.divf main_v35 main_v45
  let main_v47 : FVec F S8732 .f32 := addf main_v31 main_v46
  let main_v48 : FVec F S1x1x8732 .f32 := broadcastInDim S1x1x8732 ![2] bcast_S8732_S1x1x8732_2 main_v38
  let main_v49 : FVec F S1x1x8732 .f32 := broadcastInDim S1x1x8732 ![2] bcast_S8732_S1x1x8732_2 main_v41
  let main_v50 : FVec F S1x1x8732 .f32 := broadcastInDim S1x1x8732 ![2] bcast_S8732_S1x1x8732_2 main_v44
  let main_v51 : FVec F S1x1x8732 .f32 := broadcastInDim S1x1x8732 ![2] bcast_S8732_S1x1x8732_2 main_v47
  let main_v52 : FVec F S128x8x8732 .f32 := broadcastInDim S128x8x8732 ![0, 1, 2] bcast_S128x8x1_S128x8x8732_0_1_2 main_v26
  let main_v53 : FVec F S128x8x8732 .f32 := broadcastInDim S128x8x8732 ![0, 1, 2] bcast_S1x1x8732_S128x8x8732_0_1_2 main_v50
  let main_v54 : FVec F S128x8x8732 .f32 := minimumf main_v52 main_v53
  let main_v55 : FVec F S128x8x8732 .f32 := broadcastInDim S128x8x8732 ![0, 1, 2] bcast_S128x8x1_S128x8x8732_0_1_2 main_v24
  let main_v56 : FVec F S128x8x8732 .f32 := broadcastInDim S128x8x8732 ![0, 1, 2] bcast_S1x1x8732_S128x8x8732_0_1_2 main_v48
  let main_v57 : FVec F S128x8x8732 .f32 := maximumf main_v55 main_v56
  let main_v58 : FVec F S128x8x8732 .f32 := subf main_v54 main_v57
  let main_cst_8 : FVec F S_ .f32 := constant S_ .f32 0x00000000#32
  let main_v59 : FVec F S128x8x8732 .f32 := broadcastInDim S128x8x8732 ![] bcast_S_S128x8x8732 main_cst_8
  let main_v60 : FVec F S128x8x8732 .f32 := maximumf main_v58 main_v59
  fn_part3 (F := F) main_v3 main_v24 main_v25 main_v26 main_v27 main_v48 main_v49 main_v50 main_v51 main_v60

def fn_part1 {F : FTy → Type} [FloatOps F] (main_arg3 : FVec F S8732x4 .f32) (main_v3 : IVec S_ 1) (main_v5 : FVec F S128x8 .f32) (main_v7 : FVec F S128x8 .f32) (main_v9 : FVec F S128x8 .f32) (main_v11 : FVec F S128x8 .f32) (main_v14 : FVec F S128x8 .f32) (main_v17 : FVec F S128x8 .f32) (main_v18 : FVec F S128x8 .f32) : IVec S_ 1 :=
  let main_v19 : FVec F S128x8 .f32 := Host.divf main_v9 main_v18
  let main_v20 : FVec F S128x8 .f32 := addf main_v5 main_v19
  let main_cst_3 : FVec F S_ .f32 := constant S_ .f32 0x40000000#32
  let main_v21 : FVec F S128x8 .f32 := broadcastInDim S128x8 ![] bcast_S_S128x8 main_cst_3
  let main_v22 : FVec F S128x8 .f32 := Host.divf main_v11 main_v21
  let main_v23 : FVec F S128x8 .f32 := addf main_v7 main_v22
  let main_v24 : FVec F S128x8x1 .f32 := broadcastInDim S128x8x1 ![0, 1] bcast_S128x8_S128x8x1_0_1 main_v14
  let main_v25 : FVec F S128x8x1 .f32 := broadcastInDim S128x8x1 ![0, 1] bcast_S128x8_S128x8x1_0_1 main_v17
  let main_v26 : FVec F S128x8x1 .f32 := broadcastInDim S128x8x1 ![0, 1] bcast_S128x8_S128x8x1_0_1 main_v20
  let main_v27 : FVec F S128x8x1 .f32 := broadcastInDim S128x8x1 ![0, 1] bcast_S128x8_S128x8x1_0_1 main_v23
  let main_v28 : FVec F S8732x1 .f32 := (extractStridedSlice S8732x1 ![0, 0] · slices_S8732x4_S8732x1_0_0) main_arg3
  let main_v29 : FVec F S8732 .f32 := shapeCast S8732 main_v28 shapeCasts_S8732x1_S8732
  let main_v30 : FVec F S8732x1 .f32 := (extractStridedSlice S8732x1 ![0, 1] · slices_S8732x4_S8732x1_0_1) main_arg3
  let main_v31 : FVec F S8732 .f32 := shapeCast S8732 main_v30 shapeCasts_S8732x1_S8732
  let main_v32 : FVec F S8732x1 .f32 := (extractStridedSlice S8732x1 ![0, 2] · slices_S8732x4_S8732x1_0_2) main_arg3
  let main_v33 : FVec F S8732 .f32 := shapeCast S8732 main_v32 shapeCasts_S8732x1_S8732
  let main_v34 : FVec F S8732x1 .f32 := (extractStridedSlice S8732x1 ![0, 3] · slices_S8732x4_S8732x1_0_3) main_arg3
  let main_v35 : FVec F S8732 .f32 := shapeCast S8732 main_v34 shapeCasts_S8732x1_S8732
  let main_cst_4 : FVec F S_ .f32 := constant S_ .f32 0x40000000#32
  let main_v36 : FVec F S8732 .f32 := broadcastInDim S8732 ![] bcast_S_S8732 main_cst_4
  let main_v37 : FVec F S8732 .f32 := Host.divf main_v33 main_v36
  let main_v38 : FVec F S8732 .f32 := subf main_v29 main_v37
  let main_cst_5 : FVec F S_ .f32 := constant S_ .f32 0x40000000#32
  let main_v39 : FVec F S8732 .f32 := broadcastInDim S8732 ![] bcast_S_S8732 main_cst_5
  fn_part2 (F := F) main_v3 main_v24 main_v25 main_v26 main_v27 main_v29 main_v31 main_v33 main_v35 main_v38 main_v39

def fn {F : FTy → Type} [FloatOps F] (main_arg0 : FVec F S128x8732x4 .f32) (main_arg1 : FVec F S128x8732x2 .f32) (main_arg2 : FVec F S128x8x4 .f32) (main_arg3 : FVec F S8732x4 .f32) : IVec S_ 1 :=
  let main_v0 : FVec F S128x8732x2 .f32 := Host.absf main_arg1
  let main_cst : FVec F S_ .f32 := constant S_ .f32 0x7F800000#32
  let main_v1 : FVec F S128x8732x2 .f32 := broadcastInDim S128x8732x2 ![] bcast_S_S128x8732x2 main_cst
  let main_v2 : IVec S128x8732x2 1 := cmpf .olt main_v0 main_v1
  let main_c : IVec S_ 1 := constantI S_ 1 1#1
  let main_v3 : IVec S_ 1 := (fun x v => Host.reduce IntOp.andi x v reducesTo_S128x8732x2_S_d0_1_2 h_S_) main_v2 main_c
  let main_v4 : FVec F S128x8x1 .f32 := (extractStridedSlice S128x8x1 ![0, 0, 0] · slices_S128x8x4_S128x8x1_0_0_0) main_arg2
  let main_v5 : FVec F S128x8 .f32 := shapeCast S128x8 main_v4 shapeCasts_S128x8x1_S128x8
  let main_v6 : FVec F S128x8x1 .f32 := (extractStridedSlice S128x8x1 ![0, 0, 1] · slices_S128x8x4_S128x8x1_0_0_1) main_arg2
  let main_v7 : FVec F S128x8 .f32 := shapeCast S128x8 main_v6 shapeCasts_S128x8x1_S128x8
  let main_v8 : FVec F S128x8x1 .f32 := (extractStridedSlice S128x8x1 ![0, 0, 2] · slices_S128x8x4_S128x8x1_0_0_2) main_arg2
  let main_v9 : FVec F S128x8 .f32 := shapeCast S128x8 main_v8 shapeCasts_S128x8x1_S128x8
  let main_v10 : FVec F S128x8x1 .f32 := (extractStridedSlice S128x8x1 ![0, 0, 3] · slices_S128x8x4_S128x8x1_0_0_3) main_arg2
  let main_v11 : FVec F S128x8 .f32 := shapeCast S128x8 main_v10 shapeCasts_S128x8x1_S128x8
  let main_cst_0 : FVec F S_ .f32 := constant S_ .f32 0x40000000#32
  let main_v12 : FVec F S128x8 .f32 := broadcastInDim S128x8 ![] bcast_S_S128x8 main_cst_0
  let main_v13 : FVec F S128x8 .f32 := Host.divf main_v9 main_v12
  let main_v14 : FVec F S128x8 .f32 := subf main_v5 main_v13
  let main_cst_1 : FVec F S_ .f32 := constant S_ .f32 0x40000000#32
  let main_v15 : FVec F S128x8 .f32 := broadcastInDim S128x8 ![] bcast_S_S128x8 main_cst_1
  let main_v16 : FVec F S128x8 .f32 := Host.divf main_v11 main_v15
  let main_v17 : FVec F S128x8 .f32 := subf main_v7 main_v16
  let main_cst_2 : FVec F S_ .f32 := constant S_ .f32 0x40000000#32
  let main_v18 : FVec F S128x8 .f32 := broadcastInDim S128x8 ![] bcast_S_S128x8 main_cst_2
  fn_part1 (F := F) main_arg3 main_v3 main_v5 main_v7 main_v9 main_v11 main_v14 main_v17 main_v18
-- ==== Pre_ranked.lean ====
abbrev S128x8732x2 : Shape := ⟨3, ![128, 8732, 2]⟩
abbrev S128x128 : Shape := ⟨2, ![128, 128]⟩
abbrev S1x8 : Shape := ⟨2, ![1, 8]⟩
abbrev S128x8732x1 : Shape := ⟨3, ![128, 8732, 1]⟩
abbrev S128x8732 : Shape := ⟨2, ![128, 8732]⟩
abbrev S128x33 : Shape := ⟨2, ![128, 33]⟩
abbrev S_ : Shape := ⟨0, ![]⟩
abbrev S128x32 : Shape := ⟨2, ![128, 32]⟩
abbrev S128x1 : Shape := ⟨2, ![128, 1]⟩
abbrev S128x8 : Shape := ⟨2, ![128, 8]⟩
abbrev S128 : Shape := ⟨1, ![128]⟩

class Facts : Prop where
  slices_S128x8732x2_S128x8732x1_0_0_1 : S128x8732x2.Slices ![0, 0, 1] S128x8732x1
  shapeCasts_S128x8732x1_S128x8732 : S128x8732x1.ShapeCasts S128x8732
  slices_S128x8732x2_S128x8732x1_0_0_0 : S128x8732x2.Slices ![0, 0, 0] S128x8732x1
  sliceFits_S128x8732_S128x33 : S128x8732.Slices (fun _ => 0) S128x33
  bcast_S_S128x8732x2 : S_.BroadcastsInDim S128x8732x2 (![] : Fin 0 → Fin S128x8732x2.rank)
  reducesTo_S128x8732x2_S_d0_1_2 : S128x8732x2.ReducesTo [0, 1, 2] S_
  h_S_ : 0 < S_.numel
  slices_S128x33_S128x32_0_0 : S128x33.Slices ![0, 0] S128x32
  slices_S128x33_S128x32_0_1 : S128x33.Slices ![0, 1] S128x32
  reducesTo_S128x32_S_d0_1 : S128x32.ReducesTo [0, 1] S_
  slices_S128x128_S128x1_0_3 : S128x128.Slices ![0, 3] S128x1
  bcast_S128x1_S128x8_0_1 : S128x1.BroadcastsInDim S128x8 (![0, 1] : Fin 2 → Fin S128x8.rank)
  bcast_S1x8_S128x8_0_1 : S1x8.BroadcastsInDim S128x8 (![0, 1] : Fin 2 → Fin S128x8.rank)
  bcast_S_S128x8 : S_.BroadcastsInDim S128x8 (![] : Fin 0 → Fin S128x8.rank)
  reducesTo_S128x8_S128_d1 : S128x8.ReducesTo [1] S128
  slices_S128x128_S128x1_0_0 : S128x128.Slices ![0, 0] S128x1
  shapeCasts_S128x1_S128 : S128x1.ShapeCasts S128
  reducesTo_S128_S_d0 : S128.ReducesTo [0] S_

variable [Facts]

noncomputable abbrev lit0 : Fin 8 → BitVec 32 := fun
  | 0 => 0x3F800000#32 | 1 => 0x40000000#32 | 2 => 0x40800000#32 | 3 => 0x41000000#32 | 4 => 0x41800000#32 | 5 => 0x42000000#32 | 6 => 0x42800000#32 | 7 => 0x43000000#32
  | _ => 0#32

def fn_part1 {F : FTy → Type} [FloatOps F] (main_arg1 : FVec F S128x128 .f32) (main_v13 : IVec S_ 1) (main_v17 : FVec F S128x8 .f32) : IVec S_ 1 :=
  let main_v18 : FVec F S128x8 .f32 := Host.floor main_v17
  let main_cst_2 : FVec F S_ .f32 := constant S_ .f32 0x40000000#32
  let main_v19 : FVec F S128x8 .f32 := broadcastInDim S128x8 ![] bcast_S_S128x8 main_cst_2
  let main_v20 : FVec F S128x8 .f32 := Host.divf main_v18 main_v19
  let main_v21 : FVec F S128x8 .f32 := Host.floor main_v20
  let main_cst_3 : FVec F S_ .f32 := constant S_ .f32 0x40000000#32
  let main_v22 : FVec F S128x8 .f32 := broadcastInDim S128x8 ![] bcast_S_S128x8 main_cst_3
  let main_v23 : FVec F S128x8 .f32 := mulf main_v22 main_v21
  let main_v24 : FVec F S128x8 .f32 := subf main_v18 main_v23
  let main_cst_4 : FVec F S_ .f32 := constant S_ .f32 0x00000000#32
  let main_v25 : FVec F S128 .f32 := (fun x v => Host.reduceAdd x v reducesTo_S128x8_S128_d1 h_S_) main_v24 main_cst_4
  let main_v26 : FVec F S128x1 .f32 := (extractStridedSlice S128x1 ![0, 0] · slices_S128x128_S128x1_0_0) main_arg1
  let main_v27 : FVec F S128 .f32 := shapeCast S128 main_v26 shapeCasts_S128x1_S128
  let main_v28 : IVec S128 1 := cmpf .oeq main_v25 main_v27
  let main_c_5 : IVec S_ 1 := constantI S_ 1 1#1
  let main_v29 : IVec S_ 1 := (fun x v => Host.reduce IntOp.andi x v reducesTo_S128_S_d0 h_S_) main_v28 main_c_5
  let main_v30 : IVec S_ 1 := andi main_v13 main_v29
  main_v30

def fn {F : FTy → Type} [FloatOps F] (main_arg0 : FVec F S128x8732x2 .f32) (main_arg1 : FVec F S128x128 .f32) : IVec S_ 1 :=
  let main_cst : FVec F S1x8 .f32 := fun i => FloatOps.ofBits .f32 (lit0 (S1x8.rowMajor i))
  let main_v0 : FVec F S128x8732x1 .f32 := (extractStridedSlice S128x8732x1 ![0, 0, 1] · slices_S128x8732x2_S128x8732x1_0_0_1) main_arg0
  let main_v1 : FVec F S128x8732 .f32 := shapeCast S128x8732 main_v0 shapeCasts_S128x8732x1_S128x8732
  let main_v2 : FVec F S128x8732x1 .f32 := (extractStridedSlice S128x8732x1 ![0, 0, 0] · slices_S128x8732x2_S128x8732x1_0_0_0) main_arg0
  let main_v3 : FVec F S128x8732 .f32 := shapeCast S128x8732 main_v2 shapeCasts_S128x8732x1_S128x8732
  let main_v4 : FVec F S128x8732 .f32 := subf main_v1 main_v3
  let main_values : FVec F S128x33 .f32 := (fun x => (Host.topK S128x33 1 (FloatOps.cmpfTotal .gt) x sliceFits_S128x8732_S128x33).1) main_v4
  let main_indices : IVec S128x33 32 := (fun x => (Host.topK S128x33 1 (FloatOps.cmpfTotal .gt) x sliceFits_S128x8732_S128x33).2) main_v4
  let main_v5 : FVec F S128x8732x2 .f32 := Host.absf main_arg0
  let main_cst_0 : FVec F S_ .f32 := constant S_ .f32 0x7F800000#32
  let main_v6 : FVec F S128x8732x2 .f32 := broadcastInDim S128x8732x2 ![] bcast_S_S128x8732x2 main_cst_0
  let main_v7 : IVec S128x8732x2 1 := cmpf .olt main_v5 main_v6
  let main_c : IVec S_ 1 := constantI S_ 1 1#1
  let main_v8 : IVec S_ 1 := (fun x v => Host.reduce IntOp.andi x v reducesTo_S128x8732x2_S_d0_1_2 h_S_) main_v7 main_c
  let main_v9 : FVec F S128x32 .f32 := (extractStridedSlice S128x32 ![0, 0] · slices_S128x33_S128x32_0_0) main_values
  let main_v10 : FVec F S128x32 .f32 := (extractStridedSlice S128x32 ![0, 1] · slices_S128x33_S128x32_0_1) main_values
  let main_v11 : IVec S128x32 1 := cmpf .ogt main_v9 main_v10
  let main_c_1 : IVec S_ 1 := constantI S_ 1 1#1
  let main_v12 : IVec S_ 1 := (fun x v => Host.reduce IntOp.andi x v reducesTo_S128x32_S_d0_1 h_S_) main_v11 main_c_1
  let main_v13 : IVec S_ 1 := andi main_v8 main_v12
  let main_v14 : FVec F S128x1 .f32 := (extractStridedSlice S128x1 ![0, 3] · slices_S128x128_S128x1_0_3) main_arg1
  let main_v15 : FVec F S128x8 .f32 := broadcastInDim S128x8 ![0, 1] bcast_S128x1_S128x8_0_1 main_v14
  let main_v16 : FVec F S128x8 .f32 := broadcastInDim S128x8 ![0, 1] bcast_S1x8_S128x8_0_1 main_cst
  let main_v17 : FVec F S128x8 .f32 := Host.divf main_v15 main_v16
  fn_part1 (F := F) main_arg1 main_v13 main_v17
-- ==== Kernel.lean ====
abbrev S128x8732x2 : Shape := ⟨3, ![128, 8732, 2]⟩
abbrev S128x128 : Shape := ⟨2, ![128, 128]⟩
abbrev S128x8732x1 : Shape := ⟨3, ![128, 8732, 1]⟩
abbrev S128x8732 : Shape := ⟨2, ![128, 8732]⟩
abbrev S_ : Shape := ⟨0, ![]⟩
abbrev S128x8832 : Shape := ⟨2, ![128, 8832]⟩
abbrev S1130496 : Shape := ⟨1, ![1130496]⟩
abbrev S4096 : Shape := ⟨1, ![4096]⟩
abbrev S8832 : Shape := ⟨1, ![8832]⟩
abbrev S32 : Shape := ⟨1, ![32]⟩
abbrev S16 : Shape := ⟨1, ![16]⟩
abbrev S128 : Shape := ⟨1, ![128]⟩
abbrev S128x1 : Shape := ⟨2, ![128, 1]⟩
abbrev S1 : Shape := ⟨1, ![1]⟩
abbrev S128x32 : Shape := ⟨2, ![128, 32]⟩
abbrev S1x128 : Shape := ⟨2, ![1, 128]⟩
abbrev S1x32 : Shape := ⟨2, ![1, 32]⟩
abbrev S1x128x1 : Shape := ⟨3, ![1, 128, 1]⟩
abbrev S1x1x1 : Shape := ⟨3, ![1, 1, 1]⟩
abbrev S1x1 : Shape := ⟨2, ![1, 1]⟩

abbrev nBuf : Table → Nat
  | .hbm => 33
  | .local .tc .vmem => 4
  | .local .scVector .vmem => 6
  | _ => 0

abbrev bufTy : (tb : Table) → Fin (nBuf tb) → BufTy
  | .hbm, ⟨0, _⟩ => ⟨S128x8732x2, .f32⟩
  | .hbm, ⟨1, _⟩ => ⟨S128x128, .f32⟩
  | .hbm, ⟨2, _⟩ => ⟨S128x8732x1, .f32⟩
  | .hbm, ⟨3, _⟩ => ⟨S128x8732, .f32⟩
  | .hbm, ⟨4, _⟩ => ⟨S128x8732x1, .f32⟩
  | .hbm, ⟨5, _⟩ => ⟨S128x8732, .f32⟩
  | .hbm, ⟨6, _⟩ => ⟨S_, .i32⟩
  | .hbm, ⟨7, _⟩ => ⟨S_, .f32⟩
  | .hbm, ⟨8, _⟩ => ⟨S128x8832, .f32⟩
  | .hbm, ⟨9, _⟩ => ⟨S1130496, .f32⟩
  | .hbm, ⟨10, _⟩ => ⟨S_, .i32⟩
  | .hbm, ⟨11, _⟩ => ⟨S_, .f32⟩
  | .hbm, ⟨12, _⟩ => ⟨S128x8832, .f32⟩
  | .hbm, ⟨13, _⟩ => ⟨S1130496, .f32⟩
  | .hbm, ⟨14, _⟩ => ⟨S4096, .f32⟩
  | .hbm, ⟨15, _⟩ => ⟨S4096, .i32⟩
  | .hbm, ⟨16, _⟩ => ⟨S128x32, .f32⟩
  | .hbm, ⟨17, _⟩ => ⟨S128x32, .i32⟩
  | .hbm, ⟨18, _⟩ => ⟨S1x128, .f32⟩
  | .hbm, ⟨19, _⟩ => ⟨S1x1, .f32⟩
  | .hbm, ⟨20, _⟩ => ⟨S_, .f32⟩
  | .hbm, ⟨21, _⟩ => ⟨S1x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x1, .f32⟩
  | .hbm, ⟨27, _⟩ => ⟨S_, .f32⟩
  | .hbm, ⟨28, _⟩ => ⟨S1x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local .tc .vmem, ⟨0, _⟩ => ⟨S128x128, .f32⟩
  | .local .tc .vmem, ⟨1, _⟩ => ⟨S128x32, .f32⟩
  | .local .tc .vmem, ⟨2, _⟩ => ⟨S128x32, .i32⟩
  | .local .tc .vmem, ⟨3, _⟩ => ⟨S1x128, .f32⟩
  | .local .scVector .vmem, ⟨0, _⟩ => ⟨S8832, .f32⟩
  | .local .scVector .vmem, ⟨1, _⟩ => ⟨S8832, .f32⟩
  | .local .scVector .vmem, ⟨2, _⟩ => ⟨S8832, .f32⟩
  | .local .scVector .vmem, ⟨3, _⟩ => ⟨S8832, .f32⟩
  | .local .scVector .vmem, ⟨4, _⟩ => ⟨S32, .f32⟩
  | .local .scVector .vmem, ⟨5, _⟩ => ⟨S32, .i32⟩
  | _, _ => ⟨S128x8732x2, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v5_scv : Ref sig .scVector := ⟨.hbm, 9, rfl⟩
abbrev main_v7_scv : Ref sig .scVector := ⟨.hbm, 13, rfl⟩
abbrev main_v8_0_scv : Ref sig .scVector := ⟨.hbm, 14, rfl⟩
abbrev main_v8_1_scv : Ref sig .scVector := ⟨.hbm, 15, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 16
abbrev cc1_sem1_0 : DmaSem sig := 17
abbrev cc1_sem2_0 : DmaSem sig := 18
abbrev cc1_sem3_0 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_139 : BitVec 32 := 4#32
  let v312 : BitVec 32 := Scalar.muli v1 c4_i32_139
  let c0_i32_140 : BitVec 32 := 0#32
  let v313 : BitVec 32 := Scalar.addi v312 c0_i32_140
  let c8832_i32 : BitVec 32 := 8832#32
  let v314 : BitVec 32 := Scalar.muli v313 c8832_i32
  ![v314.toNat]
@[reducible] def k0_t1_loop : Scf.Loop 32 :=
  let c0_i32_152 : BitVec 32 := 0#32
  let c552_i32 : BitVec 32 := 552#32
  let v352 : BitVec 32 := Scalar.addi c0_i32_152 c552_i32
  let c1_i32_153 : BitVec 32 := 1#32
  ⟨c0_i32_152, v352, c1_i32_153⟩
def k0_off2 (k0_t1 : Fin k0_t1_loop.trips) : Fin 1 → Nat :=
  let c0_i32_152 : BitVec 32 := 0#32
  let c1_i32_153 : BitVec 32 := 1#32
  let arg12 : BitVec 32 := Scf.iv c0_i32_152 c1_i32_153 k0_t1
  let c16_i32_305 : BitVec 32 := 16#32
  let v704 : BitVec 32 := Scalar.muli arg12 c16_i32_305
  let v705 : Index := Scalar.indexCast v704
  ![v705.toNat]
@[reducible] def k0_t2_loop : Scf.Loop 32 :=
  let c0_i32_156 : BitVec 32 := 0#32
  let c552_i32_157 : BitVec 32 := 552#32
  let v381 : BitVec 32 := Scalar.addi c0_i32_156 c552_i32_157
  let c1_i32_158 : BitVec 32 := 1#32
  ⟨c0_i32_156, v381, c1_i32_158⟩
def k0_off3 (k0_t2 : Fin k0_t2_loop.trips) : Fin 1 → Nat :=
  let c0_i32_156 : BitVec 32 := 0#32
  let c1_i32_158 : BitVec 32 := 1#32
  let arg12 : BitVec 32 := Scf.iv c0_i32_156 c1_i32_158 k0_t2
  let c16_i32_305 : BitVec 32 := 16#32
  let v704 : BitVec 32 := Scalar.muli arg12 c16_i32_305
  let v705 : Index := Scalar.indexCast v704
  ![v705.toNat]
def k0_off4 (arg13 : BitVec 32) : Fin 1 → Nat :=
  let c16_i32_306 : BitVec 32 := 16#32
  let v708 : BitVec 32 := Scalar.muli arg13 c16_i32_306
  let v712 : Index := Scalar.indexCast v708
  ![v712.toNat]

def k0_chk1 (arg13 : BitVec 32) : Prop :=
  (∀ a, (k0_off4 arg13) a + S16.size a ≤ S8832.size a)
theorem k0_off4_inb : ∀ (arg13 : BitVec 32) (k0_hw1 : k0_chk1 arg13), ∀ a, (k0_off4 arg13) a + S16.size a ≤ S8832.size a := fun arg13 k0_hw1 => k0_hw1

@[reducible] def k0_t3_loop (v382 : BitVec 32) : Scf.Loop 32 :=
  let c0_i32_164 : BitVec 32 := 0#32
  let v387 : BitVec 32 := Scalar.subi v382 c0_i32_164
  let c1_i32_165 : BitVec 32 := 1#32
  let v389 : BitVec 32 := Scalar.divsi v387 c1_i32_165
  let v390 : BitVec 32 := Scalar.muli v389 c1_i32_165
  let v391 : BitVec 32 := Scalar.addi c0_i32_164 v390
  let c1_i32_166 : BitVec 32 := 1#32
  ⟨c0_i32_164, v391, c1_i32_166⟩

def k0_off5 (v382 : BitVec 32) (k0_t3 : Fin (k0_t3_loop v382).trips) : Fin 1 → Nat :=
  let c0_i32_164 : BitVec 32 := 0#32
  let c1_i32_166 : BitVec 32 := 1#32
  let arg12 : BitVec 32 := Scf.iv c0_i32_164 c1_i32_166 k0_t3
  let c16_i32_305 : BitVec 32 := 16#32
  let v704 : BitVec 32 := Scalar.muli arg12 c16_i32_305
  let v705 : Index := Scalar.indexCast v704
  ![v705.toNat]
@[reducible] def k0_t4_loop (v382 : BitVec 32) : Scf.Loop 32 :=
  let c0_i32_164 : BitVec 32 := 0#32
  let v387 : BitVec 32 := Scalar.subi v382 c0_i32_164
  let c1_i32_165 : BitVec 32 := 1#32
  let v389 : BitVec 32 := Scalar.divsi v387 c1_i32_165
  let v390 : BitVec 32 := Scalar.muli v389 c1_i32_165
  let v391 : BitVec 32 := Scalar.addi c0_i32_164 v390
  let v388 : BitVec 32 := Scalar.addi c0_i32_164 v387
  let c1_i32_167 : BitVec 32 := 1#32
  ⟨v391, v388, c1_i32_167⟩
def k0_off6 (v382 : BitVec 32) (k0_t4 : Fin (k0_t4_loop v382).trips) : Fin 1 → Nat :=
  let c0_i32_164 : BitVec 32 := 0#32
  let v387 : BitVec 32 := Scalar.subi v382 c0_i32_164
  let c1_i32_165 : BitVec 32 := 1#32
  let v389 : BitVec 32 := Scalar.divsi v387 c1_i32_165
  let v390 : BitVec 32 := Scalar.muli v389 c1_i32_165
  let v391 : BitVec 32 := Scalar.addi c0_i32_164 v390
  let c1_i32_167 : BitVec 32 := 1#32
  let arg12 : BitVec 32 := Scf.iv v391 c1_i32_167 k0_t4
  let c16_i32_305 : BitVec 32 := 16#32
  let v704 : BitVec 32 := Scalar.muli arg12 c16_i32_305
  let v705 : Index := Scalar.indexCast v704
  ![v705.toNat]

def k0_chk2 (v382 : BitVec 32) : Prop :=
  ((k0_t3_loop v382).OK) ∧
  (∀ k0_t3 : Fin (k0_t3_loop v382).trips, ∀ a, (k0_off5 v382 k0_t3) a + S16.size a ≤ S8832.size a) ∧
  ((k0_t4_loop v382).OK) ∧
  (∀ k0_t4 : Fin (k0_t4_loop v382).trips, ∀ a, (k0_off6 v382 k0_t4) a + S16.size a ≤ S8832.size a)
theorem k0_t3_ok : ∀ (v382 : BitVec 32) (k0_hw2 : k0_chk2 v382), (k0_t3_loop v382).OK := fun v382 k0_hw2 => k0_hw2.1
theorem k0_off5_inb : ∀ (v382 : BitVec 32) (k0_hw2 : k0_chk2 v382) (k0_t3 : Fin (k0_t3_loop v382).trips), ∀ a, (k0_off5 v382 k0_t3) a + S16.size a ≤ S8832.size a := fun v382 k0_hw2 k0_t3 => k0_hw2.2.1 k0_t3
theorem k0_t4_ok : ∀ (v382 : BitVec 32) (k0_hw2 : k0_chk2 v382), (k0_t4_loop v382).OK := fun v382 k0_hw2 => k0_hw2.2.2.1
theorem k0_off6_inb : ∀ (v382 : BitVec 32) (k0_hw2 : k0_chk2 v382) (k0_t4 : Fin (k0_t4_loop v382).trips), ∀ a, (k0_off6 v382 k0_t4) a + S16.size a ≤ S8832.size a := fun v382 k0_hw2 k0_t4 => k0_hw2.2.2.2 k0_t4

def k0_off7 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_139 : BitVec 32 := 4#32
  let v312 : BitVec 32 := Scalar.muli v1 c4_i32_139
  let c0_i32_140 : BitVec 32 := 0#32
  let v313 : BitVec 32 := Scalar.addi v312 c0_i32_140
  let c32_i32 : BitVec 32 := 32#32
  let v408 : BitVec 32 := Scalar.muli v313 c32_i32
  ![v408.toNat]
def k0_off8 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_171 : BitVec 32 := 4#32
  let v410 : BitVec 32 := Scalar.muli v1 c4_i32_171
  let c1_i32_172 : BitVec 32 := 1#32
  let v411 : BitVec 32 := Scalar.addi v410 c1_i32_172
  let c8832_i32_173 : BitVec 32 := 8832#32
  let v412 : BitVec 32 := Scalar.muli v411 c8832_i32_173
  ![v412.toNat]
@[reducible] def k0_t5_loop : Scf.Loop 32 :=
  let c0_i32_193 : BitVec 32 := 0#32
  let c552_i32_194 : BitVec 32 := 552#32
  let v450 : BitVec 32 := Scalar.addi c0_i32_193 c552_i32_194
  let c1_i32_195 : BitVec 32 := 1#32
  ⟨c0_i32_193, v450, c1_i32_195⟩
def k0_off9 (k0_t5 : Fin k0_t5_loop.trips) : Fin 1 → Nat :=
  let c0_i32_193 : BitVec 32 := 0#32
  let c1_i32_195 : BitVec 32 := 1#32
  let arg12 : BitVec 32 := Scf.iv c0_i32_193 c1_i32_195 k0_t5
  let c16_i32_305 : BitVec 32 := 16#32
  let v704 : BitVec 32 := Scalar.muli arg12 c16_i32_305
  let v705 : Index := Scalar.indexCast v704
  ![v705.toNat]
@[reducible] def k0_t6_loop : Scf.Loop 32 :=
  let c0_i32_198 : BitVec 32 := 0#32
  let c552_i32_199 : BitVec 32 := 552#32
  let v479 : BitVec 32 := Scalar.addi c0_i32_198 c552_i32_199
  let c1_i32_200 : BitVec 32 := 1#32
  ⟨c0_i32_198, v479, c1_i32_200⟩
def k0_off10 (k0_t6 : Fin k0_t6_loop.trips) : Fin 1 → Nat :=
  let c0_i32_198 : BitVec 32 := 0#32
  let c1_i32_200 : BitVec 32 := 1#32
  let arg12 : BitVec 32 := Scf.iv c0_i32_198 c1_i32_200 k0_t6
  let c16_i32_305 : BitVec 32 := 16#32
  let v704 : BitVec 32 := Scalar.muli arg12 c16_i32_305
  let v705 : Index := Scalar.indexCast v704
  ![v705.toNat]
def k0_off11 (arg13 : BitVec 32) : Fin 1 → Nat :=
  let c16_i32_306 : BitVec 32 := 16#32
  let v708 : BitVec 32 := Scalar.muli arg13 c16_i32_306
  let v712 : Index := Scalar.indexCast v708
  ![v712.toNat]

def k0_chk3 (arg13 : BitVec 32) : Prop :=
  (∀ a, (k0_off11 arg13) a + S16.size a ≤ S8832.size a)
theorem k0_off11_inb : ∀ (arg13 : BitVec 32) (k0_hw3 : k0_chk3 arg13), ∀ a, (k0_off11 arg13) a + S16.size a ≤ S8832.size a := fun arg13 k0_hw3 => k0_hw3

@[reducible] def k0_t7_loop (v480 : BitVec 32) : Scf.Loop 32 :=
  let c0_i32_206 : BitVec 32 := 0#32
  let v485 : BitVec 32 := Scalar.subi v480 c0_i32_206
  let c1_i32_207 : BitVec 32 := 1#32
  let v487 : BitVec 32 := Scalar.divsi v485 c1_i32_207
  let v488 : BitVec 32 := Scalar.muli v487 c1_i32_207
  let v489 : BitVec 32 := Scalar.addi c0_i32_206 v488
  let c1_i32_208 : BitVec 32 := 1#32
  ⟨c0_i32_206, v489, c1_i32_208⟩

def k0_off12 (v480 : BitVec 32) (k0_t7 : Fin (k0_t7_loop v480).trips) : Fin 1 → Nat :=
  let c0_i32_206 : BitVec 32 := 0#32
  let c1_i32_208 : BitVec 32 := 1#32
  let arg12 : BitVec 32 := Scf.iv c0_i32_206 c1_i32_208 k0_t7
  let c16_i32_305 : BitVec 32 := 16#32
  let v704 : BitVec 32 := Scalar.muli arg12 c16_i32_305
  let v705 : Index := Scalar.indexCast v704
  ![v705.toNat]
@[reducible] def k0_t8_loop (v480 : BitVec 32) : Scf.Loop 32 :=
  let c0_i32_206 : BitVec 32 := 0#32
  let v485 : BitVec 32 := Scalar.subi v480 c0_i32_206
  let c1_i32_207 : BitVec 32 := 1#32
  let v487 : BitVec 32 := Scalar.divsi v485 c1_i32_207
  let v488 : BitVec 32 := Scalar.muli v487 c1_i32_207
  let v489 : BitVec 32 := Scalar.addi c0_i32_206 v488
  let v486 : BitVec 32 := Scalar.addi c0_i32_206 v485
  let c1_i32_209 : BitVec 32 := 1#32
  ⟨v489, v486, c1_i32_209⟩
def k0_off13 (v480 : BitVec 32) (k0_t8 : Fin (k0_t8_loop v480).trips) : Fin 1 → Nat :=
  let c0_i32_206 : BitVec 32 := 0#32
  let v485 : BitVec 32 := Scalar.subi v480 c0_i32_206
  let c1_i32_207 : BitVec 32 := 1#32
  let v487 : BitVec 32 := Scalar.divsi v485 c1_i32_207
  let v488 : BitVec 32 := Scalar.muli v487 c1_i32_207
  let v489 : BitVec 32 := Scalar.addi c0_i32_206 v488
  let c1_i32_209 : BitVec 32 := 1#32
  let arg12 : BitVec 32 := Scf.iv v489 c1_i32_209 k0_t8
  let c16_i32_305 : BitVec 32 := 16#32
  let v704 : BitVec 32 := Scalar.muli arg12 c16_i32_305
  let v705 : Index := Scalar.indexCast v704
  ![v705.toNat]

def k0_chk4 (v480 : BitVec 32) : Prop :=
  ((k0_t7_loop v480).OK) ∧
  (∀ k0_t7 : Fin (k0_t7_loop v480).trips, ∀ a, (k0_off12 v480 k0_t7) a + S16.size a ≤ S8832.size a) ∧
  ((k0_t8_loop v480).OK) ∧
  (∀ k0_t8 : Fin (k0_t8_loop v480).trips, ∀ a, (k0_off13 v480 k0_t8) a + S16.size a ≤ S8832.size a)
theorem k0_t7_ok : ∀ (v480 : BitVec 32) (k0_hw4 : k0_chk4 v480), (k0_t7_loop v480).OK := fun v480 k0_hw4 => k0_hw4.1
theorem k0_off12_inb : ∀ (v480 : BitVec 32) (k0_hw4 : k0_chk4 v480) (k0_t7 : Fin (k0_t7_loop v480).trips), ∀ a, (k0_off12 v480 k0_t7) a + S16.size a ≤ S8832.size a := fun v480 k0_hw4 k0_t7 => k0_hw4.2.1 k0_t7
theorem k0_t8_ok : ∀ (v480 : BitVec 32) (k0_hw4 : k0_chk4 v480), (k0_t8_loop v480).OK := fun v480 k0_hw4 => k0_hw4.2.2.1
theorem k0_off13_inb : ∀ (v480 : BitVec 32) (k0_hw4 : k0_chk4 v480) (k0_t8 : Fin (k0_t8_loop v480).trips), ∀ a, (k0_off13 v480 k0_t8) a + S16.size a ≤ S8832.size a := fun v480 k0_hw4 k0_t8 => k0_hw4.2.2.2 k0_t8

def k0_off14 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_171 : BitVec 32 := 4#32
  let v410 : BitVec 32 := Scalar.muli v1 c4_i32_171
  let c1_i32_172 : BitVec 32 := 1#32
  let v411 : BitVec 32 := Scalar.addi v410 c1_i32_172
  let c32_i32_214 : BitVec 32 := 32#32
  let v506 : BitVec 32 := Scalar.muli v411 c32_i32_214
  ![v506.toNat]
def k0_off15 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_216 : BitVec 32 := 4#32
  let v508 : BitVec 32 := Scalar.muli v1 c4_i32_216
  let c2_i32_217 : BitVec 32 := 2#32
  let v509 : BitVec 32 := Scalar.addi v508 c2_i32_217
  let c8832_i32_218 : BitVec 32 := 8832#32
  let v510 : BitVec 32 := Scalar.muli v509 c8832_i32_218
  ![v510.toNat]
@[reducible] def k0_t9_loop : Scf.Loop 32 :=
  let c0_i32_238 : BitVec 32 := 0#32
  let c552_i32_239 : BitVec 32 := 552#32
  let v548 : BitVec 32 := Scalar.addi c0_i32_238 c552_i32_239
  let c1_i32_240 : BitVec 32 := 1#32
  ⟨c0_i32_238, v548, c1_i32_240⟩
def k0_off16 (k0_t9 : Fin k0_t9_loop.trips) : Fin 1 → Nat :=
  let c0_i32_238 : BitVec 32 := 0#32
  let c1_i32_240 : BitVec 32 := 1#32
  let arg12 : BitVec 32 := Scf.iv c0_i32_238 c1_i32_240 k0_t9
  let c16_i32_305 : BitVec 32 := 16#32
  let v704 : BitVec 32 := Scalar.muli arg12 c16_i32_305
  let v705 : Index := Scalar.indexCast v704
  ![v705.toNat]
@[reducible] def k0_t10_loop : Scf.Loop 32 :=
  let c0_i32_243 : BitVec 32 := 0#32
  let c552_i32_244 : BitVec 32 := 552#32
  let v577 : BitVec 32 := Scalar.addi c0_i32_243 c552_i32_244
  let c1_i32_245 : BitVec 32 := 1#32
  ⟨c0_i32_243, v577, c1_i32_245⟩
def k0_off17 (k0_t10 : Fin k0_t10_loop.trips) : Fin 1 → Nat :=
  let c0_i32_243 : BitVec 32 := 0#32
  let c1_i32_245 : BitVec 32 := 1#32
  let arg12 : BitVec 32 := Scf.iv c0_i32_243 c1_i32_245 k0_t10
  let c16_i32_305 : BitVec 32 := 16#32
  let v704 : BitVec 32 := Scalar.muli arg12 c16_i32_305
  let v705 : Index := Scalar.indexCast v704
  ![v705.toNat]
def k0_off18 (arg13 : BitVec 32) : Fin 1 → Nat :=
  let c16_i32_306 : BitVec 32 := 16#32
  let v708 : BitVec 32 := Scalar.muli arg13 c16_i32_306
  let v712 : Index := Scalar.indexCast v708
  ![v712.toNat]

def k0_chk5 (arg13 : BitVec 32) : Prop :=
  (∀ a, (k0_off18 arg13) a + S16.size a ≤ S8832.size a)
theorem k0_off18_inb : ∀ (arg13 : BitVec 32) (k0_hw5 : k0_chk5 arg13), ∀ a, (k0_off18 arg13) a + S16.size a ≤ S8832.size a := fun arg13 k0_hw5 => k0_hw5

@[reducible] def k0_t11_loop (v578 : BitVec 32) : Scf.Loop 32 :=
  let c0_i32_251 : BitVec 32 := 0#32
  let v583 : BitVec 32 := Scalar.subi v578 c0_i32_251
  let c1_i32_252 : BitVec 32 := 1#32
  let v585 : BitVec 32 := Scalar.divsi v583 c1_i32_252
  let v586 : BitVec 32 := Scalar.muli v585 c1_i32_252
  let v587 : BitVec 32 := Scalar.addi c0_i32_251 v586
  let c1_i32_253 : BitVec 32 := 1#32
  ⟨c0_i32_251, v587, c1_i32_253⟩

def k0_off19 (v578 : BitVec 32) (k0_t11 : Fin (k0_t11_loop v578).trips) : Fin 1 → Nat :=
  let c0_i32_251 : BitVec 32 := 0#32
  let c1_i32_253 : BitVec 32 := 1#32
  let arg12 : BitVec 32 := Scf.iv c0_i32_251 c1_i32_253 k0_t11
  let c16_i32_305 : BitVec 32 := 16#32
  let v704 : BitVec 32 := Scalar.muli arg12 c16_i32_305
  let v705 : Index := Scalar.indexCast v704
  ![v705.toNat]
@[reducible] def k0_t12_loop (v578 : BitVec 32) : Scf.Loop 32 :=
  let c0_i32_251 : BitVec 32 := 0#32
  let v583 : BitVec 32 := Scalar.subi v578 c0_i32_251
  let c1_i32_252 : BitVec 32 := 1#32
  let v585 : BitVec 32 := Scalar.divsi v583 c1_i32_252
  let v586 : BitVec 32 := Scalar.muli v585 c1_i32_252
  let v587 : BitVec 32 := Scalar.addi c0_i32_251 v586
  let v584 : BitVec 32 := Scalar.addi c0_i32_251 v583
  let c1_i32_254 : BitVec 32 := 1#32
  ⟨v587, v584, c1_i32_254⟩
def k0_off20 (v578 : BitVec 32) (k0_t12 : Fin (k0_t12_loop v578).trips) : Fin 1 → Nat :=
  let c0_i32_251 : BitVec 32 := 0#32
  let v583 : BitVec 32 := Scalar.subi v578 c0_i32_251
  let c1_i32_252 : BitVec 32 := 1#32
  let v585 : BitVec 32 := Scalar.divsi v583 c1_i32_252
  let v586 : BitVec 32 := Scalar.muli v585 c1_i32_252
  let v587 : BitVec 32 := Scalar.addi c0_i32_251 v586
  let c1_i32_254 : BitVec 32 := 1#32
  let arg12 : BitVec 32 := Scf.iv v587 c1_i32_254 k0_t12
  let c16_i32_305 : BitVec 32 := 16#32
  let v704 : BitVec 32 := Scalar.muli arg12 c16_i32_305
  let v705 : Index := Scalar.indexCast v704
  ![v705.toNat]

def k0_chk6 (v578 : BitVec 32) : Prop :=
  ((k0_t11_loop v578).OK) ∧
  (∀ k0_t11 : Fin (k0_t11_loop v578).trips, ∀ a, (k0_off19 v578 k0_t11) a + S16.size a ≤ S8832.size a) ∧
  ((k0_t12_loop v578).OK) ∧
  (∀ k0_t12 : Fin (k0_t12_loop v578).trips, ∀ a, (k0_off20 v578 k0_t12) a + S16.size a ≤ S8832.size a)
theorem k0_t11_ok : ∀ (v578 : BitVec 32) (k0_hw6 : k0_chk6 v578), (k0_t11_loop v578).OK := fun v578 k0_hw6 => k0_hw6.1
theorem k0_off19_inb : ∀ (v578 : BitVec 32) (k0_hw6 : k0_chk6 v578) (k0_t11 : Fin (k0_t11_loop v578).trips), ∀ a, (k0_off19 v578 k0_t11) a + S16.size a ≤ S8832.size a := fun v578 k0_hw6 k0_t11 => k0_hw6.2.1 k0_t11
theorem k0_t12_ok : ∀ (v578 : BitVec 32) (k0_hw6 : k0_chk6 v578), (k0_t12_loop v578).OK := fun v578 k0_hw6 => k0_hw6.2.2.1
theorem k0_off20_inb : ∀ (v578 : BitVec 32) (k0_hw6 : k0_chk6 v578) (k0_t12 : Fin (k0_t12_loop v578).trips), ∀ a, (k0_off20 v578 k0_t12) a + S16.size a ≤ S8832.size a := fun v578 k0_hw6 k0_t12 => k0_hw6.2.2.2 k0_t12

def k0_off21 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_216 : BitVec 32 := 4#32
  let v508 : BitVec 32 := Scalar.muli v1 c4_i32_216
  let c2_i32_217 : BitVec 32 := 2#32
  let v509 : BitVec 32 := Scalar.addi v508 c2_i32_217
  let c32_i32_259 : BitVec 32 := 32#32
  let v604 : BitVec 32 := Scalar.muli v509 c32_i32_259
  ![v604.toNat]
def k0_off22 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_261 : BitVec 32 := 4#32
  let v606 : BitVec 32 := Scalar.muli v1 c4_i32_261
  let c3_i32 : BitVec 32 := 3#32
  let v607 : BitVec 32 := Scalar.addi v606 c3_i32
  let c8832_i32_262 : BitVec 32 := 8832#32
  let v608 : BitVec 32 := Scalar.muli v607 c8832_i32_262
  ![v608.toNat]
@[reducible] def k0_t13_loop : Scf.Loop 32 :=
  let c0_i32_282 : BitVec 32 := 0#32
  let c552_i32_283 : BitVec 32 := 552#32
  let v646 : BitVec 32 := Scalar.addi c0_i32_282 c552_i32_283
  let c1_i32_284 : BitVec 32 := 1#32
  ⟨c0_i32_282, v646, c1_i32_284⟩
def k0_off23 (k0_t13 : Fin k0_t13_loop.trips) : Fin 1 → Nat :=
  let c0_i32_282 : BitVec 32 := 0#32
  let c1_i32_284 : BitVec 32 := 1#32
  let arg12 : BitVec 32 := Scf.iv c0_i32_282 c1_i32_284 k0_t13
  let c16_i32_305 : BitVec 32 := 16#32
  let v704 : BitVec 32 := Scalar.muli arg12 c16_i32_305
  let v705 : Index := Scalar.indexCast v704
  ![v705.toNat]
@[reducible] def k0_t14_loop : Scf.Loop 32 :=
  let c0_i32_287 : BitVec 32 := 0#32
  let c552_i32_288 : BitVec 32 := 552#32
  let v675 : BitVec 32 := Scalar.addi c0_i32_287 c552_i32_288
  let c1_i32_289 : BitVec 32 := 1#32
  ⟨c0_i32_287, v675, c1_i32_289⟩
def k0_off24 (k0_t14 : Fin k0_t14_loop.trips) : Fin 1 → Nat :=
  let c0_i32_287 : BitVec 32 := 0#32
  let c1_i32_289 : BitVec 32 := 1#32
  let arg12 : BitVec 32 := Scf.iv c0_i32_287 c1_i32_289 k0_t14
  let c16_i32_305 : BitVec 32 := 16#32
  let v704 : BitVec 32 := Scalar.muli arg12 c16_i32_305
  let v705 : Index := Scalar.indexCast v704
  ![v705.toNat]
def k0_off25 (arg13 : BitVec 32) : Fin 1 → Nat :=
  let c16_i32_306 : BitVec 32 := 16#32
  let v708 : BitVec 32 := Scalar.muli arg13 c16_i32_306
  let v712 : Index := Scalar.indexCast v708
  ![v712.toNat]

def k0_chk7 (arg13 : BitVec 32) : Prop :=
  (∀ a, (k0_off25 arg13) a + S16.size a ≤ S8832.size a)
theorem k0_off25_inb : ∀ (arg13 : BitVec 32) (k0_hw7 : k0_chk7 arg13), ∀ a, (k0_off25 arg13) a + S16.size a ≤ S8832.size a := fun arg13 k0_hw7 => k0_hw7

@[reducible] def k0_t15_loop (v676 : BitVec 32) : Scf.Loop 32 :=
  let c0_i32_295 : BitVec 32 := 0#32
  let v681 : BitVec 32 := Scalar.subi v676 c0_i32_295
  let c1_i32_296 : BitVec 32 := 1#32
  let v683 : BitVec 32 := Scalar.divsi v681 c1_i32_296
  let v684 : BitVec 32 := Scalar.muli v683 c1_i32_296
  let v685 : BitVec 32 := Scalar.addi c0_i32_295 v684
  let c1_i32_297 : BitVec 32 := 1#32
  ⟨c0_i32_295, v685, c1_i32_297⟩

def k0_off26 (v676 : BitVec 32) (k0_t15 : Fin (k0_t15_loop v676).trips) : Fin 1 → Nat :=
  let c0_i32_295 : BitVec 32 := 0#32
  let c1_i32_297 : BitVec 32 := 1#32
  let arg12 : BitVec 32 := Scf.iv c0_i32_295 c1_i32_297 k0_t15
  let c16_i32_305 : BitVec 32 := 16#32
  let v704 : BitVec 32 := Scalar.muli arg12 c16_i32_305
  let v705 : Index := Scalar.indexCast v704
  ![v705.toNat]
@[reducible] def k0_t16_loop (v676 : BitVec 32) : Scf.Loop 32 :=
  let c0_i32_295 : BitVec 32 := 0#32
  let v681 : BitVec 32 := Scalar.subi v676 c0_i32_295
  let c1_i32_296 : BitVec 32 := 1#32
  let v683 : BitVec 32 := Scalar.divsi v681 c1_i32_296
  let v684 : BitVec 32 := Scalar.muli v683 c1_i32_296
  let v685 : BitVec 32 := Scalar.addi c0_i32_295 v684
  let v682 : BitVec 32 := Scalar.addi c0_i32_295 v681
  let c1_i32_298 : BitVec 32 := 1#32
  ⟨v685, v682, c1_i32_298⟩
def k0_off27 (v676 : BitVec 32) (k0_t16 : Fin (k0_t16_loop v676).trips) : Fin 1 → Nat :=
  let c0_i32_295 : BitVec 32 := 0#32
  let v681 : BitVec 32 := Scalar.subi v676 c0_i32_295
  let c1_i32_296 : BitVec 32 := 1#32
  let v683 : BitVec 32 := Scalar.divsi v681 c1_i32_296
  let v684 : BitVec 32 := Scalar.muli v683 c1_i32_296
  let v685 : BitVec 32 := Scalar.addi c0_i32_295 v684
  let c1_i32_298 : BitVec 32 := 1#32
  let arg12 : BitVec 32 := Scf.iv v685 c1_i32_298 k0_t16
  let c16_i32_305 : BitVec 32 := 16#32
  let v704 : BitVec 32 := Scalar.muli arg12 c16_i32_305
  let v705 : Index := Scalar.indexCast v704
  ![v705.toNat]

def k0_chk8 (v676 : BitVec 32) : Prop :=
  ((k0_t15_loop v676).OK) ∧
  (∀ k0_t15 : Fin (k0_t15_loop v676).trips, ∀ a, (k0_off26 v676 k0_t15) a + S16.size a ≤ S8832.size a) ∧
  ((k0_t16_loop v676).OK) ∧
  (∀ k0_t16 : Fin (k0_t16_loop v676).trips, ∀ a, (k0_off27 v676 k0_t16) a + S16.size a ≤ S8832.size a)
theorem k0_t15_ok : ∀ (v676 : BitVec 32) (k0_hw8 : k0_chk8 v676), (k0_t15_loop v676).OK := fun v676 k0_hw8 => k0_hw8.1
theorem k0_off26_inb : ∀ (v676 : BitVec 32) (k0_hw8 : k0_chk8 v676) (k0_t15 : Fin (k0_t15_loop v676).trips), ∀ a, (k0_off26 v676 k0_t15) a + S16.size a ≤ S8832.size a := fun v676 k0_hw8 k0_t15 => k0_hw8.2.1 k0_t15
theorem k0_t16_ok : ∀ (v676 : BitVec 32) (k0_hw8 : k0_chk8 v676), (k0_t16_loop v676).OK := fun v676 k0_hw8 => k0_hw8.2.2.1
theorem k0_off27_inb : ∀ (v676 : BitVec 32) (k0_hw8 : k0_chk8 v676) (k0_t16 : Fin (k0_t16_loop v676).trips), ∀ a, (k0_off27 v676 k0_t16) a + S16.size a ≤ S8832.size a := fun v676 k0_hw8 k0_t16 => k0_hw8.2.2.2 k0_t16

def k0_off28 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_261 : BitVec 32 := 4#32
  let v606 : BitVec 32 := Scalar.muli v1 c4_i32_261
  let c3_i32 : BitVec 32 := 3#32
  let v607 : BitVec 32 := Scalar.addi v606 c3_i32
  let c32_i32_303 : BitVec 32 := 32#32
  let v702 : BitVec 32 := Scalar.muli v607 c32_i32_303
  ![v702.toNat]
abbrev grid1 : Pipeline.Grid := .none

abbrev stage1_0 : Fin 1 → Memref sig .tc .vmem S128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x32 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "init" => some ⊥
  | "mask" => some ⊥
  | _ => none
-- ==== ReferenceIdeal.lean ====
abbrev S128x8732x2 : Shape := ⟨3, ![128, 8732, 2]⟩
abbrev S128x128 : Shape := ⟨2, ![128, 128]⟩
abbrev S1x8 : Shape := ⟨2, ![1, 8]⟩
abbrev S128x1 : Shape := ⟨2, ![128, 1]⟩
abbrev S128 : Shape := ⟨1, ![128]⟩
abbrev S_ : Shape := ⟨0, ![]⟩
abbrev S128x8 : Shape := ⟨2, ![128, 8]⟩
abbrev S128x8732 : Shape := ⟨2, ![128, 8732]⟩
abbrev S128x8732x1 : Shape := ⟨3, ![128, 8732, 1]⟩
abbrev S8732 : Shape := ⟨1, ![8732]⟩
abbrev S1x8732 : Shape := ⟨2, ![1, 8732]⟩

abbrev nBuf : Space → Nat
  | .hbm => 75
  | .vmem => 0
  | .smem => 0
  | _ => 0

abbrev bufTy : (tb : Table) → Fin (tcTables nBuf tb) → BufTy
  | .hbm, ⟨0, _⟩ => ⟨S128x8732x2, .f32⟩
  | .hbm, ⟨1, _⟩ => ⟨S128x128, .f32⟩
  | .hbm, ⟨2, _⟩ => ⟨S1x8, .f32⟩
  | .hbm, ⟨3, _⟩ => ⟨S128x1, .f32⟩
  | .hbm, ⟨4, _⟩ => ⟨S128, .f32⟩
  | .hbm, ⟨5, _⟩ => ⟨S128x1, .f32⟩
  | .hbm, ⟨6, _⟩ => ⟨S128, .f32⟩
  | .hbm, ⟨7, _⟩ => ⟨S_, .f32⟩
  | .hbm, ⟨8, _⟩ => ⟨S_, .f32⟩
  | .hbm, ⟨9, _⟩ => ⟨S128x1, .f32⟩
  | .hbm, ⟨10, _⟩ => ⟨S128, .f32⟩
  | .hbm, ⟨11, _⟩ => ⟨S_, .f32⟩
  | .hbm, ⟨12, _⟩ => ⟨S_, .f32⟩
  | .hbm, ⟨13, _⟩ => ⟨S128x1, .f32⟩
  | .hbm, ⟨14, _⟩ => ⟨S128x8, .f32⟩
  | .hbm, ⟨15, _⟩ => ⟨S128x8, .f32⟩
  | .hbm, ⟨16, _⟩ => ⟨S128x8, .f32⟩
  | .hbm, ⟨17, _⟩ => ⟨S128x8, .f32⟩
  | .hbm, ⟨18, _⟩ => ⟨S_, .f32⟩
  | .hbm, ⟨19, _⟩ => ⟨S128x8, .f32⟩
  | .hbm, ⟨20, _⟩ => ⟨S128x8, .f32⟩
  | .hbm, ⟨21, _⟩ => ⟨S128x8, .f32⟩
  | .hbm, ⟨22, _⟩ => ⟨S_, .f32⟩
  | .hbm, ⟨23, _⟩ => ⟨S128x8, .f32⟩
  | .hbm, ⟨24, _⟩ => ⟨S128x8, .f32⟩
  | .hbm, ⟨25, _⟩ => ⟨S128x8, .f32⟩
  | .hbm, ⟨26, _⟩ => ⟨S_, .i32⟩
  | .hbm, ⟨27, _⟩ => ⟨S_, .f32⟩
  | .hbm, ⟨28, _⟩ => ⟨S128x8732, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S128x8732, .f32⟩
  | .hbm, ⟨36, _⟩ => ⟨S_, .f32⟩
  | .hbm, ⟨37, _⟩ => ⟨S128x8732, .f32⟩
  | .hbm, ⟨38, _⟩ => ⟨S128x8732, .f32⟩
  | .hbm, ⟨39, _⟩ => ⟨S128x8732x1, .f32⟩
  | .hbm, ⟨40, _⟩ => ⟨S128x8732x2, .f32⟩
  | .hbm, ⟨41, _⟩ => ⟨S128x8732x2, .f32⟩
  | .hbm, ⟨42, _⟩ => ⟨S128x8732x2, .f32⟩
  | .hbm, ⟨43, _⟩ => ⟨S_, .f32⟩
  | .hbm, ⟨44, _⟩ => ⟨S128x8732, .f32⟩
  | .hbm, ⟨45, _⟩ => ⟨S128x8732x1, .f32⟩
  | .hbm, ⟨46, _⟩ => ⟨S128x8732x1, .f32⟩
  | .hbm, ⟨47, _⟩ => ⟨S128x8732x2, .f32⟩
  | .hbm, ⟨48, _⟩ => ⟨S128x8732x2, .f32⟩
  | .hbm, ⟨49, _⟩ => ⟨S128x8732x1, .f32⟩
  | .hbm, ⟨50, _⟩ => ⟨S128x8732, .f32⟩
  | .hbm, ⟨51, _⟩ => ⟨S128x8732, .f32⟩
  | .hbm, ⟨52, _⟩ => ⟨S_, .f32⟩
  | .hbm, ⟨53, _⟩ => ⟨S128x8732, .f32⟩
  | .hbm, ⟨54, _⟩ => ⟨S128x8732, .f32⟩
  | .hbm, ⟨55, _⟩ => ⟨S128x8732, .f32⟩
  | .hbm, ⟨56, _⟩ => ⟨S128x8732, .f32⟩
  | .hbm, ⟨57, _⟩ => ⟨S128x8732, .f32⟩
  | .hbm, ⟨58, _⟩ => ⟨S128x8732, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S8732, .f32⟩
  | .hbm, ⟨63, _⟩ => ⟨S1x8732, .f32⟩
  | .hbm, ⟨64, _⟩ => ⟨S128x1, .f32⟩
  | .hbm, ⟨65, _⟩ => ⟨S128x8732, .f32⟩
  | .hbm, ⟨66, _⟩ => ⟨S128x8732, .f32⟩
  | .hbm, ⟨67, _⟩ => ⟨S128x8732, .i1⟩
  | .hbm, ⟨68, _⟩ => ⟨S128x8732, .f32⟩
  | .hbm, ⟨69, _⟩ => ⟨S128x8732, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S128x8732x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_call0_v0 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_call1_cst : Ref sig .tc := ⟨.hbm, 34, rfl⟩
abbrev main_call1_v0 : Ref sig .tc := ⟨.hbm, 35, rfl⟩
abbrev main_call1_cst_0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_cst_1 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_6 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩

abbrev nD : Nat := 1
abbrev τ : Topo := Topo.v7x

variable {F : FTy → Type} [FloatOps F]
-- ==== Match.lean ====
abbrev S128x8732x4 : Shape := ⟨3, ![128, 8732, 4]⟩
abbrev S128x8732x2 : Shape := ⟨3, ![128, 8732, 2]⟩
abbrev S128x8x4 : Shape := ⟨3, ![128, 8, 4]⟩
abbrev S8732x4 : Shape := ⟨2, ![8732, 4]⟩
abbrev S1x4 : Shape := ⟨2, ![1, 4]⟩
abbrev S1x1x1x4 : Shape := ⟨4, ![1, 1, 1, 4]⟩
abbrev S100x1x1x4 : Shape := ⟨4, ![100, 1, 1, 4]⟩
abbrev S100x4 : Shape := ⟨2, ![100, 4]⟩
abbrev S8832x4 : Shape := ⟨2, ![8832, 4]⟩
abbrev S4x8832 : Shape := ⟨2, ![4, 8832]⟩
abbrev S4x69x128 : Shape := ⟨3, ![4, 69, 128]⟩
abbrev S8x4 : Shape := ⟨2, ![8, 4]⟩
abbrev S128x8x2 : Shape := ⟨3, ![128, 8, 2]⟩
abbrev S128x128 : Shape := ⟨2, ![128, 128]⟩
abbrev S16x8x4 : Shape := ⟨3, ![16, 8, 4]⟩
abbrev S16x8x2 : Shape := ⟨3, ![16, 8, 2]⟩
abbrev S16x128 : Shape := ⟨2, ![16, 128]⟩
abbrev S69x128 : Shape := ⟨2, ![69, 128]⟩
abbrev S1x128 : Shape := ⟨2, ![1, 128]⟩
abbrev S1x69x128 : Shape := ⟨3, ![1, 69, 128]⟩
abbrev S1x1 : Shape := ⟨2, ![1, 1]⟩
abbrev S1x1x1 : Shape := ⟨3, ![1, 1, 1]⟩
abbrev S128 : Shape := ⟨1, ![128]⟩
abbrev S8x128 : Shape := ⟨2, ![8, 128]⟩
abbrev S8 : Shape := ⟨1, ![8]⟩
abbrev S8x1 : Shape := ⟨2, ![8, 1]⟩
abbrev S16 : Shape := ⟨1, ![16]⟩
abbrev S16x1 : Shape := ⟨2, ![16, 1]⟩

abbrev nBuf : Space → Nat
  | .hbm => 15
  | .vmem => 3
  | .smem => 7
  | _ => 0

abbrev bufTy : (tb : Table) → Fin (tcTables nBuf tb) → BufTy
  | .hbm, ⟨0, _⟩ => ⟨S128x8732x4, .f32⟩
  | .hbm, ⟨1, _⟩ => ⟨S128x8732x2, .f32⟩
  | .hbm, ⟨2, _⟩ => ⟨S128x8x4, .f32⟩
  | .hbm, ⟨3, _⟩ => ⟨S8732x4, .f32⟩
  | .hbm, ⟨4, _⟩ => ⟨S1x4, .f32⟩
  | .hbm, ⟨5, _⟩ => ⟨S1x1x1x4, .f32⟩
  | .hbm, ⟨6, _⟩ => ⟨S100x1x1x4, .f32⟩
  | .hbm, ⟨7, _⟩ => ⟨S100x4, .f32⟩
  | .hbm, ⟨8, _⟩ => ⟨S8832x4, .f32⟩
  | .hbm, ⟨9, _⟩ => ⟨S4x8832, .f32⟩
  | .hbm, ⟨10, _⟩ => ⟨S4x69x128, .f32⟩
  | .hbm, ⟨11, _⟩ => ⟨S8x4, .f32⟩
  | .hbm, ⟨12, _⟩ => ⟨S128x8x4, .f32⟩
  | .hbm, ⟨13, _⟩ => ⟨S128x8x2, .f32⟩
  | .hbm, ⟨14, _⟩ => ⟨S128x128, .f32⟩
  | .local _ .vmem, ⟨0, _⟩ => ⟨S4x69x128, .f32⟩
  | .local _ .vmem, ⟨1, _⟩ => ⟨S16x128, .f32⟩
  | .local _ .vmem, ⟨2, _⟩ => ⟨S16x128, .f32⟩
  | .local _ .smem, ⟨0, _⟩ => ⟨S8x4, .f32⟩
  | .local _ .smem, ⟨1, _⟩ => ⟨S16x8x4, .f32⟩
  | .local _ .smem, ⟨2, _⟩ => ⟨S16x8x4, .f32⟩
  | .local _ .smem, ⟨3, _⟩ => ⟨S16x8x4, .f32⟩
  | .local _ .smem, ⟨4, _⟩ => ⟨S16x8x4, .f32⟩
  | .local _ .smem, ⟨5, _⟩ => ⟨S16x8x2, .f32⟩
  | .local _ .smem, ⟨6, _⟩ => ⟨S16x8x2, .f32⟩
  | _, _ => ⟨S128x8732x4, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg5_0 : Ref sig .tc := ⟨.vmem, 1, rfl⟩
abbrev cc0_stg5_1 : Ref sig .tc := ⟨.vmem, 2, rfl⟩
abbrev cc0_stg1_0 : Ref sig .tc := ⟨.smem, 0, rfl⟩
abbrev cc0_stg2_0 : Ref sig .tc := ⟨.smem, 1, rfl⟩
abbrev cc0_stg2_1 : Ref sig .tc := ⟨.smem, 2, rfl⟩
abbrev cc0_stg3_0 : Ref sig .tc := ⟨.smem, 3, rfl⟩
abbrev cc0_stg3_1 : Ref sig .tc := ⟨.smem, 4, rfl⟩
abbrev cc0_stg4_0 : Ref sig .tc := ⟨.smem, 5, rfl⟩
abbrev cc0_stg4_1 : Ref sig .tc := ⟨.smem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x69x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S8x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .smem S16x8x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .smem S16x8x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .smem S16x8x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MatchReferenceIdeal.lean ====
abbrev S128x8732x4 : Shape := ⟨3, ![128, 8732, 4]⟩
abbrev S128x8732x2 : Shape := ⟨3, ![128, 8732, 2]⟩
abbrev S128x8x4 : Shape := ⟨3, ![128, 8, 4]⟩
abbrev S8732x4 : Shape := ⟨2, ![8732, 4]⟩
abbrev S1x8 : Shape := ⟨2, ![1, 8]⟩
abbrev S128x8x1 : Shape := ⟨3, ![128, 8, 1]⟩
abbrev S128x8 : Shape := ⟨2, ![128, 8]⟩
abbrev S_ : Shape := ⟨0, ![]⟩
abbrev S8732x1 : Shape := ⟨2, ![8732, 1]⟩
abbrev S8732 : Shape := ⟨1, ![8732]⟩
abbrev S1x1x8732 : Shape := ⟨3, ![1, 1, 8732]⟩
abbrev S128x8x8732 : Shape := ⟨3, ![128, 8, 8732]⟩
abbrev S8 : Shape := ⟨1, ![8]⟩
abbrev S1x8x1 : Shape := ⟨3, ![1, 8, 1]⟩
abbrev S128x8732 : Shape := ⟨2, ![128, 8732]⟩
abbrev S128x1x8732 : Shape := ⟨3, ![128, 1, 8732]⟩
abbrev S1x8732 : Shape := ⟨2, ![1, 8732]⟩
abbrev S128x8732x1 : Shape := ⟨3, ![128, 8732, 1]⟩
abbrev S128 : Shape := ⟨1, ![128]⟩
abbrev S128x1 : Shape := ⟨2, ![128, 1]⟩
abbrev S128x4 : Shape := ⟨2, ![128, 4]⟩
abbrev S128x128 : Shape := ⟨2, ![128, 128]⟩

abbrev nBuf : Space → Nat
  | .hbm => 301
  | .vmem => 0
  | .smem => 0
  | _ => 0

abbrev hbmTy0_0 (i : Nat) : BufTy := match i % 128 with
  | 0 => ⟨S128x8732x4, .f32⟩
  | 1 => ⟨S128x8732x2, .f32⟩
  | 2 => ⟨S128x8x4, .f32⟩
  | 3 => ⟨S8732x4, .f32⟩
  | 4 => ⟨S1x8, .f32⟩
  | 5 => ⟨S128x8x1, .f32⟩
  | 6 => ⟨S128x8, .f32⟩
  | 7 => ⟨S128x8x1, .f32⟩
  | 8 => ⟨S128x8, .f32⟩
  | 9 => ⟨S128x8x1, .f32⟩
  | 10 => ⟨S128x8, .f32⟩
  | 11 => ⟨S128x8x1, .f32⟩
  | 12 => ⟨S128x8, .f32⟩
  | 13 => ⟨S_, .f32⟩
  | 14 => ⟨S128x8, .f32⟩
  | 15 => ⟨S128x8, .f32⟩
  | 16 => ⟨S128x8, .f32⟩
  | 17 => ⟨S_, .f32⟩
  | 18 => ⟨S128x8, .f32⟩
  | 19 => ⟨S128x8, .f32⟩
  | 20 => ⟨S128x8, .f32⟩
  | 21 => ⟨S_, .f32⟩
  | 22 => ⟨S128x8, .f32⟩
  | 23 => ⟨S128x8, .f32⟩
  | 24 => ⟨S128x8, .f32⟩
  | 25 => ⟨S_, .f32⟩
  | 26 => ⟨S128x8, .f32⟩
  | 27 => ⟨S128x8, .f32⟩
  | 28 => ⟨S128x8, .f32⟩
  | 29 => ⟨S128x8x1, .f32⟩
  | 30 => ⟨S128x8x1, .f32⟩
  | 31 => ⟨S128x8x1, .f32⟩
  | 32 => ⟨S128x8x1, .f32⟩
  | 33 => ⟨S8732x1, .f32⟩
  | 34 => ⟨S8732, .f32⟩
  | 35 => ⟨S8732x1, .f32⟩
  | 36 => ⟨S8732, .f32⟩
  | 37 => ⟨S8732x1, .f32⟩
  | 38 => ⟨S8732, .f32⟩
  | 39 => ⟨S8732x1, .f32⟩
  | 40 => ⟨S8732, .f32⟩
  | 41 => ⟨S_, .f32⟩
  | 42 => ⟨S8732, .f32⟩
  | 43 => ⟨S8732, .f32⟩
  | 44 => ⟨S8732, .f32⟩
  | 45 => ⟨S_, .f32⟩
  | 46 => ⟨S8732, .f32⟩
  | 47 => ⟨S8732, .f32⟩
  | 48 => ⟨S8732, .f32⟩
  | 49 => ⟨S_, .f32⟩
  | 50 => ⟨S8732, .f32⟩
  | 51 => ⟨S8732, .f32⟩
  | 52 => ⟨S8732, .f32⟩
  | 53 => ⟨S_, .f32⟩
  | 54 => ⟨S8732, .f32⟩
  | 55 => ⟨S8732, .f32⟩
  | 56 => ⟨S8732, .f32⟩
  | 57 => ⟨S1x1x8732, .f32⟩
  | 58 => ⟨S1x1x8732, .f32⟩
  | 59 => ⟨S1x1x8732, .f32⟩
  | 60 => ⟨S1x1x8732, .f32⟩
  | 61 => ⟨S128x8x8732, .f32⟩
  | 62 => ⟨S128x8x8732, .f32⟩
  | 63 => ⟨S128x8x8732, .f32⟩
  | 64 => ⟨S128x8x8732, .f32⟩
  | 65 => ⟨S128x8x8732, .f32⟩
  | 66 => ⟨S128x8x8732, .f32⟩
  | 67 => ⟨S128x8x8732, .f32⟩
  | 68 => ⟨S_, .f32⟩
  | 69 => ⟨S128x8x8732, .f32⟩
  | 70 => ⟨S128x8x8732, .f32⟩
  | 71 => ⟨S128x8x8732, .f32⟩
  | 72 => ⟨S128x8x8732, .f32⟩
  | 73 => ⟨S128x8x8732, .f32⟩
  | 74 => ⟨S128x8x8732, .f32⟩
  | 75 => ⟨S128x8x8732, .f32⟩
  | 76 => ⟨S128x8x8732, .f32⟩
  | 77 => ⟨S128x8x8732, .f32⟩
  | 78 => ⟨S_, .f32⟩
  | 79 => ⟨S128x8x8732, .f32⟩
  | 80 => ⟨S128x8x8732, .f32⟩
  | 81 => ⟨S128x8x8732, .f32⟩
  | 82 => ⟨S128x8x1, .f32⟩
  | 83 => ⟨S128x8x1, .f32⟩
  | 84 => ⟨S128x8x1, .f32⟩
  | 85 => ⟨S1x1x8732, .f32⟩
  | 86 => ⟨S1x1x8732, .f32⟩
  | 87 => ⟨S1x1x8732, .f32⟩
  | 88 => ⟨S128x8x8732, .f32⟩
  | 89 => ⟨S128x8x8732, .f32⟩
  | 90 => ⟨S128x8x8732, .f32⟩
  | 91 => ⟨S128x8x8732, .f32⟩
  | 92 => ⟨S128x8x8732, .f32⟩
  | 93 => ⟨S8, .f32⟩
  | 94 => ⟨S1x8x1, .f32⟩
  | 95 => ⟨S8732, .f32⟩
  | 96 => ⟨S1x1x8732, .f32⟩
  | 97 => ⟨S_, .f32⟩
  | 98 => ⟨S128x8732, .f32⟩
  | 99 => ⟨S128x1x8732, .f32⟩
  | 100 => ⟨S128x8x8732, .f32⟩
  | 101 => ⟨S128x8x8732, .i1⟩
  | 102 => ⟨S_, .f32⟩
  | 103 => ⟨S_, .f32⟩
  | 104 => ⟨S128x8x8732, .f32⟩
  | 105 => ⟨S128x8x8732, .f32⟩
  | 106 => ⟨S128x8x8732, .f32⟩
  | 107 => ⟨S_, .f32⟩
  | 108 => ⟨S128x8732, .f32⟩
  | 109 => ⟨S_, .f32⟩
  | 110 => ⟨S128x8, .f32⟩
  | 111 => ⟨S128x8x1, .f32⟩
  | 112 => ⟨S128x8x8732, .f32⟩
  | 113 => ⟨S128x8x8732, .i1⟩
  | 114 => ⟨S_, .f32⟩
  | 115 => ⟨S_, .f32⟩
  | 116 => ⟨S128x8x8732, .f32⟩
  | 117 => ⟨S128x8x8732, .f32⟩
  | 118 => ⟨S128x8x8732, .f32⟩
  | 119 => ⟨S_, .f32⟩
  | 120 => ⟨S128x8, .f32⟩
  | 121 => ⟨S128x8x1, .f32⟩
  | 122 => ⟨S128x8x8732, .f32⟩
  | 123 => ⟨S128x8x8732, .f32⟩
  | 124 => ⟨S128x8x8732, .i1⟩
  | 125 => ⟨S_, .f32⟩
  | 126 => ⟨S_, .f32⟩
  | 127 => ⟨S128x8x8732, .f32⟩
  | _ => ⟨S128x8732x4, .f32⟩

abbrev hbmTy0_1 (i : Nat) : BufTy := match i % 128 with
  | 0 => ⟨S128x8x8732, .f32⟩
  | 1 => ⟨S128x8x8732, .f32⟩
  | 2 => ⟨S_, .f32⟩
  | 3 => ⟨S128x8732, .f32⟩
  | 4 => ⟨S_, .f32⟩
  | 5 => ⟨S128x8732, .f32⟩
  | 6 => ⟨S128x8732, .i1⟩
  | 7 => ⟨S128x8732, .f32⟩
  | 8 => ⟨S_, .f32⟩
  | 9 => ⟨S128x8732, .f32⟩
  | 10 => ⟨S128x8732, .i1⟩
  | 11 => ⟨S_, .f32⟩
  | 12 => ⟨S_, .f32⟩
  | 13 => ⟨S128x8732, .f32⟩
  | 14 => ⟨S128x8732, .f32⟩
  | 15 => ⟨S128x1x8732, .f32⟩
  | 16 => ⟨S128x8x8732, .f32⟩
  | 17 => ⟨S128x8x8732, .f32⟩
  | 18 => ⟨S128x8x8732, .i1⟩
  | 19 => ⟨S_, .f32⟩
  | 20 => ⟨S_, .f32⟩
  | 21 => ⟨S128x8x8732, .f32⟩
  | 22 => ⟨S128x8x8732, .f32⟩
  | 23 => ⟨S128x8x8732, .f32⟩
  | 24 => ⟨S128x8x8732, .f32⟩
  | 25 => ⟨S_, .f32⟩
  | 26 => ⟨S128x8, .f32⟩
  | 27 => ⟨S_, .i32⟩
  | 28 => ⟨S_, .f32⟩
  | 29 => ⟨S128x8732, .f32⟩
  | 30 => ⟨S_, .f32⟩
  | 31 => ⟨S128x8732, .f32⟩
  | 32 => ⟨S128x8732, .i1⟩
  | 33 => ⟨S_, .f32⟩
  | 34 => ⟨S_, .f32⟩
  | 35 => ⟨S128x8732, .f32⟩
  | 36 => ⟨S128x8732, .f32⟩
  | 37 => ⟨S128x8x1, .f32⟩
  | 38 => ⟨S128x8, .f32⟩
  | 39 => ⟨S128x8x1, .f32⟩
  | 40 => ⟨S_, .f32⟩
  | 41 => ⟨S_, .f32⟩
  | 42 => ⟨S128x8x8732, .f32⟩
  | 43 => ⟨S128x8x8732, .f32⟩
  | 44 => ⟨S128x8x8732, .f32⟩
  | 45 => ⟨S_, .f32⟩
  | 46 => ⟨S128x8732, .f32⟩
  | 47 => ⟨S128x8x1, .f32⟩
  | 48 => ⟨S128x8, .f32⟩
  | 49 => ⟨S128x8x1, .f32⟩
  | 50 => ⟨S_, .f32⟩
  | 51 => ⟨S_, .f32⟩
  | 52 => ⟨S128x8x8732, .f32⟩
  | 53 => ⟨S128x8x8732, .f32⟩
  | 54 => ⟨S128x8x8732, .f32⟩
  | 55 => ⟨S_, .f32⟩
  | 56 => ⟨S128x8732, .f32⟩
  | 57 => ⟨S128x8x1, .f32⟩
  | 58 => ⟨S128x8, .f32⟩
  | 59 => ⟨S128x8x1, .f32⟩
  | 60 => ⟨S_, .f32⟩
  | 61 => ⟨S_, .f32⟩
  | 62 => ⟨S128x8x8732, .f32⟩
  | 63 => ⟨S128x8x8732, .f32⟩
  | 64 => ⟨S128x8x8732, .f32⟩
  | 65 => ⟨S_, .f32⟩
  | 66 => ⟨S128x8732, .f32⟩
  | 67 => ⟨S128x8x1, .f32⟩
  | 68 => ⟨S128x8, .f32⟩
  | 69 => ⟨S128x8x1, .f32⟩
  | 70 => ⟨S_, .f32⟩
  | 71 => ⟨S_, .f32⟩
  | 72 => ⟨S128x8x8732, .f32⟩
  | 73 => ⟨S128x8x8732, .f32⟩
  | 74 => ⟨S128x8x8732, .f32⟩
  | 75 => ⟨S_, .f32⟩
  | 76 => ⟨S128x8732, .f32⟩
  | 77 => ⟨S8732x1, .f32⟩
  | 78 => ⟨S8732, .f32⟩
  | 79 => ⟨S1x8732, .f32⟩
  | 80 => ⟨S8732x1, .f32⟩
  | 81 => ⟨S8732, .f32⟩
  | 82 => ⟨S1x8732, .f32⟩
  | 83 => ⟨S8732x1, .f32⟩
  | 84 => ⟨S8732, .f32⟩
  | 85 => ⟨S1x8732, .f32⟩
  | 86 => ⟨S8732x1, .f32⟩
  | 87 => ⟨S8732, .f32⟩
  | 88 => ⟨S1x8732, .f32⟩
  | 89 => ⟨S128x8732, .f32⟩
  | 90 => ⟨S128x8732, .f32⟩
  | 91 => ⟨S_, .f32⟩
  | 92 => ⟨S1x8732, .f32⟩
  | 93 => ⟨S1x8732, .f32⟩
  | 94 => ⟨S128x8732, .f32⟩
  | 95 => ⟨S128x8732, .f32⟩
  | 96 => ⟨S128x8732, .f32⟩
  | 97 => ⟨S128x8732, .f32⟩
  | 98 => ⟨S_, .f32⟩
  | 99 => ⟨S1x8732, .f32⟩
  | 100 => ⟨S1x8732, .f32⟩
  | 101 => ⟨S128x8732, .f32⟩
  | 102 => ⟨S128x8732, .f32⟩
  | 103 => ⟨S128x8732, .f32⟩
  | 104 => ⟨S128x8732, .f32⟩
  | 105 => ⟨S128x8732, .f32⟩
  | 106 => ⟨S_, .f32⟩
  | 107 => ⟨S128x8732, .f32⟩
  | 108 => ⟨S128x8732, .f32⟩
  | 109 => ⟨S128x8732, .f32⟩
  | 110 => ⟨S128x8732, .f32⟩
  | 111 => ⟨S128x8732, .f32⟩
  | 112 => ⟨S_, .f32⟩
  | 113 => ⟨S128x8732, .f32⟩
  | 114 => ⟨S128x8732, .f32⟩
  | 115 => ⟨S128x8732x1, .f32⟩
  | 116 => ⟨S128x8732, .f32⟩
  | 117 => ⟨S128x8732, .f32⟩
  | 118 => ⟨S128x8732, .f32⟩
  | 119 => ⟨S128x8732x1, .f32⟩
  | 120 => ⟨S128x8732, .f32⟩
  | 121 => ⟨S128x8732, .f32⟩
  | 122 => ⟨S128x8732, .f32⟩
  | 123 => ⟨S128x8732x1, .f32⟩
  | 124 => ⟨S128x8732, .f32⟩
  | 125 => ⟨S128x8732, .f32⟩
  | 126 => ⟨S128x8732, .f32⟩
  | 127 => ⟨S128x8732x1, .f32⟩
  | _ => ⟨S128x8732x4, .f32⟩

abbrev hbmTy0_2 (i : Nat) : BufTy := match i % 128 with
  | 0 => ⟨S128x8732, .f32⟩
  | 1 => ⟨S128x8732, .f32⟩
  | 2 => ⟨S128x8732, .f32⟩
  | 3 => ⟨S128x8732, .f32⟩
  | 4 => ⟨S128x8732, .f32⟩
  | 5 => ⟨S128x8732, .f32⟩
  | 6 => ⟨S128x8732, .f32⟩
  | 7 => ⟨S_, .f32⟩
  | 8 => ⟨S128x8732, .f32⟩
  | 9 => ⟨S_, .f32⟩
  | 10 => ⟨S128x8732, .f32⟩
  | 11 => ⟨S128x8732, .f32⟩
  | 12 => ⟨S128x8732x1, .f32⟩
  | 13 => ⟨S128x8732x2, .f32⟩
  | 14 => ⟨S128x8732x2, .f32⟩
  | 15 => ⟨S128x8732x2, .f32⟩
  | 16 => ⟨S_, .f32⟩
  | 17 => ⟨S128x8732, .f32⟩
  | 18 => ⟨S128x8732x1, .f32⟩
  | 19 => ⟨S128x8732x1, .f32⟩
  | 20 => ⟨S128x8732x2, .f32⟩
  | 21 => ⟨S128x8732x2, .f32⟩
  | 22 => ⟨S128x8732x1, .f32⟩
  | 23 => ⟨S128x8732, .f32⟩
  | 24 => ⟨S128x8732, .f32⟩
  | 25 => ⟨S128x8732, .f32⟩
  | 26 => ⟨S128x8, .f32⟩
  | 27 => ⟨S128x8, .f32⟩
  | 28 => ⟨S128x8, .f32⟩
  | 29 => ⟨S_, .f32⟩
  | 30 => ⟨S128, .f32⟩
  | 31 => ⟨S128x1, .f32⟩
  | 32 => ⟨S_, .f32⟩
  | 33 => ⟨S128, .f32⟩
  | 34 => ⟨S128x1, .f32⟩
  | 35 => ⟨S_, .f32⟩
  | 36 => ⟨S128, .f32⟩
  | 37 => ⟨S128x1, .f32⟩
  | 38 => ⟨S_, .f32⟩
  | 39 => ⟨S128, .f32⟩
  | 40 => ⟨S128x1, .f32⟩
  | 41 => ⟨S128x4, .f32⟩
  | 42 => ⟨S_, .i32⟩
  | 43 => ⟨S_, .f32⟩
  | 44 => ⟨S128x128, .f32⟩
  | _ => ⟨S128x8732x4, .f32⟩

abbrev hbmTy (i : Nat) : BufTy := match i / 128 with
  | 0 => hbmTy0_0 i
  | 1 => hbmTy0_1 i
  | 2 => hbmTy0_2 i
  | _ => ⟨S128x8732x4, .f32⟩

abbrev bufTy : (tb : Table) → Fin (tcTables nBuf tb) → BufTy
  | .hbm, ⟨i, _⟩ => hbmTy i
  | _, _ => ⟨S128x8732x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_9 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_10 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_11 : Ref sig .tc := ⟨.hbm, 102, rfl⟩
abbrev main_call0_v0 : Ref sig .tc := ⟨.hbm, 103, rfl⟩
abbrev main_call0_v1 : Ref sig .tc := ⟨.hbm, 104, rfl⟩
abbrev main_call0_v2 : Ref sig .tc := ⟨.hbm, 105, rfl⟩
abbrev main_v86 : Ref sig .tc := ⟨.hbm, 106, rfl⟩
abbrev main_cst_12 : Ref sig .tc := ⟨.hbm, 107, rfl⟩
abbrev main_v87 : Ref sig .tc := ⟨.hbm, 108, rfl⟩
abbrev main_cst_13 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_14 : Ref sig .tc := ⟨.hbm, 114, rfl⟩
abbrev main_call1_v0 : Ref sig .tc := ⟨.hbm, 115, rfl⟩
abbrev main_call1_v1 : Ref sig .tc := ⟨.hbm, 116, rfl⟩
abbrev main_call1_v2 : Ref sig .tc := ⟨.hbm, 117, rfl⟩
abbrev main_v92 : Ref sig .tc := ⟨.hbm, 118, rfl⟩
abbrev main_cst_15 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_16 : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_v98 : Ref sig .tc := ⟨.hbm, 129, rfl⟩
abbrev main_cst_17 : Ref sig .tc := ⟨.hbm, 130, rfl⟩
abbrev main_v99 : Ref sig .tc := ⟨.hbm, 131, rfl⟩
abbrev main_cst_18 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_19 : Ref sig .tc := ⟨.hbm, 136, rfl⟩
abbrev main_v103 : Ref sig .tc := ⟨.hbm, 137, rfl⟩
abbrev main_v104 : Ref sig .tc := ⟨.hbm, 138, rfl⟩
abbrev main_cst_20 : Ref sig .tc := ⟨.hbm, 139, rfl⟩
abbrev main_call4_v0 : Ref sig .tc := ⟨.hbm, 140, rfl⟩
abbrev main_call4_v1 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_21 : Ref sig .tc := ⟨.hbm, 147, rfl⟩
abbrev main_cst_22 : Ref sig .tc := ⟨.hbm, 148, rfl⟩
abbrev main_call5_v0 : Ref sig .tc := ⟨.hbm, 149, rfl⟩
abbrev main_call5_v1 : Ref sig .tc := ⟨.hbm, 150, rfl⟩
abbrev main_v110 : Ref sig .tc := ⟨.hbm, 151, rfl⟩
abbrev main_v111 : Ref sig .tc := ⟨.hbm, 152, rfl⟩
abbrev main_cst_23 : Ref sig .tc := ⟨.hbm, 153, rfl⟩
abbrev main_v112 : Ref sig .tc := ⟨.hbm, 154, rfl⟩
abbrev main_c : Ref sig .tc := ⟨.hbm, 155, rfl⟩
abbrev main_call6_v0 : Ref sig .tc := ⟨.hbm, 156, rfl⟩
abbrev main_v113 : Ref sig .tc := ⟨.hbm, 157, rfl⟩
abbrev main_cst_24 : Ref sig .tc := ⟨.hbm, 158, rfl⟩
abbrev main_v114 : Ref sig .tc := ⟨.hbm, 159, rfl⟩
abbrev main_v115 : Ref sig .tc := ⟨.hbm, 160, rfl⟩
abbrev main_cst_25 : Ref sig .tc := ⟨.hbm, 161, rfl⟩
abbrev main_call7_v0 : Ref sig .tc := ⟨.hbm, 162, rfl⟩
abbrev main_call7_v1 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_26 : Ref sig .tc := ⟨.hbm, 168, rfl⟩
abbrev main_call8_v0 : Ref sig .tc := ⟨.hbm, 169, rfl⟩
abbrev main_call8_v1 : Ref sig .tc := ⟨.hbm, 170, rfl⟩
abbrev main_call8_v2 : Ref sig .tc := ⟨.hbm, 171, rfl⟩
abbrev main_v120 : Ref sig .tc := ⟨.hbm, 172, rfl⟩
abbrev main_cst_27 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_cst_28 : Ref sig .tc := ⟨.hbm, 178, rfl⟩
abbrev main_call9_v0 : Ref sig .tc := ⟨.hbm, 179, rfl⟩
abbrev main_call9_v1 : Ref sig .tc := ⟨.hbm, 180, rfl⟩
abbrev main_call9_v2 : Ref sig .tc := ⟨.hbm, 181, rfl⟩
abbrev main_v125 : Ref sig .tc := ⟨.hbm, 182, rfl⟩
abbrev main_cst_29 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_cst_30 : Ref sig .tc := ⟨.hbm, 188, rfl⟩
abbrev main_call10_v0 : Ref sig .tc := ⟨.hbm, 189, rfl⟩
abbrev main_call10_v1 : Ref sig .tc := ⟨.hbm, 190, rfl⟩
abbrev main_call10_v2 : Ref sig .tc := ⟨.hbm, 191, rfl⟩
abbrev main_v130 : Ref sig .tc := ⟨.hbm, 192, rfl⟩
abbrev main_cst_31 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_cst_32 : Ref sig .tc := ⟨.hbm, 198, rfl⟩
abbrev main_call11_v0 : Ref sig .tc := ⟨.hbm, 199, rfl⟩
abbrev main_call11_v1 : Ref sig .tc := ⟨.hbm, 200, rfl⟩
abbrev main_call11_v2 : Ref sig .tc := ⟨.hbm, 201, rfl⟩
abbrev main_v135 : Ref sig .tc := ⟨.hbm, 202, rfl⟩
abbrev main_cst_33 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_cst_34 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_cst_35 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_cst_36 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_cst_37 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_call12_cst : Ref sig .tc := ⟨.hbm, 263, rfl⟩
abbrev main_call12_v0 : Ref sig .tc := ⟨.hbm, 264, rfl⟩
abbrev main_call12_cst_0 : Ref sig .tc := ⟨.hbm, 265, rfl⟩
abbrev main_call12_v1 : Ref sig .tc := ⟨.hbm, 266, rfl⟩
abbrev main_call12_v2 : Ref sig .tc := ⟨.hbm, 267, rfl⟩
abbrev main_call12_v3 : Ref sig .tc := ⟨.hbm, 268, rfl⟩
abbrev main_call12_v4 : Ref sig .tc := ⟨.hbm, 269, rfl⟩
abbrev main_call12_v5 : Ref sig .tc := ⟨.hbm, 270, rfl⟩
abbrev main_call12_v6 : Ref sig .tc := ⟨.hbm, 271, rfl⟩
abbrev main_call12_cst_1 : Ref sig .tc := ⟨.hbm, 272, rfl⟩
abbrev main_call12_v7 : Ref sig .tc := ⟨.hbm, 273, rfl⟩
abbrev main_call12_v8 : Ref sig .tc := ⟨.hbm, 274, rfl⟩
abbrev main_call12_v9 : Ref sig .tc := ⟨.hbm, 275, rfl⟩
abbrev main_call12_v10 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_v194 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_cst_38 : Ref sig .tc := ⟨.hbm, 285, rfl⟩
abbrev main_v199 : Ref sig .tc := ⟨.hbm, 286, rfl⟩
abbrev main_v200 : Ref sig .tc := ⟨.hbm, 287, rfl⟩
abbrev main_cst_39 : Ref sig .tc := ⟨.hbm, 288, rfl⟩
abbrev main_v201 : Ref sig .tc := ⟨.hbm, 289, rfl⟩
abbrev main_v202 : Ref sig .tc := ⟨.hbm, 290, rfl⟩
abbrev main_cst_40 : Ref sig .tc := ⟨.hbm, 291, rfl⟩
abbrev main_v203 : Ref sig .tc := ⟨.hbm, 292, rfl⟩
abbrev main_v204 : Ref sig .tc := ⟨.hbm, 293, rfl⟩
abbrev main_cst_41 : Ref sig .tc := ⟨.hbm, 294, rfl⟩
abbrev main_v205 : Ref sig .tc := ⟨.hbm, 295, rfl⟩
abbrev main_v206 : Ref sig .tc := ⟨.hbm, 296, rfl⟩
abbrev main_v207 : Ref sig .tc := ⟨.hbm, 297, rfl⟩
abbrev main_c_42 : Ref sig .tc := ⟨.hbm, 298, rfl⟩
abbrev main_call13_v0 : Ref sig .tc := ⟨.hbm, 299, rfl⟩
abbrev main_v208 : Ref sig .tc := ⟨.hbm, 300, rfl⟩

abbrev nD : Nat := 1
abbrev τ : Topo := Topo.v7x

variable {F : FTy → Type} [FloatOps F]
-- ==== Proof.Stage.lean ====
/- The values the SparseCore kernel computes on 16-lane vectors, as functions over any float
   type: the lane permutation, the compare-exchange network, the merge of a 16-lane segment
   into the 32 best of an image, and the constants those read. -/
module

public import proofs.«01_k».proof.Proof.Gen.KernelIdeal.Skeleton

@[expose] public section

noncomputable section

namespace Cert.Proof.Mine

open Idealize.ShloMosaic Idealize.SL.Sem Cert.KernelIdeal Cert.KernelIdeal.Gen

variable {F : FTy → Type} [FloatOps F] [Named F]

/-- A 16-lane vector. -/
abbrev V (F : FTy → Type) := FVec F S16 .f32

/-- A 16-lane vector repeated eight times: 128 lanes. -/
def rep {α : Type} (x : S16.Idx → α) : S128.Idx → α :=
  concatenate S128 0 [⟨S16, x⟩, ⟨S16, x⟩, ⟨S16, x⟩, ⟨S16, x⟩, ⟨S16, x⟩, ⟨S16, x⟩, ⟨S16, x⟩, ⟨S16, x⟩]
    concatenates_S16_S16_S16_S16_S16_S16_S16_S16_S128_d0

/-- The first 16 lanes of a gather, by 128 lane numbers, from a 16-lane vector repeated. -/
def perm (x : V F) (p : IVec S128 32) : V F :=
  extractStridedSlice S16 ![0]
    (dynamicGather 0 (rep x)
      (shapeCast S128 (shapeCast S128x1 p shapeCasts_S128_S128x1) shapeCasts_S128x1_S128))
    slices_S128_o0_S16

/-- One compare-exchange stage: lanes whose `keep` is 1 keep the greater key of the pair, the
    others the smaller; a lane's payload follows its key. -/
def stage (kv : V F × V F) (c : IVec S128 32 × V F) : V F × V F :=
  let sel := cmpf .oeq c.2
    (select (cmpf .oge kv.1 (perm kv.1 c.1))
      (broadcast S16 (Scalar.ofBits .f32 0x3F800000#32 : F .f32))
      (broadcast S16 (Scalar.ofBits .f32 0x00000000#32 : F .f32)))
  (select sel kv.1 (perm kv.1 c.1), select sel kv.2 (perm kv.2 c.1))

/-- A network: its stages in order. -/
def net (cs : List (IVec S128 32 × V F)) (kv : V F × V F) : V F × V F := cs.foldl stage kv

/-- The greater halves of two vectors, the second reversed. -/
def hiHalf (rev : IVec S128 32) (a b : V F × V F) : V F × V F :=
  let sel := cmpf .oge a.1 (perm b.1 rev)
  (select sel a.1 (perm b.1 rev), select sel a.2 (perm b.2 rev))

/-- The smaller halves of two vectors, the second reversed. -/
def loHalf (rev : IVec S128 32) (a b : V F × V F) : V F × V F :=
  let sel := cmpf .oge a.1 (perm b.1 rev)
  (select sel (perm b.1 rev) a.1, select sel (perm b.2 rev) a.2)

/-- The constants of the kernel: lane numbers, the reversal, the stages of the sort and of the
    merge, and the four rotations of a tree reduction. -/
structure Consts (F : FTy → Type) where
  /-- lane numbers -/
  lane : IVec S16 32
  /-- the reversal -/
  rev : IVec S128 32
  /-- the stages of a full sort -/
  sf : List (IVec S128 32 × V F)
  /-- the stages of a merge -/
  sm : List (IVec S128 32 × V F)
  /-- the lane exchanges of a tree reduction -/
  tp : List (IVec S128 32)

/-- The four 16-lane vectors a merge carries: keys and payloads of the first and second 16. -/
abbrev Q (F : FTy → Type) := V F × V F × V F × V F

/-- Merge one segment of 16 into the 32 kept. -/
def mergeF (C : Consts F) (t : Q F) (c : V F × V F) : Q F :=
  let sc := net C.sf c
  let u := net C.sm (hiHalf C.rev (t.2.2.1, t.2.2.2) sc)
  let ul := net C.sm (loHalf C.rev (t.2.2.1, t.2.2.2) sc)
  let n1 := net C.sm (hiHalf C.rev (t.1, t.2.1) u)
  let w := net C.sm (loHalf C.rev (t.1, t.2.1) u)
  let n2 := net C.sm (hiHalf C.rev w ul)
  (n1.1, n1.2, n2.1, n2.2)

/-- A vector read from memory (a cast between equal shapes). -/
def rd (x : V F) : V F := shapeCast S16 x shapeCasts_S16_S16

/-- The difference of two segments. -/
def diffF (b1 b0 : V F) : V F := subf (rd b1) (rd b0)

/-- The two greatest seen in each lane, with one more segment. -/
def best2 (m : V F × V F) (c : V F) : V F × V F :=
  (maximumf m.1 c, maximumf m.2 (minimumf m.1 c))

/-- The least of 16 lanes, as a tree. -/
def treeMin (tp : List (IVec S128 32)) (x : V F) : F .f32 :=
  extractAt ![0] (extractStridedSlice S1 ![0] (tp.foldl (fun x p => minimumf x (perm x p)) x) slices_S16_o0_S1)
    inpos_S1_p0

/-- The greatest of 16 lanes, as a tree. -/
def treeMax (tp : List (IVec S128 32)) (x : V F) : F .f32 :=
  extractAt ![0] (extractStridedSlice S1 ![0] (tp.foldl (fun x p => maximumf x (perm x p)) x) slices_S16_o0_S1)
    inpos_S1_p0

/-- The threshold of an image, of the two greatest in each lane. -/
def thr (C : Consts F) (m : V F × V F) : F .f32 := treeMin C.tp (minimumf m.1 m.2)

/-- The positions of segment `j`, as floats. -/
def posF (C : Consts F) (j : BitVec 32) : V F :=
  sitofp .f32 (addi C.lane (broadcast S16 (Scalar.muli j 16#32)))

/-- The number of segments kept, with one more segment. -/
def keepF (C : Consts F) (t : F .f32) (off : BitVec 32) (x : V F) : BitVec 32 :=
  Scalar.addi off (Scalar.select (Scalar.cmpf .oge (treeMax C.tp (rd x)) t) 1#32 0#32)

/-- The tail segment of the second scores, its last four lanes the mask. -/
def tailF (C : Consts F) (x : V F) : V F :=
  select (cmpf .olt (sitofp .f32 C.lane : V F) (broadcast S16 (Scalar.ofBits .f32 0x41380000#32 : F .f32))) (rd x)
    (broadcast S16 (Named.named κ "mask" 0xF149F2CA#32 : F .f32))

/-- The mask in 16 lanes. -/
def maskV : V F := broadcast S16 (Named.named κ "mask" 0xF149F2CA#32 : F .f32)

/-- The initial key in 16 lanes. -/
def initV : V F := broadcast S16 (Named.named κ "init" 0xF2177617#32 : F .f32)

/-- What a merge starts from. -/
def initQ : Q F :=
  (initV, broadcast S16 (Scalar.ofBits .f32 0x00000000#32 : F .f32), initV,
    broadcast S16 (Scalar.ofBits .f32 0x00000000#32 : F .f32))

/-- Lane numbers with a bit flipped. -/
def flip (j : BitVec 32) : IVec S16 32 :=
  xori (iota .scVector S16 32 [0] iota_S16_d0_w32_scVector) (broadcast S16 j)

/-- 1 where the lane number has none of the bits of `j`, else 0. -/
def low (j : BitVec 32) : IVec S16 32 :=
  select (cmpi .eq (andi (iota .scVector S16 32 [0] iota_S16_d0_w32_scVector) (broadcast S16 j))
    (broadcast S16 0#32)) (broadcast S16 1#32) (broadcast S16 0#32)

/-- The constants of the stage of the bitonic network with block `k` and distance `j`. -/
def stageC (k j : BitVec 32) : IVec S128 32 × V F :=
  (rep (flip j), sitofp .f32 (subi (broadcast S16 1#32) (xori (low j) (low k))))

/-- The kernel's constants. -/
def kc : Consts F where
  lane := iota .scVector S16 32 [0] iota_S16_d0_w32_scVector
  rev := rep (subi (broadcast S16 15#32) (iota .scVector S16 32 [0] iota_S16_d0_w32_scVector))
  sf := [stageC 2#32 1#32, stageC 4#32 2#32, stageC 4#32 1#32, stageC 8#32 4#32, stageC 8#32 2#32,
    stageC 8#32 1#32, stageC 16#32 8#32, stageC 16#32 4#32, stageC 16#32 2#32, stageC 16#32 1#32]
  sm := [stageC 16#32 8#32, stageC 16#32 4#32, stageC 16#32 2#32, stageC 16#32 1#32]
  tp := [rep (flip 8#32), rep (flip 4#32), rep (flip 2#32), rep (flip 1#32)]

end Cert.Proof.Mine
-- ==== Proof.Body.lean ====
/- The kernel's body as four runs of one image: the copies in, the mask, the two passes over the
   segments, the merge, the copies out. Each region of the printed body, in each of the four
   images, is the same function of its buffers and constants. -/
module

public import proofs.«01_k».proof.Proof.Stage
public import Idealize.ShloMosaic.Lib.Tactic

@[expose] public section

noncomputable section

namespace Cert.Proof.Mine

open Idealize.ShloMosaic Idealize.SL.Sem Cert.KernelIdeal Cert.KernelIdeal.Gen

variable {F : FTy → Type} [FloatOps F] [Named F]

/-- A program of the tile at `i`. -/
abbrev PT (F : FTy → Type) [FloatOps F] [Named F] (i : grid0.Coords) (α : Type) :=
  Prog (TpuEff nD τ sig (Elt F) Λ₀ (.scVector ((i 0).castLE hcore0) ((i 1).castLE hsub0))) α

/-- A buffer of the tile. -/
abbrev MV (s : Shape) (e : EltTy) := Memref sig .scVector .vmem s e

/-- An array in HBM, seen from the tile. -/
abbrev MH (s : Shape) (e : EltTy) := Memref sig .scVector .hbm s e

/-- The first pass's body: the difference of a segment stored, the two greatest of each lane kept. -/
def b1 (i : grid0.Coords) (a6 a7 a8 : MV S8832 .f32) (k : Fin k0_t1_loop.trips) (m : V F × V F) :
    PT F i (V F × V F) := do
  let y : Vec F S16 .f32 ← Prog.lift (.load a7 (Rect.unit (s := S8832) (k0_off2 k) S16.size (k0_off2_inb k)).toLoadRect (View.loadsAt_vmem h_S16))
  let x : Vec F S16 .f32 ← Prog.lift (.load a6 (Rect.unit (s := S8832) (k0_off2 k) S16.size (k0_off2_inb k)).toLoadRect (View.loadsAt_vmem h_S16))
  let _ : Vec F S16 .f32 ← Prog.lift (.load a8 (Rect.unit (s := S8832) (k0_off2 k) S16.size (k0_off2_inb k)).toLoadRect (View.loadsAt_vmem h_S16))
  Prog.lift (.store a8 (Rect.unit (s := S8832) (k0_off2 k) S16.size (k0_off2_inb k)) (rd (diffF y x)) Finset.univ (View.stores_vmem_bits_univ h_S16 rfl) (.inl rfl))
  pure (best2 m (diffF y x))

/-- The second pass's body: a segment and its positions stored at the write offset, which moves
    on when the segment's greatest reaches the threshold. -/
def b2 (i : grid0.Coords) (C : Consts F) (a6 a8 a9 : MV S8832 .f32) (m : V F × V F) (k : Fin k0_t2_loop.trips)
    (off : BitVec 32) : PT F i (BitVec 32) := do
  have hw : k0_chk1 off := (← Prog.lift (TpuEff.assume (k0_chk1 off) (k0_chk1.dec off))).down
  let c : Vec F S16 .f32 ← Prog.lift (.load a8 (Rect.unit (s := S8832) (k0_off3 k) S16.size (k0_off3_inb k)).toLoadRect (View.loadsAt_vmem h_S16))
  let _ : Vec F S16 .f32 ← Prog.lift (.load a9 (Rect.unit (s := S8832) (k0_off4 off) S16.size (k0_off4_inb off hw)).toLoadRect (View.loadsAt_vmem h_S16))
  Prog.lift (.store a9 (Rect.unit (s := S8832) (k0_off4 off) S16.size (k0_off4_inb off hw)) (rd (posF C (Scf.iv 0#32 1#32 k))) Finset.univ (View.stores_vmem_bits_univ h_S16 rfl) (.inl rfl))
  let _ : Vec F S16 .f32 ← Prog.lift (.load a6 (Rect.unit (s := S8832) (k0_off4 off) S16.size (k0_off4_inb off hw)).toLoadRect (View.loadsAt_vmem h_S16))
  Prog.lift (.store a6 (Rect.unit (s := S8832) (k0_off4 off) S16.size (k0_off4_inb off hw)) (rd (rd c)) Finset.univ (View.stores_vmem_bits_univ h_S16 rfl) (.inl rfl))
  pure (keepF C (thr C m) off c)

/-- The merge's body: one kept segment merged into the 32 best. -/
def b3 (i : grid0.Coords) (C : Consts F) (a6 a9 : MV S8832 .f32) (v : BitVec 32) (hw : k0_chk2 v)
    (k : Fin (k0_t3_loop v).trips) (t : Q F) : PT F i (Q F) := do
  let x : Vec F S16 .f32 ← Prog.lift (.load a6 (Rect.unit (s := S8832) (k0_off5 v k) S16.size (k0_off5_inb v hw k)).toLoadRect (View.loadsAt_vmem h_S16))
  let y : Vec F S16 .f32 ← Prog.lift (.load a9 (Rect.unit (s := S8832) (k0_off5 v k) S16.size (k0_off5_inb v hw k)).toLoadRect (View.loadsAt_vmem h_S16))
  pure (mergeF C t (rd x, rd y))

/-- Constants given by their values. -/
abbrev mkC (v2 : IVec S16 32) (v5 : IVec S128 32)
  (v25 : IVec S128 32) (v26 : FVec F S16 .f32) (v46 : IVec S128 32) (v47 : FVec F S16 .f32) (v67 : IVec S128 32) (v68 : FVec F S16 .f32) (v88 : IVec S128 32) (v89 : FVec F S16 .f32) (v109 : IVec S128 32) (v110 : FVec F S16 .f32) (v130 : IVec S128 32) (v131 : FVec F S16 .f32) (v151 : IVec S128 32) (v152 : FVec F S16 .f32) (v172 : IVec S128 32) (v173 : FVec F S16 .f32) (v193 : IVec S128 32) (v194 : FVec F S16 .f32) (v214 : IVec S128 32) (v215 : FVec F S16 .f32) (v235 : IVec S128 32) (v236 : FVec F S16 .f32) (v256 : IVec S128 32) (v257 : FVec F S16 .f32) (v277 : IVec S128 32) (v278 : FVec F S16 .f32) (v298 : IVec S128 32) (v299 : FVec F S16 .f32)
  (v302 v305 v308 v311 : IVec S128 32) : Consts F :=
  ⟨v2, v5, [(v25, v26), (v46, v47), (v67, v68), (v88, v89), (v109, v110), (v130, v131), (v151, v152), (v172, v173), (v193, v194), (v214, v215)],
    [(v235, v236), (v256, v257), (v277, v278), (v298, v299)], [v302, v305, v308, v311]⟩

section
variable (i : grid0.Coords)
  (arg2 : Memref sig .scVector .hbm S1130496 .f32)
  (harg2 : arg2.IsWhole)
  (arg3 : Memref sig .scVector .hbm S1130496 .f32)
  (harg3 : arg3.IsWhole)
  (arg4 : Memref sig .scVector .hbm S4096 .f32)
  (harg4 : arg4.IsWhole)
  (arg5 : Memref sig .scVector .hbm S4096 .i32)
  (harg5 : arg5.IsWhole)
  (arg6 : Memref sig .scVector .vmem S8832 .f32)
  (harg6 : arg6.IsWhole)
  (arg7 : Memref sig .scVector .vmem S8832 .f32)
  (harg7 : arg7.IsWhole)
  (arg8 : Memref sig .scVector .vmem S8832 .f32)
  (harg8 : arg8.IsWhole)
  (arg9 : Memref sig .scVector .vmem S8832 .f32)
  (harg9 : arg9.IsWhole)
  (arg10 : Memref sig .scVector .vmem S32 .f32)
  (harg10 : arg10.IsWhole)
  (arg11 : Memref sig .scVector .vmem S32 .i32)
  (harg11 : arg11.IsWhole)
  (v704_r0 : DmaSems sig S_)
  (v704_r1 : DmaSems sig S_)
  (v704_r2 : DmaSems sig S_)
  (v704_r3 : DmaSems sig S_)
  (v704_r4 : DmaSems sig S_)
  (v704_r5 : DmaSems sig S_)
  (v704_r6 : DmaSems sig S_)
  (v704_r7 : DmaSems sig S_)
  (v704_r8 : DmaSems sig S_)
  (v704_r9 : DmaSems sig S_)
  (v704_r10 : DmaSems sig S_)
  (v704_r11 : DmaSems sig S_)
  (v704_r12 : DmaSems sig S_)
  (v704_r13 : DmaSems sig S_)
  (v704_r14 : DmaSems sig S_)
  (v704_r15 : DmaSems sig S_)
  (v2 : IVec S16 32) (v5 : IVec S128 32)
  (v25 : IVec S128 32) (v26 : FVec F S16 .f32) (v46 : IVec S128 32) (v47 : FVec F S16 .f32) (v67 : IVec S128 32) (v68 : FVec F S16 .f32) (v88 : IVec S128 32) (v89 : FVec F S16 .f32) (v109 : IVec S128 32) (v110 : FVec F S16 .f32) (v130 : IVec S128 32) (v131 : FVec F S16 .f32) (v151 : IVec S128 32) (v152 : FVec F S16 .f32) (v172 : IVec S128 32) (v173 : FVec F S16 .f32) (v193 : IVec S128 32) (v194 : FVec F S16 .f32) (v214 : IVec S128 32) (v215 : FVec F S16 .f32) (v235 : IVec S128 32) (v236 : FVec F S16 .f32) (v256 : IVec S128 32) (v257 : FVec F S16 .f32) (v277 : IVec S128 32) (v278 : FVec F S16 .f32) (v298 : IVec S128 32) (v299 : FVec F S16 .f32)
  (v302 v305 v308 v311 : IVec S128 32)

/-- The first pass's region of image 0. -/
theorem t1_eq (v350 : FVec F S16 .f32) (cst_151 : F .f32) : k0_t1_body (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v2 v5 v25 v26 v46 v47 v67 v68 v88 v89 v109 v110 v130 v131 v151 v152 v172 v173 v193 v194 v214 v215 v235 v236 v256 v257 v277 v278 v298 v299 v302 v305 v308 v311 v350 cst_151 = b1 i arg6 arg7 arg8 := by
  funext k t
  sl_kernel_rfl

/-- The second pass's region of image 0. -/
theorem t2_eq (v350 : FVec F S16 .f32) (cst_151 : F .f32) (m0 m1 : V F) : k0_t2_body (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v2 v5 v25 v26 v46 v47 v67 v68 v88 v89 v109 v110 v130 v131 v151 v152 v172 v173 v193 v194 v214 v215 v235 v236 v256 v257 v277 v278 v298 v299 v302 v305 v308 v311 v350 cst_151 m0 m1 = b2 i (mkC v2 v5 v25 v26 v46 v47 v67 v68 v88 v89 v109 v110 v130 v131 v151 v152 v172 v173 v193 v194 v214 v215 v235 v236 v256 v257 v277 v278 v298 v299 v302 v305 v308 v311) arg6 arg8 arg9 (m0, m1) := by
  funext k t
  sl_kernel_rfl

/-- The merge's region of image 0. -/
theorem t3_eq (v350 : FVec F S16 .f32) (cst_151 : F .f32) (v : BitVec 32) (hw : k0_chk2 v) : k0_t3_body (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v2 v5 v25 v26 v46 v47 v67 v68 v88 v89 v109 v110 v130 v131 v151 v152 v172 v173 v193 v194 v214 v215 v235 v236 v256 v257 v277 v278 v298 v299 v302 v305 v308 v311 v350 cst_151 v hw = b3 i (mkC v2 v5 v25 v26 v46 v47 v67 v68 v88 v89 v109 v110 v130 v131 v151 v152 v172 v173 v193 v194 v214 v215 v235 v236 v256 v257 v277 v278 v298 v299 v302 v305 v308 v311) arg6 arg9 v hw := by
  funext k t
  sl_kernel_rfl

/-- The first pass's region of image 1. -/
theorem t5_eq (v448 : FVec F S16 .f32) (v449 : FVec F S16 .f32) : k0_t5_body (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v2 v5 v25 v26 v46 v47 v67 v68 v88 v89 v109 v110 v130 v131 v151 v152 v172 v173 v193 v194 v214 v215 v235 v236 v256 v257 v277 v278 v298 v299 v302 v305 v308 v311 v448 v449 = b1 i arg6 arg7 arg8 := by
  funext k t
  sl_kernel_rfl

/-- The second pass's region of image 1. -/
theorem t6_eq (v448 : FVec F S16 .f32) (v449 : FVec F S16 .f32) (m0 m1 : V F) : k0_t6_body (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v2 v5 v25 v26 v46 v47 v67 v68 v88 v89 v109 v110 v130 v131 v151 v152 v172 v173 v193 v194 v214 v215 v235 v236 v256 v257 v277 v278 v298 v299 v302 v305 v308 v311 v448 v449 m0 m1 = b2 i (mkC v2 v5 v25 v26 v46 v47 v67 v68 v88 v89 v109 v110 v130 v131 v151 v152 v172 v173 v193 v194 v214 v215 v235 v236 v256 v257 v277 v278 v298 v299 v302 v305 v308 v311) arg6 arg8 arg9 (m0, m1) := by
  funext k t
  sl_kernel_rfl

/-- The merge's region of image 1. -/
theorem t7_eq (v448 : FVec F S16 .f32) (v449 : FVec F S16 .f32) (v : BitVec 32) (hw : k0_chk4 v) : k0_t7_body (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v2 v5 v25 v26 v46 v47 v67 v68 v88 v89 v109 v110 v130 v131 v151 v152 v172 v173 v193 v194 v214 v215 v235 v236 v256 v257 v277 v278 v298 v299 v302 v305 v308 v311 v448 v449 v hw = b3 i (mkC v2 v5 v25 v26 v46 v47 v67 v68 v88 v89 v109 v110 v130 v131 v151 v152 v172 v173 v193 v194 v214 v215 v235 v236 v256 v257 v277 v278 v298 v299 v302 v305 v308 v311) arg6 arg9 v hw := by
  funext k t
  sl_kernel_rfl

/-- The first pass's region of image 2. -/
theorem t9_eq (v546 : FVec F S16 .f32) (v547 : FVec F S16 .f32) (c0_i32_238 : BitVec 32) : k0_t9_body (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v2 v5 v25 v26 v46 v47 v67 v68 v88 v89 v109 v110 v130 v131 v151 v152 v172 v173 v193 v194 v214 v215 v235 v236 v256 v257 v277 v278 v298 v299 v302 v305 v308 v311 v546 v547 c0_i32_238 = b1 i arg6 arg7 arg8 := by
  funext k t
  sl_kernel_rfl

/-- The second pass's region of image 2. -/
theorem t10_eq (v546 : FVec F S16 .f32) (v547 : FVec F S16 .f32) (c0_i32_238 : BitVec 32) (m0 m1 : V F) : k0_t10_body (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v2 v5 v25 v26 v46 v47 v67 v68 v88 v89 v109 v110 v130 v131 v151 v152 v172 v173 v193 v194 v214 v215 v235 v236 v256 v257 v277 v278 v298 v299 v302 v305 v308 v311 v546 v547 c0_i32_238 m0 m1 = b2 i (mkC v2 v5 v25 v26 v46 v47 v67 v68 v88 v89 v109 v110 v130 v131 v151 v152 v172 v173 v193 v194 v214 v215 v235 v236 v256 v257 v277 v278 v298 v299 v302 v305 v308 v311) arg6 arg8 arg9 (m0, m1) := by
  funext k t
  sl_kernel_rfl

/-- The merge's region of image 2. -/
theorem t11_eq (v546 : FVec F S16 .f32) (v547 : FVec F S16 .f32) (c0_i32_238 : BitVec 32) (v : BitVec 32) (hw : k0_chk6 v) : k0_t11_body (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v2 v5 v25 v26 v46 v47 v67 v68 v88 v89 v109 v110 v130 v131 v151 v152 v172 v173 v193 v194 v214 v215 v235 v236 v256 v257 v277 v278 v298 v299 v302 v305 v308 v311 v546 v547 c0_i32_238 v hw = b3 i (mkC v2 v5 v25 v26 v46 v47 v67 v68 v88 v89 v109 v110 v130 v131 v151 v152 v172 v173 v193 v194 v214 v215 v235 v236 v256 v257 v277 v278 v298 v299 v302 v305 v308 v311) arg6 arg9 v hw := by
  funext k t
  sl_kernel_rfl

/-- The first pass's region of image 3. -/
theorem t13_eq (v644 : FVec F S16 .f32) (v645 : FVec F S16 .f32) (c0_i32_282 : BitVec 32) (c552_i32_283 : BitVec 32) : k0_t13_body (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v2 v5 v25 v26 v46 v47 v67 v68 v88 v89 v109 v110 v130 v131 v151 v152 v172 v173 v193 v194 v214 v215 v235 v236 v256 v257 v277 v278 v298 v299 v302 v305 v308 v311 v644 v645 c0_i32_282 c552_i32_283 = b1 i arg6 arg7 arg8 := by
  funext k t
  sl_kernel_rfl

/-- The second pass's region of image 3. -/
theorem t14_eq (v644 : FVec F S16 .f32) (v645 : FVec F S16 .f32) (c0_i32_282 : BitVec 32) (c552_i32_283 : BitVec 32) (m0 m1 : V F) : k0_t14_body (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v2 v5 v25 v26 v46 v47 v67 v68 v88 v89 v109 v110 v130 v131 v151 v152 v172 v173 v193 v194 v214 v215 v235 v236 v256 v257 v277 v278 v298 v299 v302 v305 v308 v311 v644 v645 c0_i32_282 c552_i32_283 m0 m1 = b2 i (mkC v2 v5 v25 v26 v46 v47 v67 v68 v88 v89 v109 v110 v130 v131 v151 v152 v172 v173 v193 v194 v214 v215 v235 v236 v256 v257 v277 v278 v298 v299 v302 v305 v308 v311) arg6 arg8 arg9 (m0, m1) := by
  funext k t
  sl_kernel_rfl

/-- The merge's region of image 3. -/
theorem t15_eq (v644 : FVec F S16 .f32) (v645 : FVec F S16 .f32) (c0_i32_282 : BitVec 32) (c552_i32_283 : BitVec 32) (v : BitVec 32) (hw : k0_chk8 v) : k0_t15_body (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v2 v5 v25 v26 v46 v47 v67 v68 v88 v89 v109 v110 v130 v131 v151 v152 v172 v173 v193 v194 v214 v215 v235 v236 v256 v257 v277 v278 v298 v299 v302 v305 v308 v311 v644 v645 c0_i32_282 c552_i32_283 v hw = b3 i (mkC v2 v5 v25 v26 v46 v47 v67 v68 v88 v89 v109 v110 v130 v131 v151 v152 v172 v173 v193 v194 v214 v215 v235 v236 v256 v257 v277 v278 v298 v299 v302 v305 v308 v311) arg6 arg9 v hw := by
  funext k t
  sl_kernel_rfl

end

end Cert.Proof.Mine
-- ==== Proof.Image.lean ====
/- The kernel's body is four runs of one image's program. -/
module

public import proofs.«01_k».proof.Proof.Body
public import Idealize.ShloMosaic.Lib.LoopRemainder

@[expose] public section

noncomputable section

universe w

namespace Cert.Proof.Mine

open Idealize.ShloMosaic Idealize.SL.Sem Cert.KernelIdeal Cert.KernelIdeal.Gen

variable {F : FTy → Type} [FloatOps F] [Named F]

/-- Payloads as the integers they stand for. -/
def toI (x : V F) : IVec S16 32 := shapeCast S16 (fptosi 32 x) shapeCasts_S16_S16

/-- An image's scores copied in. -/
def inP (i : grid0.Coords) (a2 a3 : MH S1130496 .f32) (a6 a7 : MV S8832 .f32) (h6 : a6.IsWhole) (h7 : a7.IsWhole)
    (ra rb : DmaSems sig S_) (o : Fin 1 → Nat) (ho : ∀ a, o a + S8832.size a ≤ S1130496.size a) : PT F i PUnit := do
  Prog.lift (.enqueueDma (a2.slice (Rect.unit (s := S1130496) o S8832.size ho) (fun _ => rfl)) (.here a6) (.dma ra.sem) (View.wordExact_bits rfl) h6.wordExact ⟨Or.inl rfl, trivial⟩)
  Prog.lift (.waitDma2 ra.sem (a2.slice (Rect.unit (s := S1130496) o S8832.size ho) (fun _ => rfl)) a6 (View.wordExact_bits rfl) h6.wordExact)
  Prog.lift (.enqueueDma (a3.slice (Rect.unit (s := S1130496) o S8832.size ho) (fun _ => rfl)) (.here a7) (.dma rb.sem) (View.wordExact_bits rfl) h7.wordExact ⟨Or.inl rfl, trivial⟩)
  Prog.lift (.waitDma2 rb.sem (a3.slice (Rect.unit (s := S1130496) o S8832.size ho) (fun _ => rfl)) a7 (View.wordExact_bits rfl) h7.wordExact)

/-- The padding of the second scores masked, the tail segment read already. -/
def maskP' (i : grid0.Coords) (C : Consts F) (a7 : MV S8832 .f32) (x : V F) : PT F i PUnit := do
  let _ : Vec F S16 .f32 ← Prog.lift (.load a7 (Rect.unit (s := S8832) ![8720] S16.size inb_S8832_S16_8720).toLoadRect (View.loadsAt_vmem h_S16))
  Prog.lift (.store a7 (Rect.unit (s := S8832) ![8720] S16.size inb_S8832_S16_8720) (rd (tailF C x)) Finset.univ (View.stores_vmem_bits_univ h_S16 rfl) (.inl rfl))
  let _ : Vec F S16 .f32 ← Prog.lift (.load a7 (Rect.unit (s := S8832) ![8736] S16.size inb_S8832_S16_8736).toLoadRect (View.loadsAt_vmem h_S16))
  Prog.lift (.store a7 (Rect.unit (s := S8832) ![8736] S16.size inb_S8832_S16_8736) (rd maskV) Finset.univ (View.stores_vmem_bits_univ h_S16 rfl) (.inl rfl))
  let _ : Vec F S16 .f32 ← Prog.lift (.load a7 (Rect.unit (s := S8832) ![8752] S16.size inb_S8832_S16_8752).toLoadRect (View.loadsAt_vmem h_S16))
  Prog.lift (.store a7 (Rect.unit (s := S8832) ![8752] S16.size inb_S8832_S16_8752) (rd maskV) Finset.univ (View.stores_vmem_bits_univ h_S16 rfl) (.inl rfl))
  let _ : Vec F S16 .f32 ← Prog.lift (.load a7 (Rect.unit (s := S8832) ![8768] S16.size inb_S8832_S16_8768).toLoadRect (View.loadsAt_vmem h_S16))
  Prog.lift (.store a7 (Rect.unit (s := S8832) ![8768] S16.size inb_S8832_S16_8768) (rd maskV) Finset.univ (View.stores_vmem_bits_univ h_S16 rfl) (.inl rfl))
  let _ : Vec F S16 .f32 ← Prog.lift (.load a7 (Rect.unit (s := S8832) ![8784] S16.size inb_S8832_S16_8784).toLoadRect (View.loadsAt_vmem h_S16))
  Prog.lift (.store a7 (Rect.unit (s := S8832) ![8784] S16.size inb_S8832_S16_8784) (rd maskV) Finset.univ (View.stores_vmem_bits_univ h_S16 rfl) (.inl rfl))
  let _ : Vec F S16 .f32 ← Prog.lift (.load a7 (Rect.unit (s := S8832) ![8800] S16.size inb_S8832_S16_8800).toLoadRect (View.loadsAt_vmem h_S16))
  Prog.lift (.store a7 (Rect.unit (s := S8832) ![8800] S16.size inb_S8832_S16_8800) (rd maskV) Finset.univ (View.stores_vmem_bits_univ h_S16 rfl) (.inl rfl))
  let _ : Vec F S16 .f32 ← Prog.lift (.load a7 (Rect.unit (s := S8832) ![8816] S16.size inb_S8832_S16_8816).toLoadRect (View.loadsAt_vmem h_S16))
  Prog.lift (.store a7 (Rect.unit (s := S8832) ![8816] S16.size inb_S8832_S16_8816) (rd maskV) Finset.univ (View.stores_vmem_bits_univ h_S16 rfl) (.inl rfl))

/-- The padding of the second scores masked. -/
def maskP (i : grid0.Coords) (C : Consts F) (a7 : MV S8832 .f32) : PT F i PUnit := do
  let x : Vec F S16 .f32 ← Prog.lift (.load a7 (Rect.unit (s := S8832) ![8720] S16.size inb_S8832_S16_8720).toLoadRect (View.loadsAt_vmem h_S16))
  maskP' i C a7 x

/-- The two passes and the merge. -/
def loopP (i : grid0.Coords) (C : Consts F) (a6 a7 a8 a9 : MV S8832 .f32) : PT F i (Q F) :=
  Scf.Loop.for k0_t1_loop k0_t1_ok (initV, initV) (b1 i a6 a7 a8) >>= fun m =>
  Scf.Loop.for k0_t2_loop k0_t2_ok 0#32 (b2 i C a6 a8 a9 m) >>= fun v =>
  Prog.lift (TpuEff.assume (k0_chk2 v) (k0_chk2.dec v)) >>= fun hw =>
  Scf.Loop.for (k0_t3_loop v) (k0_t3_ok v hw.down) initQ (b3 i C a6 a9 v hw.down)

/-- The two passes and the merge, for a program that goes on from the count as well. -/
def loopQ (i : grid0.Coords) (C : Consts F) (a6 a7 a8 a9 : MV S8832 .f32) : PT F i (Σ' (v : BitVec 32) (_ : k0_chk2 v), Q F) :=
  Scf.Loop.for k0_t1_loop k0_t1_ok (initV, initV) (b1 i a6 a7 a8) >>= fun m =>
  Scf.Loop.for k0_t2_loop k0_t2_ok 0#32 (b2 i C a6 a8 a9 m) >>= fun v =>
  Prog.lift (TpuEff.assume (k0_chk2 v) (k0_chk2.dec v)) >>= fun hw =>
  Scf.Loop.for (k0_t3_loop v) (k0_t3_ok v hw.down) initQ (b3 i C a6 a9 v hw.down) >>= fun t =>
  pure ⟨v, hw.down, t⟩

/-- An image's results stored and copied out, the first load done already. -/
def outP' (i : grid0.Coords) (a4 : MH S4096 .f32) (a5 : MH S4096 .i32) (a10 : MV S32 .f32) (a11 : MV S32 .i32)
    (h10 : a10.IsWhole) (h11 : a11.IsWhole) (rc rd' : DmaSems sig S_) (o : Fin 1 → Nat)
    (ho : ∀ a, o a + S32.size a ≤ S4096.size a) (t : Q F) : PT F i PUnit := do
  Prog.lift (.store a10 (Rect.unit (s := S32) ![0] S16.size inb_S32_S16_0) (rd t.1) Finset.univ (View.stores_vmem_bits_univ h_S16 rfl) (.inl rfl))
  let _ : Vec F S16 .f32 ← Prog.lift (.load a10 (Rect.unit (s := S32) ![16] S16.size inb_S32_S16_16).toLoadRect (View.loadsAt_vmem h_S16))
  Prog.lift (.store a10 (Rect.unit (s := S32) ![16] S16.size inb_S32_S16_16) (rd t.2.2.1) Finset.univ (View.stores_vmem_bits_univ h_S16 rfl) (.inl rfl))
  let _ : Vec F S16 .i32 ← Prog.lift (.load a11 (Rect.unit (s := S32) ![0] S16.size inb_S32_S16_0).toLoadRect (View.loadsAt_vmem h_S16))
  Prog.lift (.store a11 (Rect.unit (s := S32) ![0] S16.size inb_S32_S16_0) (toI t.2.1) Finset.univ (View.stores_vmem_bits_univ h_S16 rfl) (.inl rfl))
  let _ : Vec F S16 .i32 ← Prog.lift (.load a11 (Rect.unit (s := S32) ![16] S16.size inb_S32_S16_16).toLoadRect (View.loadsAt_vmem h_S16))
  Prog.lift (.store a11 (Rect.unit (s := S32) ![16] S16.size inb_S32_S16_16) (toI t.2.2.2) Finset.univ (View.stores_vmem_bits_univ h_S16 rfl) (.inl rfl))
  Prog.lift (.enqueueDma a10 (.here (a4.slice (Rect.unit (s := S4096) o S32.size ho) (fun _ => rfl))) (.dma rc.sem) h10.wordExact (View.wordExact_bits rfl) ⟨Or.inl rfl, trivial⟩)
  Prog.lift (.waitDma2 rc.sem a10 (a4.slice (Rect.unit (s := S4096) o S32.size ho) (fun _ => rfl)) h10.wordExact (View.wordExact_bits rfl))
  Prog.lift (.enqueueDma a11 (.here (a5.slice (Rect.unit (s := S4096) o S32.size ho) (fun _ => rfl))) (.dma rd'.sem) h11.wordExact (View.wordExact_bits rfl) ⟨Or.inl rfl, trivial⟩)
  Prog.lift (.waitDma2 rd'.sem a11 (a5.slice (Rect.unit (s := S4096) o S32.size ho) (fun _ => rfl)) h11.wordExact (View.wordExact_bits rfl))

/-- An image's results stored and copied out. -/
def outP (i : grid0.Coords) (a4 : MH S4096 .f32) (a5 : MH S4096 .i32) (a10 : MV S32 .f32) (a11 : MV S32 .i32)
    (h10 : a10.IsWhole) (h11 : a11.IsWhole) (rc rd' : DmaSems sig S_) (o : Fin 1 → Nat)
    (ho : ∀ a, o a + S32.size a ≤ S4096.size a) (t : Q F) : PT F i PUnit := do
  let _ : Vec F S16 .f32 ← Prog.lift (.load a10 (Rect.unit (s := S32) ![0] S16.size inb_S32_S16_0).toLoadRect (View.loadsAt_vmem h_S16))
  outP' i a4 a5 a10 a11 h10 h11 rc rd' o ho t

/-- The remainder loop of the merge has no trips. -/
theorem t4_gone (v : BitVec 32) (hok : (k0_t4_loop v).OK) {E : Type → Type w} {σ : Type} (init : σ) (body : Fin (k0_t4_loop v).trips → σ → Prog E σ) :
    Scf.Loop.for (k0_t4_loop v) hok init body = pure init :=
  Scf.for_rem_eq 0#32 (Scalar.subi v 0#32) hok init body

/-- The remainder loop of the merge has no trips. -/
theorem t8_gone (v : BitVec 32) (hok : (k0_t8_loop v).OK) {E : Type → Type w} {σ : Type} (init : σ) (body : Fin (k0_t8_loop v).trips → σ → Prog E σ) :
    Scf.Loop.for (k0_t8_loop v) hok init body = pure init :=
  Scf.for_rem_eq 0#32 (Scalar.subi v 0#32) hok init body

/-- The remainder loop of the merge has no trips. -/
theorem t12_gone (v : BitVec 32) (hok : (k0_t12_loop v).OK) {E : Type → Type w} {σ : Type} (init : σ) (body : Fin (k0_t12_loop v).trips → σ → Prog E σ) :
    Scf.Loop.for (k0_t12_loop v) hok init body = pure init :=
  Scf.for_rem_eq 0#32 (Scalar.subi v 0#32) hok init body

/-- The remainder loop of the merge has no trips. -/
theorem t16_gone (v : BitVec 32) (hok : (k0_t16_loop v).OK) {E : Type → Type w} {σ : Type} (init : σ) (body : Fin (k0_t16_loop v).trips → σ → Prog E σ) :
    Scf.Loop.for (k0_t16_loop v) hok init body = pure init :=
  Scf.for_rem_eq 0#32 (Scalar.subi v 0#32) hok init body

section
variable (i : grid0.Coords)
  (arg2 : Memref sig .scVector .hbm S1130496 .f32)
  (harg2 : arg2.IsWhole)
  (arg3 : Memref sig .scVector .hbm S1130496 .f32)
  (harg3 : arg3.IsWhole)
  (arg4 : Memref sig .scVector .hbm S4096 .f32)
  (harg4 : arg4.IsWhole)
  (arg5 : Memref sig .scVector .hbm S4096 .i32)
  (harg5 : arg5.IsWhole)
  (arg6 : Memref sig .scVector .vmem S8832 .f32)
  (harg6 : arg6.IsWhole)
  (arg7 : Memref sig .scVector .vmem S8832 .f32)
  (harg7 : arg7.IsWhole)
  (arg8 : Memref sig .scVector .vmem S8832 .f32)
  (harg8 : arg8.IsWhole)
  (arg9 : Memref sig .scVector .vmem S8832 .f32)
  (harg9 : arg9.IsWhole)
  (arg10 : Memref sig .scVector .vmem S32 .f32)
  (harg10 : arg10.IsWhole)
  (arg11 : Memref sig .scVector .vmem S32 .i32)
  (harg11 : arg11.IsWhole)
  (v704_r0 : DmaSems sig S_)
  (v704_r1 : DmaSems sig S_)
  (v704_r2 : DmaSems sig S_)
  (v704_r3 : DmaSems sig S_)
  (v704_r4 : DmaSems sig S_)
  (v704_r5 : DmaSems sig S_)
  (v704_r6 : DmaSems sig S_)
  (v704_r7 : DmaSems sig S_)
  (v704_r8 : DmaSems sig S_)
  (v704_r9 : DmaSems sig S_)
  (v704_r10 : DmaSems sig S_)
  (v704_r11 : DmaSems sig S_)
  (v704_r12 : DmaSems sig S_)
  (v704_r13 : DmaSems sig S_)
  (v704_r14 : DmaSems sig S_)
  (v704_r15 : DmaSems sig S_)
  (v2 : IVec S16 32) (v5 : IVec S128 32)
  (v25 : IVec S128 32) (v26 : FVec F S16 .f32) (v46 : IVec S128 32) (v47 : FVec F S16 .f32) (v67 : IVec S128 32) (v68 : FVec F S16 .f32) (v88 : IVec S128 32) (v89 : FVec F S16 .f32) (v109 : IVec S128 32) (v110 : FVec F S16 .f32) (v130 : IVec S128 32) (v131 : FVec F S16 .f32) (v151 : IVec S128 32) (v152 : FVec F S16 .f32) (v172 : IVec S128 32) (v173 : FVec F S16 .f32) (v193 : IVec S128 32) (v194 : FVec F S16 .f32) (v214 : IVec S128 32) (v215 : FVec F S16 .f32) (v235 : IVec S128 32) (v236 : FVec F S16 .f32) (v256 : IVec S128 32) (v257 : FVec F S16 .f32) (v277 : IVec S128 32) (v278 : FVec F S16 .f32) (v298 : IVec S128 32) (v299 : FVec F S16 .f32)
  (v302 v305 v308 v311 : IVec S128 32)

/-- Part 88 of the body, in chunks. -/
theorem p88_eq (v1 : BitVec 32) (v280 : IVec S16 32) (v282 : IVec S16 32) (c0_i32_127 : BitVec 32) : k0_part88 (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v1 v2 v280 v282 c0_i32_127 = inP i arg2 arg3 arg6 arg7 harg6 harg7 v704_r0 v704_r1 (k0_off1 i) (k0_off1_inb i) >>= fun _ => pure ⟨k0_pay1075 v280, k0_pay1076 (F := F) v2 v282 c0_i32_127, k0_pay1077 v2, k0_pay1078 v2, k0_pay1079 v2, k0_pay1080 v2, Scalar.addi (Scalar.muli v1 4#32) 0#32⟩ := by
  rw [k0_part88_eq_skeleton]
  sl_kernel_rfl

/-- Part 89 of the body, in chunks. -/
theorem p89_eq  : k0_part89 (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v2 = maskP i { kc with lane := v2 } arg7 >>= fun _ => pure ⟨initV, Named.named κ "init" 0xF2177617#32⟩ := by
  rw [k0_part89_eq_skeleton]
  sl_kernel_rfl

/-- Part 90 of the body, in chunks. -/
theorem p90_eq : k0_part90 (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v2 v5 v25 v26 v46 v47 v67 v68 v88 v89 v109 v110 v130 v131 v151 v152 v172 v173 v193 v194 v214 v215 v235 v236 v256 v257 v277 v278 v298 v299 v302 v305 v308 v311 initV (Named.named κ "init" 0xF2177617#32) = loopQ i (mkC v2 v5 v25 v26 v46 v47 v67 v68 v88 v89 v109 v110 v130 v131 v151 v152 v172 v173 v193 v194 v214 v215 v235 v236 v256 v257 v277 v278 v298 v299 v302 v305 v308 v311) arg6 arg7 arg8 arg9 >>= fun x => pure ⟨x.1, x.2.1, Scalar.addi 0#32 (Scalar.muli (Scalar.divsi (Scalar.subi x.1 0#32) 1#32) 1#32), x.2.2.1, x.2.2.2.1, x.2.2.2.2.1, x.2.2.2.2.2, 1#32⟩ := by
  rw [k0_part90_eq_skeleton]
  unfold k0_part90_skel loopQ
  simp only [t1_eq, t2_eq, t3_eq, t5_eq, t6_eq, t7_eq, t9_eq, t10_eq, t11_eq, t13_eq, t14_eq, t15_eq, t4_gone, t8_gone, t12_gone, t16_gone, bind_assoc, pure_bind]
  sl_kernel_rfl

/-- Part 91 of the body, in chunks. -/
theorem p91_eq (v1 : BitVec 32) (v313 : BitVec 32) (v382 : BitVec 32) (k0_hw2 : k0_chk2 v382) (v391 : BitVec 32) (v392_0 : FVec F S16 .f32) (v392_1 : FVec F S16 .f32) (v392_2 : FVec F S16 .f32) (v392_3 : FVec F S16 .f32) (c1_i32_167 : BitVec 32) : k0_part91 (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v1 v5 v25 v26 v46 v47 v67 v68 v88 v89 v109 v110 v130 v131 v151 v152 v172 v173 v193 v194 v214 v215 v235 v236 v256 v257 v277 v278 v298 v299 v313 v382 k0_hw2 v391 v392_0 v392_1 v392_2 v392_3 c1_i32_167 = outP i arg4 arg5 arg10 arg11 harg10 harg11 v704_r2 v704_r3 (k0_off7 i) (k0_off7_inb i) (v392_0, v392_1, v392_2, v392_3) >>= fun _ => inP i arg2 arg3 arg6 arg7 harg6 harg7 v704_r4 v704_r5 (k0_off8 i) (k0_off8_inb i) >>= fun _ => pure (Scalar.addi (Scalar.muli v1 4#32) 1#32) := by
  rw [k0_part91_eq_skeleton]
  unfold k0_part91_skel
  simp only [t1_eq, t2_eq, t3_eq, t5_eq, t6_eq, t7_eq, t9_eq, t10_eq, t11_eq, t13_eq, t14_eq, t15_eq, t4_gone, t8_gone, t12_gone, t16_gone, pure_bind]
  sl_kernel_rfl

/-- Part 92 of the body, in chunks. -/
theorem p92_eq  : k0_part92 (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v2 = maskP i { kc with lane := v2 } arg7 >>= fun _ => pure ⟨initV, initV⟩ := by
  rw [k0_part92_eq_skeleton]
  sl_kernel_rfl

/-- Part 93 of the body, in chunks. -/
theorem p93_eq : k0_part93 (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v2 v5 v25 v26 v46 v47 v67 v68 v88 v89 v109 v110 v130 v131 v151 v152 v172 v173 v193 v194 v214 v215 v235 v236 v256 v257 v277 v278 v298 v299 v302 v305 v308 v311 initV initV = loopP i (mkC v2 v5 v25 v26 v46 v47 v67 v68 v88 v89 v109 v110 v130 v131 v151 v152 v172 v173 v193 v194 v214 v215 v235 v236 v256 v257 v277 v278 v298 v299 v302 v305 v308 v311) arg6 arg7 arg8 arg9 >>= fun x => pure ⟨x.1, x.2.1, x.2.2.1, x.2.2.2⟩ := by
  rw [k0_part93_eq_skeleton]
  unfold k0_part93_skel loopP
  simp only [t1_eq, t2_eq, t3_eq, t5_eq, t6_eq, t7_eq, t9_eq, t10_eq, t11_eq, t13_eq, t14_eq, t15_eq, t4_gone, t8_gone, t12_gone, t16_gone, bind_assoc, pure_bind]
  sl_kernel_rfl

/-- Part 94 of the body, in chunks. -/
theorem p94_eq (v1 : BitVec 32) (v411 : BitVec 32) (v491_0 : FVec F S16 .f32) (v491_1 : FVec F S16 .f32) (v491_2 : FVec F S16 .f32) (v491_3 : FVec F S16 .f32) : k0_part94 (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v1 v411 v491_0 v491_1 v491_2 v491_3 = outP i arg4 arg5 arg10 arg11 harg10 harg11 v704_r6 v704_r7 (k0_off14 i) (k0_off14_inb i) (v491_0, v491_1, v491_2, v491_3) >>= fun _ => inP i arg2 arg3 arg6 arg7 harg6 harg7 v704_r8 v704_r9 (k0_off15 i) (k0_off15_inb i) >>= fun _ => (Prog.lift (.load arg7 (Rect.unit (s := S8832) ![8720] S16.size inb_S8832_S16_8720).toLoadRect (View.loadsAt_vmem h_S16)) : PT F i (Vec F S16 .f32)) >>= fun x => pure ⟨Scalar.addi (Scalar.muli v1 4#32) 2#32, x⟩ := by
  rw [k0_part94_eq_skeleton]
  sl_kernel_rfl

/-- Part 95 of the body, in chunks. -/
theorem p95_eq (v512 : Vec F S16 .f32) : k0_part95 (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v2 v512 = maskP' i { kc with lane := v2 } arg7 v512 >>= fun _ => pure ⟨initV, initV, 0#32⟩ := by
  rw [k0_part95_eq_skeleton]
  sl_kernel_rfl

/-- Part 96 of the body, in chunks. -/
theorem p96_eq : k0_part96 (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v2 v5 v25 v26 v46 v47 v67 v68 v88 v89 v109 v110 v130 v131 v151 v152 v172 v173 v193 v194 v214 v215 v235 v236 v256 v257 v277 v278 v298 v299 v302 v305 v308 v311 initV initV 0#32 = loopP i (mkC v2 v5 v25 v26 v46 v47 v67 v68 v88 v89 v109 v110 v130 v131 v151 v152 v172 v173 v193 v194 v214 v215 v235 v236 v256 v257 v277 v278 v298 v299 v302 v305 v308 v311) arg6 arg7 arg8 arg9 >>= fun x => pure ⟨x.1, x.2.1, x.2.2.1, x.2.2.2⟩ := by
  rw [k0_part96_eq_skeleton]
  unfold k0_part96_skel loopP
  simp only [t1_eq, t2_eq, t3_eq, t5_eq, t6_eq, t7_eq, t9_eq, t10_eq, t11_eq, t13_eq, t14_eq, t15_eq, t4_gone, t8_gone, t12_gone, t16_gone, bind_assoc, pure_bind]
  sl_kernel_rfl

/-- Part 97 of the body, in chunks. -/
theorem p97_eq (v1 : BitVec 32) (v509 : BitVec 32) (v589_0 : FVec F S16 .f32) (v589_1 : FVec F S16 .f32) (v589_2 : FVec F S16 .f32) (v589_3 : FVec F S16 .f32) : k0_part97 (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v1 v509 v589_0 v589_1 v589_2 v589_3 = outP i arg4 arg5 arg10 arg11 harg10 harg11 v704_r10 v704_r11 (k0_off21 i) (k0_off21_inb i) (v589_0, v589_1, v589_2, v589_3) >>= fun _ => inP i arg2 arg3 arg6 arg7 harg6 harg7 v704_r12 v704_r13 (k0_off22 i) (k0_off22_inb i) >>= fun _ => (Prog.lift (.load arg7 (Rect.unit (s := S8832) ![8720] S16.size inb_S8832_S16_8720).toLoadRect (View.loadsAt_vmem h_S16)) : PT F i (Vec F S16 .f32)) >>= fun x => pure ⟨Scalar.addi (Scalar.muli v1 4#32) 3#32, rd x⟩ := by
  rw [k0_part97_eq_skeleton]
  sl_kernel_rfl

/-- Part 98 of the body, in chunks. -/
theorem p98_eq (x : V F) : k0_part98 (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v2 (rd x) = maskP' i { kc with lane := v2 } arg7 x >>= fun _ => pure ⟨initV, initV, 0#32, 552#32⟩ := by
  rw [k0_part98_eq_skeleton]
  sl_kernel_rfl

/-- Part 99 of the body, in chunks. -/
theorem p99_eq : k0_part99 (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 v2 v5 v25 v26 v46 v47 v67 v68 v88 v89 v109 v110 v130 v131 v151 v152 v172 v173 v193 v194 v214 v215 v235 v236 v256 v257 v277 v278 v298 v299 v302 v305 v308 v311 initV initV 0#32 552#32 = loopP i (mkC v2 v5 v25 v26 v46 v47 v67 v68 v88 v89 v109 v110 v130 v131 v151 v152 v172 v173 v193 v194 v214 v215 v235 v236 v256 v257 v277 v278 v298 v299 v302 v305 v308 v311) arg6 arg7 arg8 arg9 >>= fun x => (Prog.lift (.load arg10 (Rect.unit (s := S32) ![0] S16.size inb_S32_S16_0).toLoadRect (View.loadsAt_vmem h_S16)) : PT F i (Vec F S16 .f32)) >>= fun y => pure ⟨x.1, x.2.1, x.2.2.1, x.2.2.2, y⟩ := by
  rw [k0_part99_eq_skeleton]
  unfold k0_part99_skel loopP
  simp only [t1_eq, t2_eq, t3_eq, t5_eq, t6_eq, t7_eq, t9_eq, t10_eq, t11_eq, t13_eq, t14_eq, t15_eq, t4_gone, t8_gone, t12_gone, t16_gone, bind_assoc, pure_bind]
  sl_kernel_rfl

end

/-- One image: its scores in, the mask, the two passes and the merge, its results out. -/
def imgP (i : grid0.Coords) (C : Consts F) (a2 a3 : MH S1130496 .f32) (a4 : MH S4096 .f32) (a5 : MH S4096 .i32)
    (a6 a7 a8 a9 : MV S8832 .f32) (a10 : MV S32 .f32) (a11 : MV S32 .i32) (h6 : a6.IsWhole) (h7 : a7.IsWhole)
    (h10 : a10.IsWhole) (h11 : a11.IsWhole) (ra rb rc rd' : DmaSems sig S_)
    (o : Fin 1 → Nat) (ho : ∀ a, o a + S8832.size a ≤ S1130496.size a)
    (o' : Fin 1 → Nat) (ho' : ∀ a, o' a + S32.size a ≤ S4096.size a) : PT F i PUnit :=
  inP i a2 a3 a6 a7 h6 h7 ra rb o ho >>= fun _ => maskP i C a7 >>= fun _ => loopP i C a6 a7 a8 a9 >>= fun t =>
  outP i a4 a5 a10 a11 h10 h11 rc rd' o' ho' t

/-- The printed constants. -/
theorem consts_eq : mkC (F := F) (iota Kind.scVector S16 32 [0] iota_S16_d0_w32_scVector) k0_pay1029 k0_pay1030 k0_pay1031 (k0_pay1036 k0_pay1032) (k0_pay1037 k0_pay1033 k0_pay1034 k0_pay1035) (k0_pay1038 (iota Kind.scVector S16 32 [0] iota_S16_d0_w32_scVector)) (k0_pay1039 (iota Kind.scVector S16 32 [0] iota_S16_d0_w32_scVector)) (k0_pay1043 (k0_pay1040 (iota Kind.scVector S16 32 [0] iota_S16_d0_w32_scVector))) (k0_pay1044 (k0_pay1041 (iota Kind.scVector S16 32 [0] iota_S16_d0_w32_scVector)) (k0_pay1042 (iota Kind.scVector S16 32 [0] iota_S16_d0_w32_scVector))) (k0_pay1045 (iota Kind.scVector S16 32 [0] iota_S16_d0_w32_scVector)) (k0_pay1046 (iota Kind.scVector S16 32 [0] iota_S16_d0_w32_scVector)) (k0_pay1049 (k0_pay1047 (iota Kind.scVector S16 32 [0] iota_S16_d0_w32_scVector))) (k0_pay1050 (iota Kind.scVector S16 32 [0] iota_S16_d0_w32_scVector) (k0_pay1048 (iota Kind.scVector S16 32 [0] iota_S16_d0_w32_scVector)) 8#32) (k0_pay1051 (iota Kind.scVector S16 32 [0] iota_S16_d0_w32_scVector)) (k0_pay1052 (iota Kind.scVector S16 32 [0] iota_S16_d0_w32_scVector)) (k0_pay1057 (k0_pay1053 (iota Kind.scVector S16 32 [0] iota_S16_d0_w32_scVector))) (k0_pay1058 (iota Kind.scVector S16 32 [0] iota_S16_d0_w32_scVector) (k0_pay1054 (iota Kind.scVector S16 32 [0] iota_S16_d0_w32_scVector)) k0_pay1055 k0_pay1056) (k0_pay1059 (iota Kind.scVector S16 32 [0] iota_S16_d0_w32_scVector)) (k0_pay1060 (iota Kind.scVector S16 32 [0] iota_S16_d0_w32_scVector)) (k0_pay1063 (k0_pay1061 (iota Kind.scVector S16 32 [0] iota_S16_d0_w32_scVector))) (k0_pay1064 (iota Kind.scVector S16 32 [0] iota_S16_d0_w32_scVector) (k0_pay1062 (iota Kind.scVector S16 32 [0] iota_S16_d0_w32_scVector)) 1#32 0#32) (k0_pay1065 (iota Kind.scVector S16 32 [0] iota_S16_d0_w32_scVector)) (k0_pay1066 (iota Kind.scVector S16 32 [0] iota_S16_d0_w32_scVector)) (k0_pay1069 (k0_pay1067 (iota Kind.scVector S16 32 [0] iota_S16_d0_w32_scVector))) (k0_pay1070 (iota Kind.scVector S16 32 [0] iota_S16_d0_w32_scVector) (k0_pay1068 (iota Kind.scVector S16 32 [0] iota_S16_d0_w32_scVector))) (k0_pay1071 (iota Kind.scVector S16 32 [0] iota_S16_d0_w32_scVector)) (k0_pay1072 (iota Kind.scVector S16 32 [0] iota_S16_d0_w32_scVector)) (k0_pay1075 (k0_pay1073 (iota Kind.scVector S16 32 [0] iota_S16_d0_w32_scVector))) (k0_pay1076 (iota Kind.scVector S16 32 [0] iota_S16_d0_w32_scVector) (k0_pay1074 (iota Kind.scVector S16 32 [0] iota_S16_d0_w32_scVector)) 0#32) (k0_pay1077 (iota Kind.scVector S16 32 [0] iota_S16_d0_w32_scVector)) (k0_pay1078 (iota Kind.scVector S16 32 [0] iota_S16_d0_w32_scVector)) (k0_pay1079 (iota Kind.scVector S16 32 [0] iota_S16_d0_w32_scVector)) (k0_pay1080 (iota Kind.scVector S16 32 [0] iota_S16_d0_w32_scVector)) = kc := by
  sl_kernel_rfl

/-- The printed lane numbers. -/
theorem lane_eq : (⟨(iota Kind.scVector S16 32 [0] iota_S16_d0_w32_scVector), (kc (F := F)).rev, (kc (F := F)).sf, (kc (F := F)).sm, (kc (F := F)).tp⟩ : Consts F) = kc := by
  sl_kernel_rfl

section
variable (i : grid0.Coords)
  (arg2 : Memref sig .scVector .hbm S1130496 .f32)
  (harg2 : arg2.IsWhole)
  (arg3 : Memref sig .scVector .hbm S1130496 .f32)
  (harg3 : arg3.IsWhole)
  (arg4 : Memref sig .scVector .hbm S4096 .f32)
  (harg4 : arg4.IsWhole)
  (arg5 : Memref sig .scVector .hbm S4096 .i32)
  (harg5 : arg5.IsWhole)
  (arg6 : Memref sig .scVector .vmem S8832 .f32)
  (harg6 : arg6.IsWhole)
  (arg7 : Memref sig .scVector .vmem S8832 .f32)
  (harg7 : arg7.IsWhole)
  (arg8 : Memref sig .scVector .vmem S8832 .f32)
  (harg8 : arg8.IsWhole)
  (arg9 : Memref sig .scVector .vmem S8832 .f32)
  (harg9 : arg9.IsWhole)
  (arg10 : Memref sig .scVector .vmem S32 .f32)
  (harg10 : arg10.IsWhole)
  (arg11 : Memref sig .scVector .vmem S32 .i32)
  (harg11 : arg11.IsWhole)
  (v704_r0 : DmaSems sig S_)
  (v704_r1 : DmaSems sig S_)
  (v704_r2 : DmaSems sig S_)
  (v704_r3 : DmaSems sig S_)
  (v704_r4 : DmaSems sig S_)
  (v704_r5 : DmaSems sig S_)
  (v704_r6 : DmaSems sig S_)
  (v704_r7 : DmaSems sig S_)
  (v704_r8 : DmaSems sig S_)
  (v704_r9 : DmaSems sig S_)
  (v704_r10 : DmaSems sig S_)
  (v704_r11 : DmaSems sig S_)
  (v704_r12 : DmaSems sig S_)
  (v704_r13 : DmaSems sig S_)
  (v704_r14 : DmaSems sig S_)
  (v704_r15 : DmaSems sig S_)

/-- The kernel's body: four images, one after another. -/
theorem cc0_eq : cc0__mine_kernel (F := F) i arg2 harg2 arg3 harg3 arg4 harg4 arg5 harg5 arg6 harg6 arg7 harg7 arg8 harg8 arg9 harg9 arg10 harg10 arg11 harg11 v704_r0 v704_r1 v704_r2 v704_r3 v704_r4 v704_r5 v704_r6 v704_r7 v704_r8 v704_r9 v704_r10 v704_r11 v704_r12 v704_r13 v704_r14 v704_r15 =
    imgP i kc arg2 arg3 arg4 arg5 arg6 arg7 arg8 arg9 arg10 arg11 harg6 harg7 harg10 harg11 v704_r0 v704_r1 v704_r2 v704_r3 (k0_off1 i) (k0_off1_inb i) (k0_off7 i) (k0_off7_inb i) >>= fun _ =>
    imgP i kc arg2 arg3 arg4 arg5 arg6 arg7 arg8 arg9 arg10 arg11 harg6 harg7 harg10 harg11 v704_r4 v704_r5 v704_r6 v704_r7 (k0_off8 i) (k0_off8_inb i) (k0_off14 i) (k0_off14_inb i) >>= fun _ =>
    imgP i kc arg2 arg3 arg4 arg5 arg6 arg7 arg8 arg9 arg10 arg11 harg6 harg7 harg10 harg11 v704_r8 v704_r9 v704_r10 v704_r11 (k0_off15 i) (k0_off15_inb i) (k0_off21 i) (k0_off21_inb i) >>= fun _ =>
    imgP i kc arg2 arg3 arg4 arg5 arg6 arg7 arg8 arg9 arg10 arg11 harg6 harg7 harg10 harg11 v704_r12 v704_r13 v704_r14 v704_r15 (k0_off22 i) (k0_off22_inb i) (k0_off28 i) (k0_off28_inb i) := by
  rw [cc0__mine_kernel_eq_skeleton]
  unfold cc0__mine_kernel_skel imgP
  simp only [k0_part81_eq_skeleton, k0_part82_eq_skeleton, k0_part83_eq_skeleton, k0_part84_eq_skeleton, k0_part85_eq_skeleton, k0_part86_eq_skeleton, k0_part87_eq_skeleton, k0_part81_skel, k0_part82_skel, k0_part83_skel, k0_part84_skel, k0_part85_skel, k0_part86_skel, k0_part87_skel, p88_eq, p89_eq, p90_eq, p91_eq, p92_eq, p93_eq, p94_eq, p95_eq, p96_eq, p97_eq, p98_eq, p99_eq, bind_assoc, pure_bind]
  simp only [loopQ, loopP, maskP, outP, bind_assoc, pure_bind]
  sl_kernel_rfl

end

end Cert.Proof.Mine
-- ==== Proof.Spec.lean ====
/- What the kernel computes for one image, as functions of its two arrays of scores: the
   differences by segments of 16, the two greatest of each lane, the segments kept, and the 32
   best merged from those. Over any float type. -/
module

public import proofs.«01_k».proof.Proof.Stage
public import Idealize.ShloMosaic.Lib.WritesUnit
public import Idealize.ShloMosaic.Lib.ValueIdxCore
public import Idealize.ShloMosaic.Lib.Pointwise.Reshape

@[expose] public section

noncomputable section

namespace Cert.Proof.Mine

open Idealize.ShloMosaic Idealize.SL.Sem Cert.KernelIdeal Cert.KernelIdeal.Gen

/-- The index of word `n` of an image's scores. -/
def ix (n : ℕ) : S8832.Idx := ValueIdx.ix1 ⟨n % 8832, Nat.mod_lt _ (by decide)⟩

/-- Segment `s` of an image's scores: 16 consecutive words. -/
def seg {α : Type} (f : S8832.Idx → α) (s : ℕ) : S16.Idx → α := fun l => f (ix (16 * s + (l 0).val))

/-- A lane is below 16. -/
theorem idx16_lt (l : S16.Idx) : (l 0).val < 16 := (l 0).isLt

section view
variable {sig : RefSig} {κ : Kind} {sp : Space} {e : EltTy} {Val : EltTy → Type}

/-- A load of 16 words at `16 s` reads segment `s`. -/
theorem readAt_seg (v : View sig κ sp S8832 e) (f : v.ty.Contents Val) {off : Fin 1 → ℕ}
    (inb : ∀ a, off a + S16.size a ≤ S8832.size a) {s : ℕ} (h : off = ![16 * s]) :
    v.readAt Val (Rect.unit (s := S8832) off S16.size inb).toLoadRect f = seg (v.read Val f) s := by
  subst h
  funext l
  have h0 : 16 * s + 16 ≤ 8832 := inb 0
  have h1 := idx16_lt l
  show v.read Val f _ = v.read Val f _
  congr 1
  funext a
  match a with
  | ⟨0, _⟩ =>
    apply Fin.ext
    show 16 * s + 1 * (l 0).val = (16 * s + (l 0).val) % 8832
    rw [Nat.mod_eq_of_lt (by omega)]; omega

/-- A store of 16 words at `16 s` sets segment `s` and leaves the others. -/
theorem seg_writes (v : View sig κ sp S8832 e) (f : v.ty.Contents Val) {off : Fin 1 → ℕ}
    (inb : ∀ a, off a + S16.size a ≤ S8832.size a) (w : S16.Idx → Val e) {s : ℕ} (h : off = ![16 * s]) {s' : ℕ} (hs' : s' < 552)
    (L : List (View.Piece Val S8832 e)) :
    seg (v.read Val (v.writes Val f (⟨Rect.unit (s := S8832) off S16.size inb, w⟩ :: L))) s'
      = if s' = s then w else seg (v.read Val (v.writes Val f L)) s' := by
  have h0 : 16 * s + 16 ≤ 8832 := by subst h; exact inb 0
  funext l
  have h1 := idx16_lt l
  have hix : ((ix (16 * s' + (l 0).val)) 0).val = 16 * s' + (l 0).val := Nat.mod_eq_of_lt (by omega)
  split
  · next hs =>
    subst hs
    exact View.read_writes_cons_unit_of_mem v f inb w L (ix (16 * s' + (l 0).val)) l h (fun a => by
      match a with
      | ⟨0, _⟩ => exact hix)
  · next hs =>
    refine View.read_writes_cons_unit_of_not_mem v f inb w L (ix (16 * s' + (l 0).val)) h 0 ?_
    rw [hix]
    show 16 * s' + (l 0).val < 16 * s ∨ 16 * s + 16 ≤ 16 * s' + (l 0).val
    omega

end view

variable {F : FTy → Type} [FloatOps F] [Named F]

/-- A cast between equal shapes changes nothing. -/
theorem rd_eq (x : V F) : rd x = x := by
  unfold rd
  exact shapeCast_id x _

section image
variable (C : Consts F) (x y : S8832.Idx → F .f32)

/-- The differences of segment `s`. -/
def dif (s : ℕ) : V F := diffF (seg y s) (seg x s)

/-- The two greatest differences of each lane over the first `j` segments. -/
def tops : ℕ → V F × V F
  | 0 => (initV, initV)
  | j + 1 => best2 (tops j) (dif x y j)

/-- Whether a segment's greatest reaches the threshold. -/
def keepB (t : F .f32) (c : V F) : Bool := Scalar.cmpf .oge (treeMax C.tp (rd c)) t == 1#1

/-- The threshold of the image. -/
def thrI : F .f32 := thr C (tops x y 552)

/-- The segments kept, of the first `j`. -/
def kept (j : ℕ) : List ℕ := (List.range j).filter fun s => keepB C (thrI C x y) (dif x y s)

/-- The keys and positions of segment `s`. -/
def segKV (s : ℕ) : V F × V F := (dif x y s, posF C (BitVec.ofNat 32 s))

/-- The 32 best after the first `k` kept segments. -/
def fold (k : ℕ) : Q F := ((kept C x y 552).take k).foldl (fun q s => mergeF C q (segKV C x y s)) initQ

/-- The 32 best of the image: keys and positions. -/
def best : Q F := (kept C x y 552).foldl (fun q s => mergeF C q (segKV C x y s)) initQ

/-- The segments kept with one more looked at. -/
theorem kept_succ (j : ℕ) :
    kept C x y (j + 1) = kept C x y j ++ (if keepB C (thrI C x y) (dif x y j) then [j] else []) := by
  unfold kept
  rw [List.range_succ, List.filter_append]
  congr 1
  simp only [List.filter_cons, List.filter_nil]

/-- No more segments are kept than looked at. -/
theorem kept_length_le (j : ℕ) : (kept C x y j).length ≤ j :=
  (List.length_filter_le _ _).trans (by rw [List.length_range])

/-- The write offset moves on when a segment is kept. -/
theorem keepF_eq (m : V F × V F) (off : BitVec 32) (c : V F) :
    keepF C (thr C m) off c = off + (if keepB C (thr C m) c then 1#32 else 0#32) := by
  unfold keepF keepB
  show off + Scalar.select _ _ _ = _
  congr 1
  generalize Scalar.cmpf .oge (treeMax C.tp (rd c)) (thr C m) = b
  unfold Scalar.select
  rcases BitVec.eq_zero_or_eq_one b with h | h <;> subst h <;> rfl

end image

/-- Lanes of a vector by number. -/
def lane16 {α : Type} (v : S16.Idx → α) (n : ℕ) : α := v (ValueIdx.ix1 ⟨n % 16, Nat.mod_lt _ (by decide)⟩)

/-- A lane of an index. -/
theorem lane16_idx {α : Type} (v : S16.Idx → α) (l : S16.Idx) : lane16 v (l 0).val = v l := by
  unfold lane16
  congr 1
  rw [ValueIdx.eq_ix1 l]
  congr 1
  exact Fin.ext (Nat.mod_eq_of_lt (idx16_lt _))

/-- The second scores with the padding masked. -/
def maskI (C : Consts F) (y : S8832.Idx → F .f32) : S8832.Idx → F .f32 := fun n =>
  if (n 0).val / 16 < 545 then y n
  else if (n 0).val / 16 = 545 then lane16 (tailF C (seg y 545)) ((n 0).val % 16)
  else lane16 maskV ((n 0).val % 16)

/-- Two vectors of 16 lanes in a row: 32 words. -/
def half {α : Type} (a b : S16.Idx → α) : S32.Idx → α := fun l => if (l 0).val < 16 then lane16 a (l 0).val else lane16 b ((l 0).val - 16)

/-- Scores are known by their segments. -/
theorem seg_ext {α : Type} {f g : S8832.Idx → α} (h : ∀ s < 552, seg f s = seg g s) : f = g := by
  funext n
  have hn : (n 0).val < 8832 := (n 0).isLt
  have e : n = ix (16 * ((n 0).val / 16) + (n 0).val % 16) := by
    rw [ValueIdx.eq_ix1 n]
    unfold ix
    congr 1
    apply Fin.ext
    show (n 0).val = (16 * ((n 0).val / 16) + (n 0).val % 16) % 8832
    omega
  have := congrFun (h ((n 0).val / 16) (by omega)) (ValueIdx.ix1 ⟨(n 0).val % 16, Nat.mod_lt _ (by decide)⟩)
  rw [e]
  exact this

/-- The segments of the masked scores. -/
theorem seg_maskI (C : Consts F) (y : S8832.Idx → F .f32) {s : ℕ} (hs : s < 552) :
    seg (maskI C y) s = if s < 545 then seg y s else if s = 545 then tailF C (seg y 545) else maskV := by
  funext l
  have h1 := idx16_lt l
  have hix : ((ix (16 * s + (l 0).val)) 0).val = 16 * s + (l 0).val := Nat.mod_eq_of_lt (by omega)
  have hd : (16 * s + (l 0).val) / 16 = s := by omega
  have hm : (16 * s + (l 0).val) % 16 = (l 0).val := by omega
  show maskI C y (ix _) = _
  unfold maskI
  rw [hix, hd, hm, lane16_idx, lane16_idx]
  split
  · rfl
  · split <;> rfl

section view32
variable {sig : RefSig} {κ : Kind} {sp : Space} {e : EltTy} {Val : EltTy → Type}

/-- Two stores of 16 words fill 32 words. -/
theorem read_half (v : View sig κ sp S32 e) (f : v.ty.Contents Val) (a b : S16.Idx → Val e) :
    v.read Val (v.writes Val f [⟨Rect.unit (s := S32) ![16] S16.size inb_S32_S16_16, b⟩, ⟨Rect.unit (s := S32) ![0] S16.size inb_S32_S16_0, a⟩])
      = half a b := by
  funext l
  have hl : (l 0).val < 32 := (l 0).isLt
  unfold half
  split
  · next h =>
    refine (View.read_writes_cons_unit_of_not_mem v f _ b _ l rfl 0 (Or.inl ?_)).trans ?_
    · exact h
    · exact View.read_writes_cons_unit_of_mem v f _ a [] l (ValueIdx.ix1 ⟨(l 0).val % 16, Nat.mod_lt _ (by decide)⟩) rfl
        (fun x => by
          match x with
          | ⟨0, _⟩ =>
            show (l 0).val = 0 + (l 0).val % 16
            omega)
  · next h =>
    exact View.read_writes_cons_unit_of_mem v f _ b _ l (ValueIdx.ix1 ⟨((l 0).val - 16) % 16, Nat.mod_lt _ (by decide)⟩) rfl
        (fun x => by
          match x with
          | ⟨0, _⟩ =>
            show (l 0).val = 16 + ((l 0).val - 16) % 16
            omega)

/-- A whole view written reads the payload. -/
theorem read_writes_whole {s : Shape} (v : View sig κ sp s e) (f : v.ty.Contents Val) (w : s.Idx → Val e) :
    v.read Val (v.writes Val f [⟨Rect.whole s, w⟩]) = w := by
  funext y
  have := View.read_writes_cons_emb v f (Rect.whole s) w [] y
  rwa [Rect.emb_whole_apply] at this

end view32

/-- Image `g`'s part of an array of scores. -/
def part {α : Type} (S : S1130496.Idx → α) (g : ℕ) : S8832.Idx → α := fun n => S (ValueIdx.ix1 ⟨(8832 * g + (n 0).val) % 1130496, Nat.mod_lt _ (by decide)⟩)

/-- The 32 best of image `g`. -/
def bestG (C : Consts F) (S0 S1 : S1130496.Idx → F .f32) (g : ℕ) : Q F := best C (part S0 g) (maskI C (part S1 g))

/-- A float vector as positions. -/
def toIv (x : V F) : IVec S16 32 := fptosi 32 x

/-- The keys of all images. -/
def outK (C : Consts F) (S0 S1 : S1130496.Idx → F .f32) : S4096.Idx → F .f32 := fun n =>
  half (bestG C S0 S1 ((n 0).val / 32)).1 (bestG C S0 S1 ((n 0).val / 32)).2.2.1 (ValueIdx.ix1 ⟨(n 0).val % 32, Nat.mod_lt _ (by decide)⟩)

/-- The indices of all images. -/
def outI (C : Consts F) (S0 S1 : S1130496.Idx → F .f32) : S4096.Idx → BitVec 32 := fun n =>
  half (toIv (bestG C S0 S1 ((n 0).val / 32)).2.1) (toIv (bestG C S0 S1 ((n 0).val / 32)).2.2.2) (ValueIdx.ix1 ⟨(n 0).val % 32, Nat.mod_lt _ (by decide)⟩)

end Cert.Proof.Mine
-- ==== Proof.Run.lean ====
/- The run of one image on a tile: each chunk of the program leaves what the functions of the
   image's scores say. -/
module

public import proofs.«01_k».proof.Proof.Image
public import proofs.«01_k».proof.Proof.Spec
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Mine

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
abbrev UH : Type := URounds (GSem nD τ sig) ℕ
abbrev UU : Type := UH × (UR sig nD τ × Counters)

local notation "𝕄" => MT nD τ sig (HIx 1) (Elt F) ℕ UU ℕ
local notation "m6" => (Memref.whole cc0_scratch0 : Memref Cert.KernelIdeal.sig Kind.scVector Space.vmem Cert.KernelIdeal.S8832 EltTy.f32)
local notation "m7" => (Memref.whole cc0_scratch1 : Memref Cert.KernelIdeal.sig Kind.scVector Space.vmem Cert.KernelIdeal.S8832 EltTy.f32)
local notation "m8" => (Memref.whole cc0_scratch2 : Memref Cert.KernelIdeal.sig Kind.scVector Space.vmem Cert.KernelIdeal.S8832 EltTy.f32)
local notation "m9" => (Memref.whole cc0_scratch3 : Memref Cert.KernelIdeal.sig Kind.scVector Space.vmem Cert.KernelIdeal.S8832 EltTy.f32)
local notation "m10" => (Memref.whole cc0_scratch4 : Memref Cert.KernelIdeal.sig Kind.scVector Space.vmem Cert.KernelIdeal.S32 EltTy.f32)
local notation "m11" => (Memref.whole cc0_scratch5 : Memref Cert.KernelIdeal.sig Kind.scVector Space.vmem Cert.KernelIdeal.S32 EltTy.i32)

variable [FloatOps F] [Named F]
abbrev 𝒱₀ : Variants := Variants.none
abbrev cV (L : grid0.Coords) : Fin τ.nSC := (L 0).castLE hcore0
abbrev jV (L : grid0.Coords) : Fin τ.nSub := (L 1).castLE hsub0

/-- The tile's thread. -/
abbrev thr' (d : Dev nD) (i : grid0.Coords): Thread nD τ := SparseCore.V d (cV i) (jV i)

section words

/-- The third loop runs once for each segment kept. -/
theorem trips3_eq {n : ℕ} (hn : n ≤ 552) : (k0_t3_loop (BitVec.ofNat 32 n)).trips = n ∧ (k0_t3_loop (BitVec.ofNat 32 n)).OK := by
  have e : k0_t3_loop (BitVec.ofNat 32 n) = ⟨0#32, BitVec.ofNat 32 n, 1#32⟩ := by
    unfold k0_t3_loop
    simp only [Scalar.muli_divsi_one]
    congr 1
    show 0#32 + (BitVec.ofNat 32 n - 0#32) = _
    simp
  rw [e]
  have h0 : Affine.IsInt 0#32 0 := Affine.ofNat _ (by omega)
  have h1 : Affine.IsInt 1#32 1 := Affine.ofNat _ (by omega)
  have h2 : Affine.IsInt (BitVec.ofNat 32 n) (n : ℤ) := Affine.ofNat _ (by omega)
  exact ⟨Affine.trips_eq h0 h2 h1 _ (by omega), Affine.ok h0 h2 h1 (by omega)⟩

/-- The place a kept segment is stored at. -/
theorem off4_eq {n : ℕ} (hn : n < 552) : k0_off4 (BitVec.ofNat 32 n) = ![16 * n] := by
  unfold k0_off4
  show ![((BitVec.ofNat 32 n * 16#32).zeroExtend _).toNat] = _
  congr 1
  simp [BitVec.toNat_mul]
  omega

/-- The counter of a loop. -/
theorem iv_eq (n : ℕ) : Scf.iv 0#32 1#32 n = BitVec.ofNat 32 n := by
  simp [Scf.iv]

/-- The place a kept segment is read at. -/
theorem off5_eq {v : BitVec 32} (k : Fin (k0_t3_loop v).trips) (hk : k.val < 552) : k0_off5 v k = ![16 * k.val] := by
  unfold k0_off5
  have := off4_eq hk
  unfold k0_off4 at this
  show ![(Scalar.indexCast (Scalar.muli (Scf.iv 0#32 1#32 k.val) 16#32)).toNat] = _
  rw [iv_eq]
  exact this

/-- A store of a kept segment stays inside. -/
theorem chk1_of {n : ℕ} (hn : n < 552) : k0_chk1 (BitVec.ofNat 32 n) := by
  unfold k0_chk1
  rw [off4_eq hn]
  intro a
  match a with
  | ⟨0, _⟩ =>
    show 16 * n + 16 ≤ 8832
    omega

/-- The number of segments kept is in range. -/
theorem chk2_of {n : ℕ} (hn : n ≤ 552) : k0_chk2 (BitVec.ofNat 32 n) := by
  have ht := trips3_eq hn
  refine ⟨ht.2, ?_, Scf.rem_ok 0#32 (Scalar.subi (BitVec.ofNat 32 n) 0#32), ?_⟩
  · intro k a
    have hk : k.val < n := lt_of_lt_of_eq k.isLt ht.1
    rw [off5_eq k (by omega)]
    match a with
    | ⟨0, _⟩ =>
      show 16 * k.val + 16 ≤ 8832
      omega
  · intro k
    exact absurd k.isLt (by
      have : (k0_t4_loop (BitVec.ofNat 32 n)).trips = 0 := Scf.rem_trips 0#32 (Scalar.subi (BitVec.ofNat 32 n) 0#32)
      omega)

end words

section loops
variable (d : Dev nD) (i : grid0.Coords) (C : Consts F) (x y : S8832.Idx → F .f32)

/-- The first pass, at segment `j`: the differences of the segments before it are stored. -/
def inv1 (j : ℕ) (m : Mine.V F × Mine.V F) : sProp 𝕄 :=
  iprop(⌜m = tops x y j⌝ ∗ ((m6).view.loc (thr' d i) ↦{fullShare} x) ∗ ((m7).view.loc (thr' d i) ↦{fullShare} y)
    ∗ ∃ f8 : S8832.Idx → F .f32, ⌜∀ s < j, seg f8 s = dif x y s⌝ ∗ ((m8).view.loc (thr' d i) ↦{fullShare} f8))

/-- The first loop: all differences stored, and the two greatest of each lane. -/
theorem for1 (Q : Mine.V F × Mine.V F → sProp 𝕄) (f8 : S8832.Idx → F .f32) :
    iprop(((m6).view.loc (thr' d i) ↦{fullShare} x) ∗ ((m7).view.loc (thr' d i) ↦{fullShare} y) ∗ ((m8).view.loc (thr' d i) ↦{fullShare} f8)
      ∗ (∀ m, inv1 d i x y 552 m -∗ Q m))
      ⊢ (wp frame (wpE (defs₀ (F := F)) 𝒱₀ (thr' d i) none) Set.univ
          (Scf.Loop.for k0_t1_loop k0_t1_ok (initV, initV) (b1 i m6 m7 m8)) Q : sProp 𝕄) := by
  iintro ⟨H6, H7, H8, HQ⟩
  iapply (Scf.wp_for _ _ _ _ _ _ k0_t1_ok _ _ (inv1 d i x y) ?h)
  case h =>
    intro k m
    have hk : k.val < 552 := Nat.lt_of_lt_of_le k.isLt k0_t1_abs.2.1
    unfold inv1
    iintro ⟨%hm, H6, H7, %g8, %h8, H8⟩
    sl_unfold [b1]
    sl_exec
    sl_step
    isplitr
    · ipureintro
      subst hm
      rw [readAt_seg _ _ _ (k0_off2_eq k), readAt_seg _ _ _ (k0_off2_eq k)]
      rfl
    isplitl [H6]; · iexact H6
    isplitl [H7]; · iexact H7
    iexists _
    isplitr
    rotate_left
    · iexact H8
    · ipureintro
      intro s hs
      refine (seg_writes (Val := Elt F) (m8).view g8 _ _ (k0_off2_eq k) (by omega) []).trans ?_
      split
      · next h =>
        subst h
        rw [readAt_seg _ _ _ (k0_off2_eq k), readAt_seg _ _ _ (k0_off2_eq k), rd_eq]
        rfl
      · exact h8 s (by omega)
  isplitr [HQ]
  · unfold inv1
    isplitr
    · ipureintro; rfl
    isplitl [H6]; · iexact H6
    isplitl [H7]; · iexact H7
    iexists f8
    isplitr
    · ipureintro; intro s hs; omega
    · iexact H8
  · iexact HQ

/-- Whether a carried offset, the two arrays of kept segments and the count agree: the offset is
    the number of segments kept of the first `j`, which lie in order at the front of the arrays. -/
def Kept (j : ℕ) (f6 f9 : S8832.Idx → F .f32) : Prop :=
  ∀ t (h : t < (kept C x y j).length),
    seg f6 t = dif x y ((kept C x y j)[t]'h) ∧ seg f9 t = posF C (BitVec.ofNat 32 ((kept C x y j)[t]'h))

/-- One more segment, stored at the front's end, kept or not. -/
theorem Kept_succ {j : ℕ} {f6 f9 g6 g9 : S8832.Idx → F .f32} (h : Kept C x y j f6 f9) (hj : j < 552)
    (h6 : ∀ s < 552, seg g6 s = if s = (kept C x y j).length then dif x y j else seg f6 s)
    (h9 : ∀ s < 552, seg g9 s = if s = (kept C x y j).length then posF C (BitVec.ofNat 32 j) else seg f9 s) :
    Kept C x y (j + 1) g6 g9 := by
  intro t ht
  have hl := kept_length_le C x y (j + 1)
  rw [h6 t (by omega), h9 t (by omega)]
  have e := kept_succ C x y j
  by_cases hk : keepB C (thrI C x y) (dif x y j)
  · rw [if_pos hk] at e
    simp only [e, List.length_append, List.length_singleton] at ht
    by_cases hlt : t < (kept C x y j).length
    · have : (kept C x y (j + 1))[t] = (kept C x y j)[t] := by simp only [e]; exact List.getElem_append_left hlt
      rw [this, if_neg (by omega), if_neg (by omega)]
      exact h t hlt
    · have : (kept C x y (j + 1))[t] = j := by
        simp only [e]
        rw [List.getElem_append_right (by omega)]
        simp
      rw [this, if_pos (by omega), if_pos (by omega)]
      exact ⟨rfl, rfl⟩
  · rw [if_neg hk, List.append_nil] at e
    simp only [e] at ht ⊢
    rw [if_neg (by omega), if_neg (by omega)]
    exact h t ht

/-- The second pass, at segment `j`. -/
def inv2 (f8 : S8832.Idx → F .f32) (j : ℕ) (off : BitVec 32) : sProp 𝕄 :=
  iprop(⌜off = BitVec.ofNat 32 (kept C x y j).length⌝ ∗ ((m8).view.loc (thr' d i) ↦{fullShare} f8)
    ∗ ∃ f6 f9 : S8832.Idx → F .f32, ⌜Kept C x y j f6 f9⌝ ∗ ((m6).view.loc (thr' d i) ↦{fullShare} f6)
      ∗ ((m9).view.loc (thr' d i) ↦{fullShare} f9))

/-- The second loop: the segments kept moved to the front. -/
theorem for2 (Q : BitVec 32 → sProp 𝕄) (f8 : S8832.Idx → F .f32) (h8 : ∀ s < 552, seg f8 s = dif x y s)
    (f6 f9 : S8832.Idx → F .f32) :
    iprop(((m6).view.loc (thr' d i) ↦{fullShare} f6) ∗ ((m9).view.loc (thr' d i) ↦{fullShare} f9) ∗ ((m8).view.loc (thr' d i) ↦{fullShare} f8)
      ∗ (∀ v, inv2 d i C x y f8 552 v -∗ Q v))
      ⊢ (wp frame (wpE (defs₀ (F := F)) 𝒱₀ (thr' d i) none) Set.univ
          (Scf.Loop.for k0_t2_loop k0_t2_ok 0#32 (b2 i C m6 m8 m9 (tops x y 552))) Q : sProp 𝕄) := by
  iintro ⟨H6, H9, H8, HQ⟩
  iapply (Scf.wp_for _ _ _ _ _ _ k0_t2_ok _ _ (inv2 d i C x y f8) ?h)
  case h =>
    intro k off
    have hk : k.val < 552 := Nat.lt_of_lt_of_le k.isLt k0_t2_abs.2.1
    have hl := kept_length_le C x y k.val
    have hc := chk1_of (n := (kept C x y k.val).length) (by omega)
    have ho := off4_eq (n := (kept C x y k.val).length) (by omega)
    unfold inv2
    iintro ⟨%hoff, H8, %g6, %g9, %hK, H6, H9⟩
    subst hoff
    sl_unfold [b2]
    sl_exec
    sl_step
    isplitr
    · ipureintro
      rw [keepF_eq, readAt_seg _ _ _ (k0_off3_eq k), kept_succ]
      show _ + (if keepB C (thrI C x y) (seg f8 k.val) then _ else _) = _
      rw [h8 _ hk]
      split
      · rw [List.length_append, List.length_singleton, BitVec.ofNat_add]
      · rw [List.append_nil, BitVec.add_zero]
    isplitl [H8]; · iexact H8
    iexists _, _
    isplitr
    rotate_left
    · isplitl [H6]
      · iexact H6
      · iexact H9
    · ipureintro
      refine Kept_succ C x y hK hk ?_ ?_
      · intro s hs
        refine (seg_writes (Val := Elt F) (m6).view g6 _ _ ho hs []).trans ?_
        rw [readAt_seg _ _ _ (k0_off3_eq k), rd_eq, rd_eq]
        congr 1
        exact h8 _ hk
      · intro s hs
        refine (seg_writes (Val := Elt F) (m9).view g9 _ _ ho hs []).trans ?_
        rw [rd_eq, iv_eq]
        rfl
  isplitr [HQ]
  · unfold inv2
    isplitr
    · ipureintro; rfl
    isplitl [H8]; · iexact H8
    iexists f6, f9
    isplitr
    · ipureintro; intro t ht; exact absurd ht (Nat.not_lt_zero _)
    · isplitl [H6]
      · iexact H6
      · iexact H9
  · iexact HQ

/-- The merge, at kept segment `k`. -/
def inv3 (f6 f9 : S8832.Idx → F .f32) (k : ℕ) (q : Q F) : sProp 𝕄 :=
  iprop(⌜q = fold C x y k⌝ ∗ ((m6).view.loc (thr' d i) ↦{fullShare} f6) ∗ ((m9).view.loc (thr' d i) ↦{fullShare} f9))

/-- The third loop: the segments kept merged into the 32 best. -/
theorem for3 (Q' : Q F → sProp 𝕄) (f6 f9 : S8832.Idx → F .f32) (hK : Kept C x y 552 f6 f9) (v : BitVec 32)
    (hv : v = BitVec.ofNat 32 (kept C x y 552).length) (hw : k0_chk2 v) :
    iprop(((m6).view.loc (thr' d i) ↦{fullShare} f6) ∗ ((m9).view.loc (thr' d i) ↦{fullShare} f9)
      ∗ (((m6).view.loc (thr' d i) ↦{fullShare} f6) ∗ ((m9).view.loc (thr' d i) ↦{fullShare} f9) -∗ Q' (best C x y)))
      ⊢ (wp frame (wpE (defs₀ (F := F)) 𝒱₀ (thr' d i) none) Set.univ
          (Scf.Loop.for (k0_t3_loop v) (k0_t3_ok v hw) initQ (b3 i C m6 m9 v hw)) Q' : sProp 𝕄) := by
  have hl := kept_length_le C x y 552
  have htr : (k0_t3_loop v).trips = (kept C x y 552).length := by subst hv; exact (trips3_eq hl).1
  iintro ⟨H6, H9, HQ⟩
  iapply (Scf.wp_for _ _ _ _ _ _ (k0_t3_ok v hw) _ _ (inv3 d i C x y f6 f9) ?h)
  case h =>
    intro k q
    have hk : k.val < (kept C x y 552).length := lt_of_lt_of_eq k.isLt htr
    unfold inv3
    iintro ⟨%hq, H6, H9⟩
    sl_unfold [b3]
    sl_exec
    sl_step
    isplitr
    · ipureintro
      subst hq
      rw [readAt_seg _ _ _ (off5_eq k (by omega)), readAt_seg _ _ _ (off5_eq k (by omega)), rd_eq, rd_eq]
      obtain ⟨e6, e9⟩ := hK k.val hk
      unfold fold
      rw [List.take_succ_eq_append_getElem hk, List.foldl_append]
      show mergeF C _ (seg f6 k.val, seg f9 k.val) = mergeF C _ (segKV C x y _)
      rw [e6, e9]
      rfl
    isplitl [H6]
    · iexact H6
    · iexact H9
  isplitr [HQ]
  · unfold inv3
    isplitr
    · ipureintro; rfl
    isplitl [H6]
    · iexact H6
    · iexact H9
  · iintro %q HI
    unfold inv3
    icases HI with ⟨%hq, H6, H9⟩
    have e : q = best C x y := by
      rw [hq, show Scf.trips _ _ _ = _ from htr]; unfold fold best; rw [List.take_length]
    subst e
    iapply HQ
    isplitl [H6]
    · iexact H6
    · iexact H9

/-- The two passes and the merge leave the 32 best of the image's scores. -/
theorem loop_run (Q' : Q F → sProp 𝕄) (f8 f9 : S8832.Idx → F .f32) :
    iprop(((m6).view.loc (thr' d i) ↦{fullShare} x) ∗ ((m7).view.loc (thr' d i) ↦{fullShare} y)
      ∗ ((m8).view.loc (thr' d i) ↦{fullShare} f8) ∗ ((m9).view.loc (thr' d i) ↦{fullShare} f9)
      ∗ ((∃ f, (m6).view.loc (thr' d i) ↦{fullShare} f) -∗ (∃ f, (m7).view.loc (thr' d i) ↦{fullShare} f)
        -∗ (∃ f, (m8).view.loc (thr' d i) ↦{fullShare} f) -∗ (∃ f, (m9).view.loc (thr' d i) ↦{fullShare} f) -∗ Q' (best C x y)))
      ⊢ (wp frame (wpE (defs₀ (F := F)) 𝒱₀ (thr' d i) none) Set.univ (loopP i C m6 m7 m8 m9) Q' : sProp 𝕄) := by
  iintro ⟨H6, H7, H8, H9, HQ⟩
  unfold loopP
  rw [wp_bind]
  iapply (for1 d i x y _ f8)
  isplitl [H6]; · iexact H6
  isplitl [H7]; · iexact H7
  isplitl [H8]; · iexact H8
  iintro %m HI
  unfold inv1
  icases HI with ⟨%hm, H6, H7, %g8, %h8, H8⟩
  subst hm
  rw [wp_bind]
  iapply (for2 d i C x y _ g8 h8 x f9)
  isplitl [H6]; · iexact H6
  isplitl [H9]; · iexact H9
  isplitl [H8]; · iexact H8
  iintro %v HI
  unfold inv2
  icases HI with ⟨%hv, H8, %g6, %g9, %hK, H6, H9⟩
  have hw : k0_chk2 v := by subst hv; exact chk2_of (kept_length_le C x y 552)
  sl_exec
  iapply (for3 d i C x y _ g6 g9 hK v hv hw)
  isplitl [H6]; · iexact H6
  isplitl [H9]; · iexact H9
  iintro ⟨H6, H9⟩
  iapply HQ $$ [H6] [H7] [H8] [H9]
  · iexists _; iexact H6
  · iexists _; iexact H7
  · iexists _; iexact H8
  · iexists _; iexact H9

end loops

end Cert.Proof.Mine
-- ==== Proof.ImgRun.lean ====
/- The run of one image on a tile: each chunk of the program leaves what the functions of the
   image's scores say. -/
module

public import proofs.«01_k».proof.Proof.Image
public import proofs.«01_k».proof.Proof.Run
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Mine

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "m6" => (Memref.whole cc0_scratch0 : Memref Cert.KernelIdeal.sig Kind.scVector Space.vmem Cert.KernelIdeal.S8832 EltTy.f32)
local notation "m7" => (Memref.whole cc0_scratch1 : Memref Cert.KernelIdeal.sig Kind.scVector Space.vmem Cert.KernelIdeal.S8832 EltTy.f32)
local notation "m8" => (Memref.whole cc0_scratch2 : Memref Cert.KernelIdeal.sig Kind.scVector Space.vmem Cert.KernelIdeal.S8832 EltTy.f32)
local notation "m9" => (Memref.whole cc0_scratch3 : Memref Cert.KernelIdeal.sig Kind.scVector Space.vmem Cert.KernelIdeal.S8832 EltTy.f32)
local notation "m10" => (Memref.whole cc0_scratch4 : Memref Cert.KernelIdeal.sig Kind.scVector Space.vmem Cert.KernelIdeal.S32 EltTy.f32)
local notation "m11" => (Memref.whole cc0_scratch5 : Memref Cert.KernelIdeal.sig Kind.scVector Space.vmem Cert.KernelIdeal.S32 EltTy.i32)

local notation "m2" => (Memref.whole main_v5_scv : Memref Cert.KernelIdeal.sig Kind.scVector Space.hbm Cert.KernelIdeal.S1130496 EltTy.f32)
local notation "m3" => (Memref.whole main_v7_scv : Memref Cert.KernelIdeal.sig Kind.scVector Space.hbm Cert.KernelIdeal.S1130496 EltTy.f32)
local notation "m4" => (Memref.whole main_v8_0_scv : Memref Cert.KernelIdeal.sig Kind.scVector Space.hbm Cert.KernelIdeal.S4096 EltTy.f32)
local notation "m5" => (Memref.whole main_v8_1_scv : Memref Cert.KernelIdeal.sig Kind.scVector Space.hbm Cert.KernelIdeal.S4096 EltTy.i32)

variable [FloatOps F] [Named F]

section io
variable (d : Dev nD) (i : grid0.Coords)

/-- An image's part of the first scores, as the tile addresses it. -/
abbrev sl2 (o : Fin 1 → Nat) (ho : ∀ a, o a + S8832.size a ≤ S1130496.size a) := (m2).slice (Rect.unit (s := S1130496) o S8832.size ho) (fun _ => rfl)
/-- An image's part of the second scores, as the tile addresses it. -/
abbrev sl3 (o : Fin 1 → Nat) (ho : ∀ a, o a + S8832.size a ≤ S1130496.size a) := (m3).slice (Rect.unit (s := S1130496) o S8832.size ho) (fun _ => rfl)
/-- An image's part of the keys, as the tile addresses it. -/
abbrev sl4 (o : Fin 1 → Nat) (ho : ∀ a, o a + S32.size a ≤ S4096.size a) := (m4).slice (Rect.unit (s := S4096) o S32.size ho) (fun _ => rfl)
/-- An image's part of the indices, as the tile addresses it. -/
abbrev sl5 (o : Fin 1 → Nat) (ho : ∀ a, o a + S32.size a ≤ S4096.size a) := (m5).slice (Rect.unit (s := S4096) o S32.size ho) (fun _ => rfl)

/-- An image's pieces before: its scores, and its part of the results at any contents. -/
def imgIn (o : Fin 1 → Nat) (ho : ∀ a, o a + S8832.size a ≤ S1130496.size a) (o' : Fin 1 → Nat) (ho' : ∀ a, o' a + S32.size a ≤ S4096.size a)
    (S0 S1 : S1130496.Idx → F .f32) : sProp 𝕄 :=
  iprop(((sl2 o ho).view.loc (thr' d i) ↦[(sl2 o ho).view.set]{fullShare} S0) ∗ ((sl3 o ho).view.loc (thr' d i) ↦[(sl3 o ho).view.set]{fullShare} S1)
    ∗ (∃ f4, (sl4 o' ho').view.loc (thr' d i) ↦[(sl4 o' ho').view.set]{fullShare} f4) ∗ (∃ f5, (sl5 o' ho').view.loc (thr' d i) ↦[(sl5 o' ho').view.set]{fullShare} f5))

/-- An image's pieces after. -/
def imgOut (o : Fin 1 → Nat) (ho : ∀ a, o a + S8832.size a ≤ S1130496.size a) (o' : Fin 1 → Nat) (ho' : ∀ a, o' a + S32.size a ≤ S4096.size a)
    (C : Consts F) (S0 S1 : S1130496.Idx → F .f32) : sProp 𝕄 :=
  iprop(((sl2 o ho).view.loc (thr' d i) ↦[(sl2 o ho).view.set]{fullShare} S0) ∗ ((sl3 o ho).view.loc (thr' d i) ↦[(sl3 o ho).view.set]{fullShare} S1)
    ∗ ((sl4 o' ho').view.loc (thr' d i) ↦[(sl4 o' ho').view.set]{fullShare} outK C S0 S1) ∗ ((sl5 o' ho').view.loc (thr' d i) ↦[(sl5 o' ho').view.set]{fullShare} outI C S0 S1))

/-- The tile's buffers, at any contents. -/
def bufs : sProp 𝕄 :=
  iprop((∃ f, (m6).view.loc (thr' d i) ↦{fullShare} f) ∗ (∃ f, (m7).view.loc (thr' d i) ↦{fullShare} f)
    ∗ (∃ f, (m8).view.loc (thr' d i) ↦{fullShare} f) ∗ (∃ f, (m9).view.loc (thr' d i) ↦{fullShare} f)
    ∗ (∃ f, (m10).view.loc (thr' d i) ↦{fullShare} f) ∗ (∃ f, (m11).view.loc (thr' d i) ↦{fullShare} f))

/-- Reading the block of image `g` gives the image's part. -/
theorem part_read (f : S1130496.Idx → F .f32) {o : Fin 1 → Nat} (ho : ∀ a, o a + S8832.size a ≤ S1130496.size a) {g : ℕ} (hg : g < 128) (e : o = ![8832 * g]) :
    (fun x : S8832.Idx => f ((Rect.unit (s := S1130496) o S8832.size ho).emb x)) = part f g := by
  subst e
  funext n
  have hn : (n 0).val < 8832 := (n 0).isLt
  unfold part
  congr 1
  funext a
  match a with
  | ⟨0, _⟩ =>
    apply Fin.ext
    show 8832 * g + 1 * (n 0).val = (8832 * g + (n 0).val) % 1130496
    omega

/-- The cast of a vector to positions. -/
theorem toI_eq (x : V F) : toI x = toIv x := shapeCast_id _ _

/-- The keys written through an image's part are the keys of all images there. -/
theorem outK_on (C : Consts F) (S0 S1 : S1130496.Idx → F .f32) {o : Fin 1 → Nat} (ho : ∀ a, o a + S32.size a ≤ S4096.size a) {g : ℕ} (e : o = ![32 * g])
    (f4 : S4096.Idx → F .f32) (w : S32.Idx → F .f32) (hw : w = half (bestG C S0 S1 g).1 (bestG C S0 S1 g).2.2.1) :
    ∀ j ∈ (sl4 o ho).view.set, ((sl4 o ho).view.writes (Elt F) f4 [⟨Rect.whole (Rect.unit (s := S4096) o S32.size ho).shape, w⟩]) j = outK C S0 S1 j := by
  intro j hj
  obtain ⟨l, -, rfl⟩ := Finset.mem_map.mp hj
  refine (congrFun (read_writes_whole (Val := Elt F) (sl4 o ho).view f4 w) l).trans ?_
  subst hw e
  have hl : (l 0).val < 32 := (l 0).isLt
  have hv : (((sl4 ![32 * g] ho).view.emb l) 0).val = 32 * g + (l 0).val := by
    show 32 * g + 1 * (l 0).val = _
    omega
  unfold outK
  simp only [hv]
  have h1 : (32 * g + (l 0).val) / 32 = g := by omega
  have h2 : (32 * g + (l 0).val) % 32 = (l 0).val := by omega
  simp only [h1, h2]
  congr 1
  exact ValueIdx.eq_ix1 l

/-- The indices written through an image's part are the indices of all images there. -/
theorem outI_on (C : Consts F) (S0 S1 : S1130496.Idx → F .f32) {o : Fin 1 → Nat} (ho : ∀ a, o a + S32.size a ≤ S4096.size a) {g : ℕ} (e : o = ![32 * g])
    (f5 : S4096.Idx → BitVec 32) (w : S32.Idx → BitVec 32) (hw : w = half (toIv (bestG C S0 S1 g).2.1) (toIv (bestG C S0 S1 g).2.2.2)) :
    ∀ j ∈ (sl5 o ho).view.set, ((sl5 o ho).view.writes (Elt F) f5 [⟨Rect.whole (Rect.unit (s := S4096) o S32.size ho).shape, w⟩]) j = outI C S0 S1 j := by
  intro j hj
  obtain ⟨l, -, rfl⟩ := Finset.mem_map.mp hj
  refine (congrFun (read_writes_whole (Val := Elt F) (sl5 o ho).view f5 w) l).trans ?_
  subst hw e
  have hl : (l 0).val < 32 := (l 0).isLt
  have hv : (((sl5 ![32 * g] ho).view.emb l) 0).val = 32 * g + (l 0).val := by
    show 32 * g + 1 * (l 0).val = _
    omega
  unfold outI
  simp only [hv]
  have h1 : (32 * g + (l 0).val) / 32 = g := by omega
  have h2 : (32 * g + (l 0).val) % 32 = (l 0).val := by omega
  simp only [h1, h2]
  congr 1
  exact ValueIdx.eq_ix1 l

/-- The copies in: an image's two arrays of scores arrive in the tile's memory. -/
theorem in_run (O : CellTallies nD τ sig (HIx 1)) (W : Waits sig (HIx 1)) (ra rb : DmaSems sig S_) (o : Fin 1 → Nat) (ho : ∀ a, o a + S8832.size a ≤ S1130496.size a)
    {g : ℕ} (hg : g < 128) (e : o = ![8832 * g])
    (f2 f3 : S1130496.Idx → F .f32) (f6 f7 : S8832.Idx → F .f32) (Q : sProp 𝕄) :
    iprop(Transfers.MayWaits (thr' d i) (default : HIx 1) O
      ∗ ((sl2 o ho).view.loc (thr' d i) ↦[(sl2 o ho).view.set]{fullShare} f2) ∗ ((sl3 o ho).view.loc (thr' d i) ↦[(sl3 o ho).view.set]{fullShare} f3)
      ∗ ((m6).view.loc (thr' d i) ↦{fullShare} f6) ∗ ((m7).view.loc (thr' d i) ↦{fullShare} f7)
      ∗ semVal (thr' d i, SemLoc.dma ra.sem) 0 ∗ semVal (thr' d i, SemLoc.dma rb.sem) 0 ∗ owes (thr' d i) O W
      ∗ (((sl2 o ho).view.loc (thr' d i) ↦[(sl2 o ho).view.set]{fullShare} f2) -∗ ((sl3 o ho).view.loc (thr' d i) ↦[(sl3 o ho).view.set]{fullShare} f3)
      -∗ ((m6).view.loc (thr' d i) ↦{fullShare} part f2 g) -∗ ((m7).view.loc (thr' d i) ↦{fullShare} part f3 g)
      -∗ semVal (thr' d i, SemLoc.dma ra.sem) 0 -∗ semVal (thr' d i, SemLoc.dma rb.sem) 0 -∗ (∃ W', owes (thr' d i) O W') -∗ Q))
      ⊢ (wp frame (wpE (defs₀ (F := F)) 𝒱₀ (thr' d i) none) Set.univ
          (inP i m2 m3 m6 m7 (Memref.isWhole_whole _) (Memref.isWhole_whole _) ra rb o ho) (fun _ => Q) : sProp 𝕄) := by
  iintro ⟨#Hmw, H2, H3, H6, H7, Ha, Hb, HO, HQ⟩
  sl_unfold [inP]
  sl_exec (disch := exact View.amount_pos _ _ (show 0 < S8832.numel by decide))
  sl_step
  have e2 : View.write (Elt F) (m6).view f6 ((sl2 o ho).view.read (Elt F) f2) Finset.univ = part f2 g := by
    refine (View.write_whole_univ (Val := Elt F) cc0_scratch0 f6 _).trans ?_
    exact part_read f2 ho hg e
  have e3 : View.write (Elt F) (m7).view f7 ((sl3 o ho).view.read (Elt F) f3) Finset.univ = part f3 g := by
    refine (View.write_whole_univ (Val := Elt F) cc0_scratch1 f7 _).trans ?_
    exact part_read f3 ho hg e
  ihave H6' := (show ((m6).view.loc (thr' d i) ↦[Finset.univ]{fullShare} _ : sProp 𝕄) ⊢ ((m6).view.loc (thr' d i) ↦[Finset.univ]{fullShare} part f2 g) from
    Entails.of_eq (pointsTo_congr fun j _ => by exact congrFun e2 j)) $$ H6
  ihave H7' := (show ((m7).view.loc (thr' d i) ↦[Finset.univ]{fullShare} _ : sProp 𝕄) ⊢ ((m7).view.loc (thr' d i) ↦[Finset.univ]{fullShare} part f3 g) from
    Entails.of_eq (pointsTo_congr fun j _ => by exact congrFun e3 j)) $$ H7
  iapply HQ $$ [H2] [H3] [H6'] [H7'] [Ha] [Hb] [HO]
  · iexact H2
  · iexact H3
  · iexact H6'
  · iexact H7'
  · iexact Ha
  · iexact Hb
  · iexists _; iexact HO

/-- The stores of the mask: the second scores end with the padding masked. -/
theorem mask_run (C : Consts F) (f7 : S8832.Idx → F .f32) (Q : sProp 𝕄) :
    iprop(((m7).view.loc (thr' d i) ↦{fullShare} f7) ∗ (((m7).view.loc (thr' d i) ↦{fullShare} maskI C f7) -∗ Q))
      ⊢ (wp frame (wpE (defs₀ (F := F)) 𝒱₀ (thr' d i) none) Set.univ
          (maskP i C m7) (fun _ => Q) : sProp 𝕄) := by
  iintro ⟨H7, HQ⟩
  sl_unfold [maskP]
  sl_exec
  sl_step
  have e : (m7).view.writes (Elt F) f7
      [⟨Rect.unit ![8816] S16.size inb_S8832_S16_8816, rd maskV⟩,
        ⟨Rect.unit ![8800] S16.size inb_S8832_S16_8800, rd maskV⟩,
        ⟨Rect.unit ![8784] S16.size inb_S8832_S16_8784, rd maskV⟩,
        ⟨Rect.unit ![8768] S16.size inb_S8832_S16_8768, rd maskV⟩,
        ⟨Rect.unit ![8752] S16.size inb_S8832_S16_8752, rd maskV⟩,
        ⟨Rect.unit ![8736] S16.size inb_S8832_S16_8736, rd maskV⟩,
        ⟨Rect.unit ![8720] S16.size inb_S8832_S16_8720,
          rd (tailF C (View.readAt (Elt F) (m7).view (Rect.unit (s := S8832) ![8720] S16.size inb_S8832_S16_8720).toLoadRect f7))⟩] = maskI C f7 := by
    apply seg_ext
    intro s hs
    rw [seg_maskI C f7 hs]
    refine (seg_writes (Val := Elt F) (m7).view f7 (s := 551) _ _ rfl hs _).trans ?_
    rw [seg_writes (Val := Elt F) (m7).view f7 (s := 550) _ _ rfl hs _, seg_writes (Val := Elt F) (m7).view f7 (s := 549) _ _ rfl hs _,
      seg_writes (Val := Elt F) (m7).view f7 (s := 548) _ _ rfl hs _, seg_writes (Val := Elt F) (m7).view f7 (s := 547) _ _ rfl hs _,
      seg_writes (Val := Elt F) (m7).view f7 (s := 546) _ _ rfl hs _, seg_writes (Val := Elt F) (m7).view f7 (s := 545) _ _ rfl hs _,
      readAt_seg (Val := Elt F) (m7).view f7 (s := 545) _ rfl]
    simp only [rd_eq]
    by_cases h : s < 545
    · rw [if_neg (by omega), if_neg (by omega), if_neg (by omega), if_neg (by omega), if_neg (by omega), if_neg (by omega), if_neg (by omega), if_pos h]
      rfl
    · rw [if_neg h]
      by_cases h' : s = 545
      · subst h'
        rfl
      · rw [if_neg h']
        repeat' split
        all_goals first | rfl | omega
  ihave H7' := (show ((m7).view.loc (thr' d i) ↦{fullShare} (m7).view.writes (Elt F) f7 _ : sProp 𝕄)
      ⊢ ((m7).view.loc (thr' d i) ↦{fullShare} maskI C f7) from by rw [e]) $$ H7
  iapply HQ
  iexact H7'

/-- The copies out: an image's 32 keys and indices arrive in the two results. -/
theorem out_run (O : CellTallies nD τ sig (HIx 1)) (W : Waits sig (HIx 1)) (ra rb : DmaSems sig S_) (o : Fin 1 → Nat) (ho : ∀ a, o a + S32.size a ≤ S4096.size a)
    {g : ℕ} (e : o = ![32 * g]) (C : Consts F) (S0 S1 : S1130496.Idx → F .f32)
    (f4 : S4096.Idx → F .f32) (f5 : S4096.Idx → BitVec 32) (f6 : S32.Idx → F .f32) (f7 : S32.Idx → BitVec 32) (Q : sProp 𝕄) :
    iprop(Transfers.MayWaits (thr' d i) (default : HIx 1) O
      ∗ ((sl4 o ho).view.loc (thr' d i) ↦[(sl4 o ho).view.set]{fullShare} f4) ∗ ((sl5 o ho).view.loc (thr' d i) ↦[(sl5 o ho).view.set]{fullShare} f5)
      ∗ ((m10).view.loc (thr' d i) ↦{fullShare} f6) ∗ ((m11).view.loc (thr' d i) ↦{fullShare} f7)
      ∗ semVal (thr' d i, SemLoc.dma ra.sem) 0 ∗ semVal (thr' d i, SemLoc.dma rb.sem) 0 ∗ owes (thr' d i) O W
      ∗ (((sl4 o ho).view.loc (thr' d i) ↦[(sl4 o ho).view.set]{fullShare} outK C S0 S1) -∗ ((sl5 o ho).view.loc (thr' d i) ↦[(sl5 o ho).view.set]{fullShare} outI C S0 S1)
      -∗ (∃ f, (m10).view.loc (thr' d i) ↦{fullShare} f) -∗ (∃ f, (m11).view.loc (thr' d i) ↦{fullShare} f)
      -∗ semVal (thr' d i, SemLoc.dma ra.sem) 0 -∗ semVal (thr' d i, SemLoc.dma rb.sem) 0 -∗ (∃ W', owes (thr' d i) O W') -∗ Q))
      ⊢ (wp frame (wpE (defs₀ (F := F)) 𝒱₀ (thr' d i) none) Set.univ
          (outP i m4 m5 m10 m11 (Memref.isWhole_whole _) (Memref.isWhole_whole _) ra rb o ho (bestG C S0 S1 g)) (fun _ => Q) : sProp 𝕄) := by
  iintro ⟨#Hmw, H2, H3, H6, H7, Ha, Hb, HO, HQ⟩
  sl_unfold [outP]
  sl_exec (disch := exact View.amount_pos _ _ (show 0 < S32.numel by decide))
  sl_step
  ihave H4' := (show ((sl4 o ho).view.loc (thr' d i) ↦[(sl4 o ho).view.set]{fullShare} _ : sProp 𝕄)
      ⊢ ((sl4 o ho).view.loc (thr' d i) ↦[(sl4 o ho).view.set]{fullShare} outK C S0 S1) from
    Entails.of_eq (pointsTo_congr (outK_on C S0 S1 ho e f4 _ (by
      refine (read_half (Val := Elt F) (m10).view f6 _ _).trans ?_
      rw [rd_eq, rd_eq])))) $$ H2
  ihave H5' := (show ((sl5 o ho).view.loc (thr' d i) ↦[(sl5 o ho).view.set]{fullShare} _ : sProp 𝕄)
      ⊢ ((sl5 o ho).view.loc (thr' d i) ↦[(sl5 o ho).view.set]{fullShare} outI C S0 S1) from
    Entails.of_eq (pointsTo_congr (outI_on C S0 S1 ho e f5 _ (by
      refine (read_half (Val := Elt F) (m11).view f7 _ _).trans ?_
      rw [toI_eq, toI_eq])))) $$ H3
  iapply HQ $$ [H4'] [H5'] [H6] [H7] [Ha] [Hb] [HO]
  · iexact H4'
  · iexact H5'
  · iexists _; iexact H6
  · iexists _; iexact H7
  · iexact Ha
  · iexact Hb
  · iexists _; iexact HO

/-- One image's run: its part of the results holds what the image's scores determine. -/
theorem img_run (O : CellTallies nD τ sig (HIx 1)) (W : Waits sig (HIx 1)) (ra rb rc rd' : DmaSems sig S_) (o : Fin 1 → Nat)
    (ho : ∀ a, o a + S8832.size a ≤ S1130496.size a) (o' : Fin 1 → Nat) (ho' : ∀ a, o' a + S32.size a ≤ S4096.size a)
    {g : ℕ} (hg : g < 128) (e : o = ![8832 * g]) (e' : o' = ![32 * g]) (C : Consts F) (S0 S1 : S1130496.Idx → F .f32) (Q : sProp 𝕄) :
    iprop(Transfers.MayWaits (thr' d i) (default : HIx 1) O ∗ imgIn d i o ho o' ho' S0 S1 ∗ bufs d i
      ∗ semVal (thr' d i, SemLoc.dma ra.sem) 0 ∗ semVal (thr' d i, SemLoc.dma rb.sem) 0
      ∗ semVal (thr' d i, SemLoc.dma rc.sem) 0 ∗ semVal (thr' d i, SemLoc.dma rd'.sem) 0 ∗ owes (thr' d i) O W
      ∗ (imgOut d i o ho o' ho' C S0 S1 -∗ bufs d i -∗ semVal (thr' d i, SemLoc.dma ra.sem) 0 -∗ semVal (thr' d i, SemLoc.dma rb.sem) 0
      -∗ semVal (thr' d i, SemLoc.dma rc.sem) 0 -∗ semVal (thr' d i, SemLoc.dma rd'.sem) 0 -∗ (∃ W', owes (thr' d i) O W') -∗ Q))
      ⊢ (wp frame (wpE (defs₀ (F := F)) 𝒱₀ (thr' d i) none) Set.univ
          (imgP i C m2 m3 m4 m5 m6 m7 m8 m9 m10 m11 (Memref.isWhole_whole _) (Memref.isWhole_whole _) (Memref.isWhole_whole _) (Memref.isWhole_whole _)
            ra rb rc rd' o ho o' ho') (fun _ => Q) : sProp 𝕄) := by
  unfold imgIn imgOut bufs
  iintro ⟨#Hmw, ⟨H2, H3, ⟨%f4, H4⟩, ⟨%f5, H5⟩⟩, ⟨⟨%f6, H6⟩, ⟨%f7, H7⟩, ⟨%f8, H8⟩, ⟨%f9, H9⟩, ⟨%f10, H10⟩, ⟨%f11, H11⟩⟩, Ha, Hb, Hc, Hd, HO, HQ⟩
  unfold imgP
  rw [wp_bind]
  iapply (in_run d i O W ra rb o ho hg e S0 S1 f6 f7)
  isplitr; · iexact Hmw
  isplitl [H2]; · iexact H2
  isplitl [H3]; · iexact H3
  isplitl [H6]; · iexact H6
  isplitl [H7]; · iexact H7
  isplitl [Ha]; · iexact Ha
  isplitl [Hb]; · iexact Hb
  isplitl [HO]; · iexact HO
  iintro H2 H3 H6 H7 Ha Hb ⟨%W1, HO⟩
  rw [wp_bind]
  iapply (mask_run d i C)
  isplitl [H7]; · iexact H7
  iintro H7
  rw [wp_bind]
  iapply (loop_run d i C)
  isplitl [H6]; · iexact H6
  isplitl [H7]; · iexact H7
  isplitl [H8]; · iexact H8
  isplitl [H9]; · iexact H9
  iintro ⟨%g6, H6⟩ ⟨%g7, H7⟩ ⟨%g8, H8⟩ ⟨%g9, H9⟩
  iapply (out_run d i O W1 rc rd' o' ho' e' C S0 S1 f4 f5 f10 f11)
  isplitr; · iexact Hmw
  isplitl [H4]; · iexact H4
  isplitl [H5]; · iexact H5
  isplitl [H10]; · iexact H10
  isplitl [H11]; · iexact H11
  isplitl [Hc]; · iexact Hc
  isplitl [Hd]; · iexact Hd
  isplitl [HO]; · iexact HO
  iintro H4 H5 H10 H11 Hc Hd HO
  iapply HQ $$ [H2 H3 H4 H5] [H6 H7 H8 H9 H10 H11] [Ha] [Hb] [Hc] [Hd] [HO]
  · isplitl [H2]; · iexact H2
    isplitl [H3]; · iexact H3
    isplitl [H4]; · iexact H4
    iexact H5
  · isplitl [H6]; · iexists _; iexact H6
    isplitl [H7]; · iexists _; iexact H7
    isplitl [H8]; · iexists _; iexact H8
    isplitl [H9]; · iexists _; iexact H9
    isplitl [H10]; · iexact H10
    iexact H11
  · iexact Ha
  · iexact Hb
  · iexact Hc
  · iexact Hd
  · iexact HO

end io

end Cert.Proof.Mine
-- ==== Proof.Tile.lean ====
/- A tile: the four images it handles, from its pieces of the arrays to its pieces of the results. -/
module

public import proofs.«01_k».proof.Proof.ImgRun
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Mine

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "m6" => (Memref.whole cc0_scratch0 : Memref Cert.KernelIdeal.sig Kind.scVector Space.vmem Cert.KernelIdeal.S8832 EltTy.f32)
local notation "m7" => (Memref.whole cc0_scratch1 : Memref Cert.KernelIdeal.sig Kind.scVector Space.vmem Cert.KernelIdeal.S8832 EltTy.f32)
local notation "m8" => (Memref.whole cc0_scratch2 : Memref Cert.KernelIdeal.sig Kind.scVector Space.vmem Cert.KernelIdeal.S8832 EltTy.f32)
local notation "m9" => (Memref.whole cc0_scratch3 : Memref Cert.KernelIdeal.sig Kind.scVector Space.vmem Cert.KernelIdeal.S8832 EltTy.f32)
local notation "m10" => (Memref.whole cc0_scratch4 : Memref Cert.KernelIdeal.sig Kind.scVector Space.vmem Cert.KernelIdeal.S32 EltTy.f32)
local notation "m11" => (Memref.whole cc0_scratch5 : Memref Cert.KernelIdeal.sig Kind.scVector Space.vmem Cert.KernelIdeal.S32 EltTy.i32)

local notation "m2" => (Memref.whole main_v5_scv : Memref Cert.KernelIdeal.sig Kind.scVector Space.hbm Cert.KernelIdeal.S1130496 EltTy.f32)
local notation "m3" => (Memref.whole main_v7_scv : Memref Cert.KernelIdeal.sig Kind.scVector Space.hbm Cert.KernelIdeal.S1130496 EltTy.f32)
local notation "m4" => (Memref.whole main_v8_0_scv : Memref Cert.KernelIdeal.sig Kind.scVector Space.hbm Cert.KernelIdeal.S4096 EltTy.f32)
local notation "m5" => (Memref.whole main_v8_1_scv : Memref Cert.KernelIdeal.sig Kind.scVector Space.hbm Cert.KernelIdeal.S4096 EltTy.i32)

variable [FloatOps F] [Named F]

variable (d : Dev nD) (i : grid0.Coords)

section tile
variable (d : Dev nD) (i : grid0.Coords)

/-- Where the arrays the tiles work on lie. -/
abbrev aLoc (d : Dev nD) : Loc nD τ sig := (SparseCore.T d).loc main_v5
abbrev bLoc (d : Dev nD) : Loc nD τ sig := (SparseCore.T d).loc main_v7
abbrev kLoc (d : Dev nD) : Loc nD τ sig := (SparseCore.T d).loc main_v8_0
abbrev nLoc (d : Dev nD) : Loc nD τ sig := (SparseCore.T d).loc main_v8_1

/-- The words of image `g` among the scores. -/
def setA (g : ℕ) : Finset S1130496.Idx := Finset.univ.filter fun x => 8832 * g ≤ (x 0).val ∧ (x 0).val < 8832 * g + 8832
/-- The words of image `g` among the results. -/
def setB (g : ℕ) : Finset S4096.Idx := Finset.univ.filter fun x => 32 * g ≤ (x 0).val ∧ (x 0).val < 32 * g + 32

/-- The words of an image in the first array. -/
theorem set_sl2 {o : Fin 1 → Nat} (ho : ∀ a, o a + S8832.size a ≤ S1130496.size a) {g : ℕ} (e : o = ![8832 * g]) :
    (sl2 o ho).view.set = setA g := by
  subst e
  show ((View.whole (main_v5_scv : Ref sig .scVector)).slice (Rect.unit (s := S1130496) ![8832 * g] S8832.size ho)).set = _
  rw [View.set_slice]
  refine Finset.map_refl.trans ?_
  ext x
  rw [Rect.mem_set_unit]
  simp only [setA, Finset.mem_filter, Finset.mem_univ, true_and]
  exact ⟨fun h => h 0, fun h a => match a with | ⟨0, _⟩ => h⟩

/-- The words of an image in the second array. -/
theorem set_sl3 {o : Fin 1 → Nat} (ho : ∀ a, o a + S8832.size a ≤ S1130496.size a) {g : ℕ} (e : o = ![8832 * g]) :
    (sl3 o ho).view.set = setA g := by
  subst e
  show ((View.whole (main_v7_scv : Ref sig .scVector)).slice (Rect.unit (s := S1130496) ![8832 * g] S8832.size ho)).set = _
  rw [View.set_slice]
  refine Finset.map_refl.trans ?_
  ext x
  rw [Rect.mem_set_unit]
  simp only [setA, Finset.mem_filter, Finset.mem_univ, true_and]
  exact ⟨fun h => h 0, fun h a => match a with | ⟨0, _⟩ => h⟩

/-- The words of an image in the keys. -/
theorem set_sl4 {o : Fin 1 → Nat} (ho : ∀ a, o a + S32.size a ≤ S4096.size a) {g : ℕ} (e : o = ![32 * g]) :
    (sl4 o ho).view.set = setB g := by
  subst e
  show ((View.whole (main_v8_0_scv : Ref sig .scVector)).slice (Rect.unit (s := S4096) ![32 * g] S32.size ho)).set = _
  rw [View.set_slice]
  refine Finset.map_refl.trans ?_
  ext x
  rw [Rect.mem_set_unit]
  simp only [setB, Finset.mem_filter, Finset.mem_univ, true_and]
  exact ⟨fun h => h 0, fun h a => match a with | ⟨0, _⟩ => h⟩

/-- The words of an image in the indices. -/
theorem set_sl5 {o : Fin 1 → Nat} (ho : ∀ a, o a + S32.size a ≤ S4096.size a) {g : ℕ} (e : o = ![32 * g]) :
    (sl5 o ho).view.set = setB g := by
  subst e
  show ((View.whole (main_v8_1_scv : Ref sig .scVector)).slice (Rect.unit (s := S4096) ![32 * g] S32.size ho)).set = _
  rw [View.set_slice]
  refine Finset.map_refl.trans ?_
  ext x
  rw [Rect.mem_set_unit]
  simp only [setB, Finset.mem_filter, Finset.mem_univ, true_and]
  exact ⟨fun h => h 0, fun h a => match a with | ⟨0, _⟩ => h⟩

variable (S0 S1 : S1130496.Idx → F .f32)

/-- Image `g`'s pieces before the call. -/
def pcIn (g : ℕ) : sProp 𝕄 :=
  iprop((aLoc d ↦[setA g]{fullShare} S0) ∗ (bLoc d ↦[setA g]{fullShare} S1)
    ∗ (∃ f, kLoc d ↦[setB g]{fullShare} f) ∗ (∃ f, nLoc d ↦[setB g]{fullShare} f))
/-- Image `g`'s pieces after the call. -/
def pcOut (g : ℕ) : sProp 𝕄 :=
  iprop((aLoc d ↦[setA g]{fullShare} S0) ∗ (bLoc d ↦[setA g]{fullShare} S1)
    ∗ (kLoc d ↦[setB g]{fullShare} outK kc S0 S1) ∗ (nLoc d ↦[setB g]{fullShare} outI kc S0 S1))

/-- What a turn starts from does not depend on how its places are written. -/
theorem imgIn_eq {o : Fin 1 → Nat} (ho : ∀ a, o a + S8832.size a ≤ S1130496.size a) {o' : Fin 1 → Nat} (ho' : ∀ a, o' a + S32.size a ≤ S4096.size a)
    {g : ℕ} (e : o = ![8832 * g]) (e' : o' = ![32 * g]) : imgIn d i o ho o' ho' S0 S1 = pcIn d S0 S1 g := by
  unfold imgIn pcIn
  rw [set_sl2 ho e, set_sl3 ho e, set_sl4 ho' e', set_sl5 ho' e']
/-- What a turn ends with does not depend on how its places are written. -/
theorem imgOut_eq {o : Fin 1 → Nat} (ho : ∀ a, o a + S8832.size a ≤ S1130496.size a) {o' : Fin 1 → Nat} (ho' : ∀ a, o' a + S32.size a ≤ S4096.size a)
    {g : ℕ} (e : o = ![8832 * g]) (e' : o' = ![32 * g]) : imgOut d i o ho o' ho' kc S0 S1 = pcOut d S0 S1 g := by
  unfold imgOut pcOut
  rw [set_sl2 ho e, set_sl3 ho e, set_sl4 ho' e', set_sl5 ho' e']

/-- Four copies' counters at zero. -/
abbrev sem4 (ra rb rc rd' : DmaSems sig S_) : sProp 𝕄 :=
  iprop(semVal (thr' d i, SemLoc.dma ra.sem) 0 ∗ semVal (thr' d i, SemLoc.dma rb.sem) 0
      ∗ semVal (thr' d i, SemLoc.dma rc.sem) 0 ∗ semVal (thr' d i, SemLoc.dma rd'.sem) 0)

/-- `img_run` over the pieces by image. -/
theorem img_run' (O : CellTallies nD τ sig (HIx 1)) (W : Waits sig (HIx 1)) (ra rb rc rd' : DmaSems sig S_) (o : Fin 1 → Nat)
    (ho : ∀ a, o a + S8832.size a ≤ S1130496.size a) (o' : Fin 1 → Nat) (ho' : ∀ a, o' a + S32.size a ≤ S4096.size a)
    {g : ℕ} (hg : g < 128) (e : o = ![8832 * g]) (e' : o' = ![32 * g]) (Q : sProp 𝕄) :
    iprop(Transfers.MayWaits (thr' d i) (default : HIx 1) O ∗ pcIn d S0 S1 g ∗ bufs d i
      ∗ sem4 d i ra rb rc rd' ∗ owes (thr' d i) O W
      ∗ (pcOut d S0 S1 g -∗ bufs d i -∗ sem4 d i ra rb rc rd' -∗ (∃ W', owes (thr' d i) O W') -∗ Q))
      ⊢ (wp frame (wpE (defs₀ (F := F)) 𝒱₀ (thr' d i) none) Set.univ
          (imgP i kc m2 m3 m4 m5 m6 m7 m8 m9 m10 m11 (Memref.isWhole_whole _) (Memref.isWhole_whole _) (Memref.isWhole_whole _) (Memref.isWhole_whole _)
            ra rb rc rd' o ho o' ho') (fun _ => Q) : sProp 𝕄) := by
  rw [← imgIn_eq d i S0 S1 ho ho' e e', ← imgOut_eq d i S0 S1 ho ho' e e']
  iintro ⟨#Hmw, Hin, Hbuf, ⟨Ha, Hb, Hc, Hd⟩, HO, HQ⟩
  iapply (img_run d i O W ra rb rc rd' o ho o' ho' hg e e' kc S0 S1 Q)
  isplitr; · iexact Hmw
  isplitl [Hin]; · iexact Hin
  isplitl [Hbuf]; · iexact Hbuf
  isplitl [Ha]; · iexact Ha
  isplitl [Hb]; · iexact Hb
  isplitl [Hc]; · iexact Hc
  isplitl [Hd]; · iexact Hd
  isplitl [HO]; · iexact HO
  iintro Hout Hbuf Ha Hb Hc Hd HO
  iapply HQ $$ [Hout] [Hbuf] [Ha Hb Hc Hd] [HO]
  · iexact Hout
  · iexact Hbuf
  · isplitl [Ha]; · iexact Ha
    isplitl [Hb]; · iexact Hb
    isplitl [Hc]; · iexact Hc
    iexact Hd
  · iexact HO

/-- The semaphores of the tile's sixteen copies. -/
abbrev sems16 : Finset (DmaSem sig) := {0, 1, 2, 3, 4, 5, 6, 7, 8, 9, 10, 11, 12, 13, 14, 15}

/-- A product over the sixteen semaphores. -/
theorem sixteen (Φ : DmaSem sig → sProp 𝕄) : bigSep sems16 Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  iterate 15 rw [SparseCore.bigSep_insert' (by decide +kernel)]
  rw [bigSep_singleton]

/-- Regrouping of a product. -/
theorem sep_assoc_eq' (P Q R : sProp 𝕄) : iprop((P ∗ Q) ∗ R) = iprop(P ∗ Q ∗ R) := equiv_iff.mp ⟨BI.sep_assoc, BI.sep_assoc'⟩

/-- The sixteen semaphores in pairs. -/
theorem regroup (a0 a1 a2 a3 a4 a5 a6 a7 a8 a9 a10 a11 a12 a13 a14 a15 : sProp 𝕄) : iprop(a0 ∗ a1 ∗ a2 ∗ a3 ∗ a4 ∗ a5 ∗ a6 ∗ a7 ∗ a8 ∗ a9 ∗ a10 ∗ a11 ∗ a12 ∗ a13 ∗ a14 ∗ a15) = iprop((a0 ∗ a1 ∗ a2 ∗ a3) ∗ (a4 ∗ a5 ∗ a6 ∗ a7) ∗ (a8 ∗ a9 ∗ a10 ∗ a11) ∗ (a12 ∗ a13 ∗ a14 ∗ a15)) := by
  simp only [sep_assoc_eq']

/-- A product over the six scratch buffers. -/
theorem six (Φ : Ref sig .scVector → sProp 𝕄) :
    bigSep ({cc0_scratch0, cc0_scratch1, cc0_scratch2, cc0_scratch3, cc0_scratch4, cc0_scratch5} : Finset (Ref sig .scVector)) Φ
    = iprop(Φ cc0_scratch0 ∗ Φ cc0_scratch1 ∗ Φ cc0_scratch2 ∗ Φ cc0_scratch3 ∗ Φ cc0_scratch4 ∗ Φ cc0_scratch5) := by
  iterate 5 rw [SparseCore.bigSep_insert' (by decide +kernel)]
  rw [bigSep_singleton]

/-- All sixteen counters at zero. -/
def sems : sProp 𝕄 :=
  iprop(sem4 d i cc0_scoped0 cc0_scoped1 cc0_scoped2 cc0_scoped3 ∗ sem4 d i cc0_scoped4 cc0_scoped5 cc0_scoped6 cc0_scoped7
    ∗ sem4 d i cc0_scoped8 cc0_scoped9 cc0_scoped10 cc0_scoped11 ∗ sem4 d i cc0_scoped12 cc0_scoped13 cc0_scoped14 cc0_scoped15)

/-- Copy 0 has semaphore 0. -/
theorem cell0 : (cc0_scoped0.sem : DmaSem sig) = 0 := by decide +kernel
/-- Copy 1 has semaphore 1. -/
theorem cell1 : (cc0_scoped1.sem : DmaSem sig) = 1 := by decide +kernel
/-- Copy 2 has semaphore 2. -/
theorem cell2 : (cc0_scoped2.sem : DmaSem sig) = 2 := by decide +kernel
/-- Copy 3 has semaphore 3. -/
theorem cell3 : (cc0_scoped3.sem : DmaSem sig) = 3 := by decide +kernel
/-- Copy 4 has semaphore 4. -/
theorem cell4 : (cc0_scoped4.sem : DmaSem sig) = 4 := by decide +kernel
/-- Copy 5 has semaphore 5. -/
theorem cell5 : (cc0_scoped5.sem : DmaSem sig) = 5 := by decide +kernel
/-- Copy 6 has semaphore 6. -/
theorem cell6 : (cc0_scoped6.sem : DmaSem sig) = 6 := by decide +kernel
/-- Copy 7 has semaphore 7. -/
theorem cell7 : (cc0_scoped7.sem : DmaSem sig) = 7 := by decide +kernel
/-- Copy 8 has semaphore 8. -/
theorem cell8 : (cc0_scoped8.sem : DmaSem sig) = 8 := by decide +kernel
/-- Copy 9 has semaphore 9. -/
theorem cell9 : (cc0_scoped9.sem : DmaSem sig) = 9 := by decide +kernel
/-- Copy 10 has semaphore 10. -/
theorem cell10 : (cc0_scoped10.sem : DmaSem sig) = 10 := by decide +kernel
/-- Copy 11 has semaphore 11. -/
theorem cell11 : (cc0_scoped11.sem : DmaSem sig) = 11 := by decide +kernel
/-- Copy 12 has semaphore 12. -/
theorem cell12 : (cc0_scoped12.sem : DmaSem sig) = 12 := by decide +kernel
/-- Copy 13 has semaphore 13. -/
theorem cell13 : (cc0_scoped13.sem : DmaSem sig) = 13 := by decide +kernel
/-- Copy 14 has semaphore 14. -/
theorem cell14 : (cc0_scoped14.sem : DmaSem sig) = 14 := by decide +kernel
/-- Copy 15 has semaphore 15. -/
theorem cell15 : (cc0_scoped15.sem : DmaSem sig) = 15 := by decide +kernel

/-- The tile's copy counters. -/
def cells : Finset (GSem nD τ sig) := sems16.image fun s => (thr' d i, SemLoc.dma s)

/-- Different semaphores are different counters. -/
theorem cells_inj : Set.InjOn (fun s : DmaSem sig => ((thr' d i, SemLoc.dma s) : GSem nD τ sig)) sems16 := by
  intro a _ b _ h
  exact SemLoc.dma.inj (Prod.mk.inj h).2

/-- The tile's counters at zero are its sixteen semaphores. -/
theorem cells_eq : (bigSep (cells d i) (fun g => semVal g 0) : sProp 𝕄) = sems d i := by
  have h := SparseCore.bigSep_image_of_injOn (cells_inj d i) (fun g => (semVal g 0 : sProp 𝕄))
  refine h.trans ((sixteen (F := F) _).trans ?_)
  unfold sems sem4
  rw [cell0, cell1, cell2, cell3, cell4, cell5, cell6, cell7, cell8, cell9, cell10, cell11, cell12, cell13, cell14, cell15]
  exact regroup (F := F) _ _ _ _ _ _ _ _ _ _ _ _ _ _ _ _

/-- The tile's counters. -/
theorem ownSems0_tile : (ownSems0 (thr' d i) : sProp 𝕄)
    = iprop(sems d i ∗ bigSep (ownCells (thr' d i) \ cells d i) fun g => semVal g 0) := by
  unfold SparseCore.Cfg.ownSems0
  have hsub : cells d i ⊆ ownCells (thr' d i) := by
    intro g hg
    obtain ⟨s, -, rfl⟩ := Finset.mem_image.mp hg
    refine mem_ownCells.mpr ⟨rfl, ?_⟩
    show (SemLoc.dma s : SemLoc sig).isScoped .scVector = true
    exact (by decide : ∀ s : DmaSem sig, (SemLoc.dma s : SemLoc sig).isScoped .scVector = true) s
  conv_lhs => rw [← Finset.union_sdiff_of_subset hsub]
  rw [bigSep_union Finset.disjoint_sdiff]
  refine congrArg (fun X => iprop(X ∗ bigSep (ownCells (thr' d i) \ cells d i) fun g => semVal g 0)) ?_
  exact cells_eq d i

/-- The tile's own buffers. -/
def refs : Finset (DevRef τ sig) :=
  ({cc0_scratch0, cc0_scratch1, cc0_scratch2, cc0_scratch3, cc0_scratch4, cc0_scratch5} : Finset (Ref sig .scVector)).image (Proc.scVector (cV i) (jV i)).devRef

/-- The tile's scratch buffers. -/
theorem ownBufs_tile : (ownBufs (thr' d i) : sProp 𝕄)
    = iprop(bufs d i ∗ bigSep (ownRefs (τ := τ) (.scVector (cV i) (jV i)) \ refs i) fun b => iprop(∃ f, ((d, b) : Loc nD τ sig) ↦{fullShare} f)) := by
  unfold SparseCore.Cfg.ownBufs
  have hsub : refs i ⊆ ownRefs (τ := τ) (.scVector (cV i) (jV i)) := by
    intro g hg
    obtain ⟨s, hs, rfl⟩ := Finset.mem_image.mp hg
    simp only [Finset.mem_insert, Finset.mem_singleton] at hs
    rcases hs with rfl | rfl | rfl | rfl | rfl | rfl <;> exact SparseCore.Cfg.mem_ownRefs_of_owner rfl
  show bigSep (ownRefs (τ := τ) (.scVector (cV i) (jV i))) _ = _
  conv_lhs => rw [← Finset.union_sdiff_of_subset hsub]
  rw [bigSep_union Finset.disjoint_sdiff]
  congr 1
  unfold refs
  rw [SparseCore.bigSep_image_of_injOn (fun a _ b _ h => Proc.devRef_injective _ h)]
  exact six (F := F) fun b => iprop(∃ f, (thr' d i).loc b ↦{fullShare} f)

/-- The launch as the library's theorem sees it. -/
abbrev ΛP : Labels := Pipeline.Sig Λ₀ (Fin 1) fun p => (pcfgs (F := F) p).Adm
abbrev K : SparseCore.Cfg τ sig (ΛP (F := F)) 1 := sc (F := F)

/-- The four images of the tile at `(c, s)`. -/
def gOf (c s r : ℕ) : ℕ := (s * 2 + c) * 4 + r

/-- What a tile takes. -/
def goT (c s : ℕ) : sProp 𝕄 :=
  iprop(pcIn d S0 S1 (gOf c s 0) ∗ pcIn d S0 S1 (gOf c s 1) ∗ pcIn d S0 S1 (gOf c s 2) ∗ pcIn d S0 S1 (gOf c s 3))
/-- What a tile hands back. -/
def tdT (c s : ℕ) : sProp 𝕄 :=
  iprop(pcOut d S0 S1 (gOf c s 0) ∗ pcOut d S0 S1 (gOf c s 1) ∗ pcOut d S0 S1 (gOf c s 2) ∗ pcOut d S0 S1 (gOf c s 3))

/-- A turn is an image. -/
theorem gOf_lt (i : grid0.Coords) {r : ℕ} (hr : r < 4) : gOf (i 0).val (i 1).val r < 128 := by
  have h0 : (i 0).val < 2 := (i 0).isLt
  have h1 : (i 1).val < 16 := (i 1).isLt
  unfold gOf; omega

/-- One-entry vectors of equal entries. -/
theorem vec1 {a b : ℕ} (h : a = b) : (![a] : Fin 1 → ℕ) = ![b] := by rw [h]

/-- A tile's run: its four images, one after another. -/
theorem tile_body (hF : (K (F := F)).Facts) (O : CellTallies nD τ sig (HIx 1)) (W : Waits sig (HIx 1)) (hO : ∀ g, O g none = 0) :
    iprop(levAts (K (F := F)).L (K (F := F)).lev ∗ emp ∗ goT d S0 S1 (i 0).val (i 1).val
        ∗ scopedBufs (thr' d i) ∗ scopedSems0 (thr' d i) ∗ owes (thr' d i) O W)
      ⊢ wp frame (wpE (defs₀ (F := F)) 𝒱₀ (thr' d i) none) Set.univ
          (cc0__mine_kernel i m2 (Memref.isWhole_whole _) m3 (Memref.isWhole_whole _) m4 (Memref.isWhole_whole _) m5 (Memref.isWhole_whole _)
            m6 (Memref.isWhole_whole _) m7 (Memref.isWhole_whole _) m8 (Memref.isWhole_whole _) m9 (Memref.isWhole_whole _)
            m10 (Memref.isWhole_whole _) m11 (Memref.isWhole_whole _) cc0_scoped0 cc0_scoped1 cc0_scoped2 cc0_scoped3 cc0_scoped4 cc0_scoped5
            cc0_scoped6 cc0_scoped7 cc0_scoped8 cc0_scoped9 cc0_scoped10 cc0_scoped11 cc0_scoped12 cc0_scoped13 cc0_scoped14 cc0_scoped15)
          fun _ => iprop(tdT d S0 S1 (i 0).val (i 1).val
            ∗ scopedBufs (thr' d i) ∗ scopedSems0 (thr' d i)
            ∗ ∃ W', ⌜∀ p ∈ W', p ∈ W ∨ p.2 = none ∨ p.2 = some (0 : Fin 1)⌝ ∗ owes (thr' d i) O W') := by
  rw [(K (F := F)).scopedBufs_V hF d (cV i) (jV i), SparseCore.Cfg.scopedSems0_V (Val := Elt F) d (cV i) (jV i), ownSems0_tile, ownBufs_tile]
  unfold sems goT tdT
  iintro ⟨#Hlv, -, ⟨P0, P1, P2, P3⟩, ⟨Hbuf, Hbufs⟩, ⟨⟨A0, A1, A2, A3⟩, Hsems⟩, HO⟩
  ihave Hmw := (show levAts (K (F := F)).L (K (F := F)).lev ⊢ Transfers.MayWaits (thr' d i) (default : HIx 1) O from
    (K (F := F)).mayWaits_none (thr := thr' d i) hO) $$ Hlv
  icases Hmw with #Hmw
  rw [cc0_eq]
  rw [wp_bind]
  iapply (img_run' d i S0 S1 O W cc0_scoped0 cc0_scoped1 cc0_scoped2 cc0_scoped3 _ _ _ _ (gOf_lt i (r := 0) (by omega))
    ((k0_off1_eq i).trans (vec1 (by unfold gOf; omega))) ((k0_off7_eq i).trans (vec1 (by unfold gOf; omega))))
  isplitr; · iexact Hmw
  isplitl [P0]; · iexact P0
  isplitl [Hbuf]; · iexact Hbuf
  isplitl [A0]; · iexact A0
  isplitl [HO]; · iexact HO
  iintro P0 Hbuf A0 ⟨%W1, HO⟩
  rw [wp_bind]
  iapply (img_run' d i S0 S1 O W1 cc0_scoped4 cc0_scoped5 cc0_scoped6 cc0_scoped7 _ _ _ _ (gOf_lt i (r := 1) (by omega))
    ((k0_off8_eq i).trans (vec1 (by unfold gOf; omega))) ((k0_off14_eq i).trans (vec1 (by unfold gOf; omega))))
  isplitr; · iexact Hmw
  isplitl [P1]; · iexact P1
  isplitl [Hbuf]; · iexact Hbuf
  isplitl [A1]; · iexact A1
  isplitl [HO]; · iexact HO
  iintro P1 Hbuf A1 ⟨%W2, HO⟩
  rw [wp_bind]
  iapply (img_run' d i S0 S1 O W2 cc0_scoped8 cc0_scoped9 cc0_scoped10 cc0_scoped11 _ _ _ _ (gOf_lt i (r := 2) (by omega))
    ((k0_off15_eq i).trans (vec1 (by unfold gOf; omega))) ((k0_off21_eq i).trans (vec1 (by unfold gOf; omega))))
  isplitr; · iexact Hmw
  isplitl [P2]; · iexact P2
  isplitl [Hbuf]; · iexact Hbuf
  isplitl [A2]; · iexact A2
  isplitl [HO]; · iexact HO
  iintro P2 Hbuf A2 ⟨%W3, HO⟩
  iapply (img_run' d i S0 S1 O W3 cc0_scoped12 cc0_scoped13 cc0_scoped14 cc0_scoped15 _ _ _ _ (gOf_lt i (r := 3) (by omega))
    ((k0_off22_eq i).trans (vec1 (by unfold gOf; omega))) ((k0_off28_eq i).trans (vec1 (by unfold gOf; omega))))
  isplitr; · iexact Hmw
  isplitl [P3]; · iexact P3
  isplitl [Hbuf]; · iexact Hbuf
  isplitl [A3]; · iexact A3
  isplitl [HO]; · iexact HO
  iintro P3 Hbuf A3 ⟨%W4, HO⟩
  isplitl [P0 P1 P2 P3]
  · isplitl [P0]; · iexact P0
    isplitl [P1]; · iexact P1
    isplitl [P2]; · iexact P2
    iexact P3
  isplitl [Hbuf Hbufs]
  · isplitl [Hbuf]; · iexact Hbuf
    iexact Hbufs
  isplitl [A0 A1 A2 A3 Hsems]
  · isplitl [A0 A1 A2 A3]
    · isplitl [A0]; · iexact A0
      isplitl [A1]; · iexact A1
      isplitl [A2]; · iexact A2
      iexact A3
    iexact Hsems
  iexists W4; isplitr
  swap; · iexact HO
  ipureintro; intro p _
  rcases p.2 with _ | q
  · exact .inr (.inl rfl)
  · exact .inr (.inr (congrArg some (Subsingleton.elim q 0)))

end tile

end Cert.Proof.Mine

end
-- ==== Proof.Combine.lean ====
/- The second call: its body run, and its region between the program's host operations. -/
module

public import proofs.«01_k».proof.Proof.Tile
public import proofs.«01_k».proof.Proof.Gen.KernelIdeal.Launch
public import proofs.«01_k».proof.Proof.Gen.KernelIdeal.Points
public import Idealize.ShloMosaic.Lib.Pipeline.Frame
public import Idealize.ShloMosaic.Lib.Pipeline.RegionsLoop
public import Idealize.ShloMosaic.Lib.Pipeline.Value
public import Idealize.ShloMosaic.Lib.Tactic

@[expose] public section

noncomputable section

namespace Cert.Proof.Mine

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- A buffer's contents on core `c`, and the buffer held whole at them. -/
abbrev BufC (c : Dev nD) {sp : Space} {S : Shape} {e : EltTy} (M : Memref sig .tc sp S e) : Type := Buf (Elt F) (M.view.loc (c : Thread nD τ))
abbrev atC (c : Dev nD) {sp : Space} {S : Shape} {e : EltTy} (M : Memref sig .tc sp S e) (f : BufC (F := F) c M) : sProp 𝕄 :=
  M.view.loc (c : Thread nD τ) ↦{fullShare} f

/-- The second call's body, run: it leaves its three operands and sets its result. -/
def combRun (c : Dev nD) (M0 : Memref sig .tc .vmem S128x128 .f32) (h0 : M0.IsWhole) (M1 : Memref sig .tc .vmem S128x32 .f32) (h1 : M1.IsWhole)
    (M2 : Memref sig .tc .vmem S128x32 .i32) (h2 : M2.IsWhole) (M3 : Memref sig .tc .vmem S1x128 .f32) (h3 : M3.IsWhole)
    (f0 : BufC (F := F) c M0) (f1 : BufC (F := F) c M1) (f2 : BufC (F := F) c M2) :
    { W : BufC (F := F) c M3 // ∀ (f3 : BufC (F := F) c M3) (E : Set ℕ) (Q : PUnit → sProp 𝕄),
        iprop(atC c M0 f0 ∗ atC c M1 f1 ∗ atC c M2 f2 ∗ atC c M3 f3 ∗ (iprop(atC c M0 f0 ∗ atC c M1 f1 ∗ atC c M2 f2 ∗ atC c M3 W) -∗ Q ⟨⟩))
          ⊢ wp frame (wpE (defs₀ (F := F)) Variants.none c none) E (cc1__combine_kernel M0 h0 M1 h1 M2 h2 M3 h3) Q } := by
  refine ⟨?_, fun f3 E Q => ?run⟩
  case run =>
    iintro ⟨H0, H1, H2, H3, Hk⟩
    sl_exec!
    sl_step
    iapply Hk
    isplitl [H0]; · iexact H0
    isplitl [H1]; · iexact H1
    isplitl [H2]; · iexact H2
    iexact H3

/-! ## What the body computes -/

/-- The rows of 32 with their lane's number. -/
def lanes32 : FVec F S1x32 .f32 := sitofp .f32 (iota .tc S1x32 32 [1] iota_S1x32_d1_w32)
/-- The row of 128 with its lane's number. -/
def lanes128 : FVec F S1x128 .f32 := sitofp .f32 (iota .tc S1x128 32 [1] iota_S1x128_d1_w32)

/-- The candidates that are not listed positives: of an image's word `w`, bit `idx` is clear or `idx` is no bit of it. -/
def alive (w : FVec F S128x1 .f32) (key idx : FVec F S128x32 .f32) : IVec S128x32 1 :=
  let q : FVec F S128x32 .f32 := floor (divf (addf (broadcastTo S128x32 w broadcasts_S128x1_S128x32) (mulf key (broadcast S128x32 (Scalar.ofBits .f32 0x00000000#32))))
    (exp2 (minimumf idx (broadcast S128x32 (Scalar.ofBits .f32 0x41000000#32)))))
  let bit : FVec F S128x32 .f32 := subf q (mulf (floor (mulf q (broadcast S128x32 (Scalar.ofBits .f32 0x3F000000#32)))) (broadcast S128x32 (Scalar.ofBits .f32 0x40000000#32)))
  xori (andi (cmpf .olt idx (broadcast S128x32 (Scalar.ofBits .f32 0x41000000#32))) (cmpf .ogt bit (broadcast S128x32 (Scalar.ofBits .f32 0x3F000000#32)))) (constantI S128x32 1 1#1)

/-- One step of the running count: every lane from `c` on adds the count `sh` lanes before it. -/
def addBack (c : F .f32) (sh : BitVec 32) (x : FVec F S128x32 .f32) : FVec F S128x32 .f32 :=
  addf x (select (broadcastTo S128x32 (shapeCast S1x32 (cmpf .oge lanes32 (broadcast S1x32 c)) shapeCasts_S1x32_S1x32) broadcasts_S1x32_S128x32)
    (dynamicRotate 1 sh none x rotates_S128x32_d1) (broadcast S128x32 (Scalar.ofBits .f32 0x00000000#32)))

/-- The running count of the candidates alive. -/
def running (a : IVec S128x32 1) : FVec F S128x32 .f32 :=
  addBack (Scalar.ofBits .f32 0x41800000#32) 16#32 (addBack (Scalar.ofBits .f32 0x41000000#32) 8#32 (addBack (Scalar.ofBits .f32 0x40800000#32) 4#32
    (addBack (Scalar.ofBits .f32 0x40000000#32) 2#32 (addBack (Scalar.ofBits .f32 0x3F800000#32) 1#32
      (select a (broadcast S128x32 (Scalar.ofBits .f32 0x3F800000#32)) (broadcast S128x32 (Scalar.ofBits .f32 0x00000000#32)))))))

/-- The loss of a key as a negative. -/
def lossOf (key : FVec F S128x32 .f32) : FVec F S128x32 .f32 :=
  addf (maximumf key (broadcast S128x32 (Scalar.ofBits .f32 0x00000000#32)))
    (log (addf (broadcast S128x32 (Scalar.ofBits .f32 0x3F800000#32)) (exp (subf (broadcast S128x32 (Scalar.ofBits .f32 0x00000000#32)) (absf key)))))

/-- An image's hard sum: the losses of its first candidates alive, three to a positive. -/
def hard (n w : FVec F S128x1 .f32) (key idx : FVec F S128x32 .f32) : FVec F S128 .f32 :=
  multiReduction .add [1] S128 (select (andi (alive w key idx) (cmpf .ole (running (alive w key idx))
      (broadcastTo S128x32 (mulf (broadcast S128x1 (Scalar.ofBits .f32 0x40400000#32)) n) broadcasts_S128x1_S128x32)))
    (lossOf key) (broadcast S128x32 (Scalar.ofBits .f32 0x00000000#32))) 0x00000000#32 reduces_S128x32_S128 (.inl rfl) rfl

/-- A column's total. -/
def total (x : FVec F S128x1 .f32) : F .f32 :=
  extractAt ![0, 0, 0] (shapeCast S1x1x1 (multiReduction .add [1, 2] S1 (shapeCast S1x128x1 x shapeCasts_S128x1_S1x128x1) 0x00000000#32 reduces_S1x128x1_S1 (.inl rfl) rfl)
    shapeCasts_S1_S1x1x1) inpos_S1x1x1_p0_0_0

/-- A value on lane `c`, zero on the others. -/
def onLane (c x : F .f32) : FVec F S1x128 .f32 :=
  select (cmpf .oeq lanes128 (broadcast S1x128 c)) (broadcast S1x128 x) (broadcast S1x128 (Scalar.ofBits .f32 0x00000000#32))

/-- The statistics' column `j`. -/
abbrev col0 (s : FVec F S128x128 .f32) : FVec F S128x1 .f32 := extractStridedSlice S128x1 ![0, 0] s slices_S128x128_o0_0_S128x1
abbrev col1 (s : FVec F S128x128 .f32) : FVec F S128x1 .f32 := extractStridedSlice S128x1 ![0, 1] s slices_S128x128_o0_1_S128x1
abbrev col2 (s : FVec F S128x128 .f32) : FVec F S128x1 .f32 := extractStridedSlice S128x1 ![0, 2] s slices_S128x128_o0_2_S128x1
abbrev col3 (s : FVec F S128x128 .f32) : FVec F S128x1 .f32 := extractStridedSlice S128x1 ![0, 3] s slices_S128x128_o0_3_S128x1

/-- The second call's result: four totals on its first four lanes. -/
def comb (s : FVec F S128x128 .f32) (k : FVec F S128x32 .f32) (n : IVec S128x32 32) : FVec F S1x128 .f32 :=
  addf (addf (addf (onLane (Scalar.ofBits .f32 0x00000000#32) (total (col0 s))) (onLane (Scalar.ofBits .f32 0x3F800000#32) (total (col1 s))))
      (onLane (Scalar.ofBits .f32 0x40000000#32) (total (col2 s))))
    (onLane (Scalar.ofBits .f32 0x40400000#32) (total (shapeCast S128x1
      (hard (col0 s) (col3 s) (shapeCast S128x32 k shapeCasts_S128x32_S128x32) (sitofp .f32 (shapeCast S128x32 n shapeCasts_S128x32_S128x32))) shapeCasts_S128_S128x1)))

/-! ## The region -/

section region
variable (W : (c : Dev nD) → (b : Ref sig .tc) → Buf (Elt F) ((c : Thread nD τ).loc b))

/-- The blocks the region stages. -/
abbrev stg0 (c : Dev nD) : (cfg1.win 0).block.Idx → Elt F (cfg1.win 0).elt := ((cfg1.win 0).blk t1_0).view.read (Elt F) (W c main_arg1)
abbrev stg1 (c : Dev nD) : (cfg1.win 1).block.Idx → Elt F (cfg1.win 1).elt := ((cfg1.win 1).blk t1_0).view.read (Elt F) (W c main_v9)
abbrev stg2 (c : Dev nD) : (cfg1.win 2).block.Idx → Elt F (cfg1.win 2).elt := ((cfg1.win 2).blk t1_0).view.read (Elt F) (W c main_v10)

/-- The body's run at the staged blocks. -/
abbrev KC (c : Dev nD) := combRun (F := F) c (stage1_0 0) (hstage1_0 0) (stage1_1 0) (hstage1_1 0) (stage1_2 0) (hstage1_2 0)
  (stage1_3 0) (hstage1_3 0) (stg0 W c) (stg1 W c) (stg2 W c)

/-- What is kept between the region's ends: the scoped buffers it does not stage. -/
abbrev ΦC (c : Dev nD) : sProp 𝕄 := Pipeline.scopedRest (Ix := HIx 1) (Name := ℕ) (U := UU) (Lvl := ℕ) (Val := Elt F) spec1 c

/-- The waits a thread may have recorded by the end of the first call. -/
def lowWaits (c : Dev nD) : Set (SemLoc sig × HIx 1) := {p | (K (F := F)).lev ((c : Thread nD τ), p.1) p.2 ≤ 8}

/-- The region's data: the arrays as they come, what the body leaves in each staging buffer, nothing owed. -/
def dat (c : Dev nD) : Dat τ (Elt F) (HIx 1) ℕ UU ℕ cfg1 c where
  A w := W c (Pipeline.arrRef spec1 w)
  after w _ := match w with
    | ⟨0, _⟩ => stg0 W c
    | ⟨1, _⟩ => stg1 W c
    | ⟨2, _⟩ => stg2 W c
    | ⟨3, _⟩ => (KC W c).1
  Φ _ := ΦC c
  q _ := fullShare
  owed _ := 0
  recorded _ := lowWaits (F := F) c

abbrev adm : (p : Fin 1) → (pcfgs (F := F) p).Adm := fun p => (cfgs p).toPCfg_adm

/-- The data of the only region. -/
def pdats : (p : Fin 1) → (c : Dev nD) → Dat τ (Elt F) (HIx 1) ℕ UU ℕ (Pipeline.pin (pcfgs (F := F)) adm p) c
  | ⟨0, _⟩ => fun c => dat W c

/-- The body finds the statistics. -/
theorem before_0 (c : Dev nD) (d : (cfg1.win 0).block.Idx → Elt F (cfg1.win 0).elt) : (dat W c).before 0 t1_0 d = stg0 W c := by
  unfold Dat.before; rw [if_pos (by decide)]; rfl
/-- The body finds the keys. -/
theorem before_1 (c : Dev nD) (d : (cfg1.win 1).block.Idx → Elt F (cfg1.win 1).elt) : (dat W c).before 1 t1_0 d = stg1 W c := by
  unfold Dat.before; rw [if_pos (by decide)]; rfl
/-- The body finds the indices. -/
theorem before_2 (c : Dev nD) (d : (cfg1.win 2).block.Idx → Elt F (cfg1.win 2).elt) : (dat W c).before 2 t1_0 d = stg2 W c := by
  unfold Dat.before; rw [if_pos (by decide)]; rfl

/-- The body runs from the staged blocks to what the data say it leaves. -/
theorem body_obligation (c : Dev nD) : BodyObligation (dat W c) (defs₀ (F := F)) Variants.none (none : HIx 1) Set.univ := fun t => by
  obtain rfl := fin_N1 t
  rw [bigSep_W1, bigSep_W1]
  simp only [owns_whole_eq]
  rw [show (dat W c).Φ t1_0.castSucc = ΦC c from rfl, show (dat W c).Φ t1_0.succ = ΦC c from rfl,
    show (dat W c).owesAt (none : HIx 1) t1_0.succ = (dat W c).owesAt (none : HIx 1) t1_0.castSucc from rfl]
  iintro ⟨HΦ, HO, ⟨%d0, %f0, %h0, H0⟩, ⟨%d1, %f1, %h1, H1⟩, ⟨%d2, %f2, %h2, H2⟩, ⟨%d3, %f3, -, H3⟩⟩
  rw [before_0] at h0
  rw [before_1] at h1
  rw [before_2] at h2
  subst h0 h1 h2
  iapply ((KC W c).2 f3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  iexists _; isplitr; swap; (· iexact H3); ipureintro; dsimp only [dat]

/-- The result's array after the region. -/
def combined (c : Dev nD) : Buf (Elt F) ((c : Thread nD τ).loc main_v11) := (dat W c).arrAt 3 cfg1.N

/-- What a thread owes between the operations after the first call: nothing, its waits recorded low. -/
abbrev owesC (c : Dev nD) : sProp 𝕄 :=
  iprop(∃ R : Waits sig (HIx 1), ⌜(R : Set (SemLoc sig × HIx 1)) ⊆ lowWaits (F := F) c⌝ ∗ owes (c : Thread nD τ) (0 : CellTallies nD τ sig (HIx 1)) R)

variable (W' : (c : Dev nD) → (b : Ref sig .tc) → Buf (Elt F) ((c : Thread nD τ).loc b))

set_option backward.isDefEq.respectTransparency.types false in
/-- The region, from the program's arrays at `W` to the same with the result's array as combined. -/
def reg (hout : ∀ c, W' c main_v11 = combined W c) (hne : ∀ c (b : Ref sig .tc), b ≠ main_v11 → W' c b = W c b) :
    Pipeline.RegionSeg (pcfgs (F := F)) adm (pdats W) (none : HIx 1) defs₀ Variants.none (K (F := F)).L (K (F := F)).lev 0 where
  win := launch1.win.to₀
  block_pos := launch1.block_pos
  stage_whole := launch1.stage_whole
  K := PEmpty
  osem k := k.elim
  ho := Pipeline.OwnSemFacts.none _
  hbody c := (body_obligation W c).loose
  hwaits := Pipeline.hwaits_of_owed_zero _ _ _ _ (K (F := F)).L (K (F := F)).lev 0 fun _ _ => rfl
  pre c := iprop(unscopedBufs c (W c) ∗ owesC c)
  post c := iprop(unscopedBufs c (W' c) ∗ owesC c)
  X _ := BI.emp
  Y _ := BI.emp
  Z c := Pipeline.unscopedRest (Ix := HIx 1) (Name := ℕ) (U := UU) (Lvl := ℕ) spec1 c (W c)
  hentry c := by
    rw [Pipeline.ownSems0_none]
    have hsplit := Pipeline.arrays_of_unscopedBufs (p := 0) (pcfgs (F := F)) adm (pdats W) launch1.win launch1.arr_whole c
      ((pdats W 0 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%R, %hR, HO⟩; iexists R; isplitr; · ipureintro; exact fun p hp => Or.inl (hR hp)
      iexact HO
    isplitr; · iempintro
    iexact Hrest
  hin c := by
    rw [show (pdats W 0 c).Φ 0 = ΦC c from rfl]
    iintro ⟨-, -, Hr⟩; iexact Hr
  hout c := by
    rw [Pipeline.ownSems0_none, show (pdats W 0 c).Φ (Fin.last _) = ΦC c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats W) ((pdats W 0 c).share_full fun _ => rfl) (W c) (W' c) ((pdats W 0 c).arrAt · cfg1.N)
      (fun w => by
        fin_cases w
        · exact ((pdats W 0 c).arrAt_in 0 rfl _).trans (hne c main_arg1 (by decide)).symm
        · exact ((pdats W 0 c).arrAt_in 1 rfl _).trans (hne c main_v9 (by decide)).symm
        · exact ((pdats W 0 c).arrAt_in 2 rfl _).trans (hne c main_v10 (by decide)).symm
        · exact (hout c).symm)
      (fun b hb => hne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%R, %hR, HO⟩; iexists R; isplitr; swap; (· iexact HO)
    ipureintro
    intro p hp
    rcases hR hp with h | ⟨w, s, rfl⟩
    · exact h
    · exact Nat.zero_le 8

/-- The second call's result is the combination of what its operands hold. -/
theorem combined_eq (c : Dev nD) : combined W c = comb (W c main_arg1) (W c main_v9) (W c main_v10) := by
  have h0 := fun f => Memref.read_access_unit_zero (Elt F) main_arg1 (off := fun a => (win1_0.index t1_0) a * main_arg1.ty.shape.size a) (funext fun a => by fin_cases a <;> decide) (fun a => by fin_cases a <;> decide) f
  have h1 := fun f => Memref.read_access_unit_zero (Elt F) main_v9 (off := fun a => (win1_1.index t1_0) a * main_v9.ty.shape.size a) (funext fun a => by fin_cases a <;> decide) (fun a => by fin_cases a <;> decide) f
  have h2 := fun f => Memref.read_access_unit_zero (Elt F) main_v10 (off := fun a => (win1_2.index t1_0) a * main_v10.ty.shape.size a) (funext fun a => by fin_cases a <;> decide) (fun a => by fin_cases a <;> decide) f
  have h3 := fun f => Memref.read_access_unit_zero (Elt F) main_v11 (off := fun a => (win1_3.index t1_0) a * main_v11.ty.shape.size a) (funext fun a => by fin_cases a <;> decide) (fun a => by fin_cases a <;> decide) f
  have hA : ((cfg1.win (3 : Fin 4)).blk t1_0).view.read (Elt F) ((dat W c).arrAt (3 : Fin 4) cfg1.N) = (dat W c).flushed (3 : Fin 4) t1_0 := by
    rw [show cfg1.N = t1_0.val + 1 from rfl, (dat W c).arrAt_succ (3 : Fin 4) t1_0]
    rw [show (cfg1.win (3 : Fin 4)).flush t1_0 = true from by decide, if_pos rfl]
    exact View.read_write_univ _ _
  rw [h3] at hA
  unfold combined
  rw [hA]
  show (cfg1.win (3 : Fin 4)).cut _ (KC W c).1 = _
  have hs0 : stg0 W c = W c main_arg1 := h0 _
  have hs1 : stg1 W c = W c main_v9 := h1 _
  have hs2 : stg2 W c = W c main_v10 := h2 _
  unfold KC combRun combRun.sl.H3_1
  dsimp only
  have hv : combRun.sl.v135 c (stage1_0 0) (stage1_1 0) (stage1_2 0) (stg0 W c) (stg1 W c) (stg2 W c)
      = comb (View.ld (stg0 W c) (Rect.unit (s := S128x128) ![0, 0] S128x128.size inb_S128x128_S128x128_0_0))
        (View.ld (stg1 W c) (Rect.unit (s := S128x32) ![0, 0] S128x32.size inb_S128x32_S128x32_0_0))
        (View.ld (stg2 W c) (Rect.unit (s := S128x32) ![0, 0] S128x32.size inb_S128x32_S128x32_0_0)) := rfl
  have l0 : View.ld (stg0 W c) (Rect.unit (s := S128x128) ![0, 0] S128x128.size inb_S128x128_S128x128_0_0) = stg0 W c :=
    View.ld_unit_zero (S := S128x128) (funext fun a => by fin_cases a <;> rfl) _ _
  have l1 : View.ld (stg1 W c) (Rect.unit (s := S128x32) ![0, 0] S128x32.size inb_S128x32_S128x32_0_0) = stg1 W c :=
    View.ld_unit_zero (S := S128x32) (funext fun a => by fin_cases a <;> rfl) _ _
  have l2 : View.ld (stg2 W c) (Rect.unit (s := S128x32) ![0, 0] S128x32.size inb_S128x32_S128x32_0_0) = stg2 W c :=
    View.ld_unit_zero (S := S128x32) (funext fun a => by fin_cases a <;> rfl) _ _
  rw [hv, l0, l1, l2, hs0, hs1, hs2]
  have hz : (![0, 0] : Fin S1x128.rank → ℕ) = fun _ => 0 := funext fun a => by fin_cases a <;> rfl
  exact (View.read_writes_junk_eq_canon (View.whole cc1_stg3_0) _).trans (View.canon_unit_zero (Val := Elt F) hz _ _)

end region

end Cert.Proof.Mine

end
-- ==== Proof.Launch.lean ====
/- The launch: what the tiles take and hand back, the program around the call, and the run of the
   whole program with the contents it leaves. -/
module

public import proofs.«01_k».proof.Proof.Combine
public import Idealize.ShloMosaic.Lib.SparseCore.Quiescent
public import Idealize.ShloMosaic.Lib.StableHlo.Run
public import Idealize.ShloMosaic.Lib.Pipeline.Kit
public import Idealize.ShloMosaic.Lib.Pipeline.Frame
public import Idealize.ShloMosaic.Lib.Tactic

@[expose] public section

noncomputable section

namespace Cert.Proof.Mine

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]

variable (d : Dev nD) (i : grid0.Coords)

/-- The call runs on 16 tiles a core. -/
theorem nSub_zero : (K (F := F)).nSub 0 = 16 := rfl
abbrev D : Defs nD τ sig (Elt F) (ΛP (F := F)) := Pipeline.defs pcfgs defs₀
abbrev 𝒱 : Variants := 𝒱₀.lift
abbrev v₀ : 𝒱.V := Sum.inl none

/-- The call's semaphores are the handshake's own. -/
theorem sc_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

section launch
variable (S0 S1 : Dev nD → S1130496.Idx → F .f32)

instance pcIn_storable (d : Dev nD) (g : ℕ) : BI.Storable (upEmb : UEmb _ 𝕄) (pcIn (F := F) d (S0 d) (S1 d) g) := by
  unfold pcIn; infer_instance
instance pcOut_storable (d : Dev nD) (g : ℕ) : BI.Storable (upEmb : UEmb _ 𝕄) (pcOut (F := F) d (S0 d) (S1 d) g) := by
  unfold pcOut; infer_instance
instance goT_storable (d : Dev nD) (c s : ℕ) : BI.Storable (upEmb : UEmb _ 𝕄) (goT (F := F) d (S0 d) (S1 d) c s) := by
  unfold goT; infer_instance
instance tdT_storable (d : Dev nD) (c s : ℕ) : BI.Storable (upEmb : UEmb _ 𝕄) (tdT (F := F) d (S0 d) (S1 d) c s) := by
  unfold tdT; infer_instance

/-- What the call's handshakes carry: each tile its images' pieces, there and back. -/
def P : (K (F := F)).Pay (nD := nD) (Val := Elt F) (Name := ℕ) (U := UU) where
  st := fun q d c => match q with | 0 => bigSep Finset.univ fun s : Fin 16 => goT d (S0 d) (S1 d) c.val s.val
  dn := fun q d c => match q with | 0 => bigSep Finset.univ fun s : Fin 16 => tdT d (S0 d) (S1 d) c.val s.val
  go := fun q d c i => match q with | 0 => goT d (S0 d) (S1 d) c.val i.val
  td := fun q d c i => match q with | 0 => tdT d (S0 d) (S1 d) c.val i.val
  x := fun _ _ => iprop(emp)

instance P_storable : (P (F := F) S0 S1).IsStorable where
  st q d c := match q with
    | 0 => (inferInstance : BI.Storable (upEmb : UEmb _ 𝕄) (bigSep Finset.univ fun s : Fin 16 => goT d (S0 d) (S1 d) c.val s.val))
  dn q d c := match q with
    | 0 => (inferInstance : BI.Storable (upEmb : UEmb _ 𝕄) (bigSep Finset.univ fun s : Fin 16 => tdT d (S0 d) (S1 d) c.val s.val))
  go q d c i := match q with
    | 0 => (inferInstance : BI.Storable (upEmb : UEmb _ 𝕄) (goT d (S0 d) (S1 d) c.val i.val))
  td q d c i := match q with
    | 0 => (inferInstance : BI.Storable (upEmb : UEmb _ 𝕄) (tdT d (S0 d) (S1 d) c.val i.val))

/-- A core's share is its tiles' shares, there and back. -/
theorem vecSplit : (K (F := F)).VecSplit' (P S0 S1) 0 := by
  intro d c
  show (bigSep Finset.univ fun s : Fin 16 => goT d (S0 d) (S1 d) c.val s.val : sProp 𝕄) ⊢ |={Set.univ}=> iprop(
      (bigSep Finset.univ fun s : Fin 16 => goT d (S0 d) (S1 d) c.val s.val)
      ∗ ((bigSep Finset.univ fun s : Fin 16 => tdT d (S0 d) (S1 d) c.val s.val) -∗ bigSep Finset.univ fun s : Fin 16 => tdT d (S0 d) (S1 d) c.val s.val))
  iintro H; imodintro
  isplitl [H]; · iexact H
  iintro H; iexact H

def coordsV (c : Fin (grid0.bound 0)) (s : Fin (grid0.bound 1)) : grid0.Coords :=
  fun | 0 => c | 1 => s | ⟨_ + 2, h⟩ => absurd h (Nat.not_lt.2 (Nat.le_add_left _ _))

/-- The body a tile runs. -/
theorem defs₀_vector (c : Fin τ.nSC) (s : Fin τ.nSub) :
    defs₀ (F := F) (.scVector c s) 0 ()
      = SparseCore.onTile hcore0 hsub0 (fun c s => cc0__mine_kernel (coordsV c s) (Memref.whole main_v5_scv) (Memref.isWhole_whole _) (Memref.whole main_v7_scv) (Memref.isWhole_whole _) (Memref.whole main_v8_0_scv) (Memref.isWhole_whole _) (Memref.whole main_v8_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15) ⟨⟩ c s := rfl

/-- Every tile runs its body from its share to its share. -/
theorem tileObl (hF : (K (F := F)).Facts) : (K (F := F)).TileObl (D (F := F)) 𝒱 (P S0 S1) v₀ 0 := by
  intro d c i O W hO _ _
  simp only [show (P S0 S1).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (S0 d) (S1 d) hF O W hO

/-! The pieces of all images are the four arrays. -/

abbrev Tri : Type := Fin 2 × Fin 16 × Fin 4
/-- The image of core, tile and turn. -/
abbrev gT (t : Tri) : ℕ := gOf t.1.val t.2.1.val t.2.2.val

/-- Different turns are different images. -/
theorem gT_inj (t u : Tri) (h : t ≠ u) : gT t ≠ gT u := by
  obtain ⟨⟨c, hc⟩, ⟨s, hs⟩, ⟨r, hr⟩⟩ := t
  obtain ⟨⟨c', hc'⟩, ⟨s', hs'⟩, ⟨r', hr'⟩⟩ := u
  intro e
  apply h
  simp only [gT, gOf] at e
  have e1 : c = c' := by omega
  have e2 : s = s' := by omega
  have e3 : r = r' := by omega
  subst e1 e2 e3; rfl

/-- Every image is some turn. -/
theorem gT_surj {g : ℕ} (h : g < 128) : ∃ t : Tri, gT t = g :=
  ⟨(⟨g / 4 % 2, by omega⟩, ⟨g / 8, by omega⟩, ⟨g % 4, by omega⟩), by simp only [gT, gOf]; omega⟩

/-- Different images' scores are apart. -/
theorem setA_disj : ∀ t ∈ (Finset.univ : Finset Tri), ∀ u ∈ (Finset.univ : Finset Tri), t ≠ u → Disjoint (setA (gT t)) (setA (gT u)) := by
  intro t _ u _ h
  have h' := gT_inj t u h
  rw [Finset.disjoint_left]
  intro x hx hy
  simp only [setA, Finset.mem_filter, Finset.mem_univ, true_and] at hx hy
  omega
/-- Different images' results are apart. -/
theorem setB_disj : ∀ t ∈ (Finset.univ : Finset Tri), ∀ u ∈ (Finset.univ : Finset Tri), t ≠ u → Disjoint (setB (gT t)) (setB (gT u)) := by
  intro t _ u _ h
  have h' := gT_inj t u h
  rw [Finset.disjoint_left]
  intro x hx hy
  simp only [setB, Finset.mem_filter, Finset.mem_univ, true_and] at hx hy
  omega
/-- The images' scores are all of the array. -/
theorem setA_cover : (Finset.univ : Finset Tri).biUnion (fun t => setA (gT t)) = Finset.univ := by
  ext x
  have hx : (x 0).val < 1130496 := (x 0).isLt
  simp only [Finset.mem_biUnion, Finset.mem_univ, true_and, iff_true]
  obtain ⟨t, ht⟩ := gT_surj (g := (x 0).val / 8832) (by omega)
  refine ⟨t, ?_⟩
  rw [ht]
  simp only [setA, Finset.mem_filter, Finset.mem_univ, true_and]
  omega
/-- The images' results are all of the array. -/
theorem setB_cover : (Finset.univ : Finset Tri).biUnion (fun t => setB (gT t)) = Finset.univ := by
  ext x
  have hx : (x 0).val < 4096 := (x 0).isLt
  simp only [Finset.mem_biUnion, Finset.mem_univ, true_and, iff_true]
  obtain ⟨t, ht⟩ := gT_surj (g := (x 0).val / 32) (by omega)
  refine ⟨t, ?_⟩
  rw [ht]
  simp only [setB, Finset.mem_filter, Finset.mem_univ, true_and]
  omega

/-- The first array by images. -/
theorem split_a (d : Dev nD) (f : Buf (Elt F) (aLoc d)) :
    (aLoc d ↦{fullShare} f : sProp 𝕄) = bigSep Finset.univ fun t : Tri => aLoc d ↦[setA (gT t)]{fullShare} f := by
  rw [← pointsTo_biUnion Finset.univ (ℓ := aLoc d) (fun t : Tri => setA (gT t)) setA_disj, setA_cover]; try rfl
/-- The second array by images. -/
theorem split_b (d : Dev nD) (f : Buf (Elt F) (bLoc d)) :
    (bLoc d ↦{fullShare} f : sProp 𝕄) = bigSep Finset.univ fun t : Tri => bLoc d ↦[setA (gT t)]{fullShare} f := by
  rw [← pointsTo_biUnion Finset.univ (ℓ := bLoc d) (fun t : Tri => setA (gT t)) setA_disj, setA_cover]; try rfl
/-- The keys by images. -/
theorem split_k (d : Dev nD) (f : Buf (Elt F) (kLoc d)) :
    (kLoc d ↦{fullShare} f : sProp 𝕄) = bigSep Finset.univ fun t : Tri => kLoc d ↦[setB (gT t)]{fullShare} f := by
  rw [← pointsTo_biUnion Finset.univ (ℓ := kLoc d) (fun t : Tri => setB (gT t)) setB_disj, setB_cover]; try rfl
/-- The indices by images. -/
theorem split_n (d : Dev nD) (f : Buf (Elt F) (nLoc d)) :
    (nLoc d ↦{fullShare} f : sProp 𝕄) = bigSep Finset.univ fun t : Tri => nLoc d ↦[setB (gT t)]{fullShare} f := by
  rw [← pointsTo_biUnion Finset.univ (ℓ := nLoc d) (fun t : Tri => setB (gT t)) setB_disj, setB_cover]; try rfl

/-- A product over turns is one over cores, tiles and turns. -/
theorem bigSep_tri (Φ : ℕ → sProp 𝕄) : (bigSep Finset.univ fun t : Tri => Φ (gT t))
    = bigSep Finset.univ fun c : Fin 2 => bigSep Finset.univ fun s : Fin 16 =>
        iprop(Φ (gOf c.val s.val 0) ∗ Φ (gOf c.val s.val 1) ∗ Φ (gOf c.val s.val 2) ∗ Φ (gOf c.val s.val 3)) := by
  refine (bigSep_univ_prod (α := Fin 2) (β := Fin 16 × Fin 4) (fun t => Φ (gT t))).trans (bigSep_congr fun c _ => ?_)
  refine (bigSep_univ_prod (α := Fin 16) (β := Fin 4) (fun t => Φ (gT (c, t)))).trans (bigSep_congr fun s _ => ?_)
  rw [show (Finset.univ : Finset (Fin 4)) = {0, 1, 2, 3} by decide, SparseCore.bigSep_insert' (by decide), SparseCore.bigSep_insert' (by decide),
    SparseCore.bigSep_insert' (by decide), bigSep_singleton]
  rfl

/-- What a turn is given, from its pieces of the four arrays. -/
theorem piece_in (d : Dev nD) (g : ℕ) (fk : Buf (Elt F) (kLoc d)) (fn : Buf (Elt F) (nLoc d)) :
    iprop((aLoc d ↦[setA g]{fullShare} S0 d) ∗ (bLoc d ↦[setA g]{fullShare} S1 d) ∗ (kLoc d ↦[setB g]{fullShare} fk) ∗ (nLoc d ↦[setB g]{fullShare} fn))
      ⊢ (pcIn d (S0 d) (S1 d) g : sProp 𝕄) := by
  unfold pcIn
  iintro ⟨H1, H2, H3, H4⟩
  isplitl [H1]; · iexact H1
  isplitl [H2]; · iexact H2
  isplitl [H3]; · iexists fk; iexact H3
  iexists fn; iexact H4

/-- What the call takes is what the four arrays split into. -/
theorem take (d : Dev nD) (fk : Buf (Elt F) (kLoc d)) (fn : Buf (Elt F) (nLoc d)) :
    iprop((aLoc d ↦{fullShare} S0 d) ∗ (bLoc d ↦{fullShare} S1 d) ∗ (kLoc d ↦{fullShare} fk) ∗ (nLoc d ↦{fullShare} fn))
      ⊢ (bigSep Finset.univ fun c : Fin ((K (F := F)).nCore 0) => (P S0 S1).st 0 d c : sProp 𝕄) := by
  refine BI.Entails.trans ?_ (Entails.of_eq (bigSep_tri (F := F) (fun g => pcIn d (S0 d) (S1 d) g)))
  rw [split_a, split_b, split_k, split_n, ← bigSep_sep', ← bigSep_sep', ← bigSep_sep']
  exact bigSep_mono fun t _ => piece_in S0 S1 d (gT t) fk fn

/-- What the call hands back is the four arrays, the results at the images' values. -/
theorem give (d : Dev nD) :
    (bigSep Finset.univ fun c : Fin ((K (F := F)).nCore 0) => (P S0 S1).dn 0 d c : sProp 𝕄)
      = iprop((aLoc d ↦{fullShare} S0 d) ∗ (bLoc d ↦{fullShare} S1 d) ∗ (kLoc d ↦{fullShare} outK kc (S0 d) (S1 d)) ∗ (nLoc d ↦{fullShare} outI kc (S0 d) (S1 d))) := by
  refine Eq.trans (bigSep_tri (F := F) (fun g => pcOut d (S0 d) (S1 d) g)).symm ?_
  rw [split_a, split_b, split_k, split_n, ← bigSep_sep', ← bigSep_sep', ← bigSep_sep']
  rfl

/-- A product of nothing is nothing. -/
theorem bigSep_emp' {I : Type} (s : Finset I) : (bigSep s fun _ => iprop(emp)) = (iprop(emp) : sProp 𝕄) := bigSep_emp_const s

/-- The pipeline's share of the launch's resources, and the counters'. -/
abbrev EP : Emb (UR sig nD τ) (MT nD τ sig (HIx 1) (Elt F) ℕ UU ℕ) := (Emb.inl : Emb (UR sig nD τ) (UR sig nD τ × Counters)).trans embR
instance EP_lands : (EP (F := F)).LandsIn (upEmb : UEmb _ 𝕄) := by unfold EP; infer_instance

def u₀ : UU := (initOf (K (F := F)).hsCells (K (F := F)).hsToks, (initOf (Pipeline.cells cfgs cellOf_inj) (Pipeline.launchToks cfgs cellOf_inj), 1))

/-- What the launch hands the main thread: the second call's cells and tokens. -/
abbrev G (d : Dev nD) : sProp 𝕄 := iprop(Pipeline.cellsGhost (Pipeline.pin (pcfgs (F := F)) adm) (EP (F := F)) 0 d ∗ Pipeline.toksInit (Pipeline.pin (pcfgs (F := F)) adm) (EP (F := F)) 0 d)

/-- The launch hands out the handshakes and the second call's cells. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P S0 S1).x q thr) := by
  unfold u₀
  iintro Hu
  ihave H := (ownU_pair (initOf (K (F := F)).hsCells (K (F := F)).hsToks) (initOf (Pipeline.cells cfgs cellOf_inj) (Pipeline.launchToks cfgs cellOf_inj), (1 : Counters))) $$ Hu
  icases H with ⟨HH, HR⟩
  ihave H := (own_pair_emb (embR : Emb (UR sig nD τ × Counters) (MT nD τ sig (HIx 1) (Elt F) ℕ UU ℕ)) (initOf (Pipeline.cells cfgs cellOf_inj) (Pipeline.launchToks cfgs cellOf_inj)) (1 : Counters)) $$ HR
  icases H with ⟨HP, -⟩
  imod (Pipeline.fund_ghost cfgs (EP (F := F)) cellOf_inj) $$ HP with ⟨HG, HT⟩
  imodintro
  isplitl [HH]; · iexact HH
  isplitl [HG HT]
  · rw [show (bigSep Finset.univ fun d : Dev nD => G (F := F) d) = iprop((bigSep Finset.univ fun d : Dev nD => bigSep Finset.univ fun p : Fin 1 => Pipeline.cellsGhost cfgs (EP (F := F)) p d)
        ∗ (bigSep Finset.univ fun d : Dev nD => bigSep Finset.univ fun p : Fin 1 => (Pipeline.toksInit cfgs (EP (F := F)) p d : sProp 𝕄))) from by
      rw [← bigSep_sep']
      refine bigSep_congr fun d _ => ?_
      rw [bigSep_univ_of_subsingleton (0 : Fin 1), bigSep_univ_of_subsingleton (0 : Fin 1)]]
    isplitl [HG] <;> iassumption
  rw [show (bigSep Finset.univ fun thr : Thread nD τ => bigSep Finset.univ fun q : Fin 1 => (P (F := F) S0 S1).x q thr) = bigSep Finset.univ fun _ => iprop(emp) from
    bigSep_congr fun _ _ => bigSep_univ_of_subsingleton (0 : Fin 1), bigSep_emp']
  iempintro

end launch

/-! ## The program around the call -/

open Idealize.ShloMosaic.StableHlo (seq after held)
section main
variable (m : (ℓ : Loc nD τ sig) → Buf (Elt F) ℓ) (ρ : Dev nD → PrngReg)

/-- The operations before the call. -/
def pre : List (HloOp τ sig (Elt F)) :=
  [StableHlo.unary main_arg0 main_v0 ((extractStridedSlice S128x8732x1 ![0, 0, 0] · slices_S128x8732x2_S128x8732x1_0_0_0) : (⟨S128x8732x2, .f32⟩ : BufTy).Contents (Elt F) → (⟨S128x8732x1, .f32⟩ : BufTy).Contents (Elt F)),
   StableHlo.reshape main_v0 main_v1 (rfl : (.f32 : EltTy) = .f32) shapeCasts_S128x8732x1_S128x8732,
   StableHlo.unary main_arg0 main_v2 ((extractStridedSlice S128x8732x1 ![0, 0, 1] · slices_S128x8732x2_S128x8732x1_0_0_1) : (⟨S128x8732x2, .f32⟩ : BufTy).Contents (Elt F) → (⟨S128x8732x1, .f32⟩ : BufTy).Contents (Elt F)),
   StableHlo.reshape main_v2 main_v3 (rfl : (.f32 : EltTy) = .f32) shapeCasts_S128x8732x1_S128x8732,
   StableHlo.nullary main_c (constantI S_ 32 0#32),
   StableHlo.unary main_c main_call0_v0 (sitofp .f32),
   StableHlo.binary main_v1 main_call0_v0 main_v4 (fun x v => pad S128x8832 ![0, 0] ![0, 100] ![0, 0] x v pads_S128x8732_S128x8832_000_01000 h_S_),
   StableHlo.reshape main_v4 main_v5 (rfl : (.f32 : EltTy) = .f32) shapeCasts_S128x8832_S1130496,
   StableHlo.nullary main_c_0 (constantI S_ 32 0#32),
   StableHlo.unary main_c_0 main_call1_v0 (sitofp .f32),
   StableHlo.binary main_v3 main_call1_v0 main_v6 (fun x v => pad S128x8832 ![0, 0] ![0, 100] ![0, 0] x v pads_S128x8732_S128x8832_000_01000 h_S_),
   StableHlo.reshape main_v6 main_v7 (rfl : (.f32 : EltTy) = .f32) shapeCasts_S128x8832_S1130496]

/-- The operations after the call. -/
def post : List (HloOp τ sig (Elt F)) :=
  [StableHlo.reshape main_v8_0 main_v9 (rfl : (.f32 : EltTy) = .f32) shapeCasts_S4096_S128x32,
   StableHlo.reshape main_v8_1 main_v10 (rfl : (.i32 : EltTy) = .i32) shapeCasts_S4096_S128x32]

/-- The scalars after the second call. -/
def tail : List (HloOp τ sig (Elt F)) :=
  [StableHlo.unary main_v11 main_v12 ((extractStridedSlice S1x1 ![0, 0] · slices_S1x128_S1x1_0_0) : (⟨S1x128, .f32⟩ : BufTy).Contents (Elt F) → (⟨S1x1, .f32⟩ : BufTy).Contents (Elt F)),
   StableHlo.reshape main_v12 main_v13 (rfl : (.f32 : EltTy) = .f32) shapeCasts_S1x1_S_,
   StableHlo.unary main_v11 main_v14 ((extractStridedSlice S1x1 ![0, 1] · slices_S1x128_S1x1_0_1) : (⟨S1x128, .f32⟩ : BufTy).Contents (Elt F) → (⟨S1x1, .f32⟩ : BufTy).Contents (Elt F)),
   StableHlo.reshape main_v14 main_v15 (rfl : (.f32 : EltTy) = .f32) shapeCasts_S1x1_S_,
   StableHlo.nullary main_cst (constant S_ .f32 0x40800000#32),
   StableHlo.binary main_v13 main_cst main_v16 (mulf : (⟨S_, .f32⟩ : BufTy).Contents (Elt F) → (⟨S_, .f32⟩ : BufTy).Contents (Elt F) → (⟨S_, .f32⟩ : BufTy).Contents (Elt F)),
   StableHlo.binary main_v15 main_v16 main_v17 (Host.divf : (⟨S_, .f32⟩ : BufTy).Contents (Elt F) → (⟨S_, .f32⟩ : BufTy).Contents (Elt F) → (⟨S_, .f32⟩ : BufTy).Contents (Elt F)),
   StableHlo.unary main_v11 main_v18 ((extractStridedSlice S1x1 ![0, 2] · slices_S1x128_S1x1_0_2) : (⟨S1x128, .f32⟩ : BufTy).Contents (Elt F) → (⟨S1x1, .f32⟩ : BufTy).Contents (Elt F)),
   StableHlo.reshape main_v18 main_v19 (rfl : (.f32 : EltTy) = .f32) shapeCasts_S1x1_S_,
   StableHlo.unary main_v11 main_v20 ((extractStridedSlice S1x1 ![0, 3] · slices_S1x128_S1x1_0_3) : (⟨S1x128, .f32⟩ : BufTy).Contents (Elt F) → (⟨S1x1, .f32⟩ : BufTy).Contents (Elt F)),
   StableHlo.reshape main_v20 main_v21 (rfl : (.f32 : EltTy) = .f32) shapeCasts_S1x1_S_,
   StableHlo.binary main_v19 main_v21 main_v22 (addf : (⟨S_, .f32⟩ : BufTy).Contents (Elt F) → (⟨S_, .f32⟩ : BufTy).Contents (Elt F) → (⟨S_, .f32⟩ : BufTy).Contents (Elt F)),
   StableHlo.binary main_v22 main_v13 main_v23 (Host.divf : (⟨S_, .f32⟩ : BufTy).Contents (Elt F) → (⟨S_, .f32⟩ : BufTy).Contents (Elt F) → (⟨S_, .f32⟩ : BufTy).Contents (Elt F)),
   StableHlo.binary main_v23 main_v17 main_v24 (addf : (⟨S_, .f32⟩ : BufTy).Contents (Elt F) → (⟨S_, .f32⟩ : BufTy).Contents (Elt F) → (⟨S_, .f32⟩ : BufTy).Contents (Elt F))]

/-- The second call, as the program runs it. -/
abbrev second : Prog (TpuEff nD τ sig (Elt F) (ΛP (F := F)) .tc) PUnit := .op (.customCall (Pipeline.entry 0) ()) .ret

/-- The program: the operations before the first call, that call, the reshapes, the second call, the scalars. -/
theorem main_eq (d : Dev nD) : main (F := F) d
    = (seq pre >>= fun _ => (K (F := F)).run d 0 >>= fun _ => seq post >>= fun _ => SparseCore.liftProg (second (F := F)) >>= fun _ => seq tail >>= fun _ => pure ⟨⟩) := by
  sl_kernel_rfl

abbrev xR : DevRef τ sig := Proc.devRef .tc (main_arg0 : Ref sig .tc)
abbrev aR : DevRef τ sig := Proc.devRef .tc (main_v5 : Ref sig .tc)
abbrev bR : DevRef τ sig := Proc.devRef .tc (main_v7 : Ref sig .tc)
abbrev kR : DevRef τ sig := Proc.devRef .tc (main_v8_0 : Ref sig .tc)
abbrev nR : DevRef τ sig := Proc.devRef .tc (main_v8_1 : Ref sig .tc)
abbrev okR : DevRef τ sig := Proc.devRef .tc (main_v9 : Ref sig .tc)
abbrev onR : DevRef τ sig := Proc.devRef .tc (main_v10 : Ref sig .tc)
abbrev sR : DevRef τ sig := Proc.devRef .tc (main_arg1 : Ref sig .tc)
abbrev cR : DevRef τ sig := Proc.devRef .tc (main_v11 : Ref sig .tc)
abbrev rR : DevRef τ sig := Proc.devRef .tc (main_v24 : Ref sig .tc)

/-- The contents at the launch, at the call, after it and at the end. -/
def V0 (d : Dev nD) : Valuation τ sig (Elt F) := fun b => m (d, b)
def V1 (d : Dev nD) : Valuation τ sig (Elt F) := after pre (V0 m d)
def S0 (d : Dev nD) : S1130496.Idx → F .f32 := V1 m d aR
def S1 (d : Dev nD) : S1130496.Idx → F .f32 := V1 m d bR
def V2 (d : Dev nD) : Valuation τ sig (Elt F) :=
  Function.update (Function.update (V1 m d) kR (outK kc (S0 m d) (S1 m d))) nR (outI kc (S0 m d) (S1 m d))
def V3 (d : Dev nD) : Valuation τ sig (Elt F) := after post (V2 m d)
/-- The same by the main thread's names. -/
abbrev W3 (d : Dev nD) (b : Ref sig .tc) : Buf (Elt F) ((d.tc : Thread nD τ).loc b) := V3 m d (Proc.devRef .tc b)
def V4 (d : Dev nD) : Valuation τ sig (Elt F) := Function.update (V3 m d) cR (combined (W3 m) d)
def V5 (d : Dev nD) : Valuation τ sig (Elt F) := after tail (V4 m d)

/-- The call leaves its first array. -/
theorem V2_a (d : Dev nD) : V2 m d aR = S0 m d :=
  (Function.update_of_ne (show aR ≠ nR by decide) _ _).trans (Function.update_of_ne (show aR ≠ kR by decide) _ _)
/-- The call leaves its second array. -/
theorem V2_b (d : Dev nD) : V2 m d bR = S1 m d :=
  (Function.update_of_ne (show bR ≠ nR by decide) _ _).trans (Function.update_of_ne (show bR ≠ kR by decide) _ _)
/-- The call sets the keys. -/
theorem V2_k (d : Dev nD) : V2 m d kR = outK kc (S0 m d) (S1 m d) :=
  (Function.update_of_ne (show kR ≠ nR by decide) _ _).trans (Function.update_self _ _ _)
/-- The call sets the indices. -/
theorem V2_n (d : Dev nD) : V2 m d nR = outI kc (S0 m d) (S1 m d) := Function.update_self _ _ _

/-- The call's four arrays. -/
abbrev T4 : Finset (DevRef τ sig) := {aR, bR, kR, nR}
/-- The arguments and the result. -/
abbrev T3 : Finset (DevRef τ sig) := {xR, sR, rR}
abbrev UC : Finset (DevRef τ sig) := Pipeline.ucRefs τ sig

/-- The call's arrays are the program's. -/
theorem T4_sub : T4 ⊆ UC := by decide +kernel
/-- The arguments and the result are the program's. -/
theorem T3_sub : T3 ⊆ UC := by decide +kernel

/-- Holding the call's four arrays. -/
theorem held_T4 (d : Dev nD) (W : Valuation τ sig (Elt F)) : (held (SparseCore.T d) T4 W : sProp 𝕄)
    = iprop((aLoc d ↦{fullShare} W aR) ∗ (bLoc d ↦{fullShare} W bR) ∗ (kLoc d ↦{fullShare} W kR) ∗ (nLoc d ↦{fullShare} W nR)) := by
  unfold held T4
  rw [SparseCore.bigSep_insert' (by decide), SparseCore.bigSep_insert' (by decide), SparseCore.bigSep_insert' (by decide), bigSep_singleton]

/-- Holding the arguments and the result. -/
theorem held_T3 (d : Dev nD) (W : Valuation τ sig (Elt F)) : (held (SparseCore.T d) T3 W : sProp 𝕄)
    = iprop(((SparseCore.T d).loc main_arg0 ↦{fullShare} W xR) ∗ ((SparseCore.T d).loc main_arg1 ↦{fullShare} W sR) ∗ ((SparseCore.T d).loc main_v24 ↦{fullShare} W rR)) := by
  unfold held T3
  rw [SparseCore.bigSep_insert' (by decide), SparseCore.bigSep_insert' (by decide), bigSep_singleton]

/-- The call changes no other array. -/
theorem rest_eq (d : Dev nD) : (held (SparseCore.T d) (UC \ T4) (V2 m d) : sProp 𝕄) = held (SparseCore.T d) (UC \ T4) (V1 m d) := by
  refine StableHlo.held_congr _ fun b hb => ?_
  have hb' := (Finset.mem_sdiff.mp hb).2
  simp only [T4, Finset.mem_insert, Finset.mem_singleton, not_or] at hb'
  exact (Function.update_of_ne hb'.2.2.2 _ _).trans (Function.update_of_ne hb'.2.2.1 _ _)

/-- The operations before the call touch the program's arrays only. -/
theorem pre_sub : ∀ op ∈ pre (F := F), op.bufs ⊆ UC := by
  intro op h
  refine Pipeline.sub_ucRefs op ?_
  revert op
  simp only [pre, List.forall_mem_cons, List.not_mem_nil, false_imp_iff, implies_true, and_true]
  simp
/-- The operations before the call allocate nothing. -/
theorem pre_fresh : ∀ op ∈ pre (F := F), op.fresh = ∅ := by
  simp only [pre, List.forall_mem_cons, List.not_mem_nil, false_imp_iff, implies_true, and_true]
  exact ⟨rfl, rfl, rfl, rfl, rfl, rfl, rfl, rfl, rfl, rfl, rfl, rfl⟩
/-- The operations after the call touch the program's arrays only. -/
theorem post_sub : ∀ op ∈ post (F := F), op.bufs ⊆ UC := by
  intro op h
  refine Pipeline.sub_ucRefs op ?_
  revert op
  simp only [post, List.forall_mem_cons, List.not_mem_nil, false_imp_iff, implies_true, and_true]
  simp
/-- The operations after the call allocate nothing. -/
theorem post_fresh : ∀ op ∈ post (F := F), op.fresh = ∅ := by
  simp only [post, List.forall_mem_cons, List.not_mem_nil, false_imp_iff, implies_true, and_true]
  exact ⟨rfl, rfl⟩

/-- The scalars touch the program's arrays only. -/
theorem tail_sub : ∀ op ∈ tail (F := F), op.bufs ⊆ UC := by
  intro op h
  refine Pipeline.sub_ucRefs op ?_
  revert op
  simp only [tail, List.forall_mem_cons, List.not_mem_nil, false_imp_iff, implies_true, and_true]
  simp
/-- The scalars allocate nothing. -/
theorem tail_fresh : ∀ op ∈ tail (F := F), op.fresh = ∅ := by
  simp only [tail, List.forall_mem_cons, List.not_mem_nil, false_imp_iff, implies_true, and_true]
  exact ⟨rfl, rfl, rfl, rfl, rfl, rfl, rfl, rfl, rfl, rfl, rfl, rfl, rfl, rfl⟩

/-- The second call sets its result. -/
theorem V4_c (d : Dev nD) : V4 m d cR = combined (W3 m) d := by
  unfold V4
  exact Function.update_self _ _ _
/-- The second call changes no other array. -/
theorem V4_ne (d : Dev nD) (b : Ref sig .tc) (h : b ≠ main_v11) : V4 m d (Proc.devRef .tc b) = V3 m d (Proc.devRef .tc b) := by
  unfold V4
  exact Function.update_of_ne (fun e => h (Proc.devRef_injective _ e)) _ _

/-- The second call's region in this program. -/
abbrev regM : Pipeline.RegionSeg (pcfgs (F := F)) adm (pdats (W3 m)) (none : HIx 1) defs₀ Variants.none (K (F := F)).L (K (F := F)).lev 0 :=
  reg (W3 m) (fun d b => V4 m d (Proc.devRef .tc b)) (fun d => V4_c m d) (fun d b h => V4_ne m d b h)

set_option backward.isDefEq.respectTransparency.types false in
/-- The second call, run between the handshakes: it sets its result and owes nothing. -/
theorem second_run (d : Dev nD) (Q : PUnit → sProp 𝕄) :
    iprop((iprop(boundary (d.tc : Thread nD τ) ∗ (unscopedBufs d (fun b => V4 m d (Proc.devRef .tc b)) ∗ owesC d)) -∗ Q ⟨⟩)
        ∗ boundary (d.tc : Thread nD τ) ∗ (unscopedBufs d (W3 m d) ∗ owesC d) ∗ levAts (K (F := F)).L (K (F := F)).lev ∗ G d)
      ⊢ wp frame (wpE (D (F := F)) 𝒱 (SparseCore.T d) none) Set.univ (second (F := F)) Q := by
  have h := Pipeline.RegionSeg.wp (pcfgs (F := F)) adm (pdats (W3 m)) (none : HIx 1) cellOf_inj (EP (F := F)) defs₀ Variants.none (K (F := F)).L (K (F := F)).lev
    (regM m) d none (fun _ h => nomatch h) (fun _ => .ret ⟨⟩) Q
  rw [show (regM m).pre d = iprop(unscopedBufs d (W3 m d) ∗ owesC d) from rfl,
    show (regM m).post d = iprop(unscopedBufs d (fun b => V4 m d (Proc.devRef .tc b)) ∗ owesC d) from rfl] at h
  refine BIClass.entails_trans (show (_ : sProp 𝕄) ⊢ _ from ?_) h
  iintro ⟨Hk, Hb, Hpre, Hl, Hg, Ht⟩
  isplitl [Hk]
  · iintro H
    rw [wp_ret]
    imodintro
    iapply Hk
    iexact H
  isplitl [Hb]; · iexact Hb
  isplitl [Hpre]; · iexact Hpre
  isplitl [Hl]; · iexact Hl
  isplitl [Hg] <;> iassumption

/-- What the program leaves: the arguments and the result. -/
abbrev FIN (d : Dev nD) : sProp 𝕄 := held (SparseCore.T d) T3 (V5 m d)

/-- One side of a product replaced by an equivalent. -/
theorem sep_swap (A B R : sProp 𝕄) (h : A ⊢ B) (h' : B ⊢ A) : ∃ R' : sProp 𝕄, (iprop(A ∗ R) ⊢ iprop(B ∗ R')) ∧ (iprop(B ∗ R') ⊢ iprop(A ∗ R)) :=
  ⟨R, BI.sep_mono h (Entails.refl _), BI.sep_mono h' (Entails.refl _)⟩

/-- The main thread after the first call owes nothing, its waits recorded low; the rest of its state is kept. -/
theorem tcSt_open (d : Dev nD) (n : ℕ) (hn : n = 1) :
    ∃ R : sProp 𝕄, ((K (F := F)).tcSt EH d n ⊢ iprop(owesC d ∗ R)) ∧ (iprop(owesC d ∗ R) ⊢ (K (F := F)).tcSt EH d 1) := by
  subst hn
  unfold SparseCore.Cfg.tcSt
  rw [(K (F := F)).Otc_end d le_rfl]
  refine sep_swap _ _ _ ?_ ?_
  · iintro ⟨%R, %hR, HO⟩
    iexists R
    isplitr; · ipureintro; exact fun p hp => hR p hp
    iexact HO
  · iintro ⟨%R, %hR, HO⟩
    iexists R
    isplitr; · ipureintro; exact fun p hp => hR hp
    iexact HO

/-- The run of the whole program on the main thread. -/
theorem hmain (κ : GSem nD τ sig → ℕ) (d : Dev nD) :
    iprop((K (F := F)).ctx EH (P (S0 m) (S1 m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show unscopedBufs d (fun b => m ((SparseCore.T d).loc b)) = (held (SparseCore.T d) UC (V0 m d) : sProp 𝕄) from
    Pipeline.unscopedBufs_held (Ix := HIx 1) (Name := ℕ) (U := UU) (Lvl := ℕ) d (V0 m d), main_eq]
  iintro ⟨#Hctx, Hst, ⟨Hb, Hheld, Hts, -⟩, HG⟩
  iapply (StableHlo.wp_seq 𝒱 none Set.univ d UC _ pre pre_sub pre_fresh (V0 m d)) $$ [Hb Hheld]
  · isplitl [Hb]; · iexact Hb
    iexact Hheld
  iintro ⟨Hb, Hheld⟩
  ihave Hh := (show held (d.tc : Thread nD τ) UC (after pre (V0 m d)) ⊢ (iprop(held (SparseCore.T d) T4 (V1 m d) ∗ held (SparseCore.T d) (UC \ T4) (V1 m d)) : sProp 𝕄) from
    Entails.of_eq (StableHlo.held_sub_split (SparseCore.T d) T4_sub (V1 m d))) $$ Hheld
  icases Hh with ⟨H4, Hrest⟩
  ihave H4' := (Entails.of_eq (held_T4 (F := F) d _)) $$ H4
  ihave H4'' := (show iprop((aLoc d ↦{fullShare} V1 m d aR) ∗ (bLoc d ↦{fullShare} V1 m d bR) ∗ (kLoc d ↦{fullShare} V1 m d kR) ∗ (nLoc d ↦{fullShare} V1 m d nR))
      ⊢ (bigSep Finset.univ fun c : Fin ((K (F := F)).nCore 0) => (P (S0 m) (S1 m)).st 0 d c : sProp 𝕄) from
    take (S0 m) (S1 m) d (V1 m d kR) (V1 m d nR)) $$ H4'
  rw [wp_bind]
  iapply ((K (F := F)).wp_run (D (F := F)) 𝒱 (EH := EH) (P := P (S0 m) (S1 m)) κ d 0) $$ [Hst H4'' Hb Hrest Hts HG]
  isplitr; · iexact Hctx
  isplitl [Hst]; · iexact Hst
  isplitl [H4'']; · iexact H4''
  iintro ⟨Hst, Hdn⟩
  ihave Hdn' := (Entails.of_eq (give (S0 m) (S1 m) d)) $$ Hdn
  ihave H4 := (Entails.of_eq (show iprop((aLoc d ↦{fullShare} S0 m d) ∗ (bLoc d ↦{fullShare} S1 m d) ∗ (kLoc d ↦{fullShare} outK kc (S0 m d) (S1 m d))
      ∗ (nLoc d ↦{fullShare} outI kc (S0 m d) (S1 m d))) = (held (SparseCore.T d) T4 (V2 m d) : sProp 𝕄) by
    rw [held_T4, V2_a, V2_b, V2_k, V2_n])) $$ Hdn'
  ihave Hrest' := (Entails.of_eq (rest_eq m d).symm) $$ Hrest
  iapply (StableHlo.wp_seq 𝒱 none Set.univ d UC _ post post_sub post_fresh (V2 m d)) $$ [Hb H4 Hrest']
  · isplitl [Hb]; · iexact Hb
    iapply (Entails.of_eq (StableHlo.held_sub_split (SparseCore.T d) T4_sub (V2 m d)).symm)
    isplitl [H4]; · iexact H4
    iexact Hrest'
  iintro ⟨Hb, Hheld⟩
  obtain ⟨R, hopen, hclose⟩ := tcSt_open (F := F) d ((0 : Fin 1).val + 1) rfl
  ihave Ho := hopen $$ Hst
  icases Ho with ⟨HO, HR⟩
  ihave Hl := ((K (F := F)).ctx_levAts κ) $$ Hctx
  rw [wp_bind]
  iapply ((K (F := F)).wp_liftProg (D (F := F)) 𝒱 (SparseCore.T d) Set.univ none (second (F := F)) _)
  iapply (second_run m d _)
  isplitr [Hb Hheld HO Hl HG]
  rotate_left
  · isplitl [Hb]; · iexact Hb
    isplitl [Hheld HO]
    · isplitl [Hheld]
      · iapply (Entails.of_eq (Pipeline.unscopedBufs_held (Ix := HIx 1) (Name := ℕ) (U := UU) (Lvl := ℕ) d (V3 m d)).symm)
        iexact Hheld
      iexact HO
    isplitl [Hl]; · iexact Hl
    iexact HG
  iintro ⟨Hb, Hub, HO⟩
  ihave Hst := hclose $$ [HO HR]
  · isplitl [HO] <;> iassumption
  ihave Hheld := (Entails.of_eq (Pipeline.unscopedBufs_held (Ix := HIx 1) (Name := ℕ) (U := UU) (Lvl := ℕ) d (V4 m d))) $$ Hub
  iapply (StableHlo.wp_seq 𝒱 none Set.univ d UC _ tail tail_sub tail_fresh (V4 m d)) $$ [Hb Hheld]
  · isplitl [Hb]; · iexact Hb
    iexact Hheld
  iintro ⟨Hb, Hheld⟩
  ihave Hh := (show held (d.tc : Thread nD τ) UC (after tail (V4 m d)) ⊢ (iprop(held (SparseCore.T d) T3 (V5 m d) ∗ held (SparseCore.T d) (UC \ T3) (V5 m d)) : sProp 𝕄) from
    Entails.of_eq (StableHlo.held_sub_split (SparseCore.T d) T3_sub (V5 m d))) $$ Hheld
  icases Hh with ⟨H3, -⟩
  rw [wp_pure]
  imodintro
  isplitl [Hst]; · iexact Hst
  isplitl [H3]; · iexact H3
  isplitl [Hb] <;> iassumption

def fq (d : Dev nD) (s' : Phys nD τ sig (Elt F)) : Prop :=
  s'.mem.mem ((SparseCore.T d).loc main_arg0) = V5 m d xR ∧ s'.mem.mem ((SparseCore.T d).loc main_arg1) = V5 m d sR
    ∧ s'.mem.mem ((SparseCore.T d).loc main_v24) = V5 m d rR

/-- What is held at the end tells the memory. -/
theorem hfin (d : Dev nD) (s' : Phys nD τ sig (Elt F)) : iprop(FIN m d ∗ SI s') ⊢ (⌜fq m d s'⌝ : sProp 𝕄) := by
  unfold FIN
  rw [held_T3]
  iintro ⟨⟨Hx, Ha, Hb⟩, HSI⟩
  ihave H := (persistent_entails_right (SI_pointsTo_agree (st := s') (ℓ := (SparseCore.T d).loc main_arg0) (I := Finset.univ) (q := fullShare) (f := V5 m d xR))) $$ [HSI Hx]
  · isplitl [HSI] <;> iassumption
  icases H with ⟨%hx, HSI, -⟩
  ihave H := (persistent_entails_right (SI_pointsTo_agree (st := s') (ℓ := (SparseCore.T d).loc main_arg1) (I := Finset.univ) (q := fullShare) (f := V5 m d sR))) $$ [HSI Ha]
  · isplitl [HSI] <;> iassumption
  icases H with ⟨%ha, HSI, -⟩
  ihave H := (SI_pointsTo_agree (st := s') (ℓ := (SparseCore.T d).loc main_v24) (I := Finset.univ) (q := fullShare) (f := V5 m d rR)) $$ [HSI Hb]
  · isplitl [HSI] <;> iassumption
  icases H with %hb
  ipureintro; exact ⟨funext fun i => hx i (Finset.mem_univ i), funext fun i => ha i (Finset.mem_univ i), funext fun i => hb i (Finset.mem_univ i)⟩

def QC : PUnit × MemSt nD τ sig (Elt F) → Prop := fun r =>
  (∀ d : Dev nD, r.2.mem ((SparseCore.T d).loc main_arg0) = V5 m d xR ∧ r.2.mem ((SparseCore.T d).loc main_arg1) = V5 m d sR
    ∧ r.2.mem ((SparseCore.T d).loc main_v24) = V5 m d rR) ∧ r.2.sem = fun _ => 0

/-- The whole program's run: it ends, with these contents and every counter at zero. -/
theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P (S0 m) (S1 m)) (A := ∅) sc_facts v₀
    (fun q hq => match q with | 0 => nomatch hq)
    (fun q _ => match q with | 0 => tileObl (S0 m) (S1 m) sc_facts)
    (fun q _ => match q with | 0 => SparseCore.Cfg.VecSplit.of_plain (vecSplit (S0 m) (S1 m)))
    m ρ main (fun d => G d) (FIN m) (u₀ (F := F)) (sep_elim_left.trans (hu₀ (S0 m) (S1 m))) (hmain m ρ) (fq m) (hfin m) (QC m) (fun _ h hz => ⟨h, hz⟩)

/-- The argument is unchanged before the second call. -/
theorem V3_x (d : Dev nD) : V3 m d xR = m ((SparseCore.T d).loc main_arg0) := by
  unfold V3
  rw [StableHlo.after_of_forall_not_mem (b := xR) post _ (by
    simp only [post, List.forall_mem_cons, List.not_mem_nil, false_imp_iff, implies_true, and_true]
    exact ⟨by show xR ∉ ({okR} : Finset (DevRef τ sig)); decide, by show xR ∉ ({onR} : Finset (DevRef τ sig)); decide⟩)]
  refine ((Function.update_of_ne (show xR ≠ nR by decide) _ _).trans (Function.update_of_ne (show xR ≠ kR by decide) _ _)).trans ?_
  unfold V1 pre
  after_results_simp
  rfl

/-- The statistics are unchanged before the second call. -/
theorem V3_s (d : Dev nD) : V3 m d sR = m ((SparseCore.T d).loc main_arg1) := by
  unfold V3
  rw [StableHlo.after_of_forall_not_mem (b := sR) post _ (by
    simp only [post, List.forall_mem_cons, List.not_mem_nil, false_imp_iff, implies_true, and_true]
    exact ⟨by show sR ∉ ({okR} : Finset (DevRef τ sig)); decide, by show sR ∉ ({onR} : Finset (DevRef τ sig)); decide⟩)]
  refine ((Function.update_of_ne (show sR ≠ nR by decide) _ _).trans (Function.update_of_ne (show sR ≠ kR by decide) _ _)).trans ?_
  unfold V1 pre
  after_results_simp
  rfl

/-- The first argument is unchanged at the end. -/
theorem V5_x (d : Dev nD) : V5 m d xR = m ((SparseCore.T d).loc main_arg0) := by
  have h : V5 m d xR = V4 m d xR := by
    unfold V5 tail
    after_results_simp
  rw [h]
  exact (Function.update_of_ne (show xR ≠ cR by decide) _ _).trans (V3_x m d)

/-- The statistics are unchanged at the end. -/
theorem V5_s (d : Dev nD) : V5 m d sR = m ((SparseCore.T d).loc main_arg1) := by
  have h : V5 m d sR = V4 m d sR := by
    unfold V5 tail
    after_results_simp
  rw [h]
  exact (Function.update_of_ne (show sR ≠ cR by decide) _ _).trans (V3_s m d)

/-- The second call's keys: those of all images. -/
theorem V3_k (d : Dev nD) : V3 m d okR = shapeCast S128x32 (outK kc (S0 m d) (S1 m d)) shapeCasts_S4096_S128x32 := by
  have h : V3 m d okR = shapeCast S128x32 (V2 m d kR) shapeCasts_S4096_S128x32 := by
    unfold V3 post
    after_results_simp
    rfl
  rw [h, V2_k]

/-- The second call's indices: those of all images. -/
theorem V3_n (d : Dev nD) : V3 m d onR = shapeCast S128x32 (outI kc (S0 m d) (S1 m d)) shapeCasts_S4096_S128x32 := by
  have h : V3 m d onR = shapeCast S128x32 (V2 m d nR) shapeCasts_S4096_S128x32 := by
    unfold V3 post
    after_results_simp
    rfl
  rw [h, V2_n]

/-- The final scalars from the second call's result: the loss. -/
def lossFrom (r : FVec F S1x128 .f32) : FVec F S_ .f32 :=
  let n : FVec F S_ .f32 := shapeCast S_ (extractStridedSlice S1x1 ![0, 0] r slices_S1x128_S1x1_0_0) shapeCasts_S1x1_S_
  let l1 : FVec F S_ .f32 := shapeCast S_ (extractStridedSlice S1x1 ![0, 1] r slices_S1x128_S1x1_0_1) shapeCasts_S1x1_S_
  let cp : FVec F S_ .f32 := shapeCast S_ (extractStridedSlice S1x1 ![0, 2] r slices_S1x128_S1x1_0_2) shapeCasts_S1x1_S_
  let ch : FVec F S_ .f32 := shapeCast S_ (extractStridedSlice S1x1 ![0, 3] r slices_S1x128_S1x1_0_3) shapeCasts_S1x1_S_
  addf (Host.divf (addf cp ch) n) (Host.divf l1 (mulf n (constant S_ .f32 0x40800000#32)))

/-- The result at the end: the loss from the combination of the statistics with the keys and indices of all images. -/
theorem V5_r (d : Dev nD) : V5 m d rR = lossFrom (comb (m ((SparseCore.T d).loc main_arg1))
    (shapeCast S128x32 (outK kc (S0 m d) (S1 m d)) shapeCasts_S4096_S128x32) (shapeCast S128x32 (outI kc (S0 m d) (S1 m d)) shapeCasts_S4096_S128x32)) := by
  have h : V5 m d rR = lossFrom (V4 m d cR) := by
    unfold V5 tail
    after_results_simp
    rfl
  have e : ∀ (a a' : FVec F S128x128 .f32) (b b' : FVec F S128x32 .f32) (c c' : IVec S128x32 32), a = a' → b = b' → c = c' → lossFrom (comb a b c) = lossFrom (comb a' b' c') := by
    rintro _ _ _ _ _ _ rfl rfl rfl; rfl
  rw [h, V4_c, combined_eq]
  exact e _ _ _ _ _ _ (V3_s m d) (V3_k m d) (V3_n m d)

end main

end Cert.Proof.Mine

end
-- ==== Proof.Frames.lean ====
/- The programs' runs: each ends with its arguments unchanged and every counter at zero. -/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Tactic

@[expose] public section

noncomputable section

namespace Cert.Proof.Mine

open Idealize.ShloMosaic Idealize.SL.Sem

/-- Over bit patterns a named constant is its pattern. -/
@[reducible] def namedBits : Named Bits where
  named _ _ {φ} bits := Scalar.ofBits φ bits

attribute [local instance] namedBits

/-- Both programs have the same buffers. -/
theorem sig_eq : Cert.Kernel.sig = Cert.KernelIdeal.sig := by sl_kernel_rfl
/-- Both programs have the same bodies over bit patterns. -/
theorem defs_eq : (Cert.Kernel.defs (F := Bits)) = (Cert.KernelIdeal.defs (F := Bits)) := by sl_kernel_rfl
/-- Both programs have the same threads over bit patterns. -/
theorem threads_eq : (Cert.Kernel.threads (F := Bits)) = (Cert.KernelIdeal.threads (F := Bits)) := by sl_kernel_rfl

/-- The kernel over bit patterns ends, its arguments unchanged and every counter at zero. -/
theorem frame_kernel : Cert.quiescent_Kernel := by
  intro m ρ _
  have h := (θ_run (Cert.KernelIdeal.defs (F := Bits)) _ _).mono
    (fun r (h : QC m r) => (⟨fun c => ⟨(h.1 c).1.trans (V5_x m c), (h.1 c).2.1.trans (V5_s m c)⟩, h.2⟩ : (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)) (run_main (F := Bits) m ρ)
  rw [defs_eq, threads_eq]
  exact h

/-- The kernel over the extended reals ends, its arguments unchanged and every counter at zero. -/
theorem frame_ideal : Cert.quiescent_KernelIdeal := fun m ρ _ =>
  (θ_run (Cert.KernelIdeal.defs (F := Ideal)) _ _).mono
    (fun _ (h : QC m _) => ⟨fun c => ⟨(h.1 c).1.trans (V5_x m c), (h.1 c).2.1.trans (V5_s m c)⟩, h.2⟩) (run_main (F := Ideal) m ρ)

/-- The reference ends, its arguments unchanged and every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants stand for minus infinity. -/
theorem preserves : Cert.preserves_Kernel_KernelIdeal :=
  ⟨IdealRules.named_const.statement Cert.KernelIdeal.κ "mask" .f32 0xF149F2CA#32 ⊥ rfl,
    IdealRules.named_const.statement Cert.KernelIdeal.κ "init" .f32 0xF2177617#32 ⊥ rfl⟩

end Cert.Proof.Mine

end
-- ==== Proof.Host.lean ====
/- The host's operations around the call, read at an index: the two arrays of scores the call is
   given, and the reference's top-k by its sorting. -/
module

public import proofs.«01_k».proof.Proof.Launch
public import Idealize.ShloMosaic.Lib.SortFacts
public import Idealize.ShloMosaic.Lib.KernelVsHost

@[expose] public section

noncomputable section

namespace Cert.Proof.Mine

open Idealize.ShloMosaic Idealize.SL.Sem Cert.KernelIdeal Cert.KernelIdeal.Gen
open Idealize.ShloMosaic.StableHlo (after)

section host
variable {F : FTy → Type} [FloatOps F] [Named F]

/-- The first scores of all images. -/
def ch0 (X : S128x8732x2.Idx → F .f32) : S128x8732.Idx → F .f32 :=
  shapeCast S128x8732 (extractStridedSlice S128x8732x1 ![0, 0, 0] X slices_S128x8732x2_S128x8732x1_0_0_0) shapeCasts_S128x8732x1_S128x8732

/-- The second scores of all images. -/
def ch1 (X : S128x8732x2.Idx → F .f32) : S128x8732.Idx → F .f32 :=
  shapeCast S128x8732 (extractStridedSlice S128x8732x1 ![0, 0, 1] X slices_S128x8732x2_S128x8732x1_0_0_1) shapeCasts_S128x8732x1_S128x8732

/-- Scores padded to 8832 words an image, in a row. -/
def padded (Y : S128x8732.Idx → F .f32) : S1130496.Idx → F .f32 :=
  shapeCast S1130496 (pad S128x8832 ![0, 0] ![0, 100] ![0, 0] Y (sitofp .f32 (constantI S_ 32 0#32)) pads_S128x8732_S128x8832_000_01000 h_S_)
    shapeCasts_S128x8832_S1130496

variable (m : (ℓ : Loc nD τ sig) → Buf (Elt F) ℓ)

/-- The call's first array is the first scores padded. -/
theorem S0_eq (d : Dev nD) : S0 m d = padded (ch0 (m ((SparseCore.T d).loc main_arg0))) := by
  unfold S0 V1 pre
  after_results_simp
  rfl

/-- The call's second array is the second scores padded. -/
theorem S1_eq (d : Dev nD) : S1 m d = padded (ch1 (m ((SparseCore.T d).loc main_arg0))) := by
  unfold S1 V1 pre
  after_results_simp
  rfl

/-- A word of an image, where it is one of the 8732 scores. -/
theorem part_padded (Y : S128x8732.Idx → F .f32) (g : Fin 128) (n : ℕ) (hn : n < 8732) :
    part (padded Y) g.val (ix n) = Y (ValueIdx.ix2 g ⟨n, hn⟩) := by
  have hg := g.isLt
  unfold part padded
  have e : (8832 * g.val + ((ix n) 0).val) % 1130496 = 8832 * g.val + n := by
    show (8832 * g.val + n % 8832) % 1130496 = _
    omega
  show pad S128x8832 ![0, 0] ![0, 100] ![0, 0] Y _ _ _ (Shape.reshapeEquiv _ _) = _
  rw [Shape.reshapeEquiv_eq_of_vals (s := S128x8832) (s' := S1130496) _ _ (ValueIdx.ix2 g ⟨n, by omega⟩) (g.val * 8832 + n) (8832 * g.val + n)
    ((rowMajor_val2 _ 8832 rfl).trans rfl) ((rowMajor_val1 _).trans e) (by omega)]
  refine pad_apply_of_inside _ _ _ _ _ _ _ _ (ValueIdx.ix2 g ⟨n, hn⟩) fun a => ?_
  match a with
  | ⟨0, _⟩ => show g.val = 0 + g.val * (0 + 1); omega
  | ⟨1, _⟩ => show n = 0 + n * (0 + 1); omega

/-- The position in the row of all images' results of one of an image's 32. -/
theorem cast_out {α : Type} (f : S4096.Idx → α) (j : S128x32.Idx) :
    shapeCast S128x32 f shapeCasts_S4096_S128x32 j = f (ValueIdx.ix1 ⟨32 * (j 0).val + (j 1).val, by
      have h0 : (j 0).val < 128 := (j 0).isLt
      have h1 : (j 1).val < 32 := (j 1).isLt
      omega⟩) := by
  show f (Shape.reshapeEquiv _ _) = _
  congr 1
  exact Shape.reshapeEquiv_eq_of_vals (s := S4096) (s' := S128x32) _ _ _ (32 * (j 0).val + (j 1).val) ((j 0).val * 32 + (j 1).val)
    ((rowMajor_val1 _).trans rfl) (rowMajor_val2 _ 32 rfl) (by omega)

end host

/-- The sorting of a row: the position whose entry comes at a place in descending order. -/
def srt (Y : S128x8732.Idx → EReal) (g : Fin 128) : Fin 8732 → Fin 8732 :=
  sortedFrom fun k k' => FloatOps.cmpfTotal (F := Ideal) (φ := .f32) .gt (Y (ValueIdx.ix2 g k)) (Y (ValueIdx.ix2 g k')) == 1#1

/-- The sorting takes every position once. -/
theorem srt_bij (Y : S128x8732.Idx → EReal) (g : Fin 128) : Function.Bijective (srt Y g) :=
  ⟨sortedFrom_injective _, sortedFrom_surjective _⟩

/-- The comparison of the sorting is the order of the numbers. -/
theorem gt_iff (a b : EReal) : (FloatOps.cmpfTotal (F := Ideal) (φ := .f32) .gt a b == 1#1) = decide (b < a) := by
  show (BitVec.ofBool (decide (b < a)) == 1#1) = decide (b < a)
  cases decide (b < a) <;> rfl

/-- A row read by its sorting descends. -/
theorem srt_anti (Y : S128x8732.Idx → EReal) (g : Fin 128) : Antitone fun k => Y (ValueIdx.ix2 g (srt Y g k)) := by
  intro i j hij
  rcases hij.eq_or_lt with h | h
  · rw [h]
  · unfold srt
    have := sortedFrom_noInversion
      (fun k k' => FloatOps.cmpfTotal (F := Ideal) (φ := .f32) .gt (Y (ValueIdx.ix2 g k)) (Y (ValueIdx.ix2 g k')) == 1#1)
      (fun k k' => FloatOps.cmpfTotal (F := Ideal) (φ := .f32) .gt (Y (ValueIdx.ix2 g k)) (Y (ValueIdx.ix2 g k')) == 1#1)
      (fun a b => by simp only [gt_iff, decide_eq_true_eq, decide_eq_false_iff_not, not_lt]; exact le_of_lt)
      (fun a b h => h)
      (fun a b c => by simp only [gt_iff, decide_eq_false_iff_not, not_lt]; exact le_trans)
      i j h
    simpa only [gt_iff, decide_eq_false_iff_not, not_lt] using this

/-- A row with one coordinate set. -/
theorem along_row (g : Fin 128) (k : Fin 8732) :
    (fun k' => Shape.Idx.along (s := S128x8732) (ValueIdx.ix2 g k) (1 : Fin 2) k') = fun k' => ValueIdx.ix2 g k' := by
  funext k' a
  match a with
  | ⟨0, _⟩ => rfl
  | ⟨1, _⟩ => rfl

/-- The positions along the rows. -/
def posI : S128x8732.Idx → BitVec 32 := fun i => if hd : 1 < S128x8732.rank then iotaInDim S128x8732 32 ⟨1, hd⟩ i else 0#32

/-- The position of an entry of a row. -/
theorem posI_ix2 (g : Fin 128) (k : Fin 8732) : posI (ValueIdx.ix2 g k) = BitVec.ofNat 32 k.val := by
  unfold posI
  rw [dif_pos (show 1 < S128x8732.rank by decide)]
  rfl

/-- The array sorted together with the positions along its rows. -/
def sorted2 (Y : S128x8732.Idx → EReal) : (S128x8732.Idx → EReal) × (S128x8732.Idx → BitVec 32) :=
  Host.sort2 S128x8732 1 (fun l r => FloatOps.cmpfTotal (F := Ideal) (φ := .f32) .gt l.1 r.1) Y posI

/-- What a sorted row holds at a place, the row's indices given. -/
def sortAt {α : Type} (Y : S128x8732.Idx → EReal) (y : S128x8732.Idx → α) (k : Fin 8732) (f : Fin 8732 → S128x8732.Idx) : α :=
  y (f (sortedFrom (fun a b => FloatOps.cmpfTotal (F := Ideal) (φ := .f32) .gt (Y (f a)) (Y (f b)) == 1#1) k))

/-- The sorted values, by the sorting. -/
theorem sorted2_1 (Y : S128x8732.Idx → EReal) (g : Fin 128) (k : Fin 8732) :
    (sorted2 Y).1 (ValueIdx.ix2 g k) = Y (ValueIdx.ix2 g (srt Y g k)) :=
  (show (sorted2 Y).1 (ValueIdx.ix2 g k) = sortAt Y Y k (fun k' => Shape.Idx.along (s := S128x8732) (ValueIdx.ix2 g k) (1 : Fin 2) k') from rfl).trans
    (congrArg (sortAt Y Y k) (along_row g k))

/-- The sorted positions, by the sorting. -/
theorem sorted2_2 (Y : S128x8732.Idx → EReal) (g : Fin 128) (k : Fin 8732) :
    (sorted2 Y).2 (ValueIdx.ix2 g k) = BitVec.ofNat 32 (srt Y g k).val :=
  ((show (sorted2 Y).2 (ValueIdx.ix2 g k)
      = sortAt Y posI k (fun k' => Shape.Idx.along (s := S128x8732) (ValueIdx.ix2 g k) (1 : Fin 2) k') from rfl).trans
    (congrArg (sortAt Y posI k) (along_row g k))).trans (posI_ix2 g (srt Y g k))

/-- The row and place of a top-k's result, in the array sorted. -/
theorem top_idx (K : ℕ) (hK : K ≤ 8732) (h : S128x8732.Slices (fun _ => 0) ⟨2, ![128, K]⟩) (g : Fin 128) (l : Fin K) :
    (fun a => ⟨0 + (ValueIdx.ix2 g l (a.cast h.1.symm)).val, Nat.lt_of_lt_of_le (Nat.add_lt_add_left (ValueIdx.ix2 g l _).isLt _) (h.2 a)⟩ : S128x8732.Idx)
      = ValueIdx.ix2 g (l.castLE hK) := by
  funext a
  match a with
  | ⟨0, _⟩ => exact Fin.ext (Nat.zero_add _)
  | ⟨1, _⟩ => exact Fin.ext (Nat.zero_add _)

/-- THE VALUES OF A TOP-K are the row's entries in the order of its sorting. -/
theorem topK_1 (K : ℕ) (hK : K ≤ 8732) (Y : S128x8732.Idx → EReal) (h : S128x8732.Slices (fun _ => 0) ⟨2, ![128, K]⟩) (g : Fin 128) (l : Fin K) :
    (Host.topK ⟨2, ![128, K]⟩ 1 (FloatOps.cmpfTotal (F := Ideal) (φ := .f32) .gt) Y h).1 (ValueIdx.ix2 g l)
      = Y (ValueIdx.ix2 g (srt Y g (l.castLE hK))) :=
  (congrArg (sorted2 Y).1 (top_idx K hK h g l)).trans (sorted2_1 Y g _)

/-- THE INDICES OF A TOP-K are the positions its sorting gives. -/
theorem topK_2 (K : ℕ) (hK : K ≤ 8732) (Y : S128x8732.Idx → EReal) (h : S128x8732.Slices (fun _ => 0) ⟨2, ![128, K]⟩) (g : Fin 128) (l : Fin K) :
    (Host.topK ⟨2, ![128, K]⟩ 1 (FloatOps.cmpfTotal (F := Ideal) (φ := .f32) .gt) Y h).2 (ValueIdx.ix2 g l)
      = BitVec.ofNat 32 (srt Y g (l.castLE hK)).val :=
  (congrArg (sorted2 Y).2 (top_idx K hK h g l)).trans (sorted2_2 Y g _)

end Cert.Proof.Mine
-- ==== Proof.Keys.lean ====
/- The 32 greatest of two sorted vectors of 16 and one more vector of 16, by three bitonic merges,
   and when the greatest of a list may be taken without its small entries. In any linear order. -/
module

public import Idealize.ShloMosaic.Lib.SortNet.Lists
public import Idealize.ShloMosaic.Lib.SortNet.Ascending

@[expose] public section

namespace Cert.Proof.Mine

open Idealize.ShloMosaic.SortNet

variable {α : Type} [LinearOrder α]

/-- A vector read backwards has the same entries. -/
theorem ofFn_rev_perm {n : ℕ} (D : Fin n → α) : (List.ofFn fun j => D (Fin.rev j)).Perm (List.ofFn D) :=
  Equiv.Perm.ofFn_comp_perm Fin.revPerm D

/-- A network leaves the same entries. -/
theorem ofFn_apply_perm {n : ℕ} (N : Network n) (v : Fin n → α) : (List.ofFn (Network.apply N v)).Perm (List.ofFn v) := by
  obtain ⟨σ, hσ⟩ := Network.exists_perm N v
  rw [hσ]
  exact Equiv.Perm.ofFn_comp_perm σ _

/-- Position for position, the greater and the lesser entries of two vectors are the entries of both. -/
theorem max_min_perm {n : ℕ} (R D : Fin n → α) :
    (List.ofFn (fun j => max (R j) (D j)) ++ List.ofFn fun j => min (R j) (D j)).Perm (List.ofFn R ++ List.ofFn D) := by
  simp only [List.ofFn_eq_map]
  exact perm_map_max_append_map_min R D _

/-- The descending merge of the greater halves of two descending vectors. -/
def hiM (p : ℕ) (R D : Fin (2 ^ p) → α) : Fin (2 ^ p) → α := Network.apply (mergeDescNet p) fun j => max (R j) (D (Fin.rev j))

/-- The descending merge of the lesser halves of two descending vectors. -/
def loM (p : ℕ) (R D : Fin (2 ^ p) → α) : Fin (2 ^ p) → α := Network.apply (mergeDescNet p) fun j => min (R j) (D (Fin.rev j))

section two
variable (p : ℕ) (R D : Fin (2 ^ p) → α)

/-- The greater half, sorted, descends. -/
theorem hiM_antitone (hR : Antitone R) (hD : Antitone D) : Antitone (hiM p R D) := (topOfTwo_eq_topList p R D hR hD).1

/-- The lesser half, sorted, descends. -/
theorem loM_antitone (hR : Antitone R) (hD : Antitone D) : Antitone (loM p R D) := by
  have := descAsc_min (fun j => D (Fin.rev j)) R (monotone_comp_rev D hD) hR
  simp only [min_comm] at this
  exact mergeDescNet_apply_antitone p _ (by simpa only [min_comm] using this)

/-- The two merges hold the entries of both vectors. -/
theorem hiM_loM_perm : (List.ofFn (hiM p R D) ++ List.ofFn (loM p R D)).Perm (List.ofFn R ++ List.ofFn D) :=
  ((ofFn_apply_perm _ _).append (ofFn_apply_perm _ _)).trans
    ((max_min_perm R fun j => D (Fin.rev j)).trans ((List.Perm.refl _).append (ofFn_rev_perm D)))

/-- An entry of the greater merge is the greater of two entries. -/
theorem hiM_mem (j : Fin (2 ^ p)) : ∃ i, hiM p R D j = max (R i) (D (Fin.rev i)) := by
  obtain ⟨σ, hσ⟩ := Network.exists_perm (mergeDescNet p) fun j => max (R j) (D (Fin.rev j))
  exact ⟨σ j, congrFun hσ j⟩

/-- An entry of the lesser half is the lesser of a pair. -/
theorem loM_mem (j : Fin (2 ^ p)) : ∃ i, loM p R D j = min (R i) (D (Fin.rev i)) := by
  obtain ⟨σ, hσ⟩ := Network.exists_perm (mergeDescNet p) fun j => min (R j) (D (Fin.rev j))
  exact ⟨σ j, congrFun hσ j⟩

/-- Every entry of the lesser merge is at most every entry of the greater. -/
theorem loM_le_hiM (hR : Antitone R) (hD : Antitone D) (i j : Fin (2 ^ p)) : loM p R D i ≤ hiM p R D j := by
  obtain ⟨a, ha⟩ := loM_mem p R D i
  obtain ⟨b, hb⟩ := hiM_mem p R D j
  rw [ha, hb]
  rcases le_total a b with h | h
  · exact (min_le_right _ _).trans ((hD (Fin.rev_le_rev.mpr h)).trans (le_max_right _ _))
  · exact (min_le_left _ _).trans ((hR h).trans (le_max_left _ _))

end two

/-- ONE MERGE STEP: with `t₁ ++ t₂` descending and `s` descending, the three merges give the 32 greatest
    of all. -/
theorem step_topList (p : ℕ) (t₁ t₂ s : Fin (2 ^ p) → α) (h₁ : Antitone t₁) (h₂ : Antitone t₂) (hs : Antitone s) :
    List.ofFn (hiM p t₁ (hiM p t₂ s)) ++ List.ofFn (hiM p (loM p t₁ (hiM p t₂ s)) (loM p t₂ s))
      = topList (2 ^ p + 2 ^ p) ((List.ofFn t₁ ++ List.ofFn t₂) ++ List.ofFn s) := by
  set u := hiM p t₂ s with hu
  set ul := loM p t₂ s with hul
  set w := loM p t₁ u with hw
  have hua : Antitone u := hiM_antitone p _ _ h₂ hs
  have hula : Antitone ul := loM_antitone p _ _ h₂ hs
  have hwa : Antitone w := loM_antitone p _ _ h₁ hua
  have huul : ∀ i j, ul i ≤ u j := fun i j => loM_le_hiM p _ _ h₂ hs i j
  have hulhi : ∀ i j, ul i ≤ hiM p t₁ u j := fun i j => by
    obtain ⟨b, hb⟩ := hiM_mem p t₁ u j
    rw [hb]
    exact (huul i _).trans (le_max_right _ _)
  have hwhi : ∀ i j, w i ≤ hiM p t₁ u j := fun i j => loM_le_hiM p _ _ h₁ hua i j
  have hn2 : ∀ i j, hiM p w ul i ≤ hiM p t₁ u j := fun i j => by
    obtain ⟨b, hb⟩ := hiM_mem p w ul i
    rw [hb]
    exact max_le (hwhi _ _) (hulhi _ _)
  have hr : ∀ i j, loM p w ul i ≤ hiM p t₁ u j := fun i j => by
    obtain ⟨b, hb⟩ := loM_mem p w ul i
    rw [hb]
    exact (min_le_left _ _).trans (hwhi _ _)
  have hlen : (List.ofFn (hiM p t₁ u) ++ List.ofFn (hiM p w ul)).length = 2 ^ p + 2 ^ p := by
    rw [List.length_append, List.length_ofFn, List.length_ofFn]
  have hperm : ((List.ofFn (hiM p t₁ u) ++ List.ofFn (hiM p w ul)) ++ List.ofFn (loM p w ul)).Perm
      ((List.ofFn t₁ ++ List.ofFn t₂) ++ List.ofFn s) := by
    rw [List.append_assoc, List.append_assoc]
    refine ((List.Perm.refl _).append (hiM_loM_perm p w ul)).trans ?_
    rw [← List.append_assoc]
    refine ((hiM_loM_perm p t₁ u).append (List.Perm.refl _)).trans ?_
    rw [List.append_assoc]
    exact (List.Perm.refl _).append (hiM_loM_perm p t₂ s)
  have hpw : (List.ofFn (hiM p t₁ u) ++ List.ofFn (hiM p w ul)).Pairwise (· ≥ ·) := by
    rw [List.pairwise_append, List.pairwise_ofFn, List.pairwise_ofFn]
    refine ⟨fun i j hij => hiM_antitone p _ _ h₁ hua hij.le, fun i j hij => hiM_antitone p _ _ hwa hula hij.le, ?_⟩
    intro a ha b hb
    obtain ⟨i, rfl⟩ := (List.mem_ofFn' _ _).mp ha
    obtain ⟨j, rfl⟩ := (List.mem_ofFn' _ _).mp hb
    exact hn2 j i
  have := eq_topList hperm hpw (by
    intro a ha b hb
    obtain ⟨j, rfl⟩ := (List.mem_ofFn' _ _).mp hb
    rcases List.mem_append.mp ha with ha | ha
    · obtain ⟨i, rfl⟩ := (List.mem_ofFn' _ _).mp ha
      exact hr j i
    · obtain ⟨i, rfl⟩ := (List.mem_ofFn' _ _).mp ha
      exact loM_le_hiM p _ _ hwa hula j i)
  rwa [hlen] at this

/-- Where at least `k` entries reach `t`, each of the `k` greatest does. -/
theorem le_of_mem_topList {k : ℕ} {A : List α} {t : α} (hc : k ≤ A.countP fun x => decide (t ≤ x)) {a : α} (ha : a ∈ topList k A) :
    t ≤ a := by
  by_contra hlt
  have hlt := not_le.mp hlt
  unfold topList at ha
  obtain ⟨i, hi, rfl⟩ := List.mem_iff_getElem.mp ha
  rw [List.length_take] at hi
  rw [List.getElem_take] at hlt
  have h1 := countP_gt_le_index (List.pairwise_insertionSort (· ≥ ·) A) i (by omega)
  have h2 : A.countP (fun x => decide (t ≤ x)) = (A.insertionSort (· ≥ ·)).countP fun x => decide (t ≤ x) :=
    ((List.perm_insertionSort (· ≥ ·) A).countP_eq _).symm
  have h3 : (A.insertionSort (· ≥ ·)).countP (fun x => decide (t ≤ x))
      ≤ (A.insertionSort (· ≥ ·)).countP fun x => decide ((A.insertionSort (· ≥ ·))[i] < x) :=
    List.countP_mono_left fun x _ hx => by
      simp only [decide_eq_true_eq] at hx ⊢
      exact lt_of_lt_of_le hlt hx
  omega

/-- Entries below a value that at least `k` others reach can be left out of the `k` greatest. -/
theorem topList_drop {k : ℕ} {A S : List α} {t : α} (hc : k ≤ A.countP fun x => decide (t ≤ x)) (hS : ∀ s ∈ S, s ≤ t) :
    topList k (A ++ S) = topList k A :=
  topList_append_of_le k A S (hc.trans List.countP_le_length) fun s hs a ha => (hS s hs).trans (le_of_mem_topList hc ha)

end Cert.Proof.Mine
-- ==== Proof.Net.lean ====
/- What the kernel's vector operations compute over the extended reals: a lane permutation, a
   compare-exchange stage and the two networks, a merge, and the two tree reductions. -/
module

public import proofs.«01_k».proof.Proof.Spec
public import proofs.«01_k».proof.Proof.Keys
public import Idealize.ShloMosaic.Lib.Pipeline.Value
public import Idealize.ShloMosaic.PureOps.Ideal.Laws

@[expose] public section

noncomputable section

namespace Cert.Proof.Mine

open Idealize.ShloMosaic Idealize.SL.Sem Cert.KernelIdeal Cert.KernelIdeal.Gen Idealize.ShloMosaic.SortNet

/-- A 16-lane vector as a function of its lane number. -/
def fn {α : Type} (x : S16.Idx → α) (i : Fin 16) : α := x (ValueIdx.ix1 i)

/-- A vector at an index is its entry at the lane. -/
theorem fn_idx {α : Type} (x : S16.Idx → α) (l : S16.Idx) : x l = fn x (l 0) := by
  exact congrArg x (ValueIdx.eq_ix1 l)

/-- A repeated vector, at a lane. -/
theorem rep_apply {α : Type} (x : S16.Idx → α) (j : S128.Idx) : rep x j = fn x ⟨(j 0).val % 16, Nat.mod_lt _ (by decide)⟩ :=
  concatenate_replicate_apply (s₁ := S16) 0 8 x concatenates_S16_S16_S16_S16_S16_S16_S16_S16_S128_d0 rfl j
    (ValueIdx.ix1 ⟨(j 0).val % 16, Nat.mod_lt _ (by decide)⟩) rfl
    (fun b hb => absurd (Fin.ext (by have := b.isLt; show b.val = 0; change b.val < 1 at this; omega)) hb)

/-- The lane a permutation reads from. -/
def src (p : IVec S128 32) (i : Fin 16) : Fin 16 :=
  ⟨(p (ValueIdx.ix1 ⟨i.val, by omega⟩)).toNat % 128 % 16, Nat.mod_lt _ (by decide)⟩

variable {F : FTy → Type} [FloatOps F] [Named F]

/-- The first 16 of 128 lanes. -/
theorem fn_slice {α : Type} (y : S128.Idx → α) (i : Fin 16) :
    fn (extractStridedSlice S16 ![0] y slices_S128_o0_S16) i = y (ValueIdx.ix1 ⟨i.val, by omega⟩) :=
  congrArg y (funext fun a => match a with | ⟨0, _⟩ => Fin.ext (Nat.zero_add _))

/-- A gather from a repeated vector, at a lane. -/
theorem gather_apply {α : Type} (x : S16.Idx → α) (p : IVec S128 32) (j : S128.Idx) :
    dynamicGather 0 (rep x) p j = fn x ⟨(p j).toNat % 128 % 16, Nat.mod_lt _ (by decide)⟩ :=
  rep_apply x _

/-- A permutation reads every vector from the same lanes. -/
theorem fn_perm (x : V F) (p : IVec S128 32) (i : Fin 16) : fn (perm x p) i = fn x (src p i) := by
  unfold perm
  rw [shapeCast_shapeCast, fn_slice, gather_apply]
  rfl

/-- The lane a repeated permutation reads from. -/
theorem src_rep (q : IVec S16 32) (i : Fin 16) : (src (rep q) i).val = (fn q i).toNat % 16 := by
  have h : rep q (ValueIdx.ix1 ⟨i.val, by omega⟩) = fn q i :=
    (rep_apply q _).trans (congrArg (fn q) (Fin.ext (Nat.mod_eq_of_lt i.isLt)))
  show (rep q _).toNat % 128 % 16 = _
  rw [h]
  omega

/-- Every lane's pair has a property. -/
def All (P : F .f32 → F .f32 → Prop) (kv : V F × V F) : Prop := ∀ i, P (fn kv.1 i) (fn kv.2 i)

variable {P : F .f32 → F .f32 → Prop}

/-- A select between two vectors of pairs takes whole pairs. -/
theorem all_select {a b a' b' : V F} (sel : IVec S16 1) (h : ∀ i, P (fn a i) (fn a' i)) (h' : ∀ i, P (fn b i) (fn b' i)) (i : Fin 16) :
    P (fn (select sel a b) i) (fn (select sel a' b') i) := by
  show P (Scalar.select (sel _) (a _) (b _)) (Scalar.select (sel _) (a' _) (b' _))
  unfold Scalar.select
  split
  · exact h i
  · exact h' i

/-- A permutation of keys and positions alike keeps pairs. -/
theorem all_perm {a a' : V F} (p : IVec S128 32) (h : ∀ i, P (fn a i) (fn a' i)) (i : Fin 16) :
    P (fn (perm a p) i) (fn (perm a' p) i) := by
  rw [fn_perm, fn_perm]
  exact h _

/-- A stage keeps pairs. -/
theorem all_stage (kv : V F × V F) (c : IVec S128 32 × V F) (h : All P kv) : All P (stage kv c) :=
  all_select _ h (all_perm _ h)

/-- A network keeps pairs. -/
theorem all_net (cs : List (IVec S128 32 × V F)) (kv : V F × V F) (h : All P kv) : All P (net cs kv) := by
  unfold net
  induction cs generalizing kv with
  | nil => exact h
  | cons c cs ih => exact ih _ (all_stage kv c h)

/-- The greater halves hold pairs. -/
theorem all_hi (rev : IVec S128 32) (a b : V F × V F) (ha : All P a) (hb : All P b) : All P (hiHalf rev a b) :=
  all_select _ ha (all_perm _ hb)

/-- The lesser halves hold pairs. -/
theorem all_lo (rev : IVec S128 32) (a b : V F × V F) (ha : All P a) (hb : All P b) : All P (loHalf rev a b) :=
  all_select _ (all_perm _ hb) ha

/-- The pairs of a merge are pairs of what it merges. -/
theorem all_merge (C : Consts F) (t : Q F) (c : V F × V F) (h₁ : All P (t.1, t.2.1)) (h₂ : All P (t.2.2.1, t.2.2.2)) (hc : All P c) :
    All P ((mergeF C t c).1, (mergeF C t c).2.1) ∧ All P ((mergeF C t c).2.2.1, (mergeF C t c).2.2.2) := by
  have hs := all_net C.sf c hc
  have hu := all_net C.sm _ (all_hi C.rev _ _ h₂ hs)
  have hul := all_net C.sm _ (all_lo C.rev _ _ h₂ hs)
  exact ⟨all_net C.sm _ (all_hi C.rev _ _ h₁ hu), all_net C.sm _ (all_hi C.rev _ _ (all_net C.sm _ (all_lo C.rev _ _ h₁ hu)) hul)⟩

/-! ## Over the extended reals -/

/-- A choice by "at least". -/
theorem sel_oge (a b x y : EReal) : Scalar.select (Ideal.cmp .oge a b) x y = if b ≤ a then x else y := by
  unfold Scalar.select Ideal.cmp
  by_cases h : b ≤ a <;> simp [h]

/-- A choice by "equal". -/
theorem sel_oeq (a b x y : EReal) : Scalar.select (Ideal.cmp .oeq a b) x y = if a = b then x else y := by
  unfold Scalar.select Ideal.cmp
  by_cases h : a = b <;> simp [h]

/-- Keys of the greater halves. -/
theorem fn_hi (rev : IVec S128 32) (a b : V Ideal × V Ideal) (i : Fin 16) :
    fn (hiHalf rev a b).1 i = max (fn a.1 i) (fn b.1 (src rev i)) := by
  rw [← fn_perm]
  show Scalar.select (Ideal.cmp .oge (fn a.1 i) (fn (perm b.1 rev) i)) (fn a.1 i) (fn (perm b.1 rev) i) = _
  rw [sel_oge]
  split
  · next h => exact (max_eq_left h).symm
  · next h => exact (max_eq_right (not_le.mp h).le).symm

/-- Keys of the lesser halves. -/
theorem fn_lo (rev : IVec S128 32) (a b : V Ideal × V Ideal) (i : Fin 16) :
    fn (loHalf rev a b).1 i = min (fn a.1 i) (fn b.1 (src rev i)) := by
  rw [← fn_perm]
  show Scalar.select (Ideal.cmp .oge (fn a.1 i) (fn (perm b.1 rev) i)) (fn (perm b.1 rev) i) (fn a.1 i) = _
  rw [sel_oge]
  split
  · next h => exact (min_eq_right h).symm
  · next h => exact (min_eq_left (not_le.mp h).le).symm

/-- The float 1. -/
theorem one_f32 : Ideal.ofBits .f32 0x3F800000#32 = 1 := by
  simp [Ideal.ofBits, Ideal.ieee]
  rw [← EReal.coe_mul]
  norm_num

/-- Keys after a stage: the greater of the pair where the constant is 1, else the lesser. -/
theorem fn_stage (kv : V Ideal × V Ideal) (c : IVec S128 32 × V Ideal) (i : Fin 16) (b : Bool)
    (hc : fn c.2 i = if b then 1 else 0) :
    fn (stage kv c).1 i = if b then max (fn kv.1 i) (fn kv.1 (src c.1 i)) else min (fn kv.1 i) (fn kv.1 (src c.1 i)) := by
  rw [← fn_perm]
  show Scalar.select (Ideal.cmp .oeq (fn c.2 i) (Scalar.select (Ideal.cmp .oge (fn kv.1 i) (fn (perm kv.1 c.1) i))
    (Ideal.ofBits .f32 0x3F800000#32) (Ideal.ofBits .f32 0x00000000#32))) (fn kv.1 i) (fn (perm kv.1 c.1) i) = _
  rw [one_f32, Ideal.ofBits_zero_f32, sel_oge, sel_oeq, hc]
  cases b <;> by_cases h : fn (perm kv.1 c.1) i ≤ fn kv.1 i <;> simp [h]
  exact (not_le.mp h).le
  exact (not_le.mp h).le

end Cert.Proof.Mine
-- ==== Proof.Merge.lean ====
/- The kernel's constants over the extended reals, and what follows for its networks: a merge keeps
   the 32 greatest keys, and the tree reductions bound every lane. -/
module

public import proofs.«01_k».proof.Proof.Net

@[expose] public section

noncomputable section

namespace Cert.Proof.Mine

open Idealize.ShloMosaic Idealize.SL.Sem Cert.KernelIdeal Cert.KernelIdeal.Gen Idealize.ShloMosaic.SortNet

/-- Whether lane `i` keeps the greater key in the stage with block `k` and distance `j`. -/
def keep (k j : ℕ) (i : Fin 16) : Bool := decide (i.val &&& j = 0) == decide (i.val &&& k = 0)

/-- The word of a stage's constant at a lane. -/
def word (k j : BitVec 32) (i : Fin 16) : BitVec 32 :=
  1#32 - ((if BitVec.ofNat 32 i.val &&& j = 0#32 then 1#32 else 0#32) ^^^ (if BitVec.ofNat 32 i.val &&& k = 0#32 then 1#32 else 0#32))

/-- Lane numbers. -/
theorem fn_iota (i : Fin 16) : fn (iota .scVector S16 32 [0] iota_S16_d0_w32_scVector) i = BitVec.ofNat 32 i.val := by
  revert i
  decide

/-- Whether a bit of the lane number is clear, as a word. -/
theorem fn_low (j : BitVec 32) (i : Fin 16) : fn (low j) i = if BitVec.ofNat 32 i.val &&& j = 0#32 then 1#32 else 0#32 := by
  show Scalar.select (BitVec.ofBool (fn (iota .scVector S16 32 [0] iota_S16_d0_w32_scVector) i &&& j == 0#32)) 1#32 0#32 = _
  rw [fn_iota]
  unfold Scalar.select
  by_cases h : BitVec.ofNat 32 i.val &&& j = 0#32
  · simp [h]
  · rw [if_neg h, show (BitVec.ofNat 32 i.val &&& j == 0#32) = false from beq_eq_false_iff_ne.mpr h]
    rfl

/-- A small natural number as a float. -/
theorem sitofp_ofNat {n : ℕ} (h : n < 2 ^ 31) : FloatOps.sitofp (F := Ideal) .f32 (BitVec.ofNat 32 n) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  rfl

/-- A stage's constant, lane by lane, as a float. -/
theorem fn_stageC (k j : BitVec 32) (i : Fin 16) (b : Bool) (h : word k j i = if b then 1#32 else 0#32) :
    fn (stageC (F := Ideal) k j).2 i = if b then 1 else 0 := by
  show FloatOps.sitofp (F := Ideal) .f32 (1#32 - (fn (low j) i ^^^ fn (low k) i)) = _
  rw [fn_low, fn_low]
  change FloatOps.sitofp (F := Ideal) .f32 (word k j i) = _
  rw [h]
  cases b
  · exact (sitofp_ofNat (n := 0) (by decide)).trans (by simp)
  · exact (sitofp_ofNat (n := 1) (by decide)).trans (by simp)

/-- The partner of a lane at a stage. -/
theorem src_flip (j : BitVec 32) (i : Fin 16) : (src (rep (flip j)) i).val = (BitVec.ofNat 32 i.val ^^^ j).toNat % 16 := by
  rw [src_rep, ← fn_iota]
  rfl

/-- A stage of the kernel, on the keys, is a stage of the network. -/
theorem key_stage (kv : V Ideal × V Ideal) (k j s : ℕ) (hs : s < 4) (w : Fin (2 ^ 4) → Bool)
    (hp : ∀ i : Fin 16, (BitVec.ofNat 32 i.val ^^^ BitVec.ofNat 32 j).toNat % 16 = (partner 4 s i).val)
    (hk : ∀ i : Fin 16, word (BitVec.ofNat 32 k) (BitVec.ofNat 32 j) i = if keep k j i then 1#32 else 0#32)
    (hn : ∀ i : Fin 16, keep k j (partner 4 s i) = !keep k j i)
    (hw : ∀ i : Fin 16, i.val &&& 2 ^ s = 0 → w i = keep k j i) :
    fn (Mine.stage kv (stageC (BitVec.ofNat 32 k) (BitVec.ofNat 32 j))).1 = Network.apply (SortNet.stage 4 s w) (fn kv.1) := by
  rw [stage_congr (w' := keep k j) hw]
  funext i
  rw [fn_stage kv _ i (keep k j i) (fn_stageC _ _ i _ (hk i)),
    show src (stageC (F := Ideal) (BitVec.ofNat 32 k) (BitVec.ofNat 32 j)).1 i = partner 4 s i from
      Fin.ext ((src_flip _ i).trans (hp i))]
  refine Eq.trans ?_ (apply_stage_select hs (keep k j) hn (fn kv.1) i).symm
  exact (ite_lt_eq_max_min _ _ _).symm

/-- The merge's stages, on the keys. -/
theorem key_sm (kv : V Ideal × V Ideal) : fn (net (kc (F := Ideal)).sm kv).1 = Network.apply (mergeDescNet 4) (fn kv.1) := by
  have e : mergeDescNet 4 = SortNet.stage 4 3 (fun _ => true) ++ (SortNet.stage 4 2 (fun _ => true) ++
      (SortNet.stage 4 1 (fun _ => true) ++ SortNet.stage 4 0 (fun _ => true))) := by
    simp only [mergeDescNet, List.range, List.range.loop, List.flatMap_cons, List.flatMap_nil, List.reverse_cons, List.reverse_nil,
      List.nil_append, List.cons_append, List.append_nil]
  rw [e, Network.apply_append, Network.apply_append, Network.apply_append,
    ← key_stage kv 16 8 3 (by decide) _ (by decide) (by decide) (by decide) (by decide),
    ← key_stage _ 16 4 2 (by decide) _ (by decide) (by decide) (by decide) (by decide),
    ← key_stage _ 16 2 1 (by decide) _ (by decide) (by decide) (by decide) (by decide),
    ← key_stage _ 16 1 0 (by decide) _ (by decide) (by decide) (by decide) (by decide)]
  rfl

/-- The sort's stages, on the keys. -/
theorem key_sf (kv : V Ideal × V Ideal) : fn (net (kc (F := Ideal)).sf kv).1 = Network.apply (sortNet 4 true) (fn kv.1) := by
  let w (l : ℕ) : Fin (2 ^ 4) → Bool := fun i => (decide (i.val &&& 2 ^ (l + 1) = 0)) == true
  have e : sortNet 4 true = SortNet.stage 4 0 (w 0) ++ (SortNet.stage 4 1 (w 1) ++ (SortNet.stage 4 0 (w 1) ++
      (SortNet.stage 4 2 (w 2) ++ (SortNet.stage 4 1 (w 2) ++ (SortNet.stage 4 0 (w 2) ++
      (SortNet.stage 4 3 (w 3) ++ (SortNet.stage 4 2 (w 3) ++ (SortNet.stage 4 1 (w 3) ++ SortNet.stage 4 0 (w 3))))))))) := by
    simp only [sortNet, List.range, List.range.loop, List.flatMap_cons, List.flatMap_nil, List.reverse_cons, List.reverse_nil,
      List.nil_append, List.cons_append, List.append_nil, List.append_assoc, w]
  rw [e]
  simp only [Network.apply_append]
  rw [← key_stage kv 2 1 0 (by decide) _ (by decide) (by decide) (by decide) (by decide),
    ← key_stage _ 4 2 1 (by decide) _ (by decide) (by decide) (by decide) (by decide),
    ← key_stage _ 4 1 0 (by decide) _ (by decide) (by decide) (by decide) (by decide),
    ← key_stage _ 8 4 2 (by decide) _ (by decide) (by decide) (by decide) (by decide),
    ← key_stage _ 8 2 1 (by decide) _ (by decide) (by decide) (by decide) (by decide),
    ← key_stage _ 8 1 0 (by decide) _ (by decide) (by decide) (by decide) (by decide),
    ← key_stage _ 16 8 3 (by decide) _ (by decide) (by decide) (by decide) (by decide),
    ← key_stage _ 16 4 2 (by decide) _ (by decide) (by decide) (by decide) (by decide),
    ← key_stage _ 16 2 1 (by decide) _ (by decide) (by decide) (by decide) (by decide),
    ← key_stage _ 16 1 0 (by decide) _ (by decide) (by decide) (by decide) (by decide)]
  rfl

/-- The reversal's lanes. -/
theorem src_rev (i : Fin 16) : src (kc (F := Ideal)).rev i = Fin.rev i := by
  apply Fin.ext
  refine (src_rep _ i).trans ?_
  show (15#32 - fn (iota .scVector S16 32 [0] iota_S16_d0_w32_scVector) i).toNat % 16 = (Fin.rev i).val
  rw [fn_iota]
  revert i
  decide

/-- The greater half of a merge is the merge network on the greater of each pair. -/
theorem key_hi (a b : V Ideal × V Ideal) :
    fn (net (kc (F := Ideal)).sm (hiHalf (kc (F := Ideal)).rev a b)).1 = hiM 4 (fn a.1) (fn b.1) := by
  rw [key_sm]
  unfold hiM
  congr 1
  funext i
  rw [fn_hi, src_rev]

/-- The lesser half of a merge is the merge network on the lesser of each pair. -/
theorem key_lo (a b : V Ideal × V Ideal) :
    fn (net (kc (F := Ideal)).sm (loHalf (kc (F := Ideal)).rev a b)).1 = loM 4 (fn a.1) (fn b.1) := by
  rw [key_sm]
  unfold loM
  congr 1
  funext i
  rw [fn_lo, src_rev]

/-- The 32 keys a merge carries, in a row. -/
def keysQ (q : Q Ideal) : List EReal := List.ofFn (fn q.1) ++ List.ofFn (fn q.2.2.1)

section parts
variable {F : FTy → Type} [FloatOps F] [Named F] (C : Consts F) (t : Q F) (c : V F × V F)

/-- The first half of a merge. -/
theorem mergeF_1 : (mergeF C t c).1
    = (net C.sm (hiHalf C.rev (t.1, t.2.1) (net C.sm (hiHalf C.rev (t.2.2.1, t.2.2.2) (net C.sf c))))).1 := rfl

/-- The second half of a merge. -/
theorem mergeF_2 : (mergeF C t c).2.2.1
    = (net C.sm (hiHalf C.rev (net C.sm (loHalf C.rev (t.1, t.2.1) (net C.sm (hiHalf C.rev (t.2.2.1, t.2.2.2) (net C.sf c)))))
        (net C.sm (loHalf C.rev (t.2.2.1, t.2.2.2) (net C.sf c))))).1 := rfl

end parts

/-- ONE MERGE OF THE KERNEL keeps the 32 greatest keys, in descending order. -/
theorem keys_merge (t : Q Ideal) (c : V Ideal × V Ideal) (h : (keysQ t).Pairwise (· ≥ ·)) :
    keysQ (mergeF kc t c) = topList 32 (keysQ t ++ List.ofFn (fn c.1)) := by
  unfold keysQ at h
  rw [List.pairwise_append, List.pairwise_ofFn, List.pairwise_ofFn] at h
  have h₁ : Antitone (fn t.1) := fun i j hij => hij.eq_or_lt.elim (fun e => e ▸ le_rfl) fun l => h.1 l
  have h₂ : Antitone (fn t.2.2.1) := fun i j hij => hij.eq_or_lt.elim (fun e => e ▸ le_rfl) fun l => h.2.1 l
  have hs : Antitone (fn (net (kc (F := Ideal)).sf c).1) := by
    rw [key_sf]
    exact sortNet_apply_antitone 4 _
  have := step_topList 4 (fn t.1) (fn t.2.2.1) (fn (net (kc (F := Ideal)).sf c).1) h₁ h₂ hs
  unfold keysQ
  rw [mergeF_1, mergeF_2]
  simp only [key_hi, key_lo]
  rw [show (2 : ℕ) ^ 4 + 2 ^ 4 = 32 from rfl] at this
  rw [this, key_sf]
  exact topList_perm ((List.Perm.refl _).append (ofFn_apply_perm _ _))

/-- A named constant that stands for −∞. -/
theorem fn_initV (i : Fin 16) : fn (initV : V Ideal) i = ⊥ := IdealRules.named_const.ideal_named_scalar _ _ _ _ rfl

/-- The mask stands for −∞. -/
theorem fn_maskV (i : Fin 16) : fn (maskV : V Ideal) i = ⊥ := IdealRules.named_const.ideal_named_scalar _ _ _ _ rfl

/-- A merge starts from 32 keys −∞. -/
theorem keys_init : keysQ initQ = List.replicate 32 ⊥ := by
  unfold keysQ
  rw [show fn (initQ (F := Ideal)).1 = fun _ => ⊥ from funext fn_initV, show fn (initQ (F := Ideal)).2.2.1 = fun _ => ⊥ from funext fn_initV,
    List.ofFn_const, ← List.replicate_add]

/-- MERGING SEGMENTS one after another keeps the 32 greatest of all their keys. -/
theorem keys_fold (f : ℕ → V Ideal × V Ideal) (l : List ℕ) :
    keysQ (l.foldl (fun q s => mergeF kc q (f s)) initQ)
      = topList 32 (List.replicate 32 ⊥ ++ l.flatMap fun s => List.ofFn (fn (f s).1)) := by
  induction l using List.reverseRecOn with
  | nil =>
    rw [List.foldl_nil, keys_init, List.flatMap_nil, List.append_nil]
    exact (topList_eq_self (List.pairwise_replicate.mpr (Or.inr le_rfl)) (by rw [List.length_replicate])).symm
  | append_singleton l s ih =>
    rw [List.foldl_append, List.foldl_cons, List.foldl_nil, keys_merge _ _ (by rw [ih]; exact pairwise_topList _ _), ih,
      topList_append_topList, List.flatMap_append, List.flatMap_singleton, List.append_assoc]

/-! ## The tree reductions -/

/-- A lane with one more bit cleared, or the same lane. -/
theorem step_le (x y : V Ideal) (j : BitVec 32) (hy : ∀ i, fn y i = max (fn x i) (fn x (src (rep (flip j)) i))) (i i' : Fin 16)
    (h : i' = i ∨ (BitVec.ofNat 32 i'.val ^^^ j).toNat % 16 = i.val) : fn x i ≤ fn y i' := by
  rw [hy]
  rcases h with rfl | h
  · exact le_max_left _ _
  · rw [show src (rep (flip j)) i' = i from Fin.ext ((src_flip j i').trans h)]
    exact le_max_right _ _

/-- One step of a minimum over all lanes goes down for a lane and for its partner. -/
theorem le_step (x y : V Ideal) (j : BitVec 32) (hy : ∀ i, fn y i = min (fn x i) (fn x (src (rep (flip j)) i))) (i i' : Fin 16)
    (h : i' = i ∨ (BitVec.ofNat 32 i'.val ^^^ j).toNat % 16 = i.val) : fn y i' ≤ fn x i := by
  rw [hy]
  rcases h with rfl | h
  · exact min_le_left _ _
  · rw [show src (rep (flip j)) i' = i from Fin.ext ((src_flip j i').trans h)]
    exact min_le_right _ _

/-- The lane number with its high bits cleared. -/
def lowBits (m : ℕ) (i : Fin 16) : Fin 16 := ⟨i.val &&& m, Nat.and_le_left.trans_lt i.isLt⟩

/-- The first lane, as the kernel takes it out. -/
theorem first_lane {α : Type} (y : S16.Idx → α) :
    extractAt ![0] (extractStridedSlice S1 ![0] y slices_S16_o0_S1) inpos_S1_p0 = fn y 0 :=
  congrArg y (funext fun a => match a with | ⟨0, _⟩ => rfl)

/-- A lane is among the lower eight or the partner of one. -/
theorem bits7 (i : Fin 16) : lowBits 7 i = i ∨ (BitVec.ofNat 32 (lowBits 7 i).val ^^^ 8#32).toNat % 16 = i.val := by
  revert i
  decide

/-- A lane of the lower eight is among the lower four or the partner of one. -/
theorem bits3 (i : Fin 16) :
    lowBits 3 i = lowBits 7 i ∨ (BitVec.ofNat 32 (lowBits 3 i).val ^^^ 4#32).toNat % 16 = (lowBits 7 i).val := by
  revert i
  decide

/-- A lane of the lower four is among the lower two or the partner of one. -/
theorem bits1 (i : Fin 16) :
    lowBits 1 i = lowBits 3 i ∨ (BitVec.ofNat 32 (lowBits 1 i).val ^^^ 2#32).toNat % 16 = (lowBits 3 i).val := by
  revert i
  decide

/-- A lane of the lower two is the first or its partner. -/
theorem bits0 (i : Fin 16) : 0 = lowBits 1 i ∨ (BitVec.ofNat 32 (0 : Fin 16).val ^^^ 1#32).toNat % 16 = (lowBits 1 i).val := by
  revert i
  decide

/-- Every lane is at most the greatest. -/
theorem le_treeMax (x : V Ideal) (i : Fin 16) : fn x i ≤ treeMax (kc (F := Ideal)).tp x := by
  let mx (x : V Ideal) (j : BitVec 32) : V Ideal := maximumf x (perm x (rep (flip j)))
  have hm : ∀ x j i, fn (mx x j) i = max (fn x i) (fn x (src (rep (flip j)) i)) := fun x j i => by
    rw [← fn_perm]; rfl
  have h1 := step_le x _ 8#32 (hm x 8#32) i (lowBits 7 i) (bits7 i)
  have h2 := step_le _ _ 4#32 (hm (mx x 8#32) 4#32) (lowBits 7 i) (lowBits 3 i) (bits3 i)
  have h3 := step_le _ _ 2#32 (hm (mx (mx x 8#32) 4#32) 2#32) (lowBits 3 i) (lowBits 1 i) (bits1 i)
  have h4 := step_le _ _ 1#32 (hm (mx (mx (mx x 8#32) 4#32) 2#32) 1#32) (lowBits 1 i) 0 (bits0 i)
  exact (((h1.trans h2).trans h3).trans h4).trans (le_of_eq (first_lane _).symm)

/-- The least is at most every lane. -/
theorem treeMin_le (x : V Ideal) (i : Fin 16) : treeMin (kc (F := Ideal)).tp x ≤ fn x i := by
  let mn (x : V Ideal) (j : BitVec 32) : V Ideal := minimumf x (perm x (rep (flip j)))
  have hm : ∀ x j i, fn (mn x j) i = min (fn x i) (fn x (src (rep (flip j)) i)) := fun x j i => by
    rw [← fn_perm]; rfl
  have h1 := le_step x _ 8#32 (hm x 8#32) i (lowBits 7 i) (bits7 i)
  have h2 := le_step _ _ 4#32 (hm (mn x 8#32) 4#32) (lowBits 7 i) (lowBits 3 i) (bits3 i)
  have h3 := le_step _ _ 2#32 (hm (mn (mn x 8#32) 4#32) 2#32) (lowBits 3 i) (lowBits 1 i) (bits1 i)
  have h4 := le_step _ _ 1#32 (hm (mn (mn (mn x 8#32) 4#32) 2#32) 1#32) (lowBits 1 i) 0 (bits0 i)
  exact (le_of_eq (first_lane _)).trans (((h4.trans h3).trans h2).trans h1)

end Cert.Proof.Mine
-- ==== Proof.Best.lean ====
/- The 32 best of an image over the extended reals: their keys are the 32 greatest of all keys, and
   each key with its position is a pair the image has. -/
module

public import proofs.«01_k».proof.Proof.Merge

@[expose] public section

noncomputable section

namespace Cert.Proof.Mine

open Idealize.ShloMosaic Idealize.SL.Sem Cert.KernelIdeal Cert.KernelIdeal.Gen Idealize.ShloMosaic.SortNet

/-- How many entries of a vector have a property. -/
theorem countP_ofFn {α : Type} {n : ℕ} (v : Fin n → α) (p : α → Bool) : (List.ofFn v).countP p = ∑ i, if p (v i) then 1 else 0 := by
  induction n with
  | zero => simp
  | succ n ih => rw [List.ofFn_succ, List.countP_cons, ih, Fin.sum_univ_succ, add_comm]

section image
variable (x y : S8832.Idx → EReal)

/-- The keys of segment `s`. -/
def segKeys (s : ℕ) : List EReal := List.ofFn (fn (dif (F := Ideal) x y s))

/-- How many of the first `j` keys of lane `i` reach `t`. -/
def cnt (t : EReal) (i : Fin 16) (j : ℕ) : ℕ := (List.range j).countP fun s => decide (t ≤ fn (dif (F := Ideal) x y s) i)

/-- One more segment adds one to the count when its key reaches `t`. -/
theorem cnt_succ (t : EReal) (i : Fin 16) (j : ℕ) :
    cnt x y t i (j + 1) = cnt x y t i j + if t ≤ fn (dif (F := Ideal) x y j) i then 1 else 0 := by
  unfold cnt
  rw [List.range_succ, List.countP_append, List.countP_singleton]
  simp only [decide_eq_true_eq]

/-- The two greatest of a lane with one more segment: the new key takes its place among them. -/
theorem tops_succ (j : ℕ) (i : Fin 16) :
    fn (tops (F := Ideal) x y (j + 1)).1 i = max (fn (tops (F := Ideal) x y j).1 i) (fn (dif (F := Ideal) x y j) i)
    ∧ fn (tops (F := Ideal) x y (j + 1)).2 i
      = max (fn (tops (F := Ideal) x y j).2 i) (min (fn (tops (F := Ideal) x y j).1 i) (fn (dif (F := Ideal) x y j) i)) := ⟨rfl, rfl⟩

/-- A lane whose greatest reaches `t` has a key that does; whose second greatest does, two. -/
theorem cnt_tops (t : EReal) (ht : t ≠ ⊥) (i : Fin 16) (j : ℕ) :
    (t ≤ fn (tops (F := Ideal) x y j).1 i → 1 ≤ cnt x y t i j) ∧ (t ≤ fn (tops (F := Ideal) x y j).2 i → 2 ≤ cnt x y t i j) := by
  induction j with
  | zero =>
    have h : ∀ {v : EReal}, v = ⊥ → ¬ t ≤ v := fun e h => ht (le_bot_iff.mp (e ▸ h))
    exact ⟨fun h' => absurd h' (h (fn_initV i)), fun h' => absurd h' (h (fn_initV i))⟩
  | succ j ih =>
    rw [cnt_succ, (tops_succ x y j i).1, (tops_succ x y j i).2, le_max_iff, le_max_iff, le_min_iff]
    refine ⟨fun h => ?_, fun h => ?_⟩
    · rcases h with h | h
      · have := ih.1 h; omega
      · rw [if_pos h]; omega
    · rcases h with h | h
      · have := ih.2 h; omega
      · have := ih.1 h.1
        rw [if_pos h.2]; omega

/-- The keys of the first `j` segments that reach `t` are those of all lanes. -/
theorem count_all (t : EReal) (j : ℕ) :
    ((List.range j).flatMap (segKeys x y)).countP (fun v => decide (t ≤ v)) = ∑ i, cnt x y t i j := by
  induction j with
  | zero => simp [cnt]
  | succ j ih =>
    rw [List.range_succ, List.flatMap_append, List.countP_append, ih, List.flatMap_singleton]
    simp only [cnt_succ, Finset.sum_add_distrib]
    congr 1
    unfold segKeys
    rw [countP_ofFn]
    simp only [decide_eq_true_eq]

/-- The threshold is at most the two greatest of each lane. -/
theorem thr_le (m : V Ideal × V Ideal) (i : Fin 16) : thr kc m ≤ fn m.1 i ∧ thr kc m ≤ fn m.2 i :=
  le_min_iff.mp (treeMin_le (minimumf (F := Ideal) m.1 m.2) i)

/-- A segment not kept has every key below the threshold. -/
theorem lt_of_not_keep (t : EReal) (c : V Ideal) (h : keepB kc t c = false) (i : Fin 16) : fn c i < t := by
  by_contra hlt
  have h1 : t ≤ treeMax (kc (F := Ideal)).tp (rd c) := (not_lt.mp hlt).trans (by rw [rd_eq]; exact le_treeMax c i)
  have h2 : Scalar.cmpf (F := Ideal) .oge (treeMax (kc (F := Ideal)).tp (rd c)) t = 1#1 := by
    show BitVec.ofBool (decide _) = 1#1
    rw [decide_eq_true h1]
    rfl
  unfold keepB at h
  rw [h2] at h
  exact absurd h (by decide)

/-- THE KEYS OF THE 32 BEST are the 32 greatest of all keys of the image. -/
theorem keys_best : keysQ (best (F := Ideal) kc x y)
    = topList 32 (List.replicate 32 ⊥ ++ (List.range 552).flatMap (segKeys x y)) := by
  have e : keysQ (best (F := Ideal) kc x y) = topList 32 (List.replicate 32 ⊥ ++ (kept (F := Ideal) kc x y 552).flatMap (segKeys x y)) := by
    have hf : (fun s => List.ofFn (fn (segKV (F := Ideal) kc x y s).1)) = segKeys x y := rfl
    have h := keys_fold (fun s => segKV (F := Ideal) kc x y s) (kept (F := Ideal) kc x y 552)
    rw [hf] at h
    unfold best
    exact h
  rw [e]
  set t := thrI (F := Ideal) kc x y with ht
  have ht2 : ∀ i, t ≤ fn (tops (F := Ideal) x y 552).2 i := fun i => by
    rw [ht]
    unfold thrI
    exact (thr_le (tops (F := Ideal) x y 552) i).2
  clear_value t
  let p : ℕ → Bool := fun s => keepB kc t (dif x y s)
  have hk : kept (F := Ideal) kc x y 552 = (List.range 552).filter p := by
    unfold kept
    rw [← ht]
  have hperm : (((List.range 552).filter p).flatMap (segKeys x y) ++ ((List.range 552).filter fun s => !p s).flatMap (segKeys x y)).Perm
      ((List.range 552).flatMap (segKeys x y)) := by
    rw [← List.flatMap_append]
    exact (List.filter_append_perm p _).flatMap_right _
  have hdrop : ∀ v ∈ ((List.range 552).filter fun s => !p s).flatMap (segKeys x y), v < t := by
    intro v hv
    obtain ⟨s, hs, hv⟩ := List.mem_flatMap.mp hv
    obtain ⟨i, rfl⟩ := (List.mem_ofFn' _ _).mp hv
    have := (List.mem_filter.mp hs).2
    exact lt_of_not_keep t _ (by simpa [p] using this) i
  have hcount : 32 ≤ (List.replicate 32 (⊥ : EReal) ++ ((List.range 552).filter p).flatMap (segKeys x y)).countP fun v => decide (t ≤ v) := by
    rw [List.countP_append]
    by_cases hb : t = ⊥
    · rw [hb, List.countP_replicate]
      simp
    · have h1 := hperm.countP_eq fun v => decide (t ≤ v)
      have h0 : (((List.range 552).filter fun s => !p s).flatMap (segKeys x y)).countP (fun v => decide (t ≤ v)) = 0 :=
        List.countP_eq_zero.mpr fun v hv => by simpa using hdrop v hv
      rw [List.countP_append, h0, count_all] at h1
      have h2 : ∑ _i : Fin 16, 2 ≤ ∑ i, cnt x y t i 552 :=
        Finset.sum_le_sum fun i _ => (cnt_tops x y t hb i 552).2 (ht2 i)
      rw [Finset.sum_const, Finset.card_univ, Fintype.card_fin] at h2
      simp only [smul_eq_mul] at h2
      omega
  rw [hk, ← topList_drop hcount fun v hv => (hdrop v hv).le, List.append_assoc]
  exact topList_perm ((List.Perm.refl _).append hperm)

/-- The position of a lane of a segment, as a float. -/
theorem fn_posF (s : ℕ) (hs : s < 552) (i : Fin 16) :
    fn (posF (kc (F := Ideal)) (BitVec.ofNat 32 s)) i = (((16 * s + i.val : ℕ) : ℝ) : EReal) := by
  show FloatOps.sitofp (F := Ideal) .f32 (fn (iota .scVector S16 32 [0] iota_S16_d0_w32_scVector) i + BitVec.ofNat 32 s * 16#32) = _
  rw [fn_iota, show BitVec.ofNat 32 i.val + BitVec.ofNat 32 s * 16#32 = BitVec.ofNat 32 (16 * s + i.val) from by
    apply BitVec.eq_of_toNat_eq
    simp only [BitVec.toNat_add, BitVec.toNat_mul, BitVec.toNat_ofNat]
    omega]
  exact sitofp_ofNat (by have := i.isLt; omega)

/-- Merging segments one after another takes pairs of the segments and of the start. -/
theorem all_fold {F : FTy → Type} [FloatOps F] [Named F] (C : Consts F) (P : F .f32 → F .f32 → Prop) (f : ℕ → V F × V F) (l : List ℕ)
    (hl : ∀ s ∈ l, All P (f s)) (q : Q F) (h₁ : All P (q.1, q.2.1)) (h₂ : All P (q.2.2.1, q.2.2.2)) :
    All P ((l.foldl (fun q s => mergeF C q (f s)) q).1, (l.foldl (fun q s => mergeF C q (f s)) q).2.1)
    ∧ All P ((l.foldl (fun q s => mergeF C q (f s)) q).2.2.1, (l.foldl (fun q s => mergeF C q (f s)) q).2.2.2) := by
  induction l generalizing q with
  | nil => exact ⟨h₁, h₂⟩
  | cons s l ih =>
    have hm := all_merge C q (f s) h₁ h₂ (hl s List.mem_cons_self)
    exact ih (fun s hs => hl s (List.mem_cons_of_mem _ hs)) _ hm.1 hm.2

/-- A segment kept is one of those looked at. -/
theorem mem_kept {C : Consts Ideal} {j s : ℕ} (h : s ∈ kept C x y j) : s < j :=
  List.mem_range.mp (List.mem_of_mem_filter h)

/-- EVERY KEY WITH ITS POSITION that the 32 best hold is a pair of the image, or −∞ with 0. -/
theorem all_best (P : EReal → EReal → Prop) (h0 : P ⊥ 0)
    (h : ∀ s < 552, ∀ i : Fin 16, P (fn (dif (F := Ideal) x y s) i) (((16 * s + i.val : ℕ) : ℝ) : EReal)) :
    All (F := Ideal) P ((best kc x y).1, (best kc x y).2.1) ∧ All (F := Ideal) P ((best kc x y).2.2.1, (best kc x y).2.2.2) := by
  have hi : ∀ i, P (fn (initV : V Ideal) i) (fn (broadcast S16 (Scalar.ofBits .f32 0x00000000#32 : Ideal .f32)) i) := fun i => by
    rw [fn_initV]
    show P ⊥ (Ideal.ofBits .f32 0x00000000#32)
    rw [Ideal.ofBits_zero_f32]
    exact h0
  have hs : ∀ s ∈ kept (F := Ideal) kc x y 552, All (F := Ideal) P (segKV (F := Ideal) kc x y s) := fun s hs i => by
    have hs : s < 552 := mem_kept x y hs
    have := h s hs i
    rw [← fn_posF s hs i] at this
    unfold segKV
    exact this
  have ha := all_fold (F := Ideal) kc P (fun s => segKV (F := Ideal) kc x y s) (kept (F := Ideal) kc x y 552) hs initQ hi hi
  unfold best
  exact ha

end image

end Cert.Proof.Mine
-- ==== Proof.Rank.lean ====
/- A row of numbers and a sorting of it: its greatest entries as a list, and the one position an
   entry has when the greatest are strictly decreasing. -/
module

public import proofs.«01_k».proof.Proof.Merge

@[expose] public section

noncomputable section

namespace Cert.Proof.Mine

open Idealize.ShloMosaic Idealize.ShloMosaic.SortNet

/-- Runs of 16 consecutive entries, put together, are the entries in order. -/
theorem flatMap_runs {α : Type} (g : ℕ → α) (a : ℕ) :
    ((List.range a).flatMap fun s => List.ofFn fun i : Fin 16 => g (16 * s + i.val)) = (List.range (16 * a)).map g := by
  induction a with
  | zero => rfl
  | succ a ih =>
    rw [List.range_succ, List.flatMap_append, ih, List.flatMap_singleton, Nat.mul_succ, List.range_add, List.map_append, List.map_map]
    congr 1

/-- THE GREATEST ENTRIES OF A ROW that a sorting `σ` puts in descending order, with entries −∞ added,
    are the first the sorting gives. -/
theorem topList_sorted {N : ℕ} (D : Fin N → EReal) (σ : Fin N → Fin N) (hσ : Function.Bijective σ) (ha : Antitone fun i => D (σ i))
    (k r : ℕ) (hk : k ≤ N) :
    topList k (List.ofFn D ++ List.replicate r ⊥) = List.ofFn fun l : Fin k => D (σ (l.castLE hk)) := by
  have hp : (List.ofFn fun i => D (σ i)).Perm (List.ofFn D) :=
    (Equiv.Perm.ofFn_comp_perm (Equiv.ofBijective σ hσ) D)
  have hs : (List.ofFn (fun i => D (σ i)) ++ List.replicate r (⊥ : EReal)).Pairwise (· ≥ ·) := by
    refine List.pairwise_append.mpr ⟨List.pairwise_ofFn.mpr fun i j hij => ha hij.le, ?_, fun a _ b hb => ?_⟩
    · exact List.pairwise_replicate.mpr (Or.inr le_rfl)
    · rw [List.eq_of_mem_replicate hb]; exact bot_le
  rw [← topList_perm (hp.append (List.Perm.refl _))]
  have e : (List.ofFn (fun i => D (σ i)) ++ List.replicate r (⊥ : EReal)).insertionSort (· ≥ ·) = List.ofFn (fun i => D (σ i)) ++ List.replicate r (⊥ : EReal) :=
    eq_of_perm_of_descending (List.perm_insertionSort (· ≥ ·) _) (List.pairwise_insertionSort (· ≥ ·) _) hs
  unfold topList
  rw [e]
  refine List.ext_getElem (by simp; omega) fun n h₁ h₂ => ?_
  have hn : n < k := by simpa using h₂
  rw [List.getElem_take, List.getElem_append_left (by simp; omega), List.getElem_ofFn, List.getElem_ofFn]
  rfl

/-- THE POSITION OF AN ENTRY that is the `l`-th greatest is the `l`-th the sorting gives, when the
    first `k + 1` the sorting gives are strictly decreasing. -/
theorem pos_unique {N : ℕ} (D : Fin N → EReal) (σ : Fin N → Fin N) (hσ : Function.Bijective σ) (ha : Antitone fun i => D (σ i))
    (k : ℕ) (hk : k < N) (hr : ∀ l (h : l < k), D (σ ⟨l + 1, by omega⟩) < D (σ ⟨l, by omega⟩)) (l : ℕ) (hl : l < k) (n : Fin N)
    (hn : D n = D (σ ⟨l, by omega⟩)) : n = σ ⟨l, by omega⟩ := by
  obtain ⟨a, rfl⟩ := hσ.2 n
  congr 1
  apply Fin.ext
  show a.val = l
  rcases Nat.lt_trichotomy a.val l with h | h | h
  · have h1 := hr a.val (by omega)
    have h2 : D (σ ⟨l, by omega⟩) ≤ D (σ ⟨a.val + 1, by omega⟩) := ha (by show a.val + 1 ≤ l; omega)
    exact absurd (h2.trans_lt h1) (by rw [← hn]; exact lt_irrefl _)
  · exact h
  · have h1 := hr l hl
    have h2 : D (σ a) ≤ D (σ ⟨l + 1, by omega⟩) := ha (by show l + 1 ≤ a.val; omega)
    exact absurd (h2.trans_lt h1) (by rw [hn]; exact lt_irrefl _)

/-- A position read back from a float is that position. -/
theorem fptosi_nat {n : ℕ} (h : n < 2 ^ 31) : Ideal.fptosi 32 ((n : ℝ) : EReal) = BitVec.ofNat 32 n := by
  unfold Ideal.fptosi
  rw [Ideal.toIntClamped_coe, if_pos (Nat.cast_nonneg n), Int.floor_natCast]
  have e : max (-((2 ^ (32 - 1) : ℕ) : ℤ)) (min (((2 ^ (32 - 1) : ℕ) : ℤ) - 1) (n : ℤ)) = (n : ℤ) := by
    norm_num at h ⊢
    omega
  rw [e, BitVec.ofInt_natCast]

end Cert.Proof.Mine
-- ==== Proof.Scores.lean ====
/- The 32 best of an image over the extended reals, by a sorting of its 8732 differences: the keys are
   the first 32 the sorting gives, and the positions are theirs. -/
module

public import proofs.«01_k».proof.Proof.Best
public import proofs.«01_k».proof.Proof.Rank

@[expose] public section

noncomputable section

namespace Cert.Proof.Mine

open Idealize.ShloMosaic Idealize.SL.Sem Cert.KernelIdeal Cert.KernelIdeal.Gen Idealize.ShloMosaic.SortNet

/-- A key of a segment is the difference of the two scores of its word. -/
theorem fn_dif (x y : S8832.Idx → EReal) (s : ℕ) (i : Fin 16) :
    fn (dif (F := Ideal) x y s) i = y (ix (16 * s + i.val)) - x (ix (16 * s + i.val)) := by
  unfold dif diffF
  rw [rd_eq, rd_eq]
  rfl

/-- The float 11.5. -/
theorem eleven_half : Ideal.ofBits .f32 0x41380000#32 = ((23 / 2 : ℝ) : EReal) := by
  simp [Ideal.ofBits, Ideal.ieee]
  rw [← EReal.coe_mul]
  norm_num

/-- A choice by "less". -/
theorem sel_olt (a b x y : EReal) : Scalar.select (Ideal.cmp .olt a b) x y = if a < b then x else y := by
  unfold Scalar.select Ideal.cmp
  by_cases h : a < b <;> simp [h]

/-- The tail segment's first twelve lanes are kept, the other four are −∞. -/
theorem fn_tailF (y : V Ideal) (i : Fin 16) : fn (tailF (kc (F := Ideal)) y) i = if i.val < 12 then fn y i else ⊥ := by
  unfold tailF
  rw [rd_eq]
  show Scalar.select (Ideal.cmp .olt (FloatOps.sitofp (F := Ideal) .f32 (fn (iota .scVector S16 32 [0] iota_S16_d0_w32_scVector) i))
    (Ideal.ofBits .f32 0x41380000#32)) (fn y i) (fn (maskV : V Ideal) i) = _
  rw [fn_iota, sitofp_ofNat (by have := i.isLt; omega), eleven_half, sel_olt, fn_maskV]
  congr 1
  rw [EReal.coe_lt_coe_iff, eq_iff_iff]
  have : (i.val < 12) ↔ (i.val : ℝ) < 12 := by exact_mod_cast Iff.rfl
  constructor
  · intro h
    by_contra hc
    have : (12 : ℝ) ≤ (i.val : ℝ) := by exact_mod_cast not_lt.mp hc
    linarith
  · intro h
    have : (i.val : ℝ) ≤ 11 := by exact_mod_cast Nat.le_of_lt_succ h
    linarith

/-- The word of an index. -/
theorem ix_val {n : ℕ} (h : n < 8832) : ((ix n) 0).val = n := Nat.mod_eq_of_lt h

/-- A lane by its number. -/
theorem lane16_fn {α : Type} (v : S16.Idx → α) {n : ℕ} (h : n < 16) : lane16 v n = fn v ⟨n, h⟩ := by
  unfold lane16 fn
  congr 2
  exact Fin.ext (Nat.mod_eq_of_lt h)

/-- The masked scores at a word. -/
theorem maskI_ix {F : FTy → Type} [FloatOps F] [Named F] (C : Consts F) (y : S8832.Idx → F .f32) {n : ℕ} (h : n < 8832) :
    maskI C y (ix n) = if n / 16 < 545 then y (ix n)
      else if n / 16 = 545 then fn (tailF C (seg y 545)) ⟨n % 16, Nat.mod_lt _ (by decide)⟩
      else fn maskV ⟨n % 16, Nat.mod_lt _ (by decide)⟩ := by
  unfold maskI
  rw [ix_val h, lane16_fn _ (Nat.mod_lt n (by decide)), lane16_fn _ (Nat.mod_lt n (by decide))]

/-- The masked scores at a score. -/
theorem mask_in (y : S8832.Idx → EReal) {n : ℕ} (h : n < 8732) : maskI (F := Ideal) kc y (ix n) = y (ix n) := by
  rw [maskI_ix _ _ (by omega)]
  split
  · rfl
  · next h1 =>
    have h2 : n / 16 = 545 := by omega
    rw [if_pos h2, fn_tailF, if_pos (show n % 16 < 12 by omega)]
    have e : 16 * 545 + n % 16 = n := by omega
    show y (ix (16 * 545 + n % 16)) = y (ix n)
    rw [e]

/-- The masked scores in the padding. -/
theorem mask_out (y : S8832.Idx → EReal) {n : ℕ} (h : 8732 ≤ n) (h' : n < 8832) : maskI (F := Ideal) kc y (ix n) = ⊥ := by
  rw [maskI_ix _ _ h', if_neg (show ¬ n / 16 < 545 by omega)]
  split
  · rw [fn_tailF, if_neg (show ¬ n % 16 < 12 by omega)]
  · exact fn_maskV _

/-- −∞ less anything is −∞. -/
theorem bot_sub' (a : EReal) : ⊥ - a = ⊥ := by rw [sub_eq_add_neg, EReal.bot_add]

/-- Halves as one list. -/
theorem keysQ_half (q : Q Ideal) : keysQ q = List.ofFn fun l : Fin 32 => half q.1 q.2.2.1 (ValueIdx.ix1 l) := by
  unfold keysQ
  refine List.ext_getElem (by simp) fun n h₁ h₂ => ?_
  have hn : n < 32 := by simpa using h₂
  rw [List.getElem_ofFn]
  unfold half
  by_cases h : n < 16
  · rw [List.getElem_append_left (by simpa using h), List.getElem_ofFn]
    refine Eq.trans ?_ (if_pos h).symm
    exact congrArg (fn q.1) (Fin.ext (Nat.mod_eq_of_lt h).symm)
  · rw [List.getElem_append_right (by simpa using h), List.getElem_ofFn]
    refine Eq.trans ?_ (if_neg h).symm
    refine congrArg (fn q.2.2.1) (Fin.ext ?_)
    show n - (List.ofFn (fn q.1)).length = (n - 16) % 16
    rw [List.length_ofFn]
    omega

/-- Pairs in the halves are pairs in the whole. -/
theorem all_half (P : EReal → EReal → Prop) (q : Q Ideal) (h₁ : All (F := Ideal) P (q.1, q.2.1)) (h₂ : All (F := Ideal) P (q.2.2.1, q.2.2.2)) (l : Fin 32) :
    P (half q.1 q.2.2.1 (ValueIdx.ix1 l)) (half q.2.1 q.2.2.2 (ValueIdx.ix1 l)) := by
  unfold half
  split
  · exact h₁ ⟨l.val % 16, by omega⟩
  · exact h₂ ⟨(l.val - 16) % 16, by omega⟩

/-- Positions read back, half by half. -/
theorem half_toIv (a b : V Ideal) (l : S32.Idx) : half (toIv a) (toIv b) l = Ideal.fptosi 32 (half a b l) := by
  unfold half
  split <;> rfl

/-- Entries in order are the list of a function on them. -/
theorem map_range_ofFn (N : ℕ) (g : ℕ → EReal) (D : Fin N → EReal) (h : ∀ n : Fin N, g n.val = D n) : (List.range N).map g = List.ofFn D := by
  refine List.ext_getElem (by simp) fun n h₁ h₂ => ?_
  have hn : n < N := by simpa using h₂
  rw [List.getElem_map, List.getElem_range, List.getElem_ofFn]
  exact h ⟨n, hn⟩

/-- Entries all −∞ are a list of −∞. -/
theorem map_range_const (N : ℕ) (g : ℕ → EReal) (h : ∀ n < N, g n = ⊥) : (List.range N).map g = List.replicate N ⊥ := by
  refine List.eq_replicate_iff.mpr ⟨by simp, fun b hb => ?_⟩
  obtain ⟨n, hn, rfl⟩ := List.mem_map.mp hb
  exact h n (List.mem_range.mp hn)

section image
variable (x y : S8832.Idx → EReal) (D : Fin 8732 → EReal) (hD : ∀ n : Fin 8732, y (ix n.val) - x (ix n.val) = D n)
  (σ : Fin 8732 → Fin 8732) (hσ : Function.Bijective σ) (ha : Antitone fun i => D (σ i))

/-- The difference at a word with the mask applied. -/
def word_key (n : ℕ) : EReal := maskI (F := Ideal) kc y (ix n) - x (ix n)

include hD in
/-- All keys of an image: its differences, and −∞ in the padding. -/
theorem all_keys : (List.range 552).flatMap (segKeys x (maskI (F := Ideal) kc y)) = List.ofFn D ++ List.replicate 100 ⊥ := by
  have e : segKeys x (maskI (F := Ideal) kc y) = fun s => List.ofFn fun i : Fin 16 => word_key x y (16 * s + i.val) := by
    funext s
    unfold segKeys
    exact congrArg List.ofFn (funext fun i => fn_dif x _ s i)
  rw [e, flatMap_runs, show 16 * 552 = 8732 + 100 from rfl, List.range_add, List.map_append, List.map_map]
  refine congrArg₂ (· ++ ·) (map_range_ofFn 8732 _ D fun n => ?_) (map_range_const 100 _ fun n hn => ?_)
  · unfold word_key
    rw [mask_in y n.isLt]
    exact hD n
  · show word_key x y (8732 + n) = ⊥
    unfold word_key
    rw [mask_out y (by omega) (by omega), bot_sub']

include hD hσ ha in
/-- THE KEYS OF AN IMAGE'S 32 BEST are the first 32 differences the sorting gives. -/
theorem image_keys (l : Fin 32) :
    half (best (F := Ideal) kc x (maskI (F := Ideal) kc y)).1 (best (F := Ideal) kc x (maskI (F := Ideal) kc y)).2.2.1 (ValueIdx.ix1 l)
      = D (σ (l.castLE (by decide))) := by
  have h := keys_best x (maskI (F := Ideal) kc y)
  rw [all_keys x y D hD, keysQ_half] at h
  have hp : (List.replicate 32 (⊥ : EReal) ++ (List.ofFn D ++ List.replicate 100 ⊥)).Perm (List.ofFn D ++ List.replicate 132 ⊥) := by
    refine List.perm_append_comm.trans ?_
    rw [List.append_assoc, ← List.replicate_add]
  rw [topList_perm hp, topList_sorted D σ hσ ha 32 132 (by decide)] at h
  exact congrFun (List.ofFn_injective h) l

include hD hσ ha in
/-- THE INDICES OF AN IMAGE'S 32 BEST are the first 32 positions the sorting gives, when the first 33
    differences it gives are strictly decreasing. -/
theorem image_indices (hr : ∀ l (h : l < 32), D (σ ⟨l + 1, by omega⟩) < D (σ ⟨l, by omega⟩)) (l : Fin 32) :
    half (toIv (best (F := Ideal) kc x (maskI (F := Ideal) kc y)).2.1) (toIv (best (F := Ideal) kc x (maskI (F := Ideal) kc y)).2.2.2) (ValueIdx.ix1 l)
      = BitVec.ofNat 32 (σ (l.castLE (by decide))).val := by
  have hall := all_best x (maskI (F := Ideal) kc y) (fun k v => k = ⊥ ∨ ∃ n : Fin 8732, k = D n ∧ v = ((n.val : ℝ) : EReal)) (Or.inl rfl)
    fun s hs i => by
      rw [fn_dif]
      by_cases h : 16 * s + i.val < 8732
      · refine Or.inr ⟨⟨16 * s + i.val, h⟩, ?_, rfl⟩
        rw [mask_in y h]
        exact hD ⟨16 * s + i.val, h⟩
      · left
        have := i.isLt
        rw [mask_out y (by omega) (by omega), bot_sub']
  have h := all_half _ _ hall.1 hall.2 l
  rw [image_keys x y D hD σ hσ ha l] at h
  rw [half_toIv]
  rcases h with h | ⟨n, hn, hv⟩
  · exact absurd (hr l.val l.isLt) (by
      rw [show D (σ ⟨l.val, by omega⟩) = ⊥ from h]
      exact not_lt_bot)
  · rw [hv, fptosi_nat (by have := n.isLt; omega), pos_unique D σ hσ ha 32 (by decide) hr l.val l.isLt n hn.symm]
    rfl

end image

end Cert.Proof.Mine
-- ==== Proof.Pick.lean ====
/- The finite sums the loss rests on: the greatest values of a list add up alike whichever way equal ones
   are chosen, and the lanes a running count keeps are as many as the bound says. -/
module

public import Mathlib.Data.EReal.Operations
public import Mathlib.Algebra.BigOperators.Fin
public import Mathlib.Algebra.BigOperators.Group.Finset.Piecewise
public import Mathlib.Algebra.Order.BigOperators.Group.Finset
public import Mathlib.Order.Interval.Finset.Nat

@[expose] public section

namespace Cert.Proof.Mine

open Finset

/-- THE SUM OF THE GREATEST: when a function descends along an ordering, the sum of its first `k` values in
    that order is its sum on any `k` positions none of which holds less than a position left out. -/
theorem sum_greatest {N : ℕ} (g : Fin N → EReal) (τ : Fin N → Fin N) (hτ : Function.Bijective τ) (ha : Antitone fun r => g (τ r))
    (S : Finset (Fin N)) (hS : ∀ i ∈ S, ∀ j, j ∉ S → g j ≤ g i) :
    ∑ r, (if r.val < S.card then g (τ r) else 0) = ∑ i ∈ S, g i := by
  classical
  have hcN : S.card ≤ N := by simpa using S.card_le_univ
  set R : Finset (Fin N) := univ.filter fun r => r.val < S.card with hR
  have hRc : R.card = S.card := by
    rw [hR, Fin.card_filter_val_lt]
    omega
  set T : Finset (Fin N) := R.image τ with hT
  have hTc : T.card = S.card := by rw [hT, card_image_of_injective _ hτ.1, hRc]
  have e1 : ∑ r, (if r.val < S.card then g (τ r) else 0) = ∑ i ∈ T, g i := by
    rw [hT, sum_image fun a _ b _ h => hτ.1 h, hR, sum_filter]
  have hTop : ∀ i ∈ T, ∀ j, j ∉ T → g j ≤ g i := by
    intro i hi j hj
    obtain ⟨r, hr, rfl⟩ := mem_image.mp hi
    obtain ⟨q, rfl⟩ := hτ.2 j
    have hq : ¬ q.val < S.card := fun h => hj (mem_image.mpr ⟨q, mem_filter.mpr ⟨mem_univ _, h⟩, rfl⟩)
    have hr' : r.val < S.card := (mem_filter.mp hr).2
    exact ha (show r ≤ q from Fin.le_def.mpr (by omega))
  have hc : (T \ S).card = (S \ T).card := by
    have h1 := card_sdiff_add_card_inter T S
    have h2 := card_sdiff_add_card_inter S T
    rw [inter_comm S T] at h2
    omega
  have e2 : ∑ i ∈ T \ S, g i = ∑ i ∈ S \ T, g i := by
    rcases (T \ S).eq_empty_or_nonempty with h | ⟨a, ha'⟩
    · rw [h, card_empty] at hc
      rw [h, card_eq_zero.mp hc.symm]
    · have k1 : ∀ j ∈ S \ T, g j = g a := fun j hj =>
        le_antisymm (hTop a (mem_sdiff.mp ha').1 j (mem_sdiff.mp hj).2) (hS j (mem_sdiff.mp hj).1 a (mem_sdiff.mp ha').2)
      have hne : (S \ T).Nonempty := card_pos.mp (by rw [← hc]; exact card_pos.mpr ⟨a, ha'⟩)
      obtain ⟨b, hb⟩ := hne
      have k2 : ∀ i ∈ T \ S, g i = g a := fun i hi =>
        (le_antisymm (hS b (mem_sdiff.mp hb).1 i (mem_sdiff.mp hi).2) (hTop i (mem_sdiff.mp hi).1 b (mem_sdiff.mp hb).2)).trans (k1 b hb)
      rw [sum_congr rfl k2, sum_congr rfl k1, sum_const, sum_const, hc]
  rw [e1, ← sum_inter_add_sum_sdiff T S, ← sum_inter_add_sum_sdiff S T, e2, inter_comm]

/-- THE LANES KEPT: of the lanes in a set, those up to which at most `k` of the set are met are `k` in number,
    when the set has as many. -/
theorem card_kept {n : ℕ} (A : Finset (Fin n)) (k : ℕ) (hk : k ≤ A.card) :
    (A.filter fun l => (A.filter fun l' => l' ≤ l).card ≤ k).card = k := by
  classical
  set cnt : Fin n → ℕ := fun l => (A.filter fun l' => l' ≤ l).card with hcnt
  have inj : Set.InjOn cnt A := by
    have mono : ∀ a ∈ A, ∀ b ∈ A, a < b → cnt a < cnt b := by
      intro a _ b hb hab
      refine card_lt_card (Finset.ssubset_iff_of_subset (fun x hx => ?_) |>.mpr ⟨b, ?_, ?_⟩)
      · have := mem_filter.mp hx
        exact mem_filter.mpr ⟨this.1, this.2.trans hab.le⟩
      · exact mem_filter.mpr ⟨hb, le_refl _⟩
      · intro h
        exact absurd (mem_filter.mp h).2 (not_le.mpr hab)
    intro a ha b hb h
    rcases lt_trichotomy a b with h' | h' | h'
    · exact absurd h (mono a ha b hb h').ne
    · exact h'
    · exact absurd h.symm (mono b hb a ha h').ne
  have img : A.image cnt = Icc 1 A.card := by
    refine eq_of_subset_of_card_le (fun x hx => ?_) ?_
    · obtain ⟨l, hl, rfl⟩ := mem_image.mp hx
      exact mem_Icc.mpr ⟨card_pos.mpr ⟨l, mem_filter.mpr ⟨hl, le_refl _⟩⟩, card_le_card (filter_subset _ _)⟩
    · rw [card_image_of_injOn inj, Nat.card_Icc]
      omega
  have e : (A.filter fun l => cnt l ≤ k).image cnt = Icc 1 k := by
    ext x
    constructor
    · intro hx
      obtain ⟨l, hl, rfl⟩ := mem_image.mp hx
      have h1 : cnt l ∈ Icc 1 A.card := img ▸ mem_image_of_mem cnt (mem_filter.mp hl).1
      exact mem_Icc.mpr ⟨(mem_Icc.mp h1).1, (mem_filter.mp hl).2⟩
    · intro hx
      have hx' := mem_Icc.mp hx
      have h1 : x ∈ A.image cnt := img ▸ mem_Icc.mpr ⟨hx'.1, hx'.2.trans hk⟩
      obtain ⟨l, hl, rfl⟩ := mem_image.mp h1
      exact mem_image.mpr ⟨l, mem_filter.mpr ⟨hl, hx'.2⟩, rfl⟩
  have c := card_image_of_injOn (inj.mono (s₁ := ↑(A.filter fun l => cnt l ≤ k)) (fun x hx => (mem_filter.mp hx).1))
  rw [e, Nat.card_Icc] at c
  show (A.filter fun l => cnt l ≤ k).card = k
  omega

/-- A count is a sum of ones. -/
theorem sum_ones {α : Type} [Fintype α] (P : α → Prop) [DecidablePred P] :
    (∑ a, if P a then (1 : EReal) else 0) = (((univ.filter P).card : ℝ) : EReal) := by
  rw [← sum_filter, sum_const, nsmul_one]
  rfl

section pick
variable {N : ℕ} (p : Fin N → Prop) [DecidablePred p] (s : Fin N → EReal) (σ : Fin N → Fin N) (h32 : 32 ≤ N)

/-- The lanes, of the first 32 places of an ordering, whose position is no positive. -/
def freeLanes : Finset (Fin 32) := univ.filter fun l => ¬ p (σ (l.castLE h32))

/-- Of the free lanes, those up to which at most `k` are met. -/
def keptLanes (k : ℕ) : Finset (Fin 32) := (freeLanes p σ h32).filter fun l => ((freeLanes p σ h32).filter fun l' => l' ≤ l).card ≤ k

/-- THE HARD NEGATIVES: with at most eight positives, all among the first eight positions, the sum of the
    greatest `3 n` losses, positives' losses counted as zero, is the sum over the lanes kept. -/
theorem sum_hard (hp : ∀ j, p j → j.val < 8) (h0 : ∀ j, 0 ≤ s j) (hσ : Function.Bijective σ) (hs : Antitone fun r => s (σ r))
    (τ : Fin N → Fin N) (hτ : Function.Bijective τ) (ha : Antitone fun r => (if p (τ r) then 0 else s (τ r))) (n : ℕ)
    (hn : n = (univ.filter p).card) :
    (∑ r : Fin N, if r.val < 3 * n then (if p (τ r) then 0 else s (τ r)) else 0)
      = ∑ l : Fin 32, if l ∈ keptLanes p σ h32 (3 * n) then s (σ (l.castLE h32)) else 0 := by
  classical
  have h8 : (univ.filter p).card ≤ 8 := by
    have : (univ.filter p) ⊆ univ.filter fun j : Fin N => j.val < 8 := fun j hj =>
      mem_filter.mpr ⟨mem_univ _, hp j (mem_filter.mp hj).2⟩
    have := card_le_card this
    rw [Fin.card_filter_val_lt] at this
    omega
  have hf : 3 * n ≤ (freeLanes p σ h32).card := by
    have e : (freeLanes p σ h32).card + (univ.filter fun l : Fin 32 => p (σ (l.castLE h32))).card = 32 := by
      unfold freeLanes
      have := card_filter_add_card_filter_not (s := (univ : Finset (Fin 32))) (fun l => p (σ (l.castLE h32)))
      rw [card_univ, Fintype.card_fin] at this
      omega
    have : (univ.filter fun l : Fin 32 => p (σ (l.castLE h32))).card ≤ (univ.filter p).card := by
      refine card_le_card_of_injOn (fun l => σ (l.castLE h32)) (fun l hl => mem_filter.mpr ⟨mem_univ _, (mem_filter.mp hl).2⟩) ?_
      intro a _ b _ h
      exact Fin.castLE_injective h32 (hσ.1 h)
    omega
  have hk : (keptLanes p σ h32 (3 * n)).card = 3 * n := card_kept _ _ hf
  set S : Finset (Fin N) := (keptLanes p σ h32 (3 * n)).image fun l => σ (l.castLE h32) with hSd
  have hinj : Function.Injective fun l : Fin 32 => σ (l.castLE h32) := fun a b h => Fin.castLE_injective h32 (hσ.1 h)
  have hSc : S.card = 3 * n := by rw [hSd, card_image_of_injective _ hinj, hk]
  have key := sum_greatest (fun j => if p j then 0 else s j) τ hτ ha S (by
    intro i hi j hj
    obtain ⟨l, hl, rfl⟩ := mem_image.mp hi
    obtain ⟨r, rfl⟩ := hσ.2 j
    have hlf := (mem_filter.mp hl).1
    have hlp : ¬ p (σ (l.castLE h32)) := (mem_filter.mp hlf).2
    show (if p (σ r) then 0 else s (σ r)) ≤ if p (σ (l.castLE h32)) then 0 else s (σ (l.castLE h32))
    rw [if_neg hlp]
    split
    · exact h0 _
    · next hr =>
      refine hs (?_ : l.castLE h32 ≤ r)
      by_contra hc
      have hlt : r.val < l.val := by
        have := Fin.lt_def.mp (not_le.mp hc)
        simpa using this
      have hr32 : r.val < 32 := lt_trans hlt l.isLt
      have hrf : (⟨r.val, hr32⟩ : Fin 32) ∈ freeLanes p σ h32 := mem_filter.mpr ⟨mem_univ _, hr⟩
      refine hj (mem_image.mpr ⟨⟨r.val, hr32⟩, mem_filter.mpr ⟨hrf, le_trans (card_le_card fun x hx => ?_) (mem_filter.mp hl).2⟩, rfl⟩)
      have hx' := mem_filter.mp hx
      exact mem_filter.mpr ⟨hx'.1, hx'.2.trans (Fin.le_def.mpr hlt.le)⟩)
  rw [hSc] at key
  rw [key, hSd, sum_image fun a _ b _ h => hinj h, ← sum_filter, filter_mem_eq_inter, univ_inter]
  refine sum_congr rfl fun l hl => ?_
  exact if_neg (mem_filter.mp (mem_filter.mp hl).1).2

end pick

end Cert.Proof.Mine
-- ==== Proof.Real.lean ====
/- The scalar mathematics of the loss over the extended reals: the bits of a statistics word read two ways,
   and the loss of a prior as a negative read two ways. -/
module

public import Idealize.ShloMosaic.PureOps.Ideal
public import Mathlib.Analysis.SpecialFunctions.Log.Basic

@[expose] public section

noncomputable section

namespace Cert.Proof.Mine

open Idealize.ShloMosaic

/-! ## The constants -/

/-- The float 0.5. -/
theorem f_half : Ideal.ofBits .f32 0x3F000000#32 = ((1 / 2 : ℝ) : EReal) := by
  simp [Ideal.ofBits, Ideal.ieee]
  rw [← EReal.coe_mul]; norm_num
/-- The float 1. -/
theorem f_one : Ideal.ofBits .f32 0x3F800000#32 = ((1 : ℝ) : EReal) := by
  simp [Ideal.ofBits, Ideal.ieee]
  rw [← EReal.coe_mul]; norm_num
/-- The float 2. -/
theorem f_two : Ideal.ofBits .f32 0x40000000#32 = ((2 : ℝ) : EReal) := by
  simp [Ideal.ofBits, Ideal.ieee]
  rw [← EReal.coe_mul]; norm_num
/-- The float 3. -/
theorem f_three : Ideal.ofBits .f32 0x40400000#32 = ((3 : ℝ) : EReal) := by
  simp [Ideal.ofBits, Ideal.ieee]
  rw [← EReal.coe_mul]; norm_num
/-- The float 4. -/
theorem f_four : Ideal.ofBits .f32 0x40800000#32 = ((4 : ℝ) : EReal) := by
  simp [Ideal.ofBits, Ideal.ieee]
  rw [← EReal.coe_mul]; norm_num
/-- The float 8. -/
theorem f_eight : Ideal.ofBits .f32 0x41000000#32 = ((8 : ℝ) : EReal) := by
  simp [Ideal.ofBits, Ideal.ieee]
  rw [← EReal.coe_mul]; norm_num
/-- The float 16. -/
theorem f_sixteen : Ideal.ofBits .f32 0x41800000#32 = ((16 : ℝ) : EReal) := by
  simp [Ideal.ofBits, Ideal.ieee]
  rw [← EReal.coe_mul]; norm_num
/-- The float 32. -/
theorem f_32 : Ideal.ofBits .f32 0x42000000#32 = ((32 : ℝ) : EReal) := by
  simp [Ideal.ofBits, Ideal.ieee]
  rw [← EReal.coe_mul]; norm_num
/-- The float 64. -/
theorem f_64 : Ideal.ofBits .f32 0x42800000#32 = ((64 : ℝ) : EReal) := by
  simp [Ideal.ofBits, Ideal.ieee]
  rw [← EReal.coe_mul]; norm_num
/-- The float 128. -/
theorem f_128 : Ideal.ofBits .f32 0x43000000#32 = ((128 : ℝ) : EReal) := by
  simp [Ideal.ofBits, Ideal.ieee]
  try (rw [← EReal.coe_mul]; norm_num)
/-- The float 0. -/
theorem f_zero : Ideal.ofBits .f32 0x00000000#32 = 0 := by simp [Ideal.ofBits, Ideal.ieee]
/-- The float +∞. -/
theorem f_top : Ideal.ofBits .f32 0x7F800000#32 = ⊤ := by simp [Ideal.ofBits, Ideal.ieee]
/-- The float −∞. -/
theorem f_bot : Ideal.ofBits .f32 0xFF800000#32 = ⊥ := by simp [Ideal.ofBits, Ideal.ieee]

/-! ## The bits of a word -/

/-- The greatest integer not above. -/
abbrev fl : EReal → EReal := Ideal.liftRound Int.floor

/-- Bit `j` of a word, by halving. -/
def posE (x : EReal) (j : ℕ) : EReal :=
  fl (Ideal.div x ((2 ^ j : ℝ) : EReal)) - ((2 : ℝ) : EReal) * fl (Ideal.div (fl (Ideal.div x ((2 ^ j : ℝ) : EReal))) ((2 : ℝ) : EReal))

/-- A quotient of reals. -/
theorem div_real (a : EReal) (b : ℝ) (hb : b ≠ 0) : Ideal.div a (b : EReal) = a * ((b⁻¹ : ℝ) : EReal) := by
  unfold Ideal.div
  rw [if_neg (by exact_mod_cast hb), EReal.coe_inv]

/-- A finite word's bits are zeros and ones. -/
theorem posE_real (x : ℝ) (j : ℕ) : posE (x : EReal) j = 0 ∨ posE (x : EReal) j = 1 := by
  unfold posE
  rw [div_real _ _ (pow_ne_zero j two_ne_zero), ← EReal.coe_mul]
  show ((⌊x * (2 ^ j)⁻¹⌋ : ℝ) : EReal) - _ * fl (Ideal.div ((⌊x * (2 ^ j)⁻¹⌋ : ℝ) : EReal) _) = 0 ∨ ((⌊x * (2 ^ j)⁻¹⌋ : ℝ) : EReal) - _ * fl (Ideal.div ((⌊x * (2 ^ j)⁻¹⌋ : ℝ) : EReal) _) = 1
  generalize ⌊x * (2 ^ j)⁻¹⌋ = z
  rw [div_real _ _ two_ne_zero, ← EReal.coe_mul]
  show ((z : ℝ) : EReal) - ((2 : ℝ) : EReal) * ((⌊(z : ℝ) * 2⁻¹⌋ : ℝ) : EReal) = 0 ∨ ((z : ℝ) : EReal) - ((2 : ℝ) : EReal) * ((⌊(z : ℝ) * 2⁻¹⌋ : ℝ) : EReal) = 1
  rw [← EReal.coe_mul, ← EReal.coe_sub]
  have h1 := Int.floor_le ((z : ℝ) * 2⁻¹)
  have h2 := Int.lt_floor_add_one ((z : ℝ) * 2⁻¹)
  generalize ⌊(z : ℝ) * 2⁻¹⌋ = y at h1 h2
  have h3 : 2 * y ≤ z := by
    have : (2 : ℝ) * y ≤ z := by linarith
    exact_mod_cast this
  have h4 : z < 2 * y + 2 := by
    have : (z : ℝ) < 2 * y + 2 := by linarith
    exact_mod_cast this
  have h5 : z - 2 * y = 0 ∨ z - 2 * y = 1 := by omega
  rcases h5 with h | h
  · left
    have : (z : ℝ) - 2 * y = 0 := by exact_mod_cast h
    rw [this]; rfl
  · right
    have : (z : ℝ) - 2 * y = 1 := by exact_mod_cast h
    rw [this]; rfl

/-- An infinite word's bits are all −∞. -/
theorem posE_inf (x : EReal) (hx : x = ⊤ ∨ x = ⊥) (j : ℕ) : posE x j = ⊥ := by
  have hp : (0 : ℝ) < (2 ^ j)⁻¹ := by positivity
  have h2 : (0 : ℝ) < 2⁻¹ := by positivity
  have h3 : (0 : ℝ) < 2 := by positivity
  unfold posE
  rcases hx with rfl | rfl
  · rw [div_real _ _ (pow_ne_zero j two_ne_zero), EReal.top_mul_coe_of_pos hp, show fl ⊤ = ⊤ from rfl, div_real _ _ two_ne_zero,
      EReal.top_mul_coe_of_pos h2, show fl ⊤ = ⊤ from rfl, EReal.coe_mul_top_of_pos h3]
    rfl
  · rw [div_real _ _ (pow_ne_zero j two_ne_zero), EReal.bot_mul_coe_of_pos hp, show fl ⊥ = ⊥ from rfl, div_real _ _ two_ne_zero,
      EReal.bot_mul_coe_of_pos h2, show fl ⊥ = ⊥ from rfl, EReal.coe_mul_bot_of_pos h3]
    rfl

/-- The bit as the second call computes it, from a word, a key and an index. -/
def bitE (x k i : EReal) : EReal :=
  fl (Ideal.div (x + k * 0) (Ideal.exp2 (min i ((8 : ℝ) : EReal))))
    - fl (fl (Ideal.div (x + k * 0) (Ideal.exp2 (min i ((8 : ℝ) : EReal)))) * ((1 / 2 : ℝ) : EReal)) * ((2 : ℝ) : EReal)

/-- At an index below eight it is the word's bit. -/
theorem bitE_eq (x k : EReal) (j : ℕ) (hj : j < 8) : bitE x k ((j : ℝ) : EReal) = posE x j := by
  have hm : min ((j : ℝ) : EReal) ((8 : ℝ) : EReal) = ((j : ℝ) : EReal) :=
    min_eq_left (EReal.coe_le_coe_iff.mpr (by exact_mod_cast hj.le))
  have h2 : Ideal.exp2 ((j : ℝ) : EReal) = ((2 ^ j : ℝ) : EReal) := by
    show ((Real.rpow 2 (j : ℝ) : ℝ) : EReal) = _
    exact congrArg _ (Real.rpow_natCast 2 j)
  unfold bitE posE
  rw [hm, h2, mul_zero, add_zero, div_real _ 2 two_ne_zero, one_div, mul_comm (((2 : ℝ) : EReal))]

/-- Whether the second call counts an index as a listed positive. -/
def deadE (x k i : EReal) : Prop := i < ((8 : ℝ) : EReal) ∧ ((1 / 2 : ℝ) : EReal) < bitE x k i

/-- A prior is listed where it is one of the first eight and its bit is set. -/
def listed (x : EReal) (j : ℕ) : Prop := j < 8 ∧ posE x j = 1

/-- For a finite word these agree. -/
theorem dead_iff (x : ℝ) (k : EReal) (j : ℕ) : deadE (x : EReal) k ((j : ℝ) : EReal) ↔ listed (x : EReal) j := by
  unfold deadE listed
  rw [EReal.coe_lt_coe_iff]
  have e : ((j : ℝ) < 8) ↔ j < 8 := by exact_mod_cast Iff.rfl
  rw [e]
  refine and_congr_right fun h => ?_
  rw [bitE_eq _ _ _ h]
  rcases posE_real x j with h | h <;> rw [h]
  · constructor
    · intro hh
      exact absurd hh (not_lt.mpr (by exact_mod_cast (by norm_num : (0 : ℝ) ≤ 1 / 2)))
    · intro hh
      exact absurd hh zero_ne_one
  · refine ⟨fun _ => rfl, fun _ => ?_⟩
    show ((1 / 2 : ℝ) : EReal) < ((1 : ℝ) : EReal)
    exact EReal.coe_lt_coe_iff.mpr (by norm_num)

/-! ## The loss of a prior as a negative -/

/-- The loss of a prior with score difference `d`, were it a negative. -/
def soft (d : ℝ) : ℝ := Real.log (1 + Real.exp d)

/-- The loss is not negative. -/
theorem soft_nonneg (d : ℝ) : 0 ≤ soft d := Real.log_nonneg (by have := Real.exp_pos d; linarith)

/-- The loss rises with the difference. -/
theorem soft_mono {d e : ℝ} (h : d ≤ e) : soft d ≤ soft e :=
  Real.log_le_log (by have := Real.exp_pos d; linarith) (by have := Real.exp_le_exp.mpr h; linarith)

/-- The logarithm of a positive real. -/
theorem log_pos (r : ℝ) (h : 0 < r) : Ideal.log (r : EReal) = ((Real.log r : ℝ) : EReal) := by
  show (if r ≤ 0 then ⊥ else ((Real.log r : ℝ) : EReal)) = _
  rw [if_neg (not_le.mpr h)]

/-- The loss as the second call computes it. -/
theorem soft_kernel (d : ℝ) :
    max (d : EReal) 0 + Ideal.log (((1 : ℝ) : EReal) + Ideal.exp (0 - max (d : EReal) (-(d : EReal)))) = ((soft d : ℝ) : EReal) := by
  have e1 : max (d : EReal) 0 = ((max d 0 : ℝ) : EReal) := (EReal.coe_strictMono.monotone.map_max (a := d) (b := 0)).symm
  have e2 : max (d : EReal) (-(d : EReal)) = ((max d (-d) : ℝ) : EReal) := by
    rw [← EReal.coe_neg]; exact (EReal.coe_strictMono.monotone.map_max).symm
  rw [e1, e2, ← EReal.coe_zero, ← EReal.coe_sub]
  show _ + Ideal.log (_ + ((Real.exp (0 - max d (-d)) : ℝ) : EReal)) = _
  rw [← EReal.coe_add, log_pos _ (by positivity), ← EReal.coe_add]
  congr 1
  unfold soft
  rcases le_total 0 d with h | h
  · rw [max_eq_left h, max_eq_left (by linarith), zero_sub]
    have : Real.exp d * (1 + Real.exp (-d)) = 1 + Real.exp d := by
      rw [mul_add, ← Real.exp_add, add_neg_cancel, Real.exp_zero]; ring
    rw [← this, Real.log_mul (Real.exp_pos d).ne' (by positivity), Real.log_exp]
  · rw [max_eq_right h, max_eq_right (by linarith), zero_sub, neg_neg, zero_add]

/-- The loss as the reference computes it, the greater score `m` taken off first. -/
theorem soft_reference (a b m : ℝ) :
    -((((a : EReal) - (m : EReal))) - Ideal.log (Ideal.exp ((a : EReal) - (m : EReal)) + Ideal.exp ((b : EReal) - (m : EReal)))) = ((soft (b - a) : ℝ) : EReal) := by
  rw [← EReal.coe_sub, ← EReal.coe_sub]
  show -(_ - Ideal.log (((Real.exp (a - m) : ℝ) : EReal) + ((Real.exp (b - m) : ℝ) : EReal))) = _
  rw [← EReal.coe_add, log_pos _ (by positivity), ← EReal.coe_sub, ← EReal.coe_neg]
  congr 1
  have : Real.exp (a - m) + Real.exp (b - m) = Real.exp (a - m) * (1 + Real.exp (b - a)) := by
    rw [mul_add, ← Real.exp_add, mul_one]
    congr 2
    ring
  rw [this, Real.log_mul (Real.exp_pos _).ne' (by positivity), Real.log_exp]
  unfold soft
  ring

end Cert.Proof.Mine

end
-- ==== Proof.Second.lean ====
/- The second call's arithmetic over the extended reals: the hard sum of an image as a sum over its 32
   candidates, and the totals of columns. -/
module

public import proofs.«01_k».proof.Proof.Host
public import proofs.«01_k».proof.Proof.Scores
public import proofs.«01_k».proof.Proof.Pick
public import proofs.«01_k».proof.Proof.Real
public import Idealize.ShloMosaic.Lib.Pointwise.Reduce

@[expose] public section

noncomputable section

namespace Cert.Proof.Mine

open Idealize.ShloMosaic Cert.KernelIdeal Cert.KernelIdeal.Gen

open Classical in
/-- Whether a candidate is alive, as a bit. -/
theorem alive_at (w : S128x1.Idx → EReal) (key idx : S128x32.Idx → EReal) (b : Fin 128) (l : Fin 32) :
    alive (F := Ideal) w key idx (ValueIdx.ix2 b l) = if deadE (w (ValueIdx.ix2 b 0)) (key (ValueIdx.ix2 b l)) (idx (ValueIdx.ix2 b l)) then 0#1 else 1#1 := by
  have hw : broadcastTo S128x32 w broadcasts_S128x1_S128x32 (ValueIdx.ix2 b l) = w (ValueIdx.ix2 b 0) := by
    unfold broadcastTo
    congr 1
    funext a
    match a with
    | ⟨0, _⟩ => rfl
    | ⟨1, _⟩ => rfl
  have e : alive (F := Ideal) w key idx (ValueIdx.ix2 b l)
      = (Ideal.cmp .olt (idx (ValueIdx.ix2 b l)) (Ideal.ofBits .f32 0x41000000#32) &&&
        Ideal.cmp .ogt
          (fl (Ideal.div (broadcastTo S128x32 w broadcasts_S128x1_S128x32 (ValueIdx.ix2 b l) + key (ValueIdx.ix2 b l) * Ideal.ofBits .f32 0x00000000#32)
              (Ideal.exp2 (min (idx (ValueIdx.ix2 b l)) (Ideal.ofBits .f32 0x41000000#32))))
            - fl (fl (Ideal.div (broadcastTo S128x32 w broadcasts_S128x1_S128x32 (ValueIdx.ix2 b l) + key (ValueIdx.ix2 b l) * Ideal.ofBits .f32 0x00000000#32)
                (Ideal.exp2 (min (idx (ValueIdx.ix2 b l)) (Ideal.ofBits .f32 0x41000000#32)))) * Ideal.ofBits .f32 0x3F000000#32)
              * Ideal.ofBits .f32 0x40000000#32)
          (Ideal.ofBits .f32 0x3F000000#32)) ^^^ 1#1 := rfl
  rw [e, hw, f_eight, f_zero, f_half, f_two]
  show (BitVec.ofBool (decide (idx (ValueIdx.ix2 b l) < ((8 : ℝ) : EReal))) &&& BitVec.ofBool (decide (((1 / 2 : ℝ) : EReal) < bitE (w (ValueIdx.ix2 b 0)) (key (ValueIdx.ix2 b l)) (idx (ValueIdx.ix2 b l))))) ^^^ 1#1 = _
  unfold deadE
  by_cases h1 : idx (ValueIdx.ix2 b l) < ((8 : ℝ) : EReal)
  · by_cases h2 : ((1 / 2 : ℝ) : EReal) < bitE (w (ValueIdx.ix2 b 0)) (key (ValueIdx.ix2 b l)) (idx (ValueIdx.ix2 b l))
    · rw [decide_eq_true h1, decide_eq_true h2, if_pos ⟨h1, h2⟩]; rfl
    · rw [decide_eq_true h1, decide_eq_false h2, if_neg fun h => h2 h.2]; rfl
  · rw [decide_eq_false h1, if_neg fun h => h1 h.1]
    cases decide (((1 / 2 : ℝ) : EReal) < bitE (w (ValueIdx.ix2 b 0)) (key (ValueIdx.ix2 b l)) (idx (ValueIdx.ix2 b l))) <;> rfl

/-- The lanes' numbers. -/
theorem lanes32_at (l : Fin 32) : lanes32 (F := Ideal) (ValueIdx.ix2 0 l) = ((l.val : ℝ) : EReal) := by
  have e : iota .tc S1x32 32 [1] iota_S1x32_d1_w32 (ValueIdx.ix2 0 l) = BitVec.ofNat 32 l.val := by
    show BitVec.ofNat 32 (0 * 32 + l.val) = _
    rw [Nat.zero_mul, Nat.zero_add]
  show FloatOps.sitofp (F := Ideal) .f32 (iota .tc S1x32 32 [1] iota_S1x32_d1_w32 (ValueIdx.ix2 0 l)) = _
  rw [e, sitofp_ofNat (by have := l.isLt; omega)]

/-- One step of the running count, at a lane. -/
theorem addBack_at (c : ℕ) (hc : c < 32) (cF : EReal) (hF : cF = ((c : ℝ) : EReal)) (x : S128x32.Idx → EReal) (b : Fin 128) (l : Fin 32) :
    addBack (F := Ideal) cF (BitVec.ofNat 32 c) x (ValueIdx.ix2 b l) = x (ValueIdx.ix2 b l) + if h : c ≤ l.val then x (ValueIdx.ix2 b ⟨l.val - c, by omega⟩) else 0 := by
  have hm : broadcastTo S128x32 (shapeCast S1x32 (cmpf (F := Ideal) (φ := .f32) .oge (lanes32 (F := Ideal)) (broadcast S1x32 cF)) shapeCasts_S1x32_S1x32) broadcasts_S1x32_S128x32 (ValueIdx.ix2 b l)
      = if c ≤ l.val then 1#1 else 0#1 := by
    rw [shapeCast_self]
    have e : broadcastTo S128x32 (cmpf (F := Ideal) (φ := .f32) .oge (lanes32 (F := Ideal)) (broadcast S1x32 cF)) broadcasts_S1x32_S128x32 (ValueIdx.ix2 b l)
        = Ideal.cmp .oge (lanes32 (F := Ideal) (ValueIdx.ix2 0 l)) cF := by
      show cmpf (F := Ideal) (φ := .f32) .oge (lanes32 (F := Ideal)) (broadcast S1x32 cF) _ = cmpf (F := Ideal) (φ := .f32) .oge (lanes32 (F := Ideal)) (broadcast S1x32 cF) (ValueIdx.ix2 0 l)
      congr 1
      funext a
      match a with
      | ⟨0, _⟩ => rfl
      | ⟨1, _⟩ => rfl
    rw [e, lanes32_at, hF]
    show BitVec.ofBool (decide (((c : ℝ) : EReal) ≤ ((l.val : ℝ) : EReal))) = _
    have h : (((c : ℝ) : EReal) ≤ ((l.val : ℝ) : EReal)) ↔ c ≤ l.val := by
      rw [EReal.coe_le_coe_iff]; exact_mod_cast Iff.rfl
    by_cases hcl : c ≤ l.val
    · rw [if_pos hcl, decide_eq_true (h.mpr hcl)]; rfl
    · rw [if_neg hcl, decide_eq_false (fun hh => hcl (h.mp hh))]; rfl
  show x (ValueIdx.ix2 b l) + Scalar.select (broadcastTo S128x32 _ _ (ValueIdx.ix2 b l)) (dynamicRotate 1 (BitVec.ofNat 32 c) none x rotates_S128x32_d1 (ValueIdx.ix2 b l)) (Ideal.ofBits .f32 0x00000000#32) = _
  rw [hm, f_zero]
  by_cases h : c ≤ l.val
  · rw [if_pos h, dif_pos h]
    refine congrArg (x (ValueIdx.ix2 b l) + ·) ?_
    show dynamicRotate 1 (BitVec.ofNat 32 c) none x rotates_S128x32_d1 (ValueIdx.ix2 b l) = _
    refine dynamicRotate_apply (1 : Fin 2) _ x _ (ValueIdx.ix2 b l) (ValueIdx.ix2 b ⟨l.val - c, by omega⟩) fun a => ?_
    match a with
    | ⟨0, _⟩ => rfl
    | ⟨1, _⟩ =>
      show l.val - c = (l.val + 32 - (BitVec.ofNat 32 c).toNat % 32) % 32
      rw [BitVec.toNat_ofNat, Nat.mod_eq_of_lt (show c < 2 ^ 32 by omega)]
      omega
  · rw [if_neg h, dif_neg h]
    rfl

/-- The sum over the last `c` lanes up to lane `l`. -/
def win (c : ℕ) (v : Fin 32 → EReal) (l : ℕ) : EReal := ∑ k : Fin 32, if k.val ≤ l ∧ l < k.val + c then v k else 0

/-- Two such sums, one behind the other, are one. -/
theorem win_double (c d : ℕ) (hd : d = c + c) (v : Fin 32 → EReal) (l : Fin 32) :
    win c v l.val + (if _ : c ≤ l.val then win c v (l.val - c) else 0) = win d v l.val := by
  unfold win
  by_cases h : c ≤ l.val
  · rw [dif_pos h, ← Finset.sum_add_distrib]
    refine Finset.sum_congr rfl fun k _ => ?_
    by_cases h1 : k.val ≤ l.val ∧ l.val < k.val + c
    · rw [if_pos h1, if_neg (by omega), if_pos (by omega), add_zero]
    · rw [if_neg h1, zero_add]
      by_cases h2 : k.val ≤ l.val - c ∧ l.val - c < k.val + c
      · rw [if_pos h2, if_pos (by omega)]
      · rw [if_neg h2, if_neg (by omega)]
  · rw [dif_neg h, add_zero]
    refine Finset.sum_congr rfl fun k _ => ?_
    by_cases h1 : k.val ≤ l.val ∧ l.val < k.val + c
    · rw [if_pos h1, if_pos (by omega)]
    · rw [if_neg h1, if_neg (by omega)]

/-- A step of the running count doubles the lanes it has summed. -/
theorem addBack_win (c d : ℕ) (hc : c < 32) (hd : d = c + c) (cF : EReal) (hF : cF = ((c : ℝ) : EReal)) (x : S128x32.Idx → EReal) (b : Fin 128) (v : Fin 32 → EReal)
    (hx : ∀ l : Fin 32, x (ValueIdx.ix2 b l) = win c v l.val) (l : Fin 32) :
    addBack (F := Ideal) cF (BitVec.ofNat 32 c) x (ValueIdx.ix2 b l) = win d v l.val := by
  rw [addBack_at c hc cF hF, ← win_double c d hd]
  by_cases h : c ≤ l.val
  · rw [dif_pos h, dif_pos h, hx, hx]
  · rw [dif_neg h, dif_neg h, hx]

open Classical in
/-- THE RUNNING COUNT at a lane: how many of the lanes up to it have their bit set. -/
theorem running_at (a : S128x32.Idx → BitVec 1) (b : Fin 128) (P : Fin 32 → Prop) (ha : ∀ l, a (ValueIdx.ix2 b l) = if P l then 0#1 else 1#1) (l : Fin 32) :
    running (F := Ideal) a (ValueIdx.ix2 b l) = (((((Finset.univ.filter fun k => ¬ P k).filter fun k => k ≤ l).card : ℕ) : ℝ) : EReal) := by
  have h0 : ∀ l : Fin 32, select a (broadcast S128x32 (Scalar.ofBits (F := Ideal) .f32 0x3F800000#32)) (broadcast S128x32 (Scalar.ofBits (F := Ideal) .f32 0x00000000#32)) (ValueIdx.ix2 b l)
      = win 1 (fun k => if P k then 0 else 1) l.val := by
    intro l
    show Scalar.select (a (ValueIdx.ix2 b l)) (Ideal.ofBits .f32 0x3F800000#32) (Ideal.ofBits .f32 0x00000000#32) = _
    rw [ha, f_one, f_zero]
    unfold win
    rw [Finset.sum_eq_single l]
    · rw [if_pos (show l.val ≤ l.val ∧ l.val < l.val + 1 from ⟨le_refl _, Nat.lt_succ_self _⟩)]
      dsimp only
      by_cases h : P l
      · rw [if_pos h, if_pos h]; rfl
      · rw [if_neg h, if_neg h]; rfl
    · intro k _ hk
      exact if_neg fun h => hk (Fin.ext (by omega))
    · intro h
      exact absurd (Finset.mem_univ l) h
  have h1 := addBack_win 1 2 (by decide) rfl _ (f_one.trans (by norm_num)) _ b _ h0
  have h2 := addBack_win 2 4 (by decide) rfl _ (f_two.trans (by norm_num)) _ b _ h1
  have h3 := addBack_win 4 8 (by decide) rfl _ (f_four.trans (by norm_num)) _ b _ h2
  have h4 := addBack_win 8 16 (by decide) rfl _ (f_eight.trans (by norm_num)) _ b _ h3
  have h5 := addBack_win 16 32 (by decide) rfl _ (f_sixteen.trans (by norm_num)) _ b _ h4
  refine (h5 l).trans ?_
  rw [Finset.filter_filter, ← sum_ones]
  unfold win
  refine Finset.sum_congr rfl fun k _ => ?_
  have hk := k.isLt
  have hl := l.isLt
  dsimp only
  by_cases hkl : k ≤ l
  · rw [if_pos ⟨hkl, by omega⟩]
    by_cases h : P k
    · rw [if_pos h, if_neg fun hh => hh.1 h]
    · rw [if_neg h, if_pos ⟨h, hkl⟩]
  · rw [if_neg fun hh => hkl hh.1, if_neg fun hh => hkl hh.2]

/-- A choice by a bit that is clear and a comparison. -/
theorem sel_zero_and (p : CmpFPredicate) (a b x y : EReal) : Scalar.select (0#1 &&& Ideal.cmp p a b) x y = y := by
  have e : ∀ c : BitVec 1, 0#1 &&& c = 0#1 := by decide
  rw [e]
  rfl

open Classical in
/-- A choice by a bit that is set and "at most". -/
theorem sel_one_and (a b x y : EReal) : Scalar.select (1#1 &&& Ideal.cmp .ole a b) x y = if a ≤ b then x else y := by
  have e : ∀ c : BitVec 1, 1#1 &&& c = c := by decide
  rw [e]
  unfold Scalar.select Ideal.cmp
  by_cases h : a ≤ b <;> simp [h]

/-- The loss of a key, as the second call computes it. -/
def lossE (k : EReal) : EReal := max k 0 + Ideal.log (((1 : ℝ) : EReal) + Ideal.exp (0 - max k (-k)))

open Classical in
/-- THE HARD SUM OF AN IMAGE, as the second call computes it. -/
theorem hard_at (n w : S128x1.Idx → EReal) (key idx : S128x32.Idx → EReal) (b : Fin 128) :
    hard (F := Ideal) n w key idx (ValueIdx.ix1 b)
      = ∑ l : Fin 32, if (¬ deadE (w (ValueIdx.ix2 b 0)) (key (ValueIdx.ix2 b l)) (idx (ValueIdx.ix2 b l)))
          ∧ (((((Finset.univ.filter fun k => ¬ deadE (w (ValueIdx.ix2 b 0)) (key (ValueIdx.ix2 b k)) (idx (ValueIdx.ix2 b k))).filter fun k => k ≤ l).card : ℕ) : ℝ) : EReal) ≤ ((3 : ℝ) : EReal) * n (ValueIdx.ix2 b 0)
        then lossE (key (ValueIdx.ix2 b l)) else 0 := by
  unfold hard
  refine (Ideal.reduceAdd_r2_a1 reduces_S128x32_S128 _ (ValueIdx.ix1 b)).trans ?_
  refine Finset.sum_congr rfl fun l _ => ?_
  have hn : broadcastTo S128x32 (mulf (F := Ideal) (φ := .f32) (broadcast S128x1 (Scalar.ofBits (F := Ideal) .f32 0x40400000#32)) n) broadcasts_S128x1_S128x32 (ValueIdx.ix2 b l)
      = Ideal.ofBits .f32 0x40400000#32 * n (ValueIdx.ix2 b 0) := by
    show mulf (F := Ideal) (φ := .f32) (broadcast S128x1 (Scalar.ofBits (F := Ideal) .f32 0x40400000#32)) n _ = mulf (F := Ideal) (φ := .f32) (broadcast S128x1 (Scalar.ofBits (F := Ideal) .f32 0x40400000#32)) n (ValueIdx.ix2 b 0)
    congr 1
    funext a
    match a with
    | ⟨0, _⟩ => rfl
    | ⟨1, _⟩ => rfl
  have hl : lossOf (F := Ideal) key (ValueIdx.ix2 b l) = lossE (key (ValueIdx.ix2 b l)) := by
    show max (key (ValueIdx.ix2 b l)) (Ideal.ofBits .f32 0x00000000#32) + Ideal.log (Ideal.ofBits .f32 0x3F800000#32 + Ideal.exp (Ideal.ofBits .f32 0x00000000#32 - max (key (ValueIdx.ix2 b l)) (-key (ValueIdx.ix2 b l)))) = _
    rw [f_zero, f_one]
    rfl
  show Scalar.select (alive (F := Ideal) w key idx (ValueIdx.ix2 b l) &&& Ideal.cmp .ole (running (F := Ideal) (alive (F := Ideal) w key idx) (ValueIdx.ix2 b l))
      (broadcastTo S128x32 (mulf (F := Ideal) (φ := .f32) (broadcast S128x1 (Scalar.ofBits (F := Ideal) .f32 0x40400000#32)) n) broadcasts_S128x1_S128x32 (ValueIdx.ix2 b l)))
    (lossOf (F := Ideal) key (ValueIdx.ix2 b l)) (Ideal.ofBits .f32 0x00000000#32) = _
  rw [running_at _ b _ (alive_at w key idx b), alive_at, hn, hl, f_three, f_zero]
  by_cases h1 : deadE (w (ValueIdx.ix2 b 0)) (key (ValueIdx.ix2 b l)) (idx (ValueIdx.ix2 b l))
  · rw [if_pos h1, if_neg fun h => h.1 h1, sel_zero_and]
  · rw [if_neg h1, sel_one_and]
    by_cases h2 : (((((Finset.univ.filter fun k => ¬ deadE (w (ValueIdx.ix2 b 0)) (key (ValueIdx.ix2 b k)) (idx (ValueIdx.ix2 b k))).filter fun k => k ≤ l).card : ℕ) : ℝ) : EReal) ≤ ((3 : ℝ) : EReal) * n (ValueIdx.ix2 b 0)
    · rw [if_pos h2, if_pos ⟨h1, h2⟩]
    · rw [if_neg h2, if_neg fun h => h2 h.2]

/-! ## Totals -/

/-- A sum over an array reshaped is the sum over it. -/
theorem sum_cast {s t : Shape} (x : s.Idx → EReal) (h : s.ShapeCasts t) : ∑ j, shapeCast t x h j = ∑ i, x i :=
  Equiv.sum_comp (Shape.reshapeEquiv _) x

/-- A column's total is the sum over it. -/
theorem total_eq (x : S128x1.Idx → EReal) : total (F := Ideal) x = ∑ i, x i := by
  show shapeCast S1x1x1 (multiReduction (F := Ideal) (φ := .f32) .add [1, 2] Cert.KernelIdeal.S1 (shapeCast S1x128x1 x shapeCasts_S128x1_S1x128x1) 0x00000000#32 reduces_S1x128x1_S1 (.inl rfl) rfl)
    shapeCasts_S1_S1x1x1 _ = _
  unfold shapeCast
  refine (Ideal.multiReduction_add_total _ _ _ (by decide) _ _ _).trans ?_
  exact sum_cast x shapeCasts_S128x1_S1x128x1

end Cert.Proof.Mine
-- ==== Proof.Same.lean ====
/- One image's hard sum: the sum over ranks the reference forms is the sum over candidates the kernel
   forms. -/
module

public import proofs.«01_k».proof.Proof.Pick
public import proofs.«01_k».proof.Proof.Real
public import proofs.«01_k».proof.Proof.Second

@[expose] public section

noncomputable section

namespace Cert.Proof.Mine

open Idealize.ShloMosaic

/-- The positives of a finite word, counted by its bits. -/
theorem count_bits (x : ℝ) (p : Fin 8732 → Prop) [DecidablePred p] (hp : ∀ j, p j ↔ listed (x : EReal) j.val) :
    ∑ j : Fin 8, posE (x : EReal) j.val = (((Finset.univ.filter p).card : ℝ) : EReal) := by
  classical
  have e1 : ∑ j : Fin 8, posE (x : EReal) j.val = ∑ j : Fin 8, if posE (x : EReal) j.val = 1 then 1 else 0 := by
    refine Finset.sum_congr rfl fun j _ => ?_
    rcases posE_real x j.val with h | h <;> rw [h]
    · rw [if_neg zero_ne_one]
    · rw [if_pos rfl]
  have e2 : (Finset.univ.filter fun j : Fin 8 => posE (x : EReal) j.val = 1).card = (Finset.univ.filter p).card := by
    refine Finset.card_nbij (fun j => j.castLE (by decide)) ?_ ?_ ?_
    · intro j hj
      have h := (Finset.mem_filter.mp hj).2
      exact Finset.mem_filter.mpr ⟨Finset.mem_univ _, (hp _).mpr ⟨j.isLt, h⟩⟩
    · intro a _ b _ h
      have h' := congrArg Fin.val h
      exact Fin.ext h'
    · intro j hj
      have h := (hp j).mp (Finset.mem_filter.mp hj).2
      exact ⟨⟨j.val, h.1⟩, Finset.mem_coe.mpr (Finset.mem_filter.mpr ⟨Finset.mem_univ _, h.2⟩), Fin.ext rfl⟩
  rw [e1, sum_ones, e2]

open Classical in
/-- ONE IMAGE'S HARD SUM: over the ranks of the losses with the positives' set to zero, as many ranks as thrice
    the positives, it is what the candidates' losses add up to, of those not listed and up to the same number. -/
theorem image_hard (D : Fin 8732 → ℝ) (σ : Fin 8732 → Fin 8732) (hσ : Function.Bijective σ) (hs : Antitone fun r => D (σ r))
    (w n : EReal) (hn : ∑ j : Fin 8, posE w j.val = n) (τ : Fin 8732 → Fin 8732) (hτ : Function.Bijective τ) (y : Fin 8732 → EReal)
    (hy : ∀ j, y j = ((soft (D j) : ℝ) : EReal) * (((1 : ℝ) : EReal) - if j.val < 8 then posE w j.val else 0)) (ha : Antitone fun r => y (τ r)) :
    ∑ r : Fin 8732, y (τ r) * (if ((r.val : ℝ) : EReal) < ((3 : ℝ) : EReal) * n then 1 else 0)
      = ∑ l : Fin 32, if (¬ deadE w (D (σ (l.castLE (by decide)))) (((σ (l.castLE (by decide))).val : ℝ) : EReal))
          ∧ (((((Finset.univ.filter fun k : Fin 32 => ¬ deadE w (D (σ (k.castLE (by decide)))) (((σ (k.castLE (by decide))).val : ℝ) : EReal)).filter fun k => k ≤ l).card : ℕ) : ℝ) : EReal)
            ≤ ((3 : ℝ) : EReal) * n
        then lossE (D (σ (l.castLE (by decide)))) else 0 := by
  by_cases hw : w = ⊤ ∨ w = ⊥
  · have hb : n = ⊥ := by
      rw [← hn, Finset.sum_congr rfl fun j _ => posE_inf w hw j.val, Fin.sum_univ_succ, EReal.bot_add]
    have h3 : ((3 : ℝ) : EReal) * n = ⊥ := by rw [hb]; exact EReal.coe_mul_bot_of_pos (by norm_num)
    rw [h3]
    have l1 : ∀ r : Fin 8732, y (τ r) * (if ((r.val : ℝ) : EReal) < ⊥ then 1 else 0) = 0 := fun r => by
      rw [if_neg not_lt_bot, mul_zero]
    rw [Finset.sum_congr rfl fun r _ => l1 r, Finset.sum_const_zero]
    refine (Finset.sum_eq_zero fun l _ => if_neg fun h => ?_).symm
    exact absurd (le_bot_iff.mp h.2) (EReal.coe_ne_bot _)
  · obtain ⟨x, rfl⟩ : ∃ x : ℝ, w = (x : EReal) :=
      ⟨w.toReal, (EReal.coe_toReal (fun h => hw (.inl h)) (fun h => hw (.inr h))).symm⟩
    set p : Fin 8732 → Prop := fun j => listed (x : EReal) j.val with hp
    have hc := count_bits x p fun j => Iff.rfl
    have hy' : ∀ j, y j = if p j then 0 else ((soft (D j) : ℝ) : EReal) := by
      intro j
      rw [hy]
      by_cases h8 : j.val < 8
      · rw [if_pos h8]
        rcases posE_real x j.val with h | h
        · rw [h, if_neg (show ¬ p j from fun q => by have := q.2; rw [h] at this; exact zero_ne_one this), sub_zero, EReal.coe_one, mul_one]
        · rw [h, if_pos (show p j from ⟨h8, h⟩), ← EReal.coe_one, ← EReal.coe_sub, sub_self, EReal.coe_zero, mul_zero]
      · rw [if_neg h8, if_neg (show ¬ p j from fun q => h8 q.1), sub_zero, EReal.coe_one, mul_one]
    set N : ℕ := (Finset.univ.filter p).card with hN
    have hn' : ((3 : ℝ) : EReal) * n = (((3 * N : ℕ) : ℝ) : EReal) := by
      rw [← hn, hc, ← EReal.coe_mul]
      push_cast
      rfl
    have hmain := sum_hard p (fun j => ((soft (D j) : ℝ) : EReal)) σ (by decide) (fun j h => h.1) (fun j => EReal.coe_nonneg.mpr (soft_nonneg _)) hσ
      (fun a b hab => EReal.coe_le_coe_iff.mpr (soft_mono (hs hab))) τ hτ (fun a b hab => by have := ha hab; simp only [hy'] at this; exact this) N hN
    have hL : ∀ r : Fin 8732, y (τ r) * (if ((r.val : ℝ) : EReal) < ((3 : ℝ) : EReal) * n then 1 else 0)
        = if r.val < 3 * N then (if p (τ r) then 0 else ((soft (D (τ r)) : ℝ) : EReal)) else 0 := by
      intro r
      rw [hn', ← hy']
      by_cases h : r.val < 3 * N
      · rw [if_pos h, if_pos (EReal.coe_lt_coe_iff.mpr (by exact_mod_cast h)), mul_one]
      · have h' : ¬ ((r.val : ℝ) : EReal) < (((3 * N : ℕ) : ℝ) : EReal) := fun q => h (by exact_mod_cast EReal.coe_lt_coe_iff.mp q)
        rw [if_neg h, if_neg h', mul_zero]
    rw [Finset.sum_congr rfl fun r _ => hL r]
    refine hmain.trans (Finset.sum_congr rfl fun l _ => ?_)
    have hd : ∀ k : Fin 32, deadE (x : EReal) (D (σ (k.castLE (by decide)))) (((σ (k.castLE (by decide))).val : ℝ) : EReal) ↔ p (σ (k.castLE (by decide))) :=
      fun k => dead_iff x _ _
    have hl : lossE (D (σ (l.castLE (by decide)))) = ((soft (D (σ (l.castLE (by decide)))) : ℝ) : EReal) := by
      unfold lossE
      rw [EReal.coe_one]
      exact soft_kernel _
    rw [hl, hn']
    simp only [hd]
    refine if_congr ?_ rfl rfl
    unfold keptLanes freeLanes
    rw [Finset.mem_filter, Finset.mem_filter]
    constructor
    · rintro ⟨⟨-, h1⟩, h2⟩
      exact ⟨h1, EReal.coe_le_coe_iff.mpr (by exact_mod_cast h2)⟩
    · rintro ⟨h1, h2⟩
      exact ⟨⟨Finset.mem_univ _, h1⟩, by exact_mod_cast EReal.coe_le_coe_iff.mp h2⟩

end Cert.Proof.Mine
-- ==== Proof.Refer.lean ====
/- The reference's arithmetic over the extended reals: its losses, its positives, its sorting, and its hard
   sum as a sum over all images and ranks. -/
module

public import proofs.«01_k».proof.Proof.Second
public import proofs.«01_k».proof.Proof.Gen.ReferenceIdeal

@[expose] public section

noncomputable section

namespace Cert.Proof.Mine

open Idealize.ShloMosaic Cert.ReferenceIdeal Cert.ReferenceIdeal.Gen

/-! ## Reductions by "and" and by the greatest -/

/-- An "and" over a list is set only where all of the list are. -/
theorem foldl_and {ι : Type} (f : ι → BitVec 1) (l : List ι) (a : BitVec 1) (h : l.foldl (fun r n => IntOp.andi r (f n)) a = 1#1) :
    a = 1#1 ∧ ∀ n ∈ l, f n = 1#1 := by
  induction l generalizing a with
  | nil => exact ⟨h, fun n hn => absurd hn List.not_mem_nil⟩
  | cons x l ih =>
    have h1 := ih _ h
    have h2 : ∀ p q : BitVec 1, p &&& q = 1#1 → p = 1#1 ∧ q = 1#1 := by decide
    have h3 := h2 _ _ h1.1
    refine ⟨h3.1, fun n hn => ?_⟩
    rcases List.mem_cons.mp hn with rfl | hn
    · exact h3.2
    · exact h1.2 n hn

/-- An "and" of all of an array is set only where all of it is. -/
theorem reduce_and {s : Shape} {axes : List (Fin s.rank)} (x : s.Idx → BitVec 1) (init : S_.Idx → BitVec 1) (h : s.ReducesTo axes S_) (hu : 0 < S_.numel)
    (e : Host.reduce IntOp.andi x init h hu = fun _ => 1#1) (i : s.Idx) : x i = 1#1 := by
  have e0 := congrFun e ValueIdx.ix0
  have h1 := (foldl_and (fun n => x (s.rowMajor.symm n)) _ _ e0).2 (s.rowMajor i)
    (List.mem_filter.mpr ⟨List.mem_finRange _, by
      rw [decide_eq_true_eq]
      funext a
      exact a.elim0⟩)
  simpa using h1

/-- The greatest of a list of reals and −∞ is no +∞. -/
theorem foldl_max_top {ι : Type} (f : ι → EReal) (l : List ι) (a : EReal) (ha : a ≠ ⊤) (hf : ∀ n ∈ l, f n ≠ ⊤) :
    l.foldl (fun r n => max r (f n)) a ≠ ⊤ := by
  induction l generalizing a with
  | nil => exact ha
  | cons x l ih =>
    refine ih _ ?_ fun n hn => hf n (List.mem_cons_of_mem _ hn)
    show max a (f x) ≠ ⊤
    rcases max_choice a (f x) with h | h <;> rw [h]
    · exact ha
    · exact hf x List.mem_cons_self

/-- The greatest of a list is at least its first and each of it. -/
theorem le_foldl_max {ι : Type} (f : ι → EReal) (l : List ι) (a : EReal) :
    a ≤ l.foldl (fun r n => max r (f n)) a ∧ ∀ n ∈ l, f n ≤ l.foldl (fun r n => max r (f n)) a := by
  induction l generalizing a with
  | nil => exact ⟨le_refl _, fun n hn => absurd hn List.not_mem_nil⟩
  | cons x l ih =>
    have h := ih (max a (f x))
    refine ⟨(le_max_left _ _).trans h.1, fun n hn => ?_⟩
    rcases List.mem_cons.mp hn with rfl | hn
    · exact (le_max_right _ _).trans h.1
    · exact h.2 n hn

/-- The greater of two arrays, read. -/
theorem max_at {s : Shape} (a b : s.Idx → EReal) (i : s.Idx) : maximumf (F := Ideal) (φ := .f32) a b i = max (a i) (b i) := rfl

/-- The difference of two arrays, read. -/
theorem sub_at {s : Shape} (a b : s.Idx → EReal) (i : s.Idx) : subf (F := Ideal) (φ := .f32) a b i = a i - b i := rfl

/-- The product of two arrays, read. -/
theorem mul_at {s : Shape} (a b : s.Idx → EReal) (i : s.Idx) : mulf (F := Ideal) (φ := .f32) a b i = a i * b i := rfl

/-- An array negated, read. -/
theorem neg_at {s : Shape} (a : s.Idx → EReal) (i : s.Idx) : Host.negf (F := Ideal) (φ := .f32) a i = -a i := rfl

/-- An array's logarithm, read. -/
theorem log_at {s : Shape} (a : s.Idx → EReal) (i : s.Idx) : Host.log (F := Ideal) (φ := .f32) a i = Ideal.log (a i) := rfl

/-- An array's exponential, read. -/
theorem exp_at {s : Shape} (a : s.Idx → EReal) (i : s.Idx) : Host.exp (F := Ideal) (φ := .f32) a i = Ideal.exp (a i) := rfl

/-- A constant everywhere, read. -/
theorem fill_at {s : Shape} {dims : Fin S_.rank → Fin s.rank} (w : BitVec 32) (h : S_.BroadcastsInDim s dims) (i : s.Idx) :
    broadcastInDim s dims h (constant (F := Ideal) S_ .f32 w) i = Ideal.ofBits .f32 w := rfl

/-- The greatest of a row of reals is a real. -/
theorem reduce_max_real {s t : Shape} {axes : List (Fin s.rank)} (X : s.Idx → EReal) (hX : ∀ i, X i ≠ ⊤ ∧ X i ≠ ⊥) (init : S_.Idx → EReal) (h : s.ReducesTo axes t)
    (hu : 0 < S_.numel) (hi : ∀ i, init i ≠ ⊤) (j : t.Idx) (i : s.Idx) (hij : h.drop i = j) :
    ∃ m : ℝ, Host.reduce (FloatOps.maximumf (F := Ideal) (φ := .f32)) X init h hu j = (m : EReal) := by
  rw [Host.reduce_eq_foldl]
  generalize hl : ((List.finRange s.numel).map s.rowMajor.symm).filter (fun i => h.drop i = j) = l
  have hm : i ∈ l := by
    rw [← hl]
    refine List.mem_filter.mpr ⟨List.mem_map.mpr ⟨s.rowMajor i, List.mem_finRange _, Equiv.symm_apply_apply _ _⟩, ?_⟩
    rw [decide_eq_true_eq]
    exact hij
  have h1 := foldl_max_top X l _ (hi (Shape.Idx.first hu)) fun n _ => (hX n).1
  have h2 := (le_foldl_max X l (init (Shape.Idx.first hu))).2 i hm
  have h3 : l.foldl (fun r n => max r (X n)) (init (Shape.Idx.first hu)) ≠ ⊥ := fun hb => (hX i).2 (le_bot_iff.mp (h2.trans (le_of_eq hb)))
  exact ⟨_, (EReal.coe_toReal h1 h3).symm⟩

/-! ## The loss of a prior -/

/-- Each prior's greater score. -/
def topR (X : S128x8732x2.Idx → EReal) : S128x8732.Idx → EReal :=
  maximumf (F := Ideal) (φ := .f32) (broadcastInDim S128x8732 ![] bcast_S_S128x8732 (constant (F := Ideal) S_ .f32 0xFF800000#32))
    (Host.reduce (FloatOps.maximumf (F := Ideal) (φ := .f32)) X (constant (F := Ideal) S_ .f32 0xFF800000#32) reducesTo_S128x8732x2_S128x8732_d2 h_S_)

/-- A prior's value at both of its scores. -/
def both (y : S128x8732.Idx → EReal) : S128x8732x2.Idx → EReal :=
  broadcastInDim S128x8732x2 ![0, 1, 2] bcast_S128x8732x1_S128x8732x2_0_1_2 (broadcastInDim S128x8732x1 ![0, 1] bcast_S128x8732_S128x8732x1_0_1 y)

/-- The scores less each prior's greater. -/
def lessTop (X : S128x8732x2.Idx → EReal) : S128x8732x2.Idx → EReal := subf (F := Ideal) (φ := .f32) X (both (topR X))

/-- Each prior's sum of exponentials. -/
def sumExp (Y : S128x8732x2.Idx → EReal) : S128x8732.Idx → EReal :=
  Host.reduceAdd (F := Ideal) (φ := .f32) (Host.exp (F := Ideal) (φ := .f32) Y) (constant (F := Ideal) S_ .f32 0x00000000#32) reducesTo_S128x8732x2_S128x8732_d2 h_S_

/-- The logarithm of a prior's value at both of its scores. -/
def bothLog (y : S128x8732.Idx → EReal) : S128x8732x2.Idx → EReal :=
  broadcastInDim S128x8732x2 ![0, 1, 2] bcast_S128x8732x1_S128x8732x2_0_1_2 (Host.log (F := Ideal) (φ := .f32) (broadcastInDim S128x8732x1 ![0, 1] bcast_S128x8732_S128x8732x1_0_1 y))

/-- The first score of every prior. -/
def firstOf (Z : S128x8732x2.Idx → EReal) : S128x8732.Idx → EReal :=
  shapeCast S128x8732 (extractStridedSlice S128x8732x1 ![0, 0, 0] Z slices_S128x8732x2_S128x8732x1_0_0_0) shapeCasts_S128x8732x1_S128x8732

/-- The reference's loss of every prior as a negative. -/
def lossR (X : S128x8732x2.Idx → EReal) : S128x8732.Idx → EReal :=
  Host.negf (F := Ideal) (φ := .f32) (firstOf (subf (F := Ideal) (φ := .f32) (lessTop X) (bothLog (sumExp (lessTop X)))))

/-- The first score of a prior, read. -/
theorem firstOf_at (Z : S128x8732x2.Idx → EReal) (b : Fin 128) (j : Fin 8732) :
    firstOf Z (ValueIdx.ix2 b j) = Z (ValueIdx.ix3 b j (0 : Fin 2)) := by
  have e : Shape.reshapeEquiv shapeCasts_S128x8732x1_S128x8732 (ValueIdx.ix2 b j) = ValueIdx.ix3 b j (0 : Fin 1) := by
    refine Shape.reshapeEquiv_eq_of_rowMajor _ ?_
    rw [Shape.rowMajor_val_two, Shape.rowMajor_val_three]
    show (b.val * 8732 + j.val) * 1 + 0 = b.val * 8732 + j.val
    omega
  show extractStridedSlice S128x8732x1 ![0, 0, 0] Z slices_S128x8732x2_S128x8732x1_0_0_0 (Shape.reshapeEquiv _ (ValueIdx.ix2 b j)) = _
  rw [e]
  unfold extractStridedSlice
  congr 1
  funext a
  match a with
  | ⟨0, _⟩ => exact Fin.ext (Nat.zero_add _)
  | ⟨1, _⟩ => exact Fin.ext (Nat.zero_add _)
  | ⟨2, _⟩ => rfl

/-- The logarithm of a prior's value at one of its scores. -/
theorem bothLog_at (y : S128x8732.Idx → EReal) (b : Fin 128) (j : Fin 8732) (k : Fin 2) :
    bothLog y (ValueIdx.ix3 b j k) = Ideal.log (y (ValueIdx.ix2 b j)) := by
  unfold bothLog
  rw [broadcastInDim_apply ![0, 1, 2] _ _ (ValueIdx.ix3 b j k) (ValueIdx.ix3 b j (0 : Fin 1)), log_at,
    broadcastInDim_apply ![0, 1] _ y (ValueIdx.ix3 b j (0 : Fin 1)) (ValueIdx.ix2 b j)]
  · intro a
    match a with
    | ⟨0, _⟩ => rfl
    | ⟨1, _⟩ => rfl
  · intro a
    match a with
    | ⟨0, _⟩ => rfl
    | ⟨1, _⟩ => rfl
    | ⟨2, _⟩ => rfl

/-- A prior's sum of exponentials, read. -/
theorem sumExp_at (Y : S128x8732x2.Idx → EReal) (b : Fin 128) (j : Fin 8732) :
    sumExp Y (ValueIdx.ix2 b j) = Ideal.exp (Y (ValueIdx.ix3 b j (0 : Fin 2))) + Ideal.exp (Y (ValueIdx.ix3 b j (1 : Fin 2))) := by
  unfold sumExp
  refine (Ideal.hostReduceAdd_r3_a2 reducesTo_S128x8732x2_S128x8732_d2 _ _ (ValueIdx.ix2 b j)).trans ?_
  rw [Fin.sum_univ_two, exp_at, exp_at]
  refine (congrArg (fun z : EReal => z + _) f_zero).trans (zero_add _)

/-- A prior's value at one of its scores. -/
theorem both_at (y : S128x8732.Idx → EReal) (b : Fin 128) (j : Fin 8732) (k : Fin 2) : both y (ValueIdx.ix3 b j k) = y (ValueIdx.ix2 b j) := by
  unfold both
  rw [broadcastInDim_apply ![0, 1, 2] _ _ (ValueIdx.ix3 b j k) (ValueIdx.ix3 b j (0 : Fin 1)),
    broadcastInDim_apply ![0, 1] _ y (ValueIdx.ix3 b j (0 : Fin 1)) (ValueIdx.ix2 b j)]
  · intro a
    match a with
    | ⟨0, _⟩ => rfl
    | ⟨1, _⟩ => rfl
  · intro a
    match a with
    | ⟨0, _⟩ => rfl
    | ⟨1, _⟩ => rfl
    | ⟨2, _⟩ => rfl

/-- A prior's greater score is real where its scores are. -/
theorem topR_real (X : S128x8732x2.Idx → EReal) (hX : ∀ i, X i ≠ ⊤ ∧ X i ≠ ⊥) (b : Fin 128) (j : Fin 8732) :
    ∃ m : ℝ, topR X (ValueIdx.ix2 b j) = (m : EReal) := by
  obtain ⟨m, hm⟩ := reduce_max_real X hX (constant (F := Ideal) S_ .f32 0xFF800000#32) reducesTo_S128x8732x2_S128x8732_d2 h_S_
    (fun i => by show Ideal.ofBits .f32 0xFF800000#32 ≠ ⊤; rw [f_bot]; exact bot_ne_top) (ValueIdx.ix2 b j) (ValueIdx.ix3 b j (0 : Fin 2))
    ((Shape.ReducesTo.fiber_r3_a2 reducesTo_S128x8732x2_S128x8732_d2 (ValueIdx.ix2 b j) (ValueIdx.ix3 b j (0 : Fin 2))).mpr ⟨0, rfl⟩)
  refine ⟨m, ?_⟩
  rw [← hm]
  unfold topR
  rw [max_at, fill_at, f_bot]
  exact max_eq_right bot_le

/-- THE REFERENCE'S LOSS OF A PRIOR as a negative, its scores real. -/
theorem lossR_at (X : S128x8732x2.Idx → EReal) (hX : ∀ i, X i ≠ ⊤ ∧ X i ≠ ⊥) (b : Fin 128) (j : Fin 8732) :
    lossR X (ValueIdx.ix2 b j) = ((soft ((X (ValueIdx.ix3 b j (1 : Fin 2))).toReal - (X (ValueIdx.ix3 b j (0 : Fin 2))).toReal) : ℝ) : EReal) := by
  obtain ⟨m, hm⟩ := topR_real X hX b j
  have hl : ∀ k : Fin 2, lessTop X (ValueIdx.ix3 b j k) = (((X (ValueIdx.ix3 b j k)).toReal : ℝ) : EReal) - (m : EReal) := by
    intro k
    unfold lessTop
    rw [sub_at, both_at, hm, EReal.coe_toReal (hX _).1 (hX _).2]
  unfold lossR
  rw [neg_at, firstOf_at, sub_at, bothLog_at, sumExp_at, hl, hl]
  exact soft_reference _ _ m

/-! ## The positives of an image -/

/-- The bits of every image's word, the powers of two given. -/
def bitsOf (pow : S1x8.Idx → EReal) (s : S128x128.Idx → EReal) : S128x8.Idx → EReal :=
  subf (F := Ideal) (φ := .f32) (Host.floor (F := Ideal) (φ := .f32) (Host.divf (F := Ideal) (φ := .f32) (broadcastInDim S128x8 ![0, 1] bcast_S128x1_S128x8_0_1 (extractStridedSlice S128x1 ![0, 3] s slices_S128x128_S128x1_0_3))
      (broadcastInDim S128x8 ![0, 1] bcast_S1x8_S128x8_0_1 pow)))
    (mulf (F := Ideal) (φ := .f32) (broadcastInDim S128x8 ![] bcast_S_S128x8 (constant (F := Ideal) S_ .f32 0x40000000#32))
      (Host.floor (F := Ideal) (φ := .f32) (Host.divf (F := Ideal) (φ := .f32) (Host.floor (F := Ideal) (φ := .f32) (Host.divf (F := Ideal) (φ := .f32)
          (broadcastInDim S128x8 ![0, 1] bcast_S128x1_S128x8_0_1 (extractStridedSlice S128x1 ![0, 3] s slices_S128x128_S128x1_0_3)) (broadcastInDim S128x8 ![0, 1] bcast_S1x8_S128x8_0_1 pow)))
        (broadcastInDim S128x8 ![] bcast_S_S128x8 (constant (F := Ideal) S_ .f32 0x40000000#32)))))

/-- An array rounded down, read. -/
theorem floor_at {s : Shape} (a : s.Idx → EReal) (i : s.Idx) : Host.floor (F := Ideal) (φ := .f32) a i = fl (a i) := rfl

/-- The quotient of two arrays, read. -/
theorem div_at {s : Shape} (a b : s.Idx → EReal) (i : s.Idx) : Host.divf (F := Ideal) (φ := .f32) a b i = Ideal.div (a i) (b i) := rfl

/-- A column of the statistics, read. -/
theorem column_at (c : Fin 128) (s : S128x128.Idx → EReal) (h : S128x128.Slices ![0, c.val] S128x1) (b : Fin 128) :
    extractStridedSlice S128x1 ![0, c.val] s h (ValueIdx.ix2 b (0 : Fin 1)) = s (ValueIdx.ix2 b c) := by
  unfold extractStridedSlice
  congr 1
  funext a
  match a with
  | ⟨0, _⟩ => exact Fin.ext (Nat.zero_add _)
  | ⟨1, _⟩ => exact Fin.ext (Nat.add_zero _)

/-- A bit of an image's word. -/
theorem bitsOf_at (pow : S1x8.Idx → EReal) (hpow : ∀ j : Fin 8, pow (ValueIdx.ix2 (0 : Fin 1) j) = ((2 ^ j.val : ℝ) : EReal)) (s : S128x128.Idx → EReal) (b : Fin 128) (j : Fin 8) :
    bitsOf pow s (ValueIdx.ix2 b j) = posE (s (ValueIdx.ix2 b (3 : Fin 128))) j.val := by
  have e1 : broadcastInDim S128x8 ![0, 1] bcast_S128x1_S128x8_0_1 (extractStridedSlice S128x1 ![0, 3] s slices_S128x128_S128x1_0_3) (ValueIdx.ix2 b j)
      = s (ValueIdx.ix2 b (3 : Fin 128)) := by
    rw [broadcastInDim_apply ![0, 1] _ _ (ValueIdx.ix2 b j) (ValueIdx.ix2 b (0 : Fin 1))]
    · exact column_at 3 s _ b
    · intro a
      match a with
      | ⟨0, _⟩ => rfl
      | ⟨1, _⟩ => rfl
  have e2 : broadcastInDim S128x8 ![0, 1] bcast_S1x8_S128x8_0_1 pow (ValueIdx.ix2 b j) = ((2 ^ j.val : ℝ) : EReal) := by
    rw [broadcastInDim_apply ![0, 1] _ _ (ValueIdx.ix2 b j) (ValueIdx.ix2 (0 : Fin 1) j)]
    · exact hpow j
    · intro a
      match a with
      | ⟨0, _⟩ => rfl
      | ⟨1, _⟩ => rfl
  unfold bitsOf posE
  rw [sub_at, mul_at, floor_at, floor_at, div_at, div_at, floor_at, div_at, fill_at, e1, e2, f_two]

/-- The positives of all images, as ones among zeros. -/
def posR (pow : S1x8.Idx → EReal) (s : S128x128.Idx → EReal) : S128x8732.Idx → EReal :=
  pad S128x8732 ![0, 0] ![0, 8724] ![0, 0] (bitsOf pow s) (sitofp (F := Ideal) .f32 (constantI S_ 32 0#32)) pads_S128x8_S128x8732_000_087240 h_S_

/-- A positive, read. -/
theorem posR_at (pow : S1x8.Idx → EReal) (hpow : ∀ j : Fin 8, pow (ValueIdx.ix2 (0 : Fin 1) j) = ((2 ^ j.val : ℝ) : EReal)) (s : S128x128.Idx → EReal) (b : Fin 128) (j : Fin 8732) :
    posR pow s (ValueIdx.ix2 b j) = if j.val < 8 then posE (s (ValueIdx.ix2 b (3 : Fin 128))) j.val else 0 := by
  unfold posR
  by_cases h : j.val < 8
  · rw [if_pos h]
    refine (pad_apply_of_inside _ _ _ _ _ _ _ _ (ValueIdx.ix2 b (⟨j.val, h⟩ : Fin 8)) fun a => ?_).trans (bitsOf_at pow hpow s b ⟨j.val, h⟩)
    match a with
    | ⟨0, _⟩ => show b.val = 0 + b.val * (0 + 1); omega
    | ⟨1, _⟩ => show j.val = 0 + j.val * (0 + 1); omega
  · rw [if_neg h]
    refine (pad_apply_of_not_inside _ _ _ _ _ _ _ _ (1 : Fin 2) fun hh => ?_).trans ?_
    · have h3 := hh.2.2
      have h4 : (j.val - 0) / (0 + 1) < 8 := h3
      omega
    · refine (sitofp_ofNat (n := 0) (by decide)).trans ?_
      rw [Nat.cast_zero, EReal.coe_zero]

/-! ## The sorting of the losses -/

/-- The comparison the reference sorts by is the order of the numbers. -/
theorem cmp_lt (a b : EReal) : (comparator_f32_d1 (F := Ideal) a b == 1#1) = decide (a < b) := by
  have hz : ∀ x c : EReal, Scalar.select (Ideal.cmp .une x x) c (Scalar.select (Ideal.cmp .oeq x (Ideal.ofBits .f32 0x00000000#32)) (Ideal.ofBits .f32 0x00000000#32) x) = x := by
    intro x c
    rw [f_zero]
    unfold Ideal.cmp Scalar.select
    by_cases h : x = 0
    · simp [h]
    · simp [h]
  have e : comparator_f32_d1 (F := Ideal) a b = BitVec.ofBool (decide (a < b)) := by
    show BitVec.ofBool (decide (Scalar.select (Ideal.cmp .une a a) (Ideal.ofBits .f32 0x7FC00000#32) (Scalar.select (Ideal.cmp .oeq a (Ideal.ofBits .f32 0x00000000#32)) (Ideal.ofBits .f32 0x00000000#32) a)
      < Scalar.select (Ideal.cmp .une b b) (Ideal.ofBits .f32 0x7FC00000#32) (Scalar.select (Ideal.cmp .oeq b (Ideal.ofBits .f32 0x00000000#32)) (Ideal.ofBits .f32 0x00000000#32) b))) = _
    rw [hz, hz]
  rw [e]
  cases decide (a < b) <;> rfl

/-- The sorting of a row: the position whose entry comes at a place in ascending order. -/
def asc (Z : S128x8732.Idx → EReal) (g : Fin 128) : Fin 8732 → Fin 8732 :=
  sortedFrom fun k k' => comparator_f32_d1 (F := Ideal) (Z (ValueIdx.ix2 g k)) (Z (ValueIdx.ix2 g k')) == 1#1

/-- The sorting takes every position once. -/
theorem asc_bij (Z : S128x8732.Idx → EReal) (g : Fin 128) : Function.Bijective (asc Z g) :=
  ⟨sortedFrom_injective _, sortedFrom_surjective _⟩

/-- A row read by its sorting ascends. -/
theorem asc_mono (Z : S128x8732.Idx → EReal) (g : Fin 128) : Monotone fun k => Z (ValueIdx.ix2 g (asc Z g k)) := by
  intro i j hij
  rcases hij.eq_or_lt with h | h
  · rw [h]
  · unfold asc
    have := sortedFrom_noInversion
      (fun k k' => comparator_f32_d1 (F := Ideal) (Z (ValueIdx.ix2 g k)) (Z (ValueIdx.ix2 g k')) == 1#1)
      (fun k k' => comparator_f32_d1 (F := Ideal) (Z (ValueIdx.ix2 g k)) (Z (ValueIdx.ix2 g k')) == 1#1)
      (fun a b => by simp only [cmp_lt, decide_eq_true_eq, decide_eq_false_iff_not, not_lt]; exact le_of_lt)
      (fun a b h => h)
      (fun a b c => by simp only [cmp_lt, decide_eq_false_iff_not, not_lt]; exact fun h1 h2 => le_trans h2 h1)
      i j h
    simpa only [cmp_lt, decide_eq_false_iff_not, not_lt] using this

/-- What a sorted row holds at a place, the row's indices given. -/
def ascAt (Z : S128x8732.Idx → EReal) (k : Fin 8732) (f : Fin 8732 → S128x8732.Idx) : EReal :=
  Z (f (sortedFrom (fun a b => comparator_f32_d1 (F := Ideal) (Z (f a)) (Z (f b)) == 1#1) k))

/-- The sorted losses, by the sorting. -/
theorem sort_at (Z : S128x8732.Idx → EReal) (g : Fin 128) (k : Fin 8732) :
    Host.sort S128x8732 1 (comparator_f32_d1 (F := Ideal)) Z (ValueIdx.ix2 g k) = Z (ValueIdx.ix2 g (asc Z g k)) :=
  (show Host.sort S128x8732 1 (comparator_f32_d1 (F := Ideal)) Z (ValueIdx.ix2 g k) = ascAt Z k (fun k' => Shape.Idx.along (s := S128x8732) (ValueIdx.ix2 g k) (1 : Fin 2) k') from rfl).trans
    (congrArg (ascAt Z k) (along_row g k))

/-! ## The hard sum -/

/-- The powers of two the bits are cut by. -/
def powR : S1x8.Idx → EReal := fun i => FloatOps.ofBits (F := Ideal) .f32 (lit0 (S1x8.rowMajor i))

/-- They are the powers of two. -/
theorem powR_at (j : Fin 8) : powR (ValueIdx.ix2 (0 : Fin 1) j) = ((2 ^ j.val : ℝ) : EReal) := by
  have e : S1x8.rowMajor (ValueIdx.ix2 (0 : Fin 1) j) = (j : Fin 8) := Fin.ext ((rowMajor_val2 _ 8 rfl).trans (by show 0 * 8 + j.val = j.val; omega))
  show Ideal.ofBits .f32 (lit0 (S1x8.rowMajor (ValueIdx.ix2 (0 : Fin 1) j))) = _
  rw [e]
  match j with
  | 0 => exact f_one.trans (by norm_num)
  | 1 => exact f_two.trans (by norm_num)
  | 2 => exact f_four.trans (by norm_num)
  | 3 => exact f_eight.trans (by norm_num)
  | 4 => exact f_sixteen.trans (by norm_num)
  | 5 => exact f_32.trans (by norm_num)
  | 6 => exact f_64.trans (by norm_num)
  | 7 => exact f_128.trans (by norm_num)

/-- The statistics' column of counts. -/
def countR (s : S128x128.Idx → EReal) : S128.Idx → EReal := shapeCast S128 (extractStridedSlice S128x1 ![0, 0] s slices_S128x128_S128x1_0_0) shapeCasts_S128x1_S128

/-- The count of an image. -/
theorem countR_at (s : S128x128.Idx → EReal) (b : Fin 128) : countR s (ValueIdx.ix1 b) = s (ValueIdx.ix2 b (0 : Fin 128)) := by
  have e : Shape.reshapeEquiv shapeCasts_S128x1_S128 (ValueIdx.ix1 b) = ValueIdx.ix2 b (0 : Fin 1) := by
    refine Shape.reshapeEquiv_eq_of_vals (s := S128x1) (s' := S128) _ _ _ (b.val * 1 + 0) b.val
      (rowMajor_val2 _ 1 rfl) ((rowMajor_val1 _).trans rfl) (by omega)
  show extractStridedSlice S128x1 ![0, 0] s slices_S128x128_S128x1_0_0 (Shape.reshapeEquiv _ (ValueIdx.ix1 b)) = _
  rw [e]
  exact column_at 0 s _ b

/-- The ranks that count, as ones among zeros: thrice an image's count of them. -/
def maskR (s : S128x128.Idx → EReal) : S128x8732.Idx → EReal :=
  uitofp (F := Ideal) .f32 (cmpf (F := Ideal) (φ := .f32) .olt
    (broadcastInDim S128x8732 ![0, 1] bcast_S1x8732_S128x8732_0_1 (broadcastInDim S1x8732 ![1] bcast_S8732_S1x8732_1 (sitofp (F := Ideal) .f32 (iotaInDim S8732 32 0))))
    (broadcastInDim S128x8732 ![0, 1] bcast_S128x1_S128x8732_0_1 (broadcastInDim S128x1 ![0] bcast_S128_S128x1_0
      (mulf (F := Ideal) (φ := .f32) (broadcastInDim S128 ![] bcast_S_S128 (constant (F := Ideal) S_ .f32 0x40400000#32)) (countR s)))))

/-- A comparison as a number. -/
theorem olt_at {s : Shape} (a b : s.Idx → EReal) (i : s.Idx) :
    uitofp (F := Ideal) .f32 (cmpf (F := Ideal) (φ := .f32) .olt a b) i = if a i < b i then 1 else 0 := by
  show (((Ideal.cmp .olt (a i) (b i)).toNat : ℝ) : EReal) = _
  unfold Ideal.cmp
  by_cases h : a i < b i <;> simp [h]

/-- Whether a rank counts. -/
theorem maskR_at (s : S128x128.Idx → EReal) (b : Fin 128) (r : Fin 8732) :
    maskR s (ValueIdx.ix2 b r) = if ((r.val : ℝ) : EReal) < ((3 : ℝ) : EReal) * s (ValueIdx.ix2 b (0 : Fin 128)) then 1 else 0 := by
  unfold maskR
  rw [olt_at, broadcastInDim_apply ![0, 1] bcast_S1x8732_S128x8732_0_1 _ (ValueIdx.ix2 b r) (ValueIdx.ix2 (0 : Fin 1) r),
    broadcastInDim_apply ![1] bcast_S8732_S1x8732_1 _ (ValueIdx.ix2 (0 : Fin 1) r) (ValueIdx.ix1 r),
    broadcastInDim_apply ![0, 1] bcast_S128x1_S128x8732_0_1 _ (ValueIdx.ix2 b r) (ValueIdx.ix2 b (0 : Fin 1)),
    broadcastInDim_apply ![0] bcast_S128_S128x1_0 _ (ValueIdx.ix2 b (0 : Fin 1)) (ValueIdx.ix1 b), mul_at, fill_at, f_three, countR_at]
  · have e : sitofp (F := Ideal) .f32 (iotaInDim S8732 32 0) (ValueIdx.ix1 r) = ((r.val : ℝ) : EReal) := sitofp_ofNat (n := r.val) (by have := r.isLt; omega)
    rw [e]
  · intro a
    match a with
    | ⟨0, _⟩ => rfl
  · intro a
    match a with
    | ⟨0, _⟩ => rfl
    | ⟨1, _⟩ => rfl
  · intro a
    match a with
    | ⟨0, _⟩ => rfl
  · intro a
    match a with
    | ⟨0, _⟩ => rfl
    | ⟨1, _⟩ => rfl

/-- The losses with the positives' set to zero. -/
def lossFree (pow : S1x8.Idx → EReal) (X : S128x8732x2.Idx → EReal) (s : S128x128.Idx → EReal) : S128x8732.Idx → EReal :=
  mulf (F := Ideal) (φ := .f32) (lossR X) (subf (F := Ideal) (φ := .f32) (broadcastInDim S128x8732 ![] bcast_S_S128x8732 (constant (F := Ideal) S_ .f32 0x3F800000#32)) (posR pow s))

/-- The reference's hard sum over all images. -/
def hardR (pow : S1x8.Idx → EReal) (X : S128x8732x2.Idx → EReal) (s : S128x128.Idx → EReal) : S_.Idx → EReal :=
  Host.reduceAdd (F := Ideal) (φ := .f32) (mulf (F := Ideal) (φ := .f32) (Host.negf (F := Ideal) (φ := .f32) (Host.sort S128x8732 1 (comparator_f32_d1 (F := Ideal)) (Host.negf (F := Ideal) (φ := .f32) (lossFree pow X s)))) (maskR s))
    (constant (F := Ideal) S_ .f32 0x00000000#32) reducesTo_S128x8732_S_d0_1 h_S_

/-- THE REFERENCE'S HARD SUM, image by image and rank by rank. -/
theorem hardR_at (pow : S1x8.Idx → EReal) (X : S128x8732x2.Idx → EReal) (s : S128x128.Idx → EReal) (i : S_.Idx) :
    hardR pow X s i = ∑ b : Fin 128, ∑ r : Fin 8732, lossFree pow X s (ValueIdx.ix2 b (asc (Host.negf (F := Ideal) (φ := .f32) (lossFree pow X s)) b r))
      * (if ((r.val : ℝ) : EReal) < ((3 : ℝ) : EReal) * s (ValueIdx.ix2 b (0 : Fin 128)) then 1 else 0) := by
  unfold hardR
  have hrow : ∀ (b : Fin 128) (r : Fin 8732), mulf (F := Ideal) (φ := .f32) (Host.negf (F := Ideal) (φ := .f32) (Host.sort S128x8732 1 (comparator_f32_d1 (F := Ideal))
      (Host.negf (F := Ideal) (φ := .f32) (lossFree pow X s)))) (maskR s) (ValueIdx.ix2 b r)
      = lossFree pow X s (ValueIdx.ix2 b (asc (Host.negf (F := Ideal) (φ := .f32) (lossFree pow X s)) b r))
        * (if ((r.val : ℝ) : EReal) < ((3 : ℝ) : EReal) * s (ValueIdx.ix2 b (0 : Fin 128)) then 1 else 0) := fun b r => by
    rw [mul_at, neg_at, sort_at, neg_at, neg_neg, maskR_at]
  refine (Ideal.hostReduceAdd_r2_a01 reducesTo_S128x8732_S_d0_1 _ _ i).trans ?_
  refine (congrArg (fun z : EReal => z + _) f_zero).trans ((zero_add _).trans ?_)
  exact Finset.sum_congr rfl fun b _ => Finset.sum_congr rfl fun r _ => hrow b r

/-! ## The loss -/

/-- A column summed over the images. -/
def sumR (v : S128.Idx → EReal) : S_.Idx → EReal :=
  Host.reduceAdd (F := Ideal) (φ := .f32) v (constant (F := Ideal) S_ .f32 0x00000000#32) reducesTo_S128_S_d0 h_S_

/-- THE REFERENCE'S LOSS, of the scores and the statistics. -/
def refLoss (X : S128x8732x2.Idx → EReal) (s : S128x128.Idx → EReal) : S_.Idx → EReal :=
  addf (F := Ideal) (φ := .f32) (Host.divf (F := Ideal) (φ := .f32)
      (addf (F := Ideal) (φ := .f32) (sumR (shapeCast S128 (extractStridedSlice S128x1 ![0, 2] s slices_S128x128_S128x1_0_2) shapeCasts_S128x1_S128)) (hardR powR X s))
      (sumR (countR s)))
    (Host.divf (F := Ideal) (φ := .f32) (sumR (shapeCast S128 (extractStridedSlice S128x1 ![0, 1] s slices_S128x128_S128x1_0_1) shapeCasts_S128x1_S128))
      (mulf (F := Ideal) (φ := .f32) (sumR (countR s)) (constant (F := Ideal) S_ .f32 0x40800000#32)))

/-- A column of the statistics, summed. -/
theorem sumR_at (x : S128x1.Idx → EReal) (i : S_.Idx) : sumR (shapeCast S128 x shapeCasts_S128x1_S128) i = ∑ k, x k := by
  unfold sumR
  refine (Ideal.hostReduceAdd_total reducesTo_S128_S_d0 (fun b => b.elim0) _ _ i).trans ?_
  refine (congrArg (fun z : EReal => z + _) f_zero).trans ((zero_add _).trans ?_)
  exact sum_cast x _

end Cert.Proof.Mine
-- ==== Proof.Loss.lean ====
/- The loss: from the keys and indices of all images' candidates and the statistics, the second call and the
   final scalars give the reference's loss. -/
module

public import proofs.«01_k».proof.Proof.Launch
public import proofs.«01_k».proof.Proof.Host
public import proofs.«01_k».proof.Proof.Same
public import proofs.«01_k».proof.Proof.Refer

@[expose] public section

noncomputable section

namespace Cert.Proof.Mine

open Idealize.ShloMosaic Cert.KernelIdeal Cert.KernelIdeal.Gen

/-! ## The score differences -/

/-- The score differences of all images. -/
def diffs (X : S128x8732x2.Idx → EReal) : S128x8732.Idx → EReal := subf (F := Ideal) (φ := .f32) (ch1 (F := Ideal) X) (ch0 (F := Ideal) X)

/-- The second score of a prior. -/
theorem ch1_at (X : S128x8732x2.Idx → EReal) (b : Fin 128) (j : Fin 8732) : ch1 (F := Ideal) X (ValueIdx.ix2 b j) = X (ValueIdx.ix3 b j (1 : Fin 2)) := by
  have e : Shape.reshapeEquiv shapeCasts_S128x8732x1_S128x8732 (ValueIdx.ix2 b j) = ValueIdx.ix3 b j (0 : Fin 1) := by
    refine Shape.reshapeEquiv_eq_of_rowMajor _ ?_
    rw [Shape.rowMajor_val_two, Shape.rowMajor_val_three]
    show (b.val * 8732 + j.val) * 1 + 0 = b.val * 8732 + j.val
    omega
  show extractStridedSlice S128x8732x1 ![0, 0, 1] X slices_S128x8732x2_S128x8732x1_0_0_1 (Shape.reshapeEquiv _ (ValueIdx.ix2 b j)) = _
  rw [e]
  unfold extractStridedSlice
  congr 1
  funext a
  match a with
  | ⟨0, _⟩ => exact Fin.ext (Nat.zero_add _)
  | ⟨1, _⟩ => exact Fin.ext (Nat.zero_add _)
  | ⟨2, _⟩ => rfl

/-- A difference of real scores. -/
def gap (X : S128x8732x2.Idx → EReal) (b : Fin 128) (j : Fin 8732) : ℝ := (X (ValueIdx.ix3 b j (1 : Fin 2))).toReal - (X (ValueIdx.ix3 b j (0 : Fin 2))).toReal

/-- The differences of real scores are real. -/
theorem diffs_gap (X : S128x8732x2.Idx → EReal) (hX : ∀ i, X i ≠ ⊤ ∧ X i ≠ ⊥) (b : Fin 128) (j : Fin 8732) : diffs X (ValueIdx.ix2 b j) = ((gap X b j : ℝ) : EReal) := by
  unfold diffs gap
  rw [sub_at, ch1_at, show ch0 (F := Ideal) X (ValueIdx.ix2 b j) = X (ValueIdx.ix3 b j (0 : Fin 2)) from firstOf_at X b j, EReal.coe_sub,
    EReal.coe_toReal (hX _).1 (hX _).2, EReal.coe_toReal (hX _).1 (hX _).2]

/-! ## The second call's lanes -/

/-- A lane of the second call's result, as a scalar. -/
theorem lane_at (c : Fin 128) (r : S1x128.Idx → EReal) (h : S1x128.Slices ![0, c.val] S1x1) (i : S_.Idx) :
    shapeCast S_ (extractStridedSlice S1x1 ![0, c.val] r h) shapeCasts_S1x1_S_ i = r (ValueIdx.ix2 (0 : Fin 1) c) := by
  show r _ = r _
  congr 1
  funext a
  match a with
  | ⟨0, _⟩ => exact Subsingleton.elim (α := Fin 1) _ _
  | ⟨1, _⟩ =>
    refine Fin.ext ?_
    show c.val + ((Shape.reshapeEquiv shapeCasts_S1x1_S_ i) (1 : Fin 2)).val = c.val
    have h1 : ((Shape.reshapeEquiv shapeCasts_S1x1_S_ i) (1 : Fin 2)).val < 1 := ((Shape.reshapeEquiv shapeCasts_S1x1_S_ i) (1 : Fin 2)).isLt
    omega

/-- The final scalars, read. -/
theorem lossFrom_at (r : S1x128.Idx → EReal) (i : S_.Idx) :
    lossFrom (F := Ideal) r i = Ideal.div (r (ValueIdx.ix2 (0 : Fin 1) (2 : Fin 128)) + r (ValueIdx.ix2 (0 : Fin 1) (3 : Fin 128))) (r (ValueIdx.ix2 (0 : Fin 1) (0 : Fin 128)))
      + Ideal.div (r (ValueIdx.ix2 (0 : Fin 1) (1 : Fin 128))) (r (ValueIdx.ix2 (0 : Fin 1) (0 : Fin 128)) * Ideal.ofBits .f32 0x40800000#32) := by
  rw [← lane_at 0 r slices_S1x128_S1x1_0_0 i, ← lane_at 1 r slices_S1x128_S1x1_0_1 i, ← lane_at 2 r slices_S1x128_S1x1_0_2 i, ← lane_at 3 r slices_S1x128_S1x1_0_3 i]
  rfl

/-- A value on one lane, read. -/
theorem onLane_at (c : ℕ) (cF : EReal) (hF : cF = ((c : ℝ) : EReal)) (x : EReal) (k : Fin 128) :
    onLane (F := Ideal) cF x (ValueIdx.ix2 (0 : Fin 1) k) = if k.val = c then x else 0 := by
  have e : lanes128 (F := Ideal) (ValueIdx.ix2 (0 : Fin 1) k) = ((k.val : ℝ) : EReal) := by
    have e1 : iota .tc S1x128 32 [1] iota_S1x128_d1_w32 (ValueIdx.ix2 (0 : Fin 1) k) = BitVec.ofNat 32 k.val := by
      show BitVec.ofNat 32 (0 * 128 + k.val) = _
      rw [Nat.zero_mul, Nat.zero_add]
    show FloatOps.sitofp (F := Ideal) .f32 (iota .tc S1x128 32 [1] iota_S1x128_d1_w32 (ValueIdx.ix2 (0 : Fin 1) k)) = _
    rw [e1]
    exact sitofp_ofNat (by have := k.isLt; omega)
  show Scalar.select (Ideal.cmp .oeq (lanes128 (F := Ideal) (ValueIdx.ix2 (0 : Fin 1) k)) cF) x (Ideal.ofBits .f32 0x00000000#32) = _
  rw [e, hF, f_zero]
  unfold Scalar.select Ideal.cmp
  by_cases h : k.val = c
  · simp [h]
  · have h' : ¬ ((k.val : ℝ) : EReal) = ((c : ℝ) : EReal) := fun q => h (by exact_mod_cast EReal.coe_eq_coe_iff.mp q)
    simp [h, h']

/-- The hard sums' total. -/
def hardTotal (s : S128x128.Idx → EReal) (K : S128x32.Idx → EReal) (N : S128x32.Idx → BitVec 32) : EReal :=
  total (F := Ideal) (shapeCast S128x1 (hard (F := Ideal) (col0 s) (col3 s) (shapeCast S128x32 K shapeCasts_S128x32_S128x32)
    (sitofp (F := Ideal) .f32 (shapeCast S128x32 N shapeCasts_S128x32_S128x32))) shapeCasts_S128_S128x1)

/-- The second call's result on a lane. -/
theorem comb_at (s : S128x128.Idx → EReal) (K : S128x32.Idx → EReal) (N : S128x32.Idx → BitVec 32) (k : Fin 128) :
    comb (F := Ideal) s K N (ValueIdx.ix2 (0 : Fin 1) k) = (if k.val = 0 then total (F := Ideal) (col0 s) else 0) + (if k.val = 1 then total (F := Ideal) (col1 s) else 0)
      + (if k.val = 2 then total (F := Ideal) (col2 s) else 0) + (if k.val = 3 then hardTotal s K N else 0) := by
  rw [← onLane_at 0 (Ideal.ofBits .f32 0x00000000#32) (f_zero.trans (by simp)), ← onLane_at 1 (Ideal.ofBits .f32 0x3F800000#32) (f_one.trans (by simp)),
    ← onLane_at 2 (Ideal.ofBits .f32 0x40000000#32) (f_two.trans (by simp)), ← onLane_at 3 (Ideal.ofBits .f32 0x40400000#32) (f_three.trans (by simp))]
  rfl

/-! ## The equality -/

/-- A sum over the images, by their numbers. -/
theorem sum_images (x : S128.Idx → EReal) : ∑ i, x i = ∑ b : Fin 128, x (ValueIdx.ix1 b) :=
  (Fintype.sum_bijective (fun b : Fin 128 => (ValueIdx.ix1 b : S128.Idx)) ⟨fun _ _ h => congrFun h 0, fun j => ⟨j 0, (ValueIdx.eq_ix1 j).symm⟩⟩ _ _ fun _ => rfl).symm

/-- The candidates of all images in order of their differences, with their positions. -/
def Candidates (X : S128x8732x2.Idx → EReal) (K : S128x32.Idx → EReal) (N : S128x32.Idx → BitVec 32) : Prop :=
  ∀ (b : Fin 128) (l : Fin 32), K (ValueIdx.ix2 b l) = diffs X (ValueIdx.ix2 b (srt (diffs X) b (l.castLE (by decide))))
    ∧ N (ValueIdx.ix2 b l) = BitVec.ofNat 32 (srt (diffs X) b (l.castLE (by decide))).val

/-- The counts are those of the positives the words list. -/
def Counted (s : S128x128.Idx → EReal) : Prop :=
  ∀ b : Fin 128, ∑ j : Fin 8, posE (s (ValueIdx.ix2 b (3 : Fin 128))) j.val = s (ValueIdx.ix2 b (0 : Fin 128))

open Classical in
/-- An image's hard sum from its word, its count, and its candidates' keys and positions. -/
def hardSum (w n : EReal) (k i : Fin 32 → EReal) : EReal :=
  ∑ l : Fin 32, if (¬ deadE w (k l) (i l)) ∧ (((((Finset.univ.filter fun m => ¬ deadE w (k m) (i m)).filter fun m => m ≤ l).card : ℕ) : ℝ) : EReal) ≤ ((3 : ℝ) : EReal) * n
    then lossE (k l) else 0

/-- THE HARD SUMS of all images are the reference's. -/
theorem hard_total (X : S128x8732x2.Idx → EReal) (hX : ∀ i, X i ≠ ⊤ ∧ X i ≠ ⊥) (s : S128x128.Idx → EReal) (hs : Counted s) (K : S128x32.Idx → EReal)
    (N : S128x32.Idx → BitVec 32) (hC : Candidates X K N) (i : S_.Idx) : hardTotal s K N = hardR powR X s i := by
  unfold hardTotal
  rw [total_eq, sum_cast, sum_images, hardR_at]
  refine Finset.sum_congr rfl fun b _ => ?_
  rw [shapeCast_self, shapeCast_self]
  have e0 : col0 (F := Ideal) s (ValueIdx.ix2 b (0 : Fin 1)) = s (ValueIdx.ix2 b (0 : Fin 128)) := column_at 0 s _ b
  have e3 : col3 (F := Ideal) s (ValueIdx.ix2 b (0 : Fin 1)) = s (ValueIdx.ix2 b (3 : Fin 128)) := column_at 3 s _ b
  have ek : ∀ l : Fin 32, K (ValueIdx.ix2 b l) = ((gap X b (srt (diffs X) b (l.castLE (by decide))) : ℝ) : EReal) := fun l => ((hC b l).1).trans (diffs_gap X hX b _)
  have en : ∀ l : Fin 32, sitofp (F := Ideal) .f32 N (ValueIdx.ix2 b l) = (((srt (diffs X) b (l.castLE (by decide))).val : ℝ) : EReal) := fun l =>
    (congrArg (FloatOps.sitofp (F := Ideal) .f32) (hC b l).2).trans (sitofp_ofNat (by have := (srt (diffs X) b (l.castLE (by decide))).isLt; omega))
  refine (hard_at (col0 (F := Ideal) s) (col3 (F := Ideal) s) K (sitofp (F := Ideal) .f32 N) b).trans ?_
  have eh : hardSum (col3 (F := Ideal) s (ValueIdx.ix2 b (0 : Fin 1))) (col0 (F := Ideal) s (ValueIdx.ix2 b (0 : Fin 1))) (fun l => K (ValueIdx.ix2 b l)) (fun l => sitofp (F := Ideal) .f32 N (ValueIdx.ix2 b l))
      = hardSum (s (ValueIdx.ix2 b (3 : Fin 128))) (s (ValueIdx.ix2 b (0 : Fin 128))) (fun l => ((gap X b (srt (diffs X) b (l.castLE (by decide))) : ℝ) : EReal))
        (fun l => (((srt (diffs X) b (l.castLE (by decide))).val : ℝ) : EReal)) := by
    rw [e0, e3, funext ek, funext en]
  refine eh.trans ?_
  refine (image_hard (gap X b) (srt (diffs X) b) (srt_bij _ _) (fun p q h => ?_) _ _ (hs b) (asc (Host.negf (F := Ideal) (φ := .f32) (lossFree powR X s)) b) (asc_bij _ _)
    (fun j => lossFree powR X s (ValueIdx.ix2 b j)) (fun j => ?_) (fun p q h => ?_)).symm
  · have h1 := srt_anti (diffs X) b h
    beta_reduce at h1
    rw [diffs_gap X hX, diffs_gap X hX] at h1
    exact EReal.coe_le_coe_iff.mp h1
  · unfold lossFree
    rw [mul_at, sub_at, fill_at, f_one, posR_at _ powR_at, lossR_at X hX]
    rfl
  · have h1 := asc_mono (Host.negf (F := Ideal) (φ := .f32) (lossFree powR X s)) b h
    beta_reduce at h1
    rw [neg_at, neg_at] at h1
    exact EReal.neg_le_neg_iff.mp h1

/-- THE LOSS of the kernel is the reference's. -/
theorem loss_eq (X : S128x8732x2.Idx → EReal) (hX : ∀ i, X i ≠ ⊤ ∧ X i ≠ ⊥) (s : S128x128.Idx → EReal) (hs : Counted s) (K : S128x32.Idx → EReal)
    (N : S128x32.Idx → BitVec 32) (hC : Candidates X K N) : lossFrom (F := Ideal) (comb (F := Ideal) s K N) = refLoss X s := by
  funext i
  have h0 : comb (F := Ideal) s K N (ValueIdx.ix2 (0 : Fin 1) (0 : Fin 128)) = sumR (countR s) i := by
    rw [comb_at]
    refine Eq.trans ?_ (sumR_at _ i).symm
    rw [← total_eq]
    simp
  have h1 : comb (F := Ideal) s K N (ValueIdx.ix2 (0 : Fin 1) (1 : Fin 128)) = sumR (shapeCast Cert.ReferenceIdeal.S128 (col1 (F := Ideal) s) Cert.ReferenceIdeal.Gen.shapeCasts_S128x1_S128) i := by
    rw [comb_at, sumR_at, ← total_eq]
    simp
  have h2 : comb (F := Ideal) s K N (ValueIdx.ix2 (0 : Fin 1) (2 : Fin 128)) = sumR (shapeCast Cert.ReferenceIdeal.S128 (col2 (F := Ideal) s) Cert.ReferenceIdeal.Gen.shapeCasts_S128x1_S128) i := by
    rw [comb_at, sumR_at, ← total_eq]
    simp
  have h3 : comb (F := Ideal) s K N (ValueIdx.ix2 (0 : Fin 1) (3 : Fin 128)) = hardR powR X s i := by
    rw [comb_at, ← hard_total X hX s hs K N hC i]
    simp
  rw [lossFrom_at, h0, h1, h2, h3]
  rfl

end Cert.Proof.Mine
-- ==== Proof.Equal.lean ====
/- The kernel's loss is the reference's: on finite scores whose 33 greatest differences in each image are
   strictly decreasing, with counts that are those of the listed positives, both programs end with the same loss. -/
module

public import proofs.«01_k».proof.Proof.Frames
public import proofs.«01_k».proof.Proof.Host
public import proofs.«01_k».proof.Proof.Scores
public import proofs.«01_k».proof.Proof.Loss

@[expose] public section

noncomputable section

namespace Cert.Proof.Mine

open Idealize.ShloMosaic Idealize.SL.Sem Cert.KernelIdeal Cert.KernelIdeal.Gen

/-- The side conditions of the precondition's operations. -/
theorem ranked_facts : Cert.Pre_ranked.Facts where
  slices_S128x8732x2_S128x8732x1_0_0_1 := slices_S128x8732x2_S128x8732x1_0_0_1
  shapeCasts_S128x8732x1_S128x8732 := shapeCasts_S128x8732x1_S128x8732
  slices_S128x8732x2_S128x8732x1_0_0_0 := slices_S128x8732x2_S128x8732x1_0_0_0
  sliceFits_S128x8732_S128x33 := by decide
  bcast_S_S128x8732x2 := by decide
  reducesTo_S128x8732x2_S_d0_1_2 := by decide
  h_S_ := by decide
  slices_S128x33_S128x32_0_0 := by decide
  slices_S128x33_S128x32_0_1 := by decide
  reducesTo_S128x32_S_d0_1 := by decide
  slices_S128x128_S128x1_0_3 := by decide
  bcast_S128x1_S128x8_0_1 := by decide
  bcast_S1x8_S128x8_0_1 := by decide
  bcast_S_S128x8 := by decide
  reducesTo_S128x8_S128_d1 := by decide
  slices_S128x128_S128x1_0_0 := by decide
  shapeCasts_S128x1_S128 := Cert.ReferenceIdeal.Gen.shapeCasts_S128x1_S128
  reducesTo_S128_S_d0 := by decide

/-- The first 32 of 33. -/
theorem slice_first {α : Type} (t : Cert.Pre_ranked.S128x33.Idx → α) (h : Cert.Pre_ranked.S128x33.Slices ![0, 0] Cert.Pre_ranked.S128x32) (g : Fin 128) (l : Fin 32) :
    extractStridedSlice Cert.Pre_ranked.S128x32 ![0, 0] t h (ValueIdx.ix2 g l) = t (ValueIdx.ix2 g (l.castLE (by decide))) := by
  unfold extractStridedSlice
  congr 1
  funext a
  match a with
  | ⟨0, _⟩ => exact Fin.ext (Nat.zero_add _)
  | ⟨1, _⟩ => exact Fin.ext (Nat.zero_add _)

/-- The last 32 of 33. -/
theorem slice_last {α : Type} (t : Cert.Pre_ranked.S128x33.Idx → α) (h : Cert.Pre_ranked.S128x33.Slices ![0, 1] Cert.Pre_ranked.S128x32) (g : Fin 128) (l : Fin 32) :
    extractStridedSlice Cert.Pre_ranked.S128x32 ![0, 1] t h (ValueIdx.ix2 g l) = t (ValueIdx.ix2 g l.succ) := by
  unfold extractStridedSlice
  congr 1
  funext a
  match a with
  | ⟨0, _⟩ => exact Fin.ext (Nat.zero_add _)
  | ⟨1, _⟩ => exact Fin.ext (Nat.add_comm _ _)

/-- The top 33 the precondition speaks of. -/
def top33 (X : S128x8732x2.Idx → EReal) : Cert.Pre_ranked.S128x33.Idx → EReal :=
  (Host.topK Cert.Pre_ranked.S128x33 1 (FloatOps.cmpfTotal (F := Ideal) (φ := .f32) .gt) (diffs X) ranked_facts.sliceFits_S128x8732_S128x33).1

/-- What "greater" says of two extended reals. -/
theorem ogt_lt {a b : EReal} (h : Ideal.cmp .ogt a b = 1#1) : b < a := by
  unfold Ideal.cmp at h
  by_contra hc
  simp [hc] at h

/-- Whether all scores are finite. -/
def preFinite (X : S128x8732x2.Idx → EReal) : Cert.Pre_ranked.S_.Idx → BitVec 1 :=
  Host.reduce IntOp.andi (cmpf (F := Ideal) (φ := .f32) .olt (Host.absf (F := Ideal) (φ := .f32) X)
    (broadcastInDim Cert.Pre_ranked.S128x8732x2 ![] ranked_facts.bcast_S_S128x8732x2 (constant (F := Ideal) Cert.Pre_ranked.S_ .f32 0x7F800000#32)))
    (constantI Cert.Pre_ranked.S_ 1 1#1) ranked_facts.reducesTo_S128x8732x2_S_d0_1_2 ranked_facts.h_S_

/-- Whether the 33 greatest differences of every image are strictly decreasing. -/
def preRanked (X : S128x8732x2.Idx → EReal) : Cert.Pre_ranked.S_.Idx → BitVec 1 :=
  Host.reduce IntOp.andi (cmpf (F := Ideal) (φ := .f32) .ogt (extractStridedSlice Cert.Pre_ranked.S128x32 ![0, 0] (top33 X) ranked_facts.slices_S128x33_S128x32_0_0)
    (extractStridedSlice Cert.Pre_ranked.S128x32 ![0, 1] (top33 X) ranked_facts.slices_S128x33_S128x32_0_1))
    (constantI Cert.Pre_ranked.S_ 1 1#1) ranked_facts.reducesTo_S128x32_S_d0_1 ranked_facts.h_S_

/-- The powers of two of the precondition. -/
def powP : Cert.Pre_ranked.S1x8.Idx → EReal := fun i => FloatOps.ofBits (F := Ideal) .f32 (Cert.Pre_ranked.lit0 (Cert.Pre_ranked.S1x8.rowMajor i))

/-- Whether every image's count is that of its listed positives. -/
def preCounts (s : S128x128.Idx → EReal) : Cert.Pre_ranked.S_.Idx → BitVec 1 :=
  Host.reduce IntOp.andi (cmpf (F := Ideal) (φ := .f32) .oeq (Host.reduceAdd (F := Ideal) (φ := .f32) (bitsOf powP s) (constant (F := Ideal) Cert.Pre_ranked.S_ .f32 0x00000000#32)
    ranked_facts.reducesTo_S128x8_S128_d1 ranked_facts.h_S_) (countR s)) (constantI Cert.Pre_ranked.S_ 1 1#1) ranked_facts.reducesTo_S128_S_d0 ranked_facts.h_S_

/-- THE PRECONDITION, as the three together. -/
theorem pre_split (X : S128x8732x2.Idx → EReal) (s : S128x128.Idx → EReal) (h : @Cert.Pre_ranked.fn ranked_facts Ideal _ X s = fun _ => 1#1) :
    (preFinite X = fun _ => 1#1) ∧ (preRanked X = fun _ => 1#1) ∧ (preCounts s = fun _ => 1#1) := by
  have e : @Cert.Pre_ranked.fn ranked_facts Ideal _ X s = andi (andi (preFinite X) (preRanked X)) (preCounts s) := rfl
  rw [e] at h
  have h2 : ∀ p q : BitVec 1, p &&& q = 1#1 → p = 1#1 ∧ q = 1#1 := by decide
  have h3 : ∀ i, (preFinite X i = 1#1 ∧ preRanked X i = 1#1) ∧ preCounts s i = 1#1 := fun i =>
    ⟨h2 _ _ (h2 _ _ (congrFun h i)).1, (h2 _ _ (congrFun h i)).2⟩
  exact ⟨funext fun i => (h3 i).1.1, funext fun i => (h3 i).1.2, funext fun i => (h3 i).2⟩

/-- The precondition says that all scores are finite. -/
theorem finite_of (X : S128x8732x2.Idx → EReal) (h : preFinite X = fun _ => 1#1) (i : S128x8732x2.Idx) : X i ≠ ⊤ ∧ X i ≠ ⊥ := by
  have h1 := reduce_and _ _ ranked_facts.reducesTo_S128x8732x2_S_d0_1_2 ranked_facts.h_S_ h i
  have h2 : Ideal.cmp .olt (max (X i) (-(X i))) (Ideal.ofBits .f32 0x7F800000#32) = 1#1 := h1
  rw [f_top] at h2
  unfold Ideal.cmp at h2
  constructor
  · intro e
    rw [e] at h2
    simp at h2
  · intro e
    rw [e] at h2
    simp at h2

/-- The precondition says that in each image the 33 greatest differences are strictly decreasing. -/
theorem ranked_lt (X : S128x8732x2.Idx → EReal) (h : preRanked X = fun _ => 1#1) (g : Fin 128) (l : ℕ) (hl : l < 32) :
    diffs X (ValueIdx.ix2 g (srt (diffs X) g ⟨l + 1, by omega⟩)) < diffs X (ValueIdx.ix2 g (srt (diffs X) g ⟨l, by omega⟩)) := by
  have h1 := reduce_and _ _ ranked_facts.reducesTo_S128x32_S_d0_1 ranked_facts.h_S_ h (ValueIdx.ix2 g (⟨l, hl⟩ : Fin 32))
  have e : Ideal.cmp .ogt (extractStridedSlice Cert.Pre_ranked.S128x32 ![0, 0] (top33 X) ranked_facts.slices_S128x33_S128x32_0_0 (ValueIdx.ix2 g (⟨l, hl⟩ : Fin 32)))
        (extractStridedSlice Cert.Pre_ranked.S128x32 ![0, 1] (top33 X) ranked_facts.slices_S128x33_S128x32_0_1 (ValueIdx.ix2 g (⟨l, hl⟩ : Fin 32))) = 1#1 := h1
  have hlt := ogt_lt e
  rw [slice_first, slice_last] at hlt
  unfold top33 at hlt
  rw [topK_1 33 (by decide) (diffs X) _ g, topK_1 33 (by decide) (diffs X) _ g] at hlt
  exact hlt

/-- The powers of two of the precondition are the reference's. -/
theorem powP_at (j : Fin 8) : powP (ValueIdx.ix2 (0 : Fin 1) j) = ((2 ^ j.val : ℝ) : EReal) := by
  have e : Cert.Pre_ranked.S1x8.rowMajor (ValueIdx.ix2 (0 : Fin 1) j) = (j : Fin 8) := Fin.ext ((rowMajor_val2 _ 8 rfl).trans (by show 0 * 8 + j.val = j.val; omega))
  show Ideal.ofBits .f32 (Cert.Pre_ranked.lit0 (Cert.Pre_ranked.S1x8.rowMajor (ValueIdx.ix2 (0 : Fin 1) j))) = _
  rw [e]
  match j with
  | 0 => exact f_one.trans (by norm_num)
  | 1 => exact f_two.trans (by norm_num)
  | 2 => exact f_four.trans (by norm_num)
  | 3 => exact f_eight.trans (by norm_num)
  | 4 => exact f_sixteen.trans (by norm_num)
  | 5 => exact f_32.trans (by norm_num)
  | 6 => exact f_64.trans (by norm_num)
  | 7 => exact f_128.trans (by norm_num)

/-- The precondition says that every image's count is that of its listed positives. -/
theorem counted_of (s : S128x128.Idx → EReal) (h : preCounts s = fun _ => 1#1) : Counted s := by
  intro b
  have h1 := reduce_and _ _ ranked_facts.reducesTo_S128_S_d0 ranked_facts.h_S_ h (ValueIdx.ix1 b)
  have h2 : Ideal.cmp .oeq (Host.reduceAdd (F := Ideal) (φ := .f32) (bitsOf powP s) (constant (F := Ideal) Cert.Pre_ranked.S_ .f32 0x00000000#32)
    ranked_facts.reducesTo_S128x8_S128_d1 ranked_facts.h_S_ (ValueIdx.ix1 b)) (countR s (ValueIdx.ix1 b)) = 1#1 := h1
  have h3 : Host.reduceAdd (F := Ideal) (φ := .f32) (bitsOf powP s) (constant (F := Ideal) Cert.Pre_ranked.S_ .f32 0x00000000#32)
      ranked_facts.reducesTo_S128x8_S128_d1 ranked_facts.h_S_ (ValueIdx.ix1 b) = ∑ j : Fin 8, bitsOf powP s (ValueIdx.ix2 b j) := by
    refine (Ideal.hostReduceAdd_r2_a1 ranked_facts.reducesTo_S128x8_S128_d1 _ _ (ValueIdx.ix1 b)).trans ?_
    exact (congrArg (fun z : EReal => z + _) f_zero).trans (zero_add _)
  rw [h3, countR_at] at h2
  unfold Ideal.cmp at h2
  have h4 : ∑ j : Fin 8, bitsOf powP s (ValueIdx.ix2 b j) = s (ValueIdx.ix2 b (0 : Fin 128)) := by
    by_contra hc
    simp [hc] at h2
  rw [← h4]
  exact Finset.sum_congr rfl fun j _ => (bitsOf_at powP powP_at s b j).symm

section out
variable {F : FTy → Type} [FloatOps F] [Named F] (C : Consts F) (A B : S1130496.Idx → F .f32)

/-- The place of a result among all. -/
theorem pos_lt (g : Fin 128) (l : Fin 32) : 32 * g.val + l.val < 4096 := by omega

/-- The keys of one image. -/
theorem outK_at (g : Fin 128) (l : Fin 32) : outK C A B (ValueIdx.ix1 ⟨32 * g.val + l.val, pos_lt g l⟩)
    = half (best C (part A g.val) (maskI C (part B g.val))).1 (best C (part A g.val) (maskI C (part B g.val))).2.2.1 (ValueIdx.ix1 l) := by
  have e1 : (32 * g.val + l.val) / 32 = g.val := by omega
  have e2 : (⟨(32 * g.val + l.val) % 32, Nat.mod_lt _ (by decide)⟩ : Fin 32) = l := Fin.ext (by show (32 * g.val + l.val) % 32 = l.val; omega)
  show half (bestG C A B ((32 * g.val + l.val) / 32)).1 (bestG C A B ((32 * g.val + l.val) / 32)).2.2.1 (ValueIdx.ix1 ⟨(32 * g.val + l.val) % 32, _⟩) = _
  rw [e1, e2]
  rfl

/-- The indices of one image. -/
theorem outI_at (g : Fin 128) (l : Fin 32) : outI C A B (ValueIdx.ix1 ⟨32 * g.val + l.val, pos_lt g l⟩)
    = half (toIv (best C (part A g.val) (maskI C (part B g.val))).2.1) (toIv (best C (part A g.val) (maskI C (part B g.val))).2.2.2) (ValueIdx.ix1 l) := by
  have e1 : (32 * g.val + l.val) / 32 = g.val := by omega
  have e2 : (⟨(32 * g.val + l.val) % 32, Nat.mod_lt _ (by decide)⟩ : Fin 32) = l := Fin.ext (by show (32 * g.val + l.val) % 32 = l.val; omega)
  show half (toIv (bestG C A B ((32 * g.val + l.val) / 32)).2.1) (toIv (bestG C A B ((32 * g.val + l.val) / 32)).2.2.2)
    (ValueIdx.ix1 ⟨(32 * g.val + l.val) % 32, _⟩) = _
  rw [e1, e2]
  rfl

end out

section equal
variable (X : S128x8732x2.Idx → EReal)

/-- A difference of the padded arrays is the image's. -/
theorem part_diff (g : Fin 128) (n : Fin 8732) :
    part (padded (F := Ideal) (ch1 (F := Ideal) X)) g.val (ix n.val) - part (padded (F := Ideal) (ch0 (F := Ideal) X)) g.val (ix n.val)
      = diffs X (ValueIdx.ix2 g n) := by
  rw [part_padded _ g n.val n.isLt, part_padded _ g n.val n.isLt]
  rfl

/-- THE CANDIDATES: the kernel's keys and indices, of all images, are the greatest differences and their positions. -/
theorem candidates (hr : ∀ (g : Fin 128) (l : ℕ) (hl : l < 32),
      diffs X (ValueIdx.ix2 g (srt (diffs X) g ⟨l + 1, by omega⟩)) < diffs X (ValueIdx.ix2 g (srt (diffs X) g ⟨l, by omega⟩))) :
    Candidates X (shapeCast S128x32 (outK (F := Ideal) kc (padded (F := Ideal) (ch0 (F := Ideal) X)) (padded (F := Ideal) (ch1 (F := Ideal) X))) shapeCasts_S4096_S128x32)
      (shapeCast S128x32 (outI (F := Ideal) kc (padded (F := Ideal) (ch0 (F := Ideal) X)) (padded (F := Ideal) (ch1 (F := Ideal) X))) shapeCasts_S4096_S128x32) := by
  intro g l
  constructor
  · refine (cast_out _ _).trans ?_
    refine (outK_at (F := Ideal) kc _ _ g l).trans ?_
    exact image_keys _ _ (fun n => diffs X (ValueIdx.ix2 g n)) (part_diff X g) (srt (diffs X) g) (srt_bij _ _) (srt_anti _ _) l
  · refine (cast_out _ _).trans ?_
    refine (outI_at (F := Ideal) kc _ _ g l).trans ?_
    exact image_indices _ _ (fun n => diffs X (ValueIdx.ix2 g n)) (part_diff X g) (srt (diffs X) g) (srt_bij _ _) (srt_anti _ _) (hr g) l

end equal

/-! ## The claims about the ranked inputs -/

/-- The kernel over the extended reals ends on ranked inputs, its arguments unchanged and every counter at zero. -/
theorem frame_ideal_ranked : @Cert.quiescent_KernelIdeal_pre_ranked Cert.KernelIdeal.Gen.facts ranked_facts := fun m ρ _ =>
  (θ_run (Cert.KernelIdeal.defs (F := Ideal)) _ _).mono
    (fun _ (h : QC m _) => ⟨fun c => ⟨(h.1 c).1.trans (V5_x m c), (h.1 c).2.1.trans (V5_s m c)⟩, h.2⟩) (run_main (F := Ideal) m ρ)

/-- The reference ends on ranked inputs, its arguments unchanged and every counter at zero. -/
theorem frame_reference_ranked : @Cert.quiescent_ReferenceIdeal_pre_ranked Cert.ReferenceIdeal.Gen.facts ranked_facts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- THE KERNEL COMPUTES WHAT THE REFERENCE DOES: on ranked inputs both end with the same loss, their arguments
    unchanged. -/
theorem algebraic :
    @Cert.algebraic_KernelIdeal_ReferenceIdeal_pre_ranked Cert.KernelIdeal.Gen.facts Cert.ReferenceIdeal.Gen.facts ranked_facts := by
  intro m ρ m' ρ' hpre hm
  refine ⟨fun c => V5 (F := Ideal) m c rR,
    (θ_run (Cert.KernelIdeal.defs (F := Ideal)) _ _).mono
      (fun _ (h : QC m _) c => ⟨(h.1 c).2.2, (h.1 c).1.trans (V5_x m c), (h.1 c).2.1.trans (V5_s m c)⟩) (run_main (F := Ideal) m ρ),
    (θ_run Cert.ReferenceIdeal.defs _ _).mono
      (fun r h c => ⟨(h c).1.trans ?_, (h c).2⟩) (Cert.ReferenceIdeal.Value.run (F := Ideal) m' ρ')⟩
  have e := V5_r (F := Ideal) m c
  rw [S0_eq, S1_eq] at e
  have hp := pre_split _ _ (hpre c)
  have hl := loss_eq _ (finite_of _ hp.1) _ (counted_of _ hp.2.2) _ _ (candidates _ (ranked_lt _ hp.2.1))
  rw [(hm c).1, (hm c).2]
  exact hl.symm.trans e.symm

end Cert.Proof.Mine
-- ==== Proof.Pair.lean ====
/- The matching call's body as functions: the overlaps of an image's objects and the priors, the best object
   of each prior, the priors the objects are given, the lanes of an image, and the statistics of a block. -/
module

public import proofs.«01_k».proof.Proof.Gen.MatchIdeal

@[expose] public section

noncomputable section

namespace Cert.Proof.Pair

open Idealize.ShloMosaic Cert.MatchIdeal Cert.MatchIdeal.Gen

variable {F : FTy → Type} [FloatOps F]

/-- A number on every prior's place, and on every lane. -/
def all69 (w : BitVec 32) : FVec F S69x128 .f32 := broadcast S69x128 (Scalar.ofBits .f32 w)
def all1 (w : BitVec 32) : FVec F S1x128 .f32 := broadcast S1x128 (Scalar.ofBits .f32 w)
def all16 (w : BitVec 32) : FVec F S16x128 .f32 := broadcast S16x128 (Scalar.ofBits .f32 w)

/-- The numbers 0 to 7, and the powers of two to 128, as words. -/
def numW : Fin 8 → BitVec 32 := ![0x00000000#32, 0x3F800000#32, 0x40000000#32, 0x40400000#32, 0x40800000#32, 0x40A00000#32, 0x40C00000#32, 0x40E00000#32]
def powW : Fin 8 → BitVec 32 := ![0x3F800000#32, 0x40000000#32, 0x40800000#32, 0x41000000#32, 0x41800000#32, 0x42000000#32, 0x42800000#32, 0x43000000#32]

/-- The objects in their order. -/
def eight : List (Fin 8) := [0, 1, 2, 3, 4, 5, 6, 7]

/-- Each place's number, whether a prior lies there, and the lanes' numbers. -/
def flat : FVec F S69x128 .f32 :=
  sitofp .f32 (addi (muli (iota .tc S69x128 32 [0] iota_S69x128_d0_w32) (broadcast S69x128 128#32)) (iota .tc S69x128 32 [1] iota_S69x128_d1_w32))
def valid : IVec S69x128 1 := cmpf .olt (flat (F := F)) (all69 0x46087000#32)
def lcol : FVec F S1x128 .f32 :=
  extractStridedSlice S1x128 ![0, 0] (sitofp .f32 (iota .tc S69x128 32 [1] iota_S69x128_d1_w32) : FVec F S69x128 .f32) slices_S69x128_o0_0_S1x128

/-! ## The overlaps -/

section overlaps
variable (P : Fin 4 → FVec F S69x128 .f32) (b : Fin 4 → F .f32)

/-- The priors' edges and areas. -/
def pX0 : FVec F S69x128 .f32 := subf (P 0) (mulf (P 2) (all69 0x3F000000#32))
def pY0 : FVec F S69x128 .f32 := subf (P 1) (mulf (P 3) (all69 0x3F000000#32))
def pX1 : FVec F S69x128 .f32 := addf (P 0) (mulf (P 2) (all69 0x3F000000#32))
def pY1 : FVec F S69x128 .f32 := addf (P 1) (mulf (P 3) (all69 0x3F000000#32))
def pArea : FVec F S69x128 .f32 := mulf (subf (pX1 P) (pX0 P)) (subf (pY1 P) (pY0 P))

/-- A box's edges and area. -/
def bX0 : F .f32 := Scalar.subf (b 0) (Scalar.mulf (b 2) (Scalar.ofBits .f32 0x3F000000#32))
def bY0 : F .f32 := Scalar.subf (b 1) (Scalar.mulf (b 3) (Scalar.ofBits .f32 0x3F000000#32))
def bX1 : F .f32 := Scalar.addf (b 0) (Scalar.mulf (b 2) (Scalar.ofBits .f32 0x3F000000#32))
def bY1 : F .f32 := Scalar.addf (b 1) (Scalar.mulf (b 3) (Scalar.ofBits .f32 0x3F000000#32))
def bArea : F .f32 := Scalar.mulf (Scalar.subf (bX1 b) (bX0 b)) (Scalar.subf (bY1 b) (bY0 b))

/-- The overlap of a box and the priors: their common area, and that over the area they cover. -/
def inter : FVec F S69x128 .f32 :=
  mulf (maximumf (subf (minimumf (pX1 P) (broadcast S69x128 (bX1 b))) (maximumf (pX0 P) (broadcast S69x128 (bX0 b)))) (all69 0x00000000#32))
    (maximumf (subf (minimumf (pY1 P) (broadcast S69x128 (bY1 b))) (maximumf (pY0 P) (broadcast S69x128 (bY0 b)))) (all69 0x00000000#32))
def iou : FVec F S69x128 .f32 :=
  divf (inter P b) (subf (addf (pArea P) (broadcast S69x128 (bArea b))) (inter P b))

end overlaps

/-! ## One image -/

/-- Eight rows stacked; the row's entry for an object; and that entry on every place. -/
def stack (r : Fin 8 → FVec F S1x128 .f32) : FVec F S8x128 .f32 :=
  concatenate S8x128 0 [⟨S1x128, r 0⟩, ⟨S1x128, r 1⟩, ⟨S1x128, r 2⟩, ⟨S1x128, r 3⟩, ⟨S1x128, r 4⟩, ⟨S1x128, r 5⟩, ⟨S1x128, r 6⟩, ⟨S1x128, r 7⟩]
    concatenates_S1x128_S1x128_S1x128_S1x128_S1x128_S1x128_S1x128_S1x128_S8x128_d0
theorem slices8 : ∀ j : Fin 8, S8x1.Slices ![j.val, 0] S1x1 := by decide
def at8 (x : FVec F S8x1 .f32) (j : Fin 8) : FVec F S1x1 .f32 :=
  shapeCast S1x1 (extractStridedSlice S1x1 ![j.val, 0] x (slices8 j)) shapeCasts_S1x1_S1x1
def up69 (x : FVec F S8x1 .f32) (j : Fin 8) : FVec F S69x128 .f32 := broadcastTo S69x128 (at8 x j) broadcasts_S1x1_S69x128

/-- The greatest of each of eight arrays over the priors, and the least. -/
def top8 (x : Fin 8 → FVec F S69x128 .f32) : FVec F S8x1 .f32 :=
  shapeCast S8x1 (multiReduction .maximumf [1] S8 (stack fun j => shapeCast S1x128
      (multiReduction .maximumf [0] S128 (x j) 0xFF800000#32 reduces_S69x128_S128 (.inl rfl) rfl) shapeCasts_S128_S1x128)
    0xFF800000#32 reduces_S8x128_S8 (.inl rfl) rfl) shapeCasts_S8_S8x1
def low8 (x : Fin 8 → FVec F S69x128 .f32) : FVec F S8x1 .f32 :=
  shapeCast S8x1 (multiReduction .minimumf [1] S8 (stack fun j => shapeCast S1x128
      (multiReduction .minimumf [0] S128 (x j) 0x7F800000#32 reduces_S69x128_S128 (.inl rfl) rfl) shapeCasts_S128_S1x128)
    0x7F800000#32 reduces_S8x128_S8 (.inl rfl) rfl) shapeCasts_S8_S8x1

section image
variable (P : Fin 4 → FVec F S69x128 .f32) (b : Fin 8 → Fin 4 → F .f32)

/-- Each object's greatest overlap. -/
def most : FVec F S8x1 .f32 := top8 fun j => select (valid (F := F)) (iou P (b j)) (all69 0xBF800000#32)

/-- The best object of each prior so far and its overlap, one object further. -/
def bestStep (s : FVec F S69x128 .f32 × FVec F S69x128 .f32) (j : Fin 8) : FVec F S69x128 .f32 × FVec F S69x128 .f32 :=
  (select (cmpf .ogt (iou P (b j)) s.2) (all69 (numW j)) s.1, select (cmpf .ogt (iou P (b j)) s.2) (iou P (b j)) s.2)
def best : FVec F S69x128 .f32 × FVec F S69x128 .f32 := eight.foldl (bestStep P b) (all69 0x00000000#32, all69 0xBF800000#32)

/-- Each object's first prior of the greatest overlap. -/
def given : FVec F S8x1 .f32 :=
  low8 fun j => select (andi (cmpf .oeq (iou P (b j)) (up69 (most P b) j)) (valid (F := F))) flat (all69 0x4E6E6B28#32)

/-- That prior is given to the object, one object further. -/
def giveStep (s : FVec F S69x128 .f32 × FVec F S69x128 .f32) (j : Fin 8) : FVec F S69x128 .f32 × FVec F S69x128 .f32 :=
  (select (cmpf .oeq flat (up69 (given P b) j)) (all69 (numW j)) s.1, select (cmpf .oeq flat (up69 (given P b) j)) (all69 0x3F800000#32) s.2)
def gave : FVec F S69x128 .f32 × FVec F S69x128 .f32 := eight.foldl (giveStep P b) (best P b)

/-- Whether an object has a prior. -/
def there : FVec F S8x1 .f32 :=
  top8 fun j => select (andi (cmpf .oeq (gave P b).1 (all69 (numW j))) (valid (F := F))) (all69 0x3F800000#32) (all69 0x00000000#32)

/-- The first 128 priors' objects, their overlaps; by lane, whether the object of the lane's number has a prior; the
    boxes of the objects. -/
def oLane : FVec F S1x128 .f32 := extractStridedSlice S1x128 ![0, 0] (gave P b).1 slices_S69x128_o0_0_S1x128
def mLane : FVec F S1x128 .f32 := extractStridedSlice S1x128 ![0, 0] (gave P b).2 slices_S69x128_o0_0_S1x128
def tLane : FVec F S1x128 .f32 :=
  eight.foldl (fun s j => select (cmpf .oeq (lcol (F := F)) (all1 (numW j))) (broadcastTo S1x128 (at8 (there P b) j) broadcasts_S1x1_S1x128) s) (all1 0x00000000#32)
def boxLane (k : Fin 4) : FVec F S1x128 .f32 :=
  eight.foldl (fun s j => select (cmpf .oeq (oLane P b) (all1 (numW j))) (broadcast S1x128 (b j k)) s) (all1 0x3F800000#32)

end image

/-- Eight values on the first eight lanes. -/
def lanes (w : Fin 8 → F .f32) (s0 : BitVec 32) : FVec F S1x128 .f32 :=
  eight.foldl (fun s j => select (cmpf .oeq (lcol (F := F)) (all1 (numW j))) (broadcast S1x128 (w j)) s) (all1 s0)

/-! ## A block of sixteen images -/

/-- Sixteen rows stacked, a row on each of sixteen, a column on each lane, and the sum over the lanes. -/
def cat (r : Fin 16 → FVec F S1x128 .f32) : FVec F S16x128 .f32 :=
  concatenate S16x128 0 [⟨S1x128, r 0⟩, ⟨S1x128, r 1⟩, ⟨S1x128, r 2⟩, ⟨S1x128, r 3⟩, ⟨S1x128, r 4⟩, ⟨S1x128, r 5⟩, ⟨S1x128, r 6⟩, ⟨S1x128, r 7⟩,
      ⟨S1x128, r 8⟩, ⟨S1x128, r 9⟩, ⟨S1x128, r 10⟩, ⟨S1x128, r 11⟩, ⟨S1x128, r 12⟩, ⟨S1x128, r 13⟩, ⟨S1x128, r 14⟩, ⟨S1x128, r 15⟩]
    concatenates_S1x128_S1x128_S1x128_S1x128_S1x128_S1x128_S1x128_S1x128_S1x128_S1x128_S1x128_S1x128_S1x128_S1x128_S1x128_S1x128_S16x128_d0
def down {α : Type} (r : S1x128.Idx → α) : S16x128.Idx → α := broadcastTo S16x128 r broadcasts_S1x128_S16x128
def sum16 (x : FVec F S16x128 .f32) : FVec F S16x1 .f32 :=
  shapeCast S16x1 (multiReduction .add [1] S16 x 0x00000000#32 reduces_S16x128_S16 (.inl rfl) rfl) shapeCasts_S16_S16x1
def onCol (w : BitVec 32) (x : FVec F S16x1 .f32) : FVec F S16x128 .f32 :=
  select (down (shapeCast S1x128 (cmpf .oeq lcol (all1 (F := F) w)) shapeCasts_S1x128_S1x128))
    (broadcastTo S16x128 (shapeCast S16x1 x shapeCasts_S16x1_S16x1) broadcasts_S16x1_S16x128) (all16 0x00000000#32)

section block
variable (P : Fin 4 → FVec F S69x128 .f32) (q : Fin 8 → Fin 4 → F .f32) (b l : Fin 16 → Fin 8 → Fin 4 → F .f32) (s : Fin 16 → Fin 8 → Fin 2 → F .f32)

/-- The positive priors among the first eight. -/
def posB : IVec S16x128 1 :=
  andi (andi (down (cmpf .olt lcol (all1 (F := F) 0x41000000#32))) (cmpf .oge (cat fun g => mLane P (b g)) (all16 0x3F000000#32)))
    (cmpf .ogt (cat fun g => tLane P (b g)) (all16 0x3F000000#32))

/-- The offsets of the boxes' centres, over the priors' tenths; the logarithms of the relative sizes, fivefold. -/
def centre (k k' : Fin 4) (c0 c1 : BitVec 32) : FVec F S16x128 .f32 :=
  divf (subf (cat fun g => boxLane P (b g) k) (down (lanes (fun p => q p k) c0)))
    (down (divf (lanes (fun p => q p k') c1) (all1 0x41200000#32)))
def size (k : Fin 4) : FVec F S16x128 .f32 :=
  mulf (log (divf (cat fun g => boxLane P (b g) k) (down (lanes (fun p => q p k) 0x3F800000#32)))) (all16 0x40A00000#32)

/-- How far the predicted locations lie from the encoded boxes. -/
def locB (k : Fin 4) : FVec F S16x128 .f32 := cat fun g => lanes (fun p => l g p k) 0x00000000#32
def offB : FVec F S16x128 .f32 :=
  addf (addf (addf (absf (subf (locB l 0) (centre P q b 0 2 0x00000000#32 0x3F800000#32)))
    (absf (subf (locB l 1) (centre P q b 1 3 0x00000000#32 0x3F800000#32))))
    (absf (subf (locB l 2) (size P q b 2)))) (absf (subf (locB l 3) (size P q b 3)))

/-- The scores' losses as positives. -/
def scoreB (k : Fin 2) : FVec F S16x128 .f32 := cat fun g => lanes (fun p => s g p k) 0x00000000#32
def lossB : FVec F S16x128 .f32 :=
  subf (addf (maximumf (scoreB s 0) (scoreB s 1))
    (log (addf (all16 0x3F800000#32) (exp (subf (minimumf (scoreB s 0) (scoreB s 1)) (maximumf (scoreB s 0) (scoreB s 1))))))) (scoreB s 1)

/-- The block's statistics: the positive ones' number, their offsets, their losses and their word. -/
def block : FVec F S16x128 .f32 :=
  addf (addf (addf (onCol 0x00000000#32 (sum16 (select (posB P b) (all16 0x3F800000#32) (all16 0x00000000#32))))
    (onCol 0x3F800000#32 (sum16 (select (posB P b) (offB P q b l) (all16 0x00000000#32)))))
    (onCol 0x40000000#32 (sum16 (select (posB P b) (lossB s) (all16 0x00000000#32)))))
    (onCol 0x40400000#32 (sum16 (select (posB P b)
      (down (shapeCast S1x128 (lanes (fun p => Scalar.ofBits .f32 (powW p)) 0x00000000#32) shapeCasts_S1x128_S1x128)) (all16 0x00000000#32))))

end block

end Cert.Proof.Pair
-- ==== Proof.Matching.lean ====
/- What the matching of an image's objects and the priors is, over the extended reals: the first greatest entry
   of a row, the object of each prior, the positive ones of the first eight priors, and their statistics. -/
module

public import proofs.«01_k».proof.Proof.Real
public import Idealize.ShloMosaic.PureOps.Ideal.Laws

@[expose] public section

noncomputable section

namespace Cert.Proof.Pair

open Idealize.ShloMosaic Cert.Proof.Mine

/-! ## The first greatest entry -/

/-- A row has a first greatest entry. -/
theorem exists_first {N : ℕ} [NeZero N] (f : Fin N → EReal) : ∃ n, (∀ k, f k ≤ f n) ∧ ∀ k, k < n → f k < f n := by
  obtain ⟨a, ha⟩ := Finite.exists_max f
  classical
  have hs : (Finset.univ.filter fun n => f a ≤ f n).Nonempty := ⟨a, Finset.mem_filter.mpr ⟨Finset.mem_univ _, le_refl (f a)⟩⟩
  have hm := (Finset.mem_filter.mp ((Finset.univ.filter fun n => f a ≤ f n).min'_mem hs)).2
  refine ⟨(Finset.univ.filter fun n => f a ≤ f n).min' hs, fun k => (ha k).trans hm, fun k hk => ?_⟩
  by_contra hc
  exact absurd ((Finset.univ.filter fun n => f a ≤ f n).min'_le k (Finset.mem_filter.mpr ⟨Finset.mem_univ _, hm.trans (not_lt.mp hc)⟩)) (not_le.mpr hk)

/-- The position of a row's first greatest entry. -/
def first {N : ℕ} [NeZero N] (f : Fin N → EReal) : Fin N := (exists_first f).choose

/-- No entry is greater. -/
theorem le_first {N : ℕ} [NeZero N] (f : Fin N → EReal) (k : Fin N) : f k ≤ f (first f) := (exists_first f).choose_spec.1 k

/-- The entries before it are less. -/
theorem lt_first {N : ℕ} [NeZero N] (f : Fin N → EReal) (k : Fin N) (h : k < first f) : f k < f (first f) := (exists_first f).choose_spec.2 k h

/-- A position with both properties is that of the first greatest entry. -/
theorem first_unique {N : ℕ} [NeZero N] (f : Fin N → EReal) (n : Fin N) (h1 : ∀ k, f k ≤ f n) (h2 : ∀ k, k < n → f k < f n) : first f = n := by
  rcases lt_trichotomy (first f) n with h | h | h
  · exact absurd (h2 _ h) (not_lt.mpr (le_first f n))
  · exact h
  · exact absurd (lt_first f n h) (not_lt.mpr (h1 _))

/-- An entry as great comes no earlier. -/
theorem first_le {N : ℕ} [NeZero N] (f : Fin N → EReal) (n : Fin N) (h : f n = f (first f)) : first f ≤ n := by
  by_contra hc
  exact absurd h (ne_of_lt (lt_first f n (not_le.mp hc)))

/-- What is the greatest lower bound of numbers one of which is below all is that one. -/
theorem eq_least {ι : Type} (x : ι → EReal) (v a : EReal) (hv : ∀ y, y ≤ v ↔ ∀ i, y ≤ x i) (i : ι) (hi : x i = a) (h : ∀ k, a ≤ x k) : v = a :=
  le_antisymm (hi ▸ (hv v).mp (le_refl v) i) ((hv a).mpr h)

/-- What is the least upper bound of numbers one of which is above all is that one. -/
theorem eq_greatest {ι : Type} (x : ι → EReal) (v a : EReal) (hv : ∀ y, v ≤ y ↔ ∀ i, x i ≤ y) (i : ι) (hi : x i = a) (h : ∀ k, x k ≤ a) : v = a :=
  le_antisymm ((hv a).mpr h) (hi ▸ (hv v).mp (le_refl v) i)

/-! ## The last of eight -/

/-- The last of the objects with a property, where there is one. -/
theorem exists_last (p : Fin 8 → Prop) (h : ∃ j, p j) : ∃ j, p j ∧ ∀ k, p k → k ≤ j := by
  classical
  have hs : (Finset.univ.filter p).Nonempty := by
    obtain ⟨j, hj⟩ := h
    exact ⟨j, Finset.mem_filter.mpr ⟨Finset.mem_univ _, hj⟩⟩
  exact ⟨(Finset.univ.filter p).max' hs, (Finset.mem_filter.mp ((Finset.univ.filter p).max'_mem hs)).2,
    fun k hk => (Finset.univ.filter p).le_max' k (Finset.mem_filter.mpr ⟨Finset.mem_univ _, hk⟩)⟩

/-! ## The matching of an image -/

section image
variable (ov : Fin 8 → Fin 8732 → EReal)

/-- Whether a prior is some object's first greatest. -/
def isGiven (n : Fin 8732) : Prop := ∃ j, first (ov j) = n

open Classical in
/-- The object of a prior: the last of those it is the first greatest of, else its own first greatest. -/
def objOf (n : Fin 8732) : Fin 8 :=
  if h : isGiven ov n then (exists_last (fun j => first (ov j) = n) h).choose else first fun j => ov j n

open Classical in
/-- The overlap of a prior and its object, one where it was given. -/
def ovlOf (n : Fin 8732) : EReal := if isGiven ov n then 1 else ov (first fun j => ov j n) n

/-- The object a prior is given to. -/
theorem objOf_given (n : Fin 8732) (h : isGiven ov n) : first (ov (objOf ov n)) = n ∧ ∀ k, first (ov k) = n → k ≤ objOf ov n := by
  unfold objOf
  rw [dif_pos h]
  exact (exists_last (fun j => first (ov j) = n) h).choose_spec

/-- A prior that is not given. -/
theorem objOf_free (n : Fin 8732) (h : ¬ isGiven ov n) : objOf ov n = first fun j => ov j n := by
  unfold objOf
  rw [dif_neg h]

/-- Whether an object has a prior. -/
def isThere (j : Fin 8) : Prop := ∃ n, objOf ov n = j

/-- The priors whose statistics count: of the first eight, those whose overlap is at least a half, the object of the
    prior's own number having some prior. -/
def isPos (p : Fin 8) : Prop := ((1 / 2 : ℝ) : EReal) ≤ ovlOf ov (p.castLE (by decide)) ∧ isThere ov p

end image

/-- The overlap of a prior and a box, each given by centre and size. -/
def interE (p b : Fin 4 → EReal) : EReal :=
  max (min (p 0 + p 2 * ((1 / 2 : ℝ) : EReal)) (b 0 + b 2 * ((1 / 2 : ℝ) : EReal)) - max (p 0 - p 2 * ((1 / 2 : ℝ) : EReal)) (b 0 - b 2 * ((1 / 2 : ℝ) : EReal))) 0
    * max (min (p 1 + p 3 * ((1 / 2 : ℝ) : EReal)) (b 1 + b 3 * ((1 / 2 : ℝ) : EReal)) - max (p 1 - p 3 * ((1 / 2 : ℝ) : EReal)) (b 1 - b 3 * ((1 / 2 : ℝ) : EReal))) 0
def areaE (p : Fin 4 → EReal) : EReal :=
  ((p 0 + p 2 * ((1 / 2 : ℝ) : EReal)) - (p 0 - p 2 * ((1 / 2 : ℝ) : EReal))) * ((p 1 + p 3 * ((1 / 2 : ℝ) : EReal)) - (p 1 - p 3 * ((1 / 2 : ℝ) : EReal)))
def ovE (p b : Fin 4 → EReal) : EReal := Ideal.div (interE p b) (areaE p + areaE b - interE p b)

/-- The absolute value. -/
def absE (x : EReal) : EReal := max x (-x)

/-- How far predicted locations lie from a box encoded by a prior. -/
def offE (p b l : Fin 4 → EReal) : EReal :=
  absE (l 0 - Ideal.div (b 0 - p 0) (Ideal.div (p 2) ((10 : ℝ) : EReal))) + absE (l 1 - Ideal.div (b 1 - p 1) (Ideal.div (p 3) ((10 : ℝ) : EReal)))
    + absE (l 2 - Ideal.log (Ideal.div (b 2) (p 2)) * ((5 : ℝ) : EReal)) + absE (l 3 - Ideal.log (Ideal.div (b 3) (p 3)) * ((5 : ℝ) : EReal))

/-- The loss of two scores as a positive. -/
def confE (s : Fin 2 → EReal) : EReal := max (s 0) (s 1) + Ideal.log (1 + Ideal.exp (min (s 0) (s 1) - max (s 0) (s 1))) - s 1

open Classical in
/-- The sum over the positive ones of the first eight priors. -/
def sumPos (ov : Fin 8 → Fin 8732 → EReal) (v : Fin 8 → EReal) : EReal := ∑ p : Fin 8, if isPos ov p then v p else 0

/-- THE STATISTICS of an image, by column: the count of the positive ones, their offsets, their losses, their word. -/
def statE (pr : Fin 8732 → Fin 4 → EReal) (bx : Fin 8 → Fin 4 → EReal) (l : Fin 8 → Fin 4 → EReal) (s : Fin 8 → Fin 2 → EReal) : Fin 4 → EReal :=
  let ov := fun j n => ovE (pr n) (bx j)
  ![sumPos ov fun _ => 1, sumPos ov fun p => offE (pr (p.castLE (by decide))) (bx (objOf ov (p.castLE (by decide)))) (l p), sumPos ov fun p => confE (s p),
    sumPos ov fun p => ((2 ^ p.val : ℝ) : EReal)]

/-! ## Sums over more than the first eight -/

/-- A sum over 128 lanes of which only the first eight count. -/
theorem sum_lanes (f : Fin 128 → EReal) (h : ∀ l : Fin 128, 8 ≤ l.val → f l = 0) : ∑ l, f l = ∑ p : Fin 8, f (p.castLE (by decide)) := by
  have e := Fin.sum_univ_add (a := 8) (b := 120) f
  rw [show ∑ l, f l = ∑ i : Fin (8 + 120), f i from rfl, e, Finset.sum_eq_zero (s := (Finset.univ : Finset (Fin 120))), add_zero]
  · rfl
  · intro i _
    exact h _ (by show 8 ≤ 8 + i.val; omega)

/-- A sum over all priors of which only the first eight count. -/
theorem sum_priors (f : Fin 8732 → EReal) (h : ∀ n : Fin 8732, 8 ≤ n.val → f n = 0) : ∑ n, f n = ∑ p : Fin 8, f (p.castLE (by decide)) := by
  have e := Fin.sum_univ_add (a := 8) (b := 8724) f
  rw [show ∑ n, f n = ∑ i : Fin (8 + 8724), f i from rfl, e, Finset.sum_eq_zero (s := (Finset.univ : Finset (Fin 8724))), add_zero]
  · rfl
  · intro i _
    exact h _ (by show 8 ≤ 8 + i.val; omega)

/-! ## Constants -/

/-- The float 5. -/
theorem f_five : Ideal.ofBits .f32 0x40A00000#32 = ((5 : ℝ) : EReal) := by
  simp [Ideal.ofBits, Ideal.ieee]
  try (rw [← EReal.coe_mul]; norm_num)
/-- The float 10. -/
theorem f_ten : Ideal.ofBits .f32 0x41200000#32 = ((10 : ℝ) : EReal) := by
  simp [Ideal.ofBits, Ideal.ieee]
  try (rw [← EReal.coe_mul]; norm_num)
/-- The float 6. -/
theorem f_six : Ideal.ofBits .f32 0x40C00000#32 = ((6 : ℝ) : EReal) := by
  simp [Ideal.ofBits, Ideal.ieee]
  try (rw [← EReal.coe_mul]; norm_num)
/-- The float 7. -/
theorem f_seven : Ideal.ofBits .f32 0x40E00000#32 = ((7 : ℝ) : EReal) := by
  simp [Ideal.ofBits, Ideal.ieee]
  try (rw [← EReal.coe_mul]; norm_num)
/-- The float 8732. -/
theorem f_8732 : Ideal.ofBits .f32 0x46087000#32 = ((8732 : ℝ) : EReal) := by
  simp [Ideal.ofBits, Ideal.ieee]
  try (rw [← EReal.coe_mul]; norm_num)
/-- The float 1000000000. -/
theorem f_giga : Ideal.ofBits .f32 0x4E6E6B28#32 = ((1000000000 : ℝ) : EReal) := by
  simp [Ideal.ofBits, Ideal.ieee]
  rw [← EReal.coe_pow, ← EReal.coe_mul]; norm_num
/-- The float −1. -/
theorem f_minus : Ideal.ofBits .f32 0xBF800000#32 = ((-1 : ℝ) : EReal) := by
  simp [Ideal.ofBits, Ideal.ieee]
  rw [← EReal.coe_mul]; norm_num

/-! ## The loss of a positive -/

/-- Both ways of computing it agree for real scores: this one takes the greater score out first. -/
theorem conf_kernel (a b : ℝ) : max (a : EReal) b + Ideal.log (1 + Ideal.exp (min (a : EReal) b - max (a : EReal) b)) - b = ((soft (a - b) : ℝ) : EReal) := by
  have e1 : max (a : EReal) b = ((max a b : ℝ) : EReal) := (EReal.coe_strictMono.monotone.map_max (a := a) (b := b)).symm
  have e2 : min (a : EReal) b = ((min a b : ℝ) : EReal) := (EReal.coe_strictMono.monotone.map_min (a := a) (b := b)).symm
  rw [e1, e2, ← EReal.coe_sub]
  show _ + Ideal.log (((1 : ℝ) : EReal) + ((Real.exp (min a b - max a b) : ℝ) : EReal)) - _ = _
  rw [← EReal.coe_add, log_pos _ (by positivity), ← EReal.coe_add, ← EReal.coe_sub]
  congr 1
  unfold soft
  rcases le_total a b with h | h
  · rw [max_eq_right h, min_eq_left h]
    ring
  · rw [max_eq_left h, min_eq_right h]
    have : Real.exp (a - b) * (1 + Real.exp (b - a)) = 1 + Real.exp (a - b) := by
      rw [mul_add, ← Real.exp_add, show a - b + (b - a) = 0 by ring, Real.exp_zero]; ring
    rw [← this, Real.log_mul (Real.exp_pos _).ne' (by positivity), Real.log_exp]
    ring

end Cert.Proof.Pair
-- ==== Proof.PairTools.lean ====
/- Reading over the extended reals the operations of the matching: choices, greatest and least entries, stacked
   rows, folds over the eight objects. -/
module

public import proofs.«01_k».proof.Proof.Pair
public import proofs.«01_k».proof.Proof.Matching
public import proofs.«01_k».proof.Proof.Merge
public import Idealize.ShloMosaic.Lib.Pipeline.Value

@[expose] public section

noncomputable section

namespace Cert.Proof.Pair

open Idealize.ShloMosaic Cert.MatchIdeal Cert.MatchIdeal.Gen Cert.Proof.Mine

/-! ## Bits and choices -/

theorem sel_if {α : Type} (c : BitVec 1) (x y : α) : Scalar.select c x y = if c = 1#1 then x else y := rfl
theorem cmp_olt (a b : EReal) : Ideal.cmp .olt a b = 1#1 ↔ a < b := by
  unfold Ideal.cmp
  by_cases h : a < b <;> simp [h]
theorem cmp_ogt (a b : EReal) : Ideal.cmp .ogt a b = 1#1 ↔ b < a := by
  unfold Ideal.cmp
  by_cases h : b < a <;> simp [h]
theorem cmp_oge (a b : EReal) : Ideal.cmp .oge a b = 1#1 ↔ b ≤ a := by
  unfold Ideal.cmp
  by_cases h : b ≤ a <;> simp [h]
theorem cmp_oeq (a b : EReal) : Ideal.cmp .oeq a b = 1#1 ↔ a = b := by
  unfold Ideal.cmp
  by_cases h : a = b <;> simp [h]
theorem and_one (c d : BitVec 1) : c &&& d = 1#1 ↔ c = 1#1 ∧ d = 1#1 := by
  revert c d
  decide

/-- Naturals are equal, and less, as they are as extended reals. -/
theorem nat_eq (a b : ℕ) : ((a : ℝ) : EReal) = ((b : ℝ) : EReal) ↔ a = b := by
  rw [EReal.coe_eq_coe_iff, Nat.cast_inj]
theorem nat_lt (a b : ℕ) : ((a : ℝ) : EReal) < ((b : ℝ) : EReal) ↔ a < b := by
  rw [EReal.coe_lt_coe_iff, Nat.cast_lt]
theorem nat_le (a b : ℕ) : ((a : ℝ) : EReal) ≤ ((b : ℝ) : EReal) ↔ a ≤ b := by
  rw [EReal.coe_le_coe_iff, Nat.cast_le]

/-- The numbers of the objects, and the powers of two. -/
theorem num_at (j : Fin 8) : Ideal.ofBits .f32 (numW j) = ((j.val : ℝ) : EReal) := by
  fin_cases j
  · exact f_zero.trans (by simp)
  · exact f_one.trans (by simp)
  · exact f_two.trans (by simp)
  · exact f_three.trans (by simp)
  · exact f_four.trans (by simp)
  · exact f_five.trans (by simp)
  · exact f_six.trans (by simp)
  · exact f_seven.trans (by simp)
theorem pow_at (j : Fin 8) : Ideal.ofBits .f32 (powW j) = ((2 ^ j.val : ℝ) : EReal) := by
  fin_cases j
  · exact f_one.trans (by norm_num)
  · exact f_two.trans (by norm_num)
  · exact f_four.trans (by norm_num)
  · exact f_eight.trans (by norm_num)
  · exact f_sixteen.trans (by norm_num)
  · exact f_32.trans (by norm_num)
  · exact f_64.trans (by norm_num)
  · exact f_128.trans (by norm_num)

/-! ## Places and lanes -/

/-- The place of a prior. -/
def place (n : Fin 8732) : S69x128.Idx := ValueIdx.ix2 (⟨n.val / 128, by omega⟩ : Fin 69) (⟨n.val % 128, by omega⟩ : Fin 128)
theorem place_eq (r : Fin 69) (l : Fin 128) (h : 128 * r.val + l.val < 8732) : place ⟨128 * r.val + l.val, h⟩ = ValueIdx.ix2 r l := by
  unfold place
  have h1 : (⟨(128 * r.val + l.val) / 128, by omega⟩ : Fin 69) = r := Fin.ext (by show (128 * r.val + l.val) / 128 = r.val; omega)
  have h2 : (⟨(128 * r.val + l.val) % 128, by omega⟩ : Fin 128) = l := Fin.ext (by show (128 * r.val + l.val) % 128 = l.val; omega)
  exact congrArg₂ ValueIdx.ix2 h1 h2

theorem flat_at (r : Fin 69) (l : Fin 128) : flat (F := Ideal) (ValueIdx.ix2 r l) = (((128 * r.val + l.val : ℕ) : ℝ) : EReal) := by
  show FloatOps.sitofp (F := Ideal) .f32 (BitVec.ofNat 32 (0 * 69 + r.val) * BitVec.ofNat 32 128 + BitVec.ofNat 32 (0 * 128 + l.val)) = _
  rw [← BitVec.ofNat_mul, ← BitVec.ofNat_add, show (0 * 69 + r.val) * 128 + (0 * 128 + l.val) = 128 * r.val + l.val by omega]
  exact sitofp_ofNat (by omega)
theorem flat_place (n : Fin 8732) : flat (F := Ideal) (place n) = ((n.val : ℝ) : EReal) := by
  unfold place
  rw [flat_at]
  exact congrArg (fun k : ℕ => ((k : ℝ) : EReal)) (by show 128 * (n.val / 128) + n.val % 128 = n.val; omega)
theorem valid_at (r : Fin 69) (l : Fin 128) : valid (F := Ideal) (ValueIdx.ix2 r l) = 1#1 ↔ 128 * r.val + l.val < 8732 := by
  show Ideal.cmp .olt (flat (F := Ideal) (ValueIdx.ix2 r l)) (Ideal.ofBits .f32 0x46087000#32) = 1#1 ↔ _
  rw [cmp_olt, flat_at, f_8732, show ((8732 : ℝ)) = ((8732 : ℕ) : ℝ) by norm_num, nat_lt]
theorem valid_place (n : Fin 8732) : valid (F := Ideal) (place n) = 1#1 := by
  unfold place
  rw [valid_at]
  show 128 * (n.val / 128) + n.val % 128 < 8732
  omega
theorem lcol_at (l : Fin 128) : lcol (F := Ideal) (ValueIdx.ix2 (0 : Fin 1) l) = ((l.val : ℝ) : EReal) := by
  unfold lcol
  rw [extractStridedSlice_apply _ _ _ (ValueIdx.ix2 (0 : Fin 1) l) (ValueIdx.ix2 (0 : Fin 69) l) (fun a => by
    match a with
    | ⟨0, _⟩ => rfl
    | ⟨1, _⟩ => exact (Nat.zero_add _).symm)]
  show FloatOps.sitofp (F := Ideal) .f32 (BitVec.ofNat 32 (0 * 128 + l.val)) = _
  rw [show 0 * 128 + l.val = l.val by omega]
  exact sitofp_ofNat (by omega)

/-- The rows before one, counted. -/
theorem sum_rows (N k : ℕ) (hk : k ≤ N) :
    ((List.take k (List.replicate N S1x128)).map fun s => if h : s.rank = 2 then s.size ((0 : Fin 2).cast h.symm) else 0).sum = k := by
  rw [List.take_replicate, List.map_replicate, List.sum_replicate, min_eq_left hk]
  exact Nat.mul_one k

/-- Eight rows stacked, and sixteen, read. -/
theorem stack_at (x : Fin 8 → FVec Ideal S1x128 .f32) (j : Fin 8) (l : Fin 128) : stack x (ValueIdx.ix2 j l) = x j (ValueIdx.ix2 (0 : Fin 1) l) := by
  unfold stack
  refine concatenate_apply_piece _ _ _ (ValueIdx.ix2 j l) j.val (by show j.val < 8; omega) S1x128 (x j) ?_ rfl j.val ?_ (ValueIdx.ix2 (0 : Fin 1) l) ?_ ?_
  · fin_cases j <;> rfl
  · rw [List.map_take]
    exact sum_rows 8 j.val (by omega)
  · intro b hb
    match b, hb with
    | ⟨0, _⟩, hb => exact absurd rfl hb
    | ⟨1, _⟩, _ => rfl
  · rfl
theorem cat_at (x : Fin 16 → FVec Ideal S1x128 .f32) (g : Fin 16) (l : Fin 128) : cat x (ValueIdx.ix2 g l) = x g (ValueIdx.ix2 (0 : Fin 1) l) := by
  unfold cat
  refine concatenate_apply_piece _ _ _ (ValueIdx.ix2 g l) g.val (by show g.val < 16; omega) S1x128 (x g) ?_ rfl g.val ?_ (ValueIdx.ix2 (0 : Fin 1) l) ?_ ?_
  · fin_cases g <;> rfl
  · rw [List.map_take]
    exact sum_rows 16 g.val (by omega)
  · intro b hb
    match b, hb with
    | ⟨0, _⟩, hb => exact absurd rfl hb
    | ⟨1, _⟩, _ => rfl
  · rfl

/-- A row on each of sixteen, a column on each lane, a row's first entries, an object's entry, read. -/
theorem down_at {α : Type} (x : S1x128.Idx → α) (g : Fin 16) (l : Fin 128) : down x (ValueIdx.ix2 g l) = x (ValueIdx.ix2 (0 : Fin 1) l) :=
  broadcastTo_apply x _ (ValueIdx.ix2 g l) (ValueIdx.ix2 (0 : Fin 1) l) (fun a => by
    match a with
    | ⟨0, _⟩ => rfl
    | ⟨1, _⟩ => rfl)
theorem row0_at {α : Type} (x : S69x128.Idx → α) (l : Fin 128) :
    extractStridedSlice S1x128 ![0, 0] x slices_S69x128_o0_0_S1x128 (ValueIdx.ix2 (0 : Fin 1) l) = x (ValueIdx.ix2 (0 : Fin 69) l) :=
  extractStridedSlice_apply _ _ _ (ValueIdx.ix2 (0 : Fin 1) l) (ValueIdx.ix2 (0 : Fin 69) l) (fun a => by
    match a with
    | ⟨0, _⟩ => rfl
    | ⟨1, _⟩ => exact (Nat.zero_add _).symm)
theorem at8_at (x : FVec Ideal S8x1 .f32) (j : Fin 8) (i : S1x1.Idx) : at8 x j i = x (ValueIdx.ix2 j (0 : Fin 1)) := by
  unfold at8
  rw [shapeCast_self]
  have hi : i = ValueIdx.ix2 (0 : Fin 1) (0 : Fin 1) := funext fun a => by
    match a with
    | ⟨0, _⟩ => exact Subsingleton.elim (α := Fin 1) _ _
    | ⟨1, _⟩ => exact Subsingleton.elim (α := Fin 1) _ _
  rw [hi]
  exact extractStridedSlice_apply _ _ _ (ValueIdx.ix2 (0 : Fin 1) (0 : Fin 1)) (ValueIdx.ix2 j (0 : Fin 1)) (fun a => by
    match a with
    | ⟨0, _⟩ => rfl
    | ⟨1, _⟩ => rfl)
theorem up69_at (x : FVec Ideal S8x1 .f32) (j : Fin 8) (i : S69x128.Idx) : up69 x j i = x (ValueIdx.ix2 j (0 : Fin 1)) := at8_at x j _

/-! ## The greatest and the least over the priors -/

theorem lift0 (l : Fin 128) (r : Fin 69) : (reduces_S69x128_S128).lift (ValueIdx.ix1 l) r = ValueIdx.ix2 r l := funext fun a => by
  match a with
  | ⟨0, _⟩ => rfl
  | ⟨1, _⟩ => rfl
theorem lift1 (j : Fin 8) (l : Fin 128) : (reduces_S8x128_S8).lift (ValueIdx.ix1 j) l = ValueIdx.ix2 j l := funext fun a => by
  match a with
  | ⟨0, _⟩ => rfl
  | ⟨1, _⟩ => rfl

theorem rows_le (x : FVec Ideal S69x128 .f32) (hφ : FKind.Formats .f32) (hacc : (0xFF800000#32 : BitVec 32) = FKind.maximumf.neutral .f32 hφ) (l : Fin 128) (y : EReal) :
    multiReduction .maximumf [0] S128 x 0xFF800000#32 reduces_S69x128_S128 hφ hacc (ValueIdx.ix1 l) ≤ y ↔ ∀ r : Fin 69, x (ValueIdx.ix2 r l) ≤ y := by
  rw [Ideal.multiReduction_maximumf_single, Finset.fold_max_le]
  show Ideal.ofBits .f32 0xFF800000#32 ≤ y ∧ _ ↔ _
  rw [f_bot]
  refine ⟨fun h r => ?_, fun h => ⟨bot_le, fun r _ => ?_⟩⟩
  · rw [← lift0]
    exact h.2 r (Finset.mem_univ _)
  · exact (le_of_eq (congrArg x (lift0 _ r))).trans (h r)
theorem lanes_le (x : FVec Ideal S8x128 .f32) (hφ : FKind.Formats .f32) (hacc : (0xFF800000#32 : BitVec 32) = FKind.maximumf.neutral .f32 hφ) (j : Fin 8) (y : EReal) :
    multiReduction .maximumf [1] S8 x 0xFF800000#32 reduces_S8x128_S8 hφ hacc (ValueIdx.ix1 j) ≤ y ↔ ∀ l : Fin 128, x (ValueIdx.ix2 j l) ≤ y := by
  rw [Ideal.multiReduction_maximumf_single, Finset.fold_max_le]
  show Ideal.ofBits .f32 0xFF800000#32 ≤ y ∧ _ ↔ _
  rw [f_bot]
  refine ⟨fun h r => ?_, fun h => ⟨bot_le, fun r _ => ?_⟩⟩
  · rw [← lift1]
    exact h.2 r (Finset.mem_univ _)
  · exact (le_of_eq (congrArg x (lift1 _ r))).trans (h r)

/-- The least over one axis, as a fold. -/
theorem minimumf_single {s t : Shape} {a : Fin s.rank} (src : FVec Ideal s .f32) (acc : BitVec 32)
    (h : s.Reduces [a] t) (hφ : FKind.Formats .f32) (hacc : acc = FKind.minimumf.neutral .f32 hφ) (j : t.Idx) :
    multiReduction .minimumf [a] t src acc h hφ hacc j = (Finset.univ : Finset (Fin (s.size a))).fold min (Ideal.ofBits .f32 acc) (src ∘ h.lift j) := by
  rw [multiReduction_minimumf_eq_fold]
  exact h.fold_filter_drop_single _ _ src j
theorem le_rows (x : FVec Ideal S69x128 .f32) (hφ : FKind.Formats .f32) (hacc : (0x7F800000#32 : BitVec 32) = FKind.minimumf.neutral .f32 hφ) (l : Fin 128) (y : EReal) :
    y ≤ multiReduction .minimumf [0] S128 x 0x7F800000#32 reduces_S69x128_S128 hφ hacc (ValueIdx.ix1 l) ↔ ∀ r : Fin 69, y ≤ x (ValueIdx.ix2 r l) := by
  rw [minimumf_single, Finset.le_fold_min, f_top]
  refine ⟨fun h r => ?_, fun h => ⟨le_top, fun r _ => ?_⟩⟩
  · rw [← lift0]
    exact h.2 r (Finset.mem_univ _)
  · exact (h r).trans (le_of_eq (congrArg x (lift0 _ r)).symm)
theorem le_lanes (x : FVec Ideal S8x128 .f32) (hφ : FKind.Formats .f32) (hacc : (0x7F800000#32 : BitVec 32) = FKind.minimumf.neutral .f32 hφ) (j : Fin 8) (y : EReal) :
    y ≤ multiReduction .minimumf [1] S8 x 0x7F800000#32 reduces_S8x128_S8 hφ hacc (ValueIdx.ix1 j) ↔ ∀ l : Fin 128, y ≤ x (ValueIdx.ix2 j l) := by
  rw [minimumf_single, Finset.le_fold_min, f_top]
  refine ⟨fun h r => ?_, fun h => ⟨le_top, fun r _ => ?_⟩⟩
  · rw [← lift1]
    exact h.2 r (Finset.mem_univ _)
  · exact (h r).trans (le_of_eq (congrArg x (lift1 _ r)).symm)

/-- A row of 128 as one of a stack, a column of eight, read. -/
theorem asRow_at (v : FVec Ideal S128 .f32) (l : Fin 128) : shapeCast S1x128 v shapeCasts_S128_S1x128 (ValueIdx.ix2 (0 : Fin 1) l) = v (ValueIdx.ix1 l) :=
  shapeCast_apply _ _ (ValueIdx.ix2 (0 : Fin 1) l) (ValueIdx.ix1 l) (by
    rw [rowMajor_val1, rowMajor_val2 _ 128 rfl]
    show l.val = 0 * 128 + l.val
    omega)
theorem asCol_at (v : FVec Ideal S8 .f32) (j : Fin 8) : shapeCast S8x1 v shapeCasts_S8_S8x1 (ValueIdx.ix2 j (0 : Fin 1)) = v (ValueIdx.ix1 j) :=
  shapeCast_apply _ _ (ValueIdx.ix2 j (0 : Fin 1)) (ValueIdx.ix1 j) (by
    rw [rowMajor_val1, rowMajor_val2 _ 1 rfl]
    show j.val = j.val * 1 + 0
    omega)

theorem top8_le (x : Fin 8 → FVec Ideal S69x128 .f32) (j : Fin 8) (y : EReal) :
    top8 x (ValueIdx.ix2 j (0 : Fin 1)) ≤ y ↔ ∀ i : Fin 69 × Fin 128, x j (ValueIdx.ix2 i.1 i.2) ≤ y := by
  unfold top8
  rw [asCol_at]
  refine (lanes_le _ _ _ j y).trans ⟨fun h i => ?_, fun h l => ?_⟩
  · have h1 := h i.2
    rw [stack_at, asRow_at] at h1
    exact (rows_le _ _ _ i.2 y).mp h1 i.1
  · rw [stack_at, asRow_at]
    exact (rows_le _ _ _ l y).mpr fun r => h (r, l)
theorem le_low8 (x : Fin 8 → FVec Ideal S69x128 .f32) (j : Fin 8) (y : EReal) :
    y ≤ low8 x (ValueIdx.ix2 j (0 : Fin 1)) ↔ ∀ i : Fin 69 × Fin 128, y ≤ x j (ValueIdx.ix2 i.1 i.2) := by
  unfold low8
  rw [asCol_at]
  refine (le_lanes _ _ _ j y).trans ⟨fun h i => ?_, fun h l => ?_⟩
  · have h1 := h i.2
    rw [stack_at, asRow_at] at h1
    exact (le_rows _ _ _ i.2 y).mp h1 i.1
  · rw [stack_at, asRow_at]
    exact (le_rows _ _ _ l y).mpr fun r => h (r, l)

/-! ## The folds over the objects -/

theorem eight_pairwise : eight.Pairwise (· < ·) := by decide
theorem eight_all : ∀ j : Fin 8, j ∈ eight := by decide

/-- The last entry with a property decides a fold that overwrites. -/
theorem last_fold {β : Type} (c : Fin 8 → Prop) [DecidablePred c] (w : Fin 8 → β) (L : List (Fin 8)) (hL : L.Pairwise (· < ·)) (s0 : β) :
    (∃ j ∈ L, c j ∧ (∀ k ∈ L, c k → k ≤ j) ∧ L.foldl (fun s j => if c j then w j else s) s0 = w j)
      ∨ ((∀ j ∈ L, ¬ c j) ∧ L.foldl (fun s j => if c j then w j else s) s0 = s0) := by
  induction L generalizing s0 with
  | nil => exact Or.inr ⟨fun j hj => absurd hj List.not_mem_nil, rfl⟩
  | cons a L ih =>
    have hp := List.pairwise_cons.mp hL
    rcases ih hp.2 (if c a then w a else s0) with ⟨j, hj, hc, hl, he⟩ | ⟨hn, he⟩
    · refine Or.inl ⟨j, List.mem_cons_of_mem _ hj, hc, fun k hk hck => ?_, he⟩
      rcases List.mem_cons.mp hk with rfl | hk
      · exact le_of_lt (hp.1 j hj)
      · exact hl k hk hck
    · by_cases ha : c a
      · refine Or.inl ⟨a, List.mem_cons_self, ha, fun k hk hck => ?_, ?_⟩
        · rcases List.mem_cons.mp hk with rfl | hk
          · exact le_refl _
          · exact absurd hck (hn k hk)
        · rw [List.foldl_cons, he, if_pos ha]
      · refine Or.inr ⟨fun j hj => ?_, ?_⟩
        · rcases List.mem_cons.mp hj with rfl | hj
          · exact ha
          · exact hn j hj
        · rw [List.foldl_cons, he, if_neg ha]

/-- Of eight values one is taken by its number, and none by another. -/
theorem pick_hit (x : EReal) (w : Fin 8 → EReal) (s0 : EReal) (m : Fin 8) (h : x = ((m.val : ℝ) : EReal)) :
    eight.foldl (fun s j => if x = ((j.val : ℝ) : EReal) then w j else s) s0 = w m := by
  classical
  rcases last_fold (fun j => x = ((j.val : ℝ) : EReal)) w eight eight_pairwise s0 with ⟨j, _, hc, _, he⟩ | ⟨hn, _⟩
  · have : j = m := Fin.ext ((nat_eq _ _).mp (hc.symm.trans h))
    rw [← this, ← he]
  · exact absurd h (hn m (eight_all m))
theorem pick_miss (x : EReal) (w : Fin 8 → EReal) (s0 : EReal) (h : ∀ m : Fin 8, x ≠ ((m.val : ℝ) : EReal)) :
    eight.foldl (fun s j => if x = ((j.val : ℝ) : EReal) then w j else s) s0 = s0 := by
  classical
  rcases last_fold (fun j => x = ((j.val : ℝ) : EReal)) w eight eight_pairwise s0 with ⟨j, _, hc, _, he⟩ | ⟨_, he⟩
  · exact absurd hc (h j)
  · convert he

/-- The running greatest entry, begun at an entry, ends at the first greatest. -/
theorem run_first (f : Fin 8 → EReal) (w : Fin 8 → EReal) (L : List (Fin 8)) (m : Fin 8) (hL : (m :: L).Pairwise (· < ·)) :
    ∃ n ∈ m :: L, (∀ k ∈ m :: L, f k ≤ f n) ∧ (∀ k ∈ m :: L, k < n → f k < f n)
      ∧ L.foldl (fun (s : EReal × EReal) j => (if s.2 < f j then w j else s.1, if s.2 < f j then f j else s.2)) (w m, f m) = (w n, f n) := by
  induction L generalizing m with
  | nil =>
    refine ⟨m, List.mem_cons_self, fun k hk => ?_, fun k hk hl => ?_, rfl⟩
    · rcases List.mem_cons.mp hk with rfl | hk
      · exact le_refl _
      · exact absurd hk List.not_mem_nil
    · rcases List.mem_cons.mp hk with rfl | hk
      · exact absurd hl (lt_irrefl _)
      · exact absurd hk List.not_mem_nil
  | cons a L ih =>
    have hp := List.pairwise_cons.mp hL
    have hq := List.pairwise_cons.mp hp.2
    by_cases h : f m < f a
    · obtain ⟨n, hn, h1, h2, h3⟩ := ih a hp.2
      refine ⟨n, List.mem_cons_of_mem _ hn, fun k hk => ?_, fun k hk hl => ?_, ?_⟩
      · rcases List.mem_cons.mp hk with rfl | hk
        · exact (le_of_lt h).trans (h1 a List.mem_cons_self)
        · exact h1 k hk
      · rcases List.mem_cons.mp hk with rfl | hk
        · exact lt_of_lt_of_le h (h1 a List.mem_cons_self)
        · exact h2 k hk hl
      · rw [List.foldl_cons, if_pos h, if_pos h, h3]
    · obtain ⟨n, hn, h1, h2, h3⟩ := ih m (List.pairwise_cons.mpr ⟨fun k hk => hp.1 k (List.mem_cons_of_mem _ hk), hq.2⟩)
      have ham := (not_lt.mp h).trans (h1 m List.mem_cons_self)
      refine ⟨n, ?_, fun k hk => ?_, fun k hk hl => ?_, ?_⟩
      · rcases List.mem_cons.mp hn with rfl | hn
        · exact List.mem_cons_self
        · exact List.mem_cons_of_mem _ (List.mem_cons_of_mem _ hn)
      · rcases List.mem_cons.mp hk with rfl | hk
        · exact h1 _ List.mem_cons_self
        · rcases List.mem_cons.mp hk with rfl | hk
          · exact ham
          · exact h1 k (List.mem_cons_of_mem _ hk)
      · rcases List.mem_cons.mp hk with rfl | hk
        · exact h2 _ List.mem_cons_self hl
        · rcases List.mem_cons.mp hk with rfl | hk
          · exact lt_of_le_of_lt (not_lt.mp h) (h2 m List.mem_cons_self ((hp.1 k List.mem_cons_self).trans hl))
          · exact h2 k (List.mem_cons_of_mem _ hk) hl
      · rw [List.foldl_cons, if_neg h, if_neg h, h3]

/-- Begun at 0 and a number less than all, it ends at the first greatest of the eight. -/
theorem run_eight (f : Fin 8 → EReal) (w : Fin 8 → EReal) (s0 : EReal × EReal) (h : s0.2 < f 0) :
    eight.foldl (fun (s : EReal × EReal) j => (if s.2 < f j then w j else s.1, if s.2 < f j then f j else s.2)) s0 = (w (first f), f (first f)) := by
  rw [show eight = 0 :: [1, 2, 3, 4, 5, 6, 7] from rfl, List.foldl_cons, if_pos h, if_pos h]
  obtain ⟨n, _, h1, h2, h3⟩ := run_first f w [1, 2, 3, 4, 5, 6, 7] 0 (by decide)
  rw [first_unique f n (fun k => h1 k (eight_all k)) (fun k hk => h2 k (eight_all k) hk)]
  exact h3

end Cert.Proof.Pair

end
-- ==== Proof.PairRead.lean ====
/- The matching call's block over the extended reals: its entries are the images' statistics. -/
module

public import proofs.«01_k».proof.Proof.PairTools

@[expose] public section

noncomputable section

namespace Cert.Proof.Pair

open Idealize.ShloMosaic Cert.MatchIdeal Cert.MatchIdeal.Gen Cert.Proof.Mine

/-- The overlap of a box and the priors, read. -/
theorem iou_at (P : Fin 4 → FVec Ideal S69x128 .f32) (b : Fin 4 → EReal) (i : S69x128.Idx) : iou P b i = ovE (fun k => P k i) b := by
  unfold ovE interE areaE
  rw [← f_half, ← f_zero]
  rfl

section image
variable (P : Fin 4 → FVec Ideal S69x128 .f32) (b : Fin 8 → Fin 4 → EReal) (pr : Fin 8732 → Fin 4 → EReal)
  (hP : ∀ n k, P k (place n) = pr n k)

/-- The overlaps of an image. -/
def ovs (pr : Fin 8732 → Fin 4 → EReal) (b : Fin 8 → Fin 4 → EReal) : Fin 8 → Fin 8732 → EReal := fun j n => ovE (pr n) (b j)

include hP in
theorem iou_place (j : Fin 8) (n : Fin 8732) : iou P (b j) (place n) = ovs pr b j n := by
  rw [iou_at]
  exact congrArg (fun p => ovE p (b j)) (funext fun k => hP n k)

/-- What is so at all places of priors, and elsewhere, is so everywhere. -/
theorem everywhere (Q : S69x128.Idx → Prop) (h1 : ∀ n, Q (place n)) (h2 : ∀ r l, ¬ valid (F := Ideal) (ValueIdx.ix2 r l) = 1#1 → Q (ValueIdx.ix2 r l)) (r : Fin 69) (l : Fin 128) :
    Q (ValueIdx.ix2 r l) := by
  by_cases h : valid (F := Ideal) (ValueIdx.ix2 r l) = 1#1
  · rw [← place_eq r l ((valid_at r l).mp h)]
    exact h1 _
  · exact h2 r l h

/-- The greatest of what lies at the priors' places, one of which has it. -/
theorem top8_eq (x : Fin 8 → FVec Ideal S69x128 .f32) (j : Fin 8) (n : Fin 8732) (a : EReal) (ha : x j (place n) = a) (h1 : ∀ n, x j (place n) ≤ a)
    (h2 : ∀ r l, ¬ valid (F := Ideal) (ValueIdx.ix2 r l) = 1#1 → x j (ValueIdx.ix2 r l) ≤ a) :
    top8 x (ValueIdx.ix2 j (0 : Fin 1)) = a :=
  eq_greatest (fun i : Fin 69 × Fin 128 => x j (ValueIdx.ix2 i.1 i.2)) _ a (top8_le x j) (⟨n.val / 128, by omega⟩, ⟨n.val % 128, by omega⟩) ha fun i => everywhere (fun i => x j i ≤ a) h1 h2 i.1 i.2
theorem low8_eq (x : Fin 8 → FVec Ideal S69x128 .f32) (j : Fin 8) (n : Fin 8732) (a : EReal) (ha : x j (place n) = a) (h1 : ∀ n, a ≤ x j (place n))
    (h2 : ∀ r l, ¬ valid (F := Ideal) (ValueIdx.ix2 r l) = 1#1 → a ≤ x j (ValueIdx.ix2 r l)) :
    low8 x (ValueIdx.ix2 j (0 : Fin 1)) = a :=
  eq_least (fun i : Fin 69 × Fin 128 => x j (ValueIdx.ix2 i.1 i.2)) _ a (le_low8 x j) (⟨n.val / 128, by omega⟩, ⟨n.val % 128, by omega⟩) ha fun i => everywhere (fun i => a ≤ x j i) h1 h2 i.1 i.2

variable (hov : ∀ j n, ((-1 : ℝ) : EReal) < ovs pr b j n)

include hP hov in
/-- Each object's greatest overlap. -/
theorem most_at (j : Fin 8) : most P b (ValueIdx.ix2 j (0 : Fin 1)) = ovs pr b j (first (ovs pr b j)) := by
  have e : ∀ i, select (valid (F := Ideal)) (iou P (b j)) (all69 0xBF800000#32) i = if valid (F := Ideal) i = 1#1 then iou P (b j) i else ((-1 : ℝ) : EReal) := by
    intro i
    rw [← f_minus]
    rfl
  refine top8_eq _ j (first (ovs pr b j)) _ ?_ (fun n => ?_) (fun r l h => ?_)
  · show select (valid (F := Ideal)) (iou P (b j)) (all69 0xBF800000#32) (place _) = _
    rw [e, if_pos (valid_place _), iou_place P b pr hP]
  · show select (valid (F := Ideal)) (iou P (b j)) (all69 0xBF800000#32) (place _) ≤ _
    rw [e, if_pos (valid_place _), iou_place P b pr hP]
    exact le_first _ n
  · show select (valid (F := Ideal)) (iou P (b j)) (all69 0xBF800000#32) _ ≤ _
    rw [e, if_neg h]
    exact le_of_lt (hov j _)

include hP hov in
/-- Each object's first prior of that overlap. -/
theorem given_at (j : Fin 8) : given P b (ValueIdx.ix2 j (0 : Fin 1)) = (((first (ovs pr b j)).val : ℝ) : EReal) := by
  have e : ∀ i, select (andi (cmpf .oeq (iou P (b j)) (up69 (most P b) j)) (valid (F := Ideal))) (flat (F := Ideal)) (all69 0x4E6E6B28#32) i
      = if iou P (b j) i = ovs pr b j (first (ovs pr b j)) ∧ valid (F := Ideal) i = 1#1 then flat (F := Ideal) i else ((1000000000 : ℝ) : EReal) := by
    intro i
    rw [← f_giga]
    show Scalar.select (Ideal.cmp .oeq (iou P (b j) i) (up69 (most P b) j i) &&& valid (F := Ideal) i) (flat (F := Ideal) i) (Ideal.ofBits .f32 0x4E6E6B28#32) = _
    rw [sel_if, up69_at, most_at P b pr hP hov j]
    exact if_congr (by rw [and_one, cmp_oeq]) rfl rfl
  have hbig : (((first (ovs pr b j)).val : ℝ) : EReal) ≤ ((1000000000 : ℝ) : EReal) := by
    rw [show ((1000000000 : ℝ)) = ((1000000000 : ℕ) : ℝ) by norm_num, nat_le]
    have := (first (ovs pr b j)).isLt
    omega
  refine low8_eq _ j (first (ovs pr b j)) _ ?_ (fun n => ?_) (fun r l h => ?_)
  · show select (andi (cmpf .oeq (iou P (b j)) (up69 (most P b) j)) (valid (F := Ideal))) (flat (F := Ideal)) (all69 0x4E6E6B28#32) (place _) = _
    rw [e, if_pos ⟨iou_place P b pr hP j _, valid_place _⟩, flat_place]
  · show _ ≤ select (andi (cmpf .oeq (iou P (b j)) (up69 (most P b) j)) (valid (F := Ideal))) (flat (F := Ideal)) (all69 0x4E6E6B28#32) (place _)
    rw [e, iou_place P b pr hP]
    split_ifs with h
    · rw [flat_place, nat_le]
      exact first_le _ n h.1
    · exact hbig
  · show _ ≤ select (andi (cmpf .oeq (iou P (b j)) (up69 (most P b) j)) (valid (F := Ideal))) (flat (F := Ideal)) (all69 0x4E6E6B28#32) _
    rw [e, if_neg fun q => h q.2]
    exact hbig

/-- The best object of a prior, as a fold of its overlaps. -/
theorem best_fold (L : List (Fin 8)) (s : FVec Ideal S69x128 .f32 × FVec Ideal S69x128 .f32) (i : S69x128.Idx) :
    ((L.foldl (bestStep P b) s).1 i, (L.foldl (bestStep P b) s).2 i)
      = L.foldl (fun (s : EReal × EReal) j => (if s.2 < iou P (b j) i then ((j.val : ℝ) : EReal) else s.1, if s.2 < iou P (b j) i then iou P (b j) i else s.2)) (s.1 i, s.2 i) := by
  induction L generalizing s with
  | nil => rfl
  | cons a L ih =>
    rw [List.foldl_cons, List.foldl_cons, ih]
    refine congrArg (fun t => List.foldl _ t L) (Prod.ext ?_ ?_)
    · show Scalar.select (Ideal.cmp .ogt (iou P (b a) i) (s.2 i)) (Ideal.ofBits .f32 (numW a)) (s.1 i) = _
      rw [sel_if, num_at]
      exact if_congr (cmp_ogt _ _) rfl rfl
    · show Scalar.select (Ideal.cmp .ogt (iou P (b a) i) (s.2 i)) (iou P (b a) i) (s.2 i) = _
      rw [sel_if]
      exact if_congr (cmp_ogt _ _) rfl rfl

include hP hov in
theorem best_at (n : Fin 8732) : ((best P b).1 (place n), (best P b).2 (place n))
    = ((((first fun j => ovs pr b j n).val : ℝ) : EReal), ovs pr b (first fun j => ovs pr b j n) n) := by
  unfold best
  rw [best_fold]
  have e : ∀ j, iou P (b j) (place n) = ovs pr b j n := fun j => iou_place P b pr hP j n
  simp only [e]
  refine run_eight (fun j => ovs pr b j n) (fun j => ((j.val : ℝ) : EReal)) _ ?_
  show Ideal.ofBits .f32 0xBF800000#32 < _
  rw [f_minus]
  exact hov 0 n

include hP hov in
/-- The object of a prior and its overlap, after the priors are given. -/
theorem give_fold (n : Fin 8732) (L : List (Fin 8)) (s : FVec Ideal S69x128 .f32 × FVec Ideal S69x128 .f32) :
    ((L.foldl (giveStep P b) s).1 (place n), (L.foldl (giveStep P b) s).2 (place n))
      = L.foldl (fun (s : EReal × EReal) j => if first (ovs pr b j) = n then (((j.val : ℝ) : EReal), (1 : EReal)) else s) (s.1 (place n), s.2 (place n)) := by
  induction L generalizing s with
  | nil => rfl
  | cons a L ih =>
    rw [List.foldl_cons, List.foldl_cons, ih]
    refine congrArg (fun t => List.foldl _ t L) ?_
    have hc : Ideal.cmp .oeq (flat (F := Ideal) (place n)) (up69 (given P b) a (place n)) = 1#1 ↔ first (ovs pr b a) = n := by
      rw [cmp_oeq, flat_place, up69_at, given_at P b pr hP hov, nat_eq]
      exact ⟨fun h => Fin.ext h.symm, fun h => congrArg Fin.val h.symm⟩
    show (Scalar.select (Ideal.cmp .oeq (flat (F := Ideal) (place n)) (up69 (given P b) a (place n))) (Ideal.ofBits .f32 (numW a)) (s.1 (place n)),
      Scalar.select (Ideal.cmp .oeq (flat (F := Ideal) (place n)) (up69 (given P b) a (place n))) (Ideal.ofBits .f32 0x3F800000#32) (s.2 (place n))) = _
    rw [sel_if, sel_if, num_at, f_one]
    by_cases h : first (ovs pr b a) = n
    · rw [if_pos (hc.mpr h), if_pos (hc.mpr h), if_pos h]
      rfl
    · rw [if_neg (fun q => h (hc.mp q)), if_neg (fun q => h (hc.mp q)), if_neg h]

include hP hov in
theorem gave_at (n : Fin 8732) : ((gave P b).1 (place n), (gave P b).2 (place n)) = ((((objOf (ovs pr b) n).val : ℝ) : EReal), ovlOf (ovs pr b) n) := by
  unfold gave
  rw [give_fold P b pr hP hov, best_at P b pr hP hov]
  rcases last_fold (fun j => first (ovs pr b j) = n) (fun j => (((j.val : ℝ) : EReal), (1 : EReal))) eight eight_pairwise
    ((((first fun j => ovs pr b j n).val : ℝ) : EReal), ovs pr b (first fun j => ovs pr b j n) n) with ⟨j, _, hc, hl, he⟩ | ⟨hn, he⟩
  · have hg : isGiven (ovs pr b) n := ⟨j, hc⟩
    have ho := objOf_given (ovs pr b) n hg
    have : j = objOf (ovs pr b) n := le_antisymm (ho.2 j hc) (hl _ (eight_all _) ho.1)
    rw [he, ← this]
    unfold ovlOf
    rw [if_pos hg]
  · have hg : ¬ isGiven (ovs pr b) n := fun ⟨j, hj⟩ => hn j (eight_all j) hj
    rw [he, objOf_free (ovs pr b) n hg]
    unfold ovlOf
    rw [if_neg hg]

open Classical in
include hP hov in
/-- Whether an object has a prior. -/
theorem there_at (j : Fin 8) : there P b (ValueIdx.ix2 j (0 : Fin 1)) = if isThere (ovs pr b) j then 1 else 0 := by
  have e : ∀ i, (select (andi (cmpf .oeq (gave P b).1 (all69 (numW j))) (valid (F := Ideal))) (all69 0x3F800000#32) (all69 0x00000000#32) : FVec Ideal S69x128 .f32) i
      = if (gave P b).1 i = ((j.val : ℝ) : EReal) ∧ valid (F := Ideal) i = 1#1 then (1 : EReal) else 0 := by
    intro i
    show Scalar.select (Ideal.cmp .oeq ((gave P b).1 i) (Ideal.ofBits .f32 (numW j)) &&& valid (F := Ideal) i) (Ideal.ofBits .f32 0x3F800000#32) (Ideal.ofBits .f32 0x00000000#32) = _
    rw [sel_if, num_at, f_one, f_zero]
    exact if_congr (by rw [and_one, cmp_oeq]) rfl rfl
  have hg : ∀ n, (gave P b).1 (place n) = (((objOf (ovs pr b) n).val : ℝ) : EReal) := fun n => congrArg Prod.fst (gave_at P b pr hP hov n)
  have e' : ∀ n, (select (andi (cmpf .oeq (gave P b).1 (all69 (numW j))) (valid (F := Ideal))) (all69 0x3F800000#32) (all69 0x00000000#32) : FVec Ideal S69x128 .f32) (place n)
      = if objOf (ovs pr b) n = j then (1 : EReal) else 0 := by
    intro n
    refine (e _).trans (if_congr ?_ rfl rfl)
    rw [hg, nat_eq]
    exact ⟨fun h => Fin.ext h.1, fun h => ⟨congrArg Fin.val h, valid_place n⟩⟩
  by_cases h : isThere (ovs pr b) j
  · rw [if_pos h]
    obtain ⟨n, hn⟩ := h
    refine top8_eq _ j n _ ((e' n).trans (if_pos hn)) (fun k => ?_) (fun r l hv => ?_)
    · refine (le_of_eq (e' k)).trans ?_
      split_ifs
      · exact le_refl _
      · exact zero_le_one
    · exact (le_of_eq ((e _).trans (if_neg fun q => hv q.2))).trans zero_le_one
  · rw [if_neg h]
    refine top8_eq _ j 0 _ ((e' 0).trans (if_neg fun q => h ⟨0, q⟩)) (fun n => ?_) (fun r l hv => ?_)
    · exact le_of_eq ((e' n).trans (if_neg fun q => h ⟨n, q⟩))
    · exact le_of_eq ((e _).trans (if_neg fun q => hv q.2))

/-! ## The lanes -/

/-- The lane of one of the first eight priors. -/
abbrev lane (p : Fin 8) : Fin 128 := p.castLE (by decide)
abbrev prior (p : Fin 8) : Fin 8732 := p.castLE (by decide)

theorem place_prior (p : Fin 8) : place (prior p) = ValueIdx.ix2 (0 : Fin 69) (lane p) := by
  unfold place
  have h1 : (⟨(prior p).val / 128, by omega⟩ : Fin 69) = 0 := Fin.ext (by show p.val / 128 = 0; omega)
  have h2 : (⟨(prior p).val % 128, by omega⟩ : Fin 128) = lane p := Fin.ext (by show p.val % 128 = p.val; omega)
  exact congrArg₂ ValueIdx.ix2 h1 h2

include hP hov in
theorem oLane_at (p : Fin 8) : oLane P b (ValueIdx.ix2 (0 : Fin 1) (lane p)) = (((objOf (ovs pr b) (prior p)).val : ℝ) : EReal) := by
  unfold oLane
  rw [row0_at, ← place_prior]
  exact congrArg Prod.fst (gave_at P b pr hP hov _)
include hP hov in
theorem mLane_at (p : Fin 8) : mLane P b (ValueIdx.ix2 (0 : Fin 1) (lane p)) = ovlOf (ovs pr b) (prior p) := by
  unfold mLane
  rw [row0_at, ← place_prior]
  exact congrArg Prod.snd (gave_at P b pr hP hov _)

/-- A fold of choices between arrays is at each place the fold of choices there. -/
theorem choose_fold (x : FVec Ideal S1x128 .f32) (w : Fin 8 → FVec Ideal S1x128 .f32) (L : List (Fin 8)) (s : FVec Ideal S1x128 .f32) (i : S1x128.Idx) :
    L.foldl (fun s j => select (cmpf .oeq x (all1 (numW j))) (w j) s) s i = L.foldl (fun s j => if x i = ((j.val : ℝ) : EReal) then w j i else s) (s i) := by
  induction L generalizing s with
  | nil => rfl
  | cons a L ih =>
    rw [List.foldl_cons, List.foldl_cons, ih]
    refine congrArg (fun t => List.foldl _ t L) ?_
    show Scalar.select (Ideal.cmp .oeq (x i) (Ideal.ofBits .f32 (numW a))) (w a i) (s i) = _
    rw [sel_if, num_at]
    exact if_congr (cmp_oeq _ _) rfl rfl

open Classical in
include hP hov in
theorem tLane_at (p : Fin 8) : tLane P b (ValueIdx.ix2 (0 : Fin 1) (lane p)) = if isThere (ovs pr b) p then 1 else 0 := by
  unfold tLane
  rw [choose_fold, pick_hit _ _ _ p (lcol_at (lane p))]
  exact (at8_at _ p _).trans (there_at P b pr hP hov p)
include hP hov in
theorem boxLane_at (k : Fin 4) (p : Fin 8) : boxLane P b k (ValueIdx.ix2 (0 : Fin 1) (lane p)) = b (objOf (ovs pr b) (prior p)) k := by
  unfold boxLane
  rw [choose_fold, pick_hit _ _ _ _ (oLane_at P b pr hP hov p)]
  rfl
theorem lanes_at (w : Fin 8 → EReal) (s0 : BitVec 32) (p : Fin 8) : lanes (F := Ideal) w s0 (ValueIdx.ix2 (0 : Fin 1) (lane p)) = w p := by
  unfold lanes
  rw [choose_fold, pick_hit _ _ _ p (lcol_at (lane p))]
  rfl

end image

/-! ## The block -/

section block
variable (P : Fin 4 → FVec Ideal S69x128 .f32) (q : Fin 8 → Fin 4 → EReal) (b l : Fin 16 → Fin 8 → Fin 4 → EReal) (s : Fin 16 → Fin 8 → Fin 2 → EReal)
  (pr : Fin 8732 → Fin 4 → EReal) (hP : ∀ n k, P k (place n) = pr n k) (hq : ∀ p k, q p k = pr (prior p) k)
  (g : Fin 16) (hov : ∀ j n, ((-1 : ℝ) : EReal) < ovs pr (b g) j n)

include hP hov in
theorem posB_at (p : Fin 8) : posB P b (ValueIdx.ix2 g (lane p)) = 1#1 ↔ isPos (ovs pr (b g)) p := by
  classical
  show ((down (cmpf .olt lcol (all1 (F := Ideal) 0x41000000#32)) (ValueIdx.ix2 g (lane p)) &&& Ideal.cmp .oge (cat (fun g => mLane P (b g)) (ValueIdx.ix2 g (lane p))) (Ideal.ofBits .f32 0x3F000000#32))
    &&& Ideal.cmp .ogt (cat (fun g => tLane P (b g)) (ValueIdx.ix2 g (lane p))) (Ideal.ofBits .f32 0x3F000000#32)) = 1#1 ↔ _
  rw [and_one, and_one, down_at, cat_at, cat_at, cmp_oge, cmp_ogt, mLane_at P (b g) pr hP hov, tLane_at P (b g) pr hP hov, f_half]
  have h8 : cmpf .olt lcol (all1 (F := Ideal) 0x41000000#32) (ValueIdx.ix2 (0 : Fin 1) (lane p)) = 1#1 := by
    show Ideal.cmp .olt (lcol (F := Ideal) (ValueIdx.ix2 (0 : Fin 1) (lane p))) (Ideal.ofBits .f32 0x41000000#32) = 1#1
    rw [cmp_olt, lcol_at, f_eight, show ((8 : ℝ)) = ((8 : ℕ) : ℝ) by norm_num, nat_lt]
    exact p.isLt
  have h0 : ¬ ((1 / 2 : ℝ) : EReal) < 0 := by
    rw [show (0 : EReal) = ((0 : ℝ) : EReal) from rfl, EReal.coe_lt_coe_iff]; norm_num
  have h1 : ((1 / 2 : ℝ) : EReal) < 1 := by
    rw [show (1 : EReal) = ((1 : ℝ) : EReal) from rfl, EReal.coe_lt_coe_iff]; norm_num
  by_cases ht : isThere (ovs pr (b g)) p
  · rw [if_pos ht]
    exact ⟨fun h => ⟨h.1.2, ht⟩, fun h => ⟨⟨h8, h.1⟩, h1⟩⟩
  · rw [if_neg ht]
    exact ⟨fun h => absurd h.2 h0, fun h => absurd h.2 ht⟩
theorem posB_out (x : Fin 128) (hx : 8 ≤ x.val) : ¬ posB P b (ValueIdx.ix2 g x) = 1#1 := by
  show ¬ ((down (cmpf .olt lcol (all1 (F := Ideal) 0x41000000#32)) (ValueIdx.ix2 g x) &&& Ideal.cmp .oge (cat (fun g => mLane P (b g)) (ValueIdx.ix2 g x)) (Ideal.ofBits .f32 0x3F000000#32))
    &&& Ideal.cmp .ogt (cat (fun g => tLane P (b g)) (ValueIdx.ix2 g x)) (Ideal.ofBits .f32 0x3F000000#32)) = 1#1
  rw [and_one, and_one, down_at]
  intro h
  have h8 : Ideal.cmp .olt (lcol (F := Ideal) (ValueIdx.ix2 (0 : Fin 1) x)) (Ideal.ofBits .f32 0x41000000#32) = 1#1 := h.1.1
  rw [cmp_olt, lcol_at, f_eight, show ((8 : ℝ)) = ((8 : ℕ) : ℝ) by norm_num, nat_lt] at h8
  omega

theorem lift16 (g : Fin 16) (x : Fin 128) : (reduces_S16x128_S16).lift (ValueIdx.ix1 g) x = ValueIdx.ix2 g x := funext fun a => by
  match a with
  | ⟨0, _⟩ => rfl
  | ⟨1, _⟩ => rfl
theorem sum16_at (x : FVec Ideal S16x128 .f32) (g : Fin 16) : sum16 x (ValueIdx.ix2 g (0 : Fin 1)) = ∑ k : Fin 128, x (ValueIdx.ix2 g k) := by
  unfold sum16
  rw [shapeCast_apply _ _ (ValueIdx.ix2 g (0 : Fin 1)) (ValueIdx.ix1 g) (by
    rw [rowMajor_val1, rowMajor_val2 _ 1 rfl]
    show g.val = g.val * 1 + 0
    omega)]
  exact (Ideal.multiReduction_add_single (a := 1) x _ reduces_S16x128_S16 _ _ _).trans (Finset.sum_congr rfl fun k _ => congrArg x (lift16 g k))

include hP hov in
/-- The sum over the positive lanes. -/
theorem sum_pos (v : FVec Ideal S16x128 .f32) (w : Fin 8 → EReal) (hv : ∀ p, v (ValueIdx.ix2 g (lane p)) = w p) :
    sum16 (select (posB P b) v (all16 0x00000000#32)) (ValueIdx.ix2 g (0 : Fin 1)) = sumPos (ovs pr (b g)) w := by
  have e : ∀ x, select (posB P b) v (all16 0x00000000#32) (ValueIdx.ix2 g x) = if posB P b (ValueIdx.ix2 g x) = 1#1 then v (ValueIdx.ix2 g x) else 0 := by
    intro x
    rw [← f_zero]
    rfl
  rw [sum16_at, sum_lanes _ fun x hx => (e x).trans (if_neg (posB_out P b g x hx))]
  unfold sumPos
  refine Finset.sum_congr rfl fun p _ => (e _).trans ?_
  rw [hv]
  by_cases h : isPos (ovs pr (b g)) p
  · rw [if_pos h, if_pos ((posB_at P b pr hP g hov p).mpr h)]
  · rw [if_neg h, if_neg fun r => h ((posB_at P b pr hP g hov p).mp r)]

/-- A column on one lane. -/
theorem onCol_at (c : ℕ) (w : BitVec 32) (hw : Ideal.ofBits .f32 w = ((c : ℝ) : EReal)) (x : FVec Ideal S16x1 .f32) (k : Fin 128) :
    onCol w x (ValueIdx.ix2 g k) = if k.val = c then x (ValueIdx.ix2 g (0 : Fin 1)) else 0 := by
  have e : onCol w x (ValueIdx.ix2 g k) = Scalar.select (down (cmpf .oeq lcol (all1 (F := Ideal) w)) (ValueIdx.ix2 g k)) (broadcastTo S16x128 x broadcasts_S16x1_S16x128 (ValueIdx.ix2 g k))
      (Ideal.ofBits .f32 0x00000000#32) := by
    unfold onCol
    rw [shapeCast_self, shapeCast_self]
    rfl
  rw [e, down_at, broadcastTo_apply x _ (ValueIdx.ix2 g k) (ValueIdx.ix2 g (0 : Fin 1)) (fun a => by
    match a with
    | ⟨0, _⟩ => rfl
    | ⟨1, _⟩ => rfl), f_zero]
  show Scalar.select (Ideal.cmp .oeq (lcol (F := Ideal) (ValueIdx.ix2 (0 : Fin 1) k)) (Ideal.ofBits .f32 w)) _ _ = _
  rw [sel_if, lcol_at, hw]
  exact if_congr (by rw [cmp_oeq, nat_eq]) rfl rfl

include hP hq hov in
theorem centre_at (k k' : Fin 4) (c0 c1 : BitVec 32) (p : Fin 8) : centre P q b k k' c0 c1 (ValueIdx.ix2 g (lane p))
    = Ideal.div (b g (objOf (ovs pr (b g)) (prior p)) k - pr (prior p) k) (Ideal.div (pr (prior p) k') ((10 : ℝ) : EReal)) := by
  show Ideal.div (cat (fun g => boxLane P (b g) k) (ValueIdx.ix2 g (lane p)) - down (lanes (F := Ideal) (fun p => q p k) c0) (ValueIdx.ix2 g (lane p)))
    (down (divf (lanes (F := Ideal) (fun p => q p k') c1) (all1 0x41200000#32)) (ValueIdx.ix2 g (lane p))) = _
  rw [cat_at, down_at, down_at, boxLane_at P (b g) pr hP hov, lanes_at, hq]
  show Ideal.div _ (Ideal.div (lanes (F := Ideal) (fun p => q p k') c1 (ValueIdx.ix2 (0 : Fin 1) (lane p))) (Ideal.ofBits .f32 0x41200000#32)) = _
  rw [lanes_at, hq, f_ten]
include hP hq hov in
theorem size_at (k : Fin 4) (p : Fin 8) : size P q b k (ValueIdx.ix2 g (lane p))
    = Ideal.log (Ideal.div (b g (objOf (ovs pr (b g)) (prior p)) k) (pr (prior p) k)) * ((5 : ℝ) : EReal) := by
  show Ideal.log (Ideal.div (cat (fun g => boxLane P (b g) k) (ValueIdx.ix2 g (lane p))) (down (lanes (F := Ideal) (fun p => q p k) 0x3F800000#32) (ValueIdx.ix2 g (lane p))))
    * Ideal.ofBits .f32 0x40A00000#32 = _
  rw [cat_at, down_at, boxLane_at P (b g) pr hP hov, lanes_at, hq, f_five]
theorem locB_at (k : Fin 4) (p : Fin 8) : locB (F := Ideal) l k (ValueIdx.ix2 g (lane p)) = l g p k := by
  unfold locB
  rw [cat_at, lanes_at]
theorem scoreB_at (k : Fin 2) (p : Fin 8) : scoreB (F := Ideal) s k (ValueIdx.ix2 g (lane p)) = s g p k := by
  unfold scoreB
  rw [cat_at, lanes_at]

include hP hq hov in
theorem offB_at (p : Fin 8) : offB P q b l (ValueIdx.ix2 g (lane p)) = offE (pr (prior p)) (b g (objOf (ovs pr (b g)) (prior p))) (l g p) := by
  unfold offE
  rw [← centre_at P q b pr hP hq g hov 0 2 0x00000000#32 0x3F800000#32 p, ← centre_at P q b pr hP hq g hov 1 3 0x00000000#32 0x3F800000#32 p,
    ← size_at P q b pr hP hq g hov 2 p, ← size_at P q b pr hP hq g hov 3 p, ← locB_at l g 0 p, ← locB_at l g 1 p, ← locB_at l g 2 p, ← locB_at l g 3 p]
  rfl
theorem lossB_at (p : Fin 8) : lossB (F := Ideal) s (ValueIdx.ix2 g (lane p)) = confE (s g p) := by
  unfold confE
  rw [← scoreB_at s g 0 p, ← scoreB_at s g 1 p, show (1 : EReal) = Ideal.ofBits .f32 0x3F800000#32 from f_one.symm]
  rfl

include hP hq hov in
/-- THE BLOCK of sixteen images, read: a row's first four entries are its image's statistics, the others 0. -/
theorem block_at (c : Fin 128) : block P q b l s (ValueIdx.ix2 g c) = if h : c.val < 4 then statE pr (b g) (l g) (s g) ⟨c.val, h⟩ else 0 := by
  have h0 := sum_pos P b pr hP g hov (all16 0x3F800000#32) (fun _ => 1) (fun _ => f_one)
  have h1 := sum_pos P b pr hP g hov (offB P q b l) _ (offB_at P q b l pr hP hq g hov)
  have h2 := sum_pos P b pr hP g hov (lossB s) _ (lossB_at s g)
  have h3 := sum_pos P b pr hP g hov (down (shapeCast S1x128 (lanes (F := Ideal) (fun p => Scalar.ofBits .f32 (powW p)) 0x00000000#32) shapeCasts_S1x128_S1x128)) (fun p => ((2 ^ p.val : ℝ) : EReal))
    (fun p => by
      rw [down_at, shapeCast_self, lanes_at]
      exact pow_at p)
  have e : block P q b l s (ValueIdx.ix2 g c) = onCol 0x00000000#32 _ (ValueIdx.ix2 g c) + onCol 0x3F800000#32 _ (ValueIdx.ix2 g c) + onCol 0x40000000#32 _ (ValueIdx.ix2 g c)
    + onCol 0x40400000#32 _ (ValueIdx.ix2 g c) := rfl
  rw [e, onCol_at g 0 _ (f_zero.trans (by simp)), onCol_at g 1 _ (f_one.trans (by simp)), onCol_at g 2 _ (f_two.trans (by simp)), onCol_at g 3 _ (f_three.trans (by simp)), h0, h1, h2, h3]
  obtain ⟨c, hc⟩ := c
  show (if c = 0 then _ else _) + (if c = 1 then _ else _) + (if c = 2 then _ else _) + (if c = 3 then _ else _) = _
  rcases (by omega : c = 0 ∨ c = 1 ∨ c = 2 ∨ c = 3 ∨ 4 ≤ c) with rfl | rfl | rfl | rfl | h
  · simp [statE]
    rfl
  · simp [statE]
    rfl
  · simp [statE]
    rfl
  · simp [statE]
    rfl
  · rw [if_neg (by omega), if_neg (by omega), if_neg (by omega), if_neg (by omega), dif_neg (show ¬ c < 4 by omega)]
    simp

end block

end Cert.Proof.Pair

end
-- ==== Proof.PairRun.lean ====
/- The matching call's body, run: its one store is the block of the operands' entries. -/
module

public import proofs.«01_k».proof.Proof.Pair
public import proofs.«01_k».proof.Proof.Gen.MatchIdeal.Frame

@[expose] public section

noncomputable section

namespace Cert.Proof.Pair

open Idealize.ShloMosaic Cert.MatchIdeal Cert.MatchIdeal.Gen
open Idealize.ShloMosaic.TcCoe Idealize.ShloMosaic.Tactic

variable {F : FTy → Type} [FloatOps F]

/-! ## The operands' entries, as the body reads them -/

theorem inbP : ∀ (k : Fin 4) (a : Fin 3), (![k.val, 0, 0] : Fin 3 → ℕ) a + S1x69x128.size a ≤ S4x69x128.size a := by decide
theorem inbQ : ∀ (p : Fin 8) (k : Fin 4) (a : Fin 2), (![p.val, k.val] : Fin 2 → ℕ) a + S1x1.size a ≤ S8x4.size a := by decide
theorem inbB : ∀ (g : Fin 16) (p : Fin 8) (k : Fin 4) (a : Fin 3), (![g.val, p.val, k.val] : Fin 3 → ℕ) a + S1x1x1.size a ≤ S16x8x4.size a := by decide
theorem inbS : ∀ (g : Fin 16) (p : Fin 8) (k : Fin 2) (a : Fin 3), (![g.val, p.val, k.val] : Fin 3 → ℕ) a + S1x1x1.size a ≤ S16x8x2.size a := by decide

def readP (m : Memref sig .tc .vmem S4x69x128 .f32) (h : m.IsWhole) (x : Vec F S4x69x128 .f32) (k : Fin 4) : FVec F S69x128 .f32 :=
  shapeCast S69x128 (View.readAt (Elt F) m.view (Rect.unit (s := S4x69x128) ![k.val, 0, 0] S1x69x128.size (inbP k)).toLoadRect (h.unread x) : FVec F S1x69x128 .f32)
    shapeCasts_S1x69x128_S69x128
def readQ (m : Memref sig .tc .smem S8x4 .f32) (h : m.IsWhole) (x : Vec F S8x4 .f32) (p : Fin 8) (k : Fin 4) : F .f32 :=
  View.readAt (Elt F) m.view (Rect.unit (s := S8x4) ![p.val, k.val] S1x1.size (inbQ p k)).toLoadRect (h.unread x) (Shape.Idx.first (show 0 < S1x1.numel by decide))
def readB (m : Memref sig .tc .smem S16x8x4 .f32) (h : m.IsWhole) (x : Vec F S16x8x4 .f32) (g : Fin 16) (p : Fin 8) (k : Fin 4) : F .f32 :=
  View.readAt (Elt F) m.view (Rect.unit (s := S16x8x4) ![g.val, p.val, k.val] S1x1x1.size (inbB g p k)).toLoadRect (h.unread x) (Shape.Idx.first (show 0 < S1x1x1.numel by decide))
def readS (m : Memref sig .tc .smem S16x8x2 .f32) (h : m.IsWhole) (x : Vec F S16x8x2 .f32) (g : Fin 16) (p : Fin 8) (k : Fin 2) : F .f32 :=
  View.readAt (Elt F) m.view (Rect.unit (s := S16x8x2) ![g.val, p.val, k.val] S1x1x1.size (inbS g p k)).toLoadRect (h.unread x) (Shape.Idx.first (show 0 < S1x1x1.numel by decide))

set_option maxHeartbeats 100000000 in
set_option maxRecDepth 100000 in
/-- The one stored vector is the block of what is read. -/
theorem stored_block (c : Dev nD) (arg1 : Memref sig .tc .vmem S4x69x128 .f32) (harg1 : arg1.IsWhole) (arg2 : Memref sig .tc .smem S8x4 .f32) (harg2 : arg2.IsWhole)
    (arg3 : Memref sig .tc .smem S16x8x4 .f32) (harg3 : arg3.IsWhole) (arg4 : Memref sig .tc .smem S16x8x4 .f32) (harg4 : arg4.IsWhole)
    (arg5 : Memref sig .tc .smem S16x8x2 .f32) (harg5 : arg5.IsWhole)
    (x0 : Vec F S4x69x128 .f32) (x1 : Vec F S8x4 .f32) (x2 : Vec F S16x8x4 .f32) (x3 : Vec F S16x8x4 .f32) (x4 : Vec F S16x8x2 .f32) :
    kernelRun0_A.sl.r_3758 c arg1 harg1 arg2 harg2 arg3 harg3 arg4 harg4 arg5 harg5 x0 x1 x2 x3 x4
      = block (readP arg1 harg1 x0) (readQ arg2 harg2 x1) (readB arg3 harg3 x2) (readB arg4 harg4 x3) (readS arg5 harg5 x4) := by sl_kernel_rfl

end Cert.Proof.Pair

end
-- ==== Proof.PairBlock.lean ====
/- The matching call's blocks: what it loads are its arguments' entries, and what it writes back is its result's. -/
module

public import proofs.«01_k».proof.Proof.PairRead
public import proofs.«01_k».proof.Proof.PairRun
public import proofs.«01_k».proof.Proof.Gen.MatchIdeal.Value
public import Idealize.ShloMosaic.Lib.WholeRead

@[expose] public section

noncomputable section

namespace Cert.Proof.Pair

open Idealize.ShloMosaic hiding ix1 ix2 ix3
open Idealize.ShloMosaic.TcCoe Idealize.ShloMosaic.Tactic
open Cert.MatchIdeal Cert.MatchIdeal.Gen Cert.Proof.Mine
open ValueIdx (ix1 ix2 ix3)

section
variable {F : FTy → Type} [FloatOps F]

/-! ## What the body loads -/

theorem readP_at (m : Memref sig .tc .vmem S4x69x128 .f32) (h : m.IsWhole) (x : Vec F S4x69x128 .f32) (k : Fin 4) (r : Fin 69) (l : Fin 128) :
    readP m h x k (ix2 r l) = x (ix3 k r l) := by
  unfold readP
  rw [shapeCast_apply _ _ (ix2 r l) (ix3 (0 : Fin 1) r l) ((Shape.rowMajor_val_three _).trans ((Shape.rowMajor_val_two _).trans (by
    show r.val * 128 + l.val = (0 * 69 + r.val) * 128 + l.val
    omega)).symm)]
  rw [Memref.IsWhole.readAt_unread]
  refine congrArg x (funext fun a => ?_)
  match a with
  | ⟨0, _⟩ => exact Fin.ext (by show k.val + 1 * 0 = k.val; omega)
  | ⟨1, _⟩ => exact Fin.ext (by show 0 + 1 * r.val = r.val; omega)
  | ⟨2, _⟩ => exact Fin.ext (by show 0 + 1 * l.val = l.val; omega)

theorem readQ_at (m : Memref sig .tc .smem S8x4 .f32) (h : m.IsWhole) (x : Vec F S8x4 .f32) (p : Fin 8) (k : Fin 4) :
    readQ m h x p k = x (ix2 p k) := by
  unfold readQ
  rw [Memref.IsWhole.readAt_unread]
  refine congrArg x (funext fun a => ?_)
  match a with
  | ⟨0, _⟩ => exact Fin.ext (by show p.val + 1 * 0 = p.val; omega)
  | ⟨1, _⟩ => exact Fin.ext (by show k.val + 1 * 0 = k.val; omega)

theorem readB_at (m : Memref sig .tc .smem S16x8x4 .f32) (h : m.IsWhole) (x : Vec F S16x8x4 .f32) (g : Fin 16) (p : Fin 8) (k : Fin 4) :
    readB m h x g p k = x (ix3 g p k) := by
  unfold readB
  rw [Memref.IsWhole.readAt_unread]
  refine congrArg x (funext fun a => ?_)
  match a with
  | ⟨0, _⟩ => exact Fin.ext (by show g.val + 1 * 0 = g.val; omega)
  | ⟨1, _⟩ => exact Fin.ext (by show p.val + 1 * 0 = p.val; omega)
  | ⟨2, _⟩ => exact Fin.ext (by show k.val + 1 * 0 = k.val; omega)

theorem readS_at (m : Memref sig .tc .smem S16x8x2 .f32) (h : m.IsWhole) (x : Vec F S16x8x2 .f32) (g : Fin 16) (p : Fin 8) (k : Fin 2) :
    readS m h x g p k = x (ix3 g p k) := by
  unfold readS
  rw [Memref.IsWhole.readAt_unread]
  refine congrArg x (funext fun a => ?_)
  match a with
  | ⟨0, _⟩ => exact Fin.ext (by show g.val + 1 * 0 = g.val; omega)
  | ⟨1, _⟩ => exact Fin.ext (by show p.val + 1 * 0 = p.val; omega)
  | ⟨2, _⟩ => exact Fin.ext (by show k.val + 1 * 0 = k.val; omega)

/-! ## What the body leaves -/

theorem out_block (c : Dev nD) (i : grid0.Coords) (arg1 : Memref sig .tc .vmem S4x69x128 .f32) (harg1 : arg1.IsWhole) (arg2 : Memref sig .tc .smem S8x4 .f32) (harg2 : arg2.IsWhole)
    (arg3 : Memref sig .tc .smem S16x8x4 .f32) (harg3 : arg3.IsWhole) (arg4 : Memref sig .tc .smem S16x8x4 .f32) (harg4 : arg4.IsWhole)
    (arg5 : Memref sig .tc .smem S16x8x2 .f32) (harg5 : arg5.IsWhole) (arg6 : Memref sig .tc .vmem S16x128 .f32) (harg6 : arg6.IsWhole)
    (x0 : Vec F S4x69x128 .f32) (x1 : Vec F S8x4 .f32) (x2 : Vec F S16x8x4 .f32) (x3 : Vec F S16x8x4 .f32) (x4 : Vec F S16x8x2 .f32) :
    out0_A_5 c i arg1 harg1 arg2 harg2 arg3 harg3 arg4 harg4 arg5 harg5 arg6 harg6 x0 x1 x2 x3 x4
      = block (readP arg1 harg1 x0) (readQ arg2 harg2 x1) (readB arg3 harg3 x2) (readB arg4 harg4 x3) (readS arg5 harg5 x4) := by
  rw [← stored_block c]
  have hz : (![0, 0] : Fin 2 → ℕ) = fun _ => 0 := funext fun a => by fin_cases a <;> rfl
  unfold out0_A_5
  exact (View.read_writes_junk_eq_canon (View.whole cc0_stg5_0) _).trans (View.canon_unit_zero (Val := Elt F) hz _ _)

/-! ## The windows' blocks -/

variable (m : (ℓ : Loc nD τ sig) → Buf (Elt F) ℓ)

/-- The image of a block's row. -/
def imgOf (t : Fin cfg0.N) (g : Fin 16) : Fin 128 := ⟨16 * t.val + g.val, by have h : t.val < 8 := t.isLt; omega⟩

theorem win_at : ∀ t : Fin grid0.N, (∀ a, win0_0.index t a = 0) ∧ (∀ a, win0_1.index t a = 0)
    ∧ (win0_2.index t 0 = t.val ∧ win0_2.index t 1 = 0 ∧ win0_2.index t 2 = 0) ∧ (win0_3.index t 0 = t.val ∧ win0_3.index t 1 = 0 ∧ win0_3.index t 2 = 0)
    ∧ (win0_4.index t 0 = t.val ∧ win0_4.index t 1 = 0 ∧ win0_4.index t 2 = 0) ∧ (win0_5.index t 0 = t.val ∧ win0_5.index t 1 = 0) := by decide +kernel

theorem blk0 (c : Dev nD) (t : Fin cfg0.N) (k : Fin 4) (r : Fin 69) (l : Fin 128) :
    (iblk m c 0 t : S4x69x128.Idx → F .f32) (ix3 k r l) = V m c main_v5 (ix3 k r l) := by
  unfold iblk
  refine congrArg (V m c main_v5) (funext fun a => ?_)
  have h := (win_at t).1
  match a with
  | ⟨0, _⟩ => exact Fin.ext (by show win0_0.index t 0 * 4 + 1 * k.val = k.val; rw [h 0]; omega)
  | ⟨1, _⟩ => exact Fin.ext (by show win0_0.index t 1 * 69 + 1 * r.val = r.val; rw [h 1]; omega)
  | ⟨2, _⟩ => exact Fin.ext (by show win0_0.index t 2 * 128 + 1 * l.val = l.val; rw [h 2]; omega)

theorem blk1 (c : Dev nD) (t : Fin cfg0.N) (p : Fin 8) (k : Fin 4) :
    (iblk m c 1 t : S8x4.Idx → F .f32) (ix2 p k) = V m c main_v6 (ix2 p k) := by
  unfold iblk
  refine congrArg (V m c main_v6) (funext fun a => ?_)
  have h := (win_at t).2.1
  match a with
  | ⟨0, _⟩ => exact Fin.ext (by show win0_1.index t 0 * 8 + 1 * p.val = p.val; rw [h 0]; omega)
  | ⟨1, _⟩ => exact Fin.ext (by show win0_1.index t 1 * 4 + 1 * k.val = k.val; rw [h 1]; omega)

theorem blk2 (c : Dev nD) (t : Fin cfg0.N) (g : Fin 16) (p : Fin 8) (k : Fin 4) :
    (iblk m c 2 t : S16x8x4.Idx → F .f32) (ix3 g p k) = V m c main_arg2 (ix3 (imgOf t g) p k) := by
  unfold iblk
  refine congrArg (V m c main_arg2) (funext fun a => ?_)
  obtain ⟨h0, h1, h2⟩ := (win_at t).2.2.1
  match a with
  | ⟨0, _⟩ => exact Fin.ext (by show win0_2.index t 0 * 16 + 1 * g.val = 16 * t.val + g.val; rw [h0]; omega)
  | ⟨1, _⟩ => exact Fin.ext (by show win0_2.index t 1 * 8 + 1 * p.val = p.val; rw [h1]; omega)
  | ⟨2, _⟩ => exact Fin.ext (by show win0_2.index t 2 * 4 + 1 * k.val = k.val; rw [h2]; omega)

theorem blk3 (c : Dev nD) (t : Fin cfg0.N) (g : Fin 16) (p : Fin 8) (k : Fin 4) :
    (iblk m c 3 t : S16x8x4.Idx → F .f32) (ix3 g p k) = V m c main_v7 (ix3 (imgOf t g) p k) := by
  unfold iblk
  refine congrArg (V m c main_v7) (funext fun a => ?_)
  obtain ⟨h0, h1, h2⟩ := (win_at t).2.2.2.1
  match a with
  | ⟨0, _⟩ => exact Fin.ext (by show win0_3.index t 0 * 16 + 1 * g.val = 16 * t.val + g.val; rw [h0]; omega)
  | ⟨1, _⟩ => exact Fin.ext (by show win0_3.index t 1 * 8 + 1 * p.val = p.val; rw [h1]; omega)
  | ⟨2, _⟩ => exact Fin.ext (by show win0_3.index t 2 * 4 + 1 * k.val = k.val; rw [h2]; omega)

theorem blk4 (c : Dev nD) (t : Fin cfg0.N) (g : Fin 16) (p : Fin 8) (k : Fin 2) :
    (iblk m c 4 t : S16x8x2.Idx → F .f32) (ix3 g p k) = V m c main_v8 (ix3 (imgOf t g) p k) := by
  unfold iblk
  refine congrArg (V m c main_v8) (funext fun a => ?_)
  obtain ⟨h0, h1, h2⟩ := (win_at t).2.2.2.2.1
  match a with
  | ⟨0, _⟩ => exact Fin.ext (by show win0_4.index t 0 * 16 + 1 * g.val = 16 * t.val + g.val; rw [h0]; omega)
  | ⟨1, _⟩ => exact Fin.ext (by show win0_4.index t 1 * 8 + 1 * p.val = p.val; rw [h1]; omega)
  | ⟨2, _⟩ => exact Fin.ext (by show win0_4.index t 2 * 2 + 1 * k.val = k.val; rw [h2]; omega)

/-- The output's block, read off its array. -/
theorem blk5 (t : Fin cfg0.N) (X : S128x128.Idx → F .f32) (g : Fin 16) (l : Fin 128) :
    (((cfg0.win 5).blk t).view.read (Elt F) X : S16x128.Idx → F .f32) (ix2 g l) = X (ix2 (imgOf t g) l) := by
  refine congrArg X (funext fun a => ?_)
  obtain ⟨h0, h1⟩ := (win_at t).2.2.2.2.2
  match a with
  | ⟨0, _⟩ => exact Fin.ext (by show win0_5.index t 0 * 16 + 1 * g.val = 16 * t.val + g.val; rw [h0]; omega)
  | ⟨1, _⟩ => exact Fin.ext (by show win0_5.index t 1 * 128 + 1 * l.val = l.val; rw [h1]; omega)

theorem flush5 : ∀ t : Fin cfg0.N, (cfg0.win 5).flush t = true := by decide +kernel

/-- An entry of the result is that of its block. -/
theorem result_at (c : Dev nD) (t : Fin cfg0.N) (g : Fin 16) (l : Fin 128) :
    ((dats m 0 c).arrAt 5 cfg0.N : S128x128.Idx → F .f32) (ix2 (imgOf t g) l)
      = block (readP (ms0_0 t) (hs0_0 t) (iblk m c 0 t)) (readQ (ms0_1 t) (hs0_1 t) (iblk m c 1 t)) (readB (ms0_2 t) (hs0_2 t) (iblk m c 2 t))
          (readB (ms0_3 t) (hs0_3 t) (iblk m c 3 t)) (readS (ms0_4 t) (hs0_4 t) (iblk m c 4 t)) (ix2 g l) := by
  rw [← blk5 t ((dats m 0 c).arrAt 5 cfg0.N) g l, Cert.MatchIdeal.Value.blocks5 m c t (flush5 t), Cert.MatchIdeal.Value.flushed5_A m c t, out_block]
  rfl

/-! ## What the host hands over -/

/-- The priors, then a hundred more. -/
def morePriors (Q : S8732x4.Idx → F .f32) : S8832x4.Idx → F .f32 :=
  concatenate S8832x4 0 [⟨S8732x4, Q⟩, ⟨S100x4, shapeCast S100x4 (broadcastInDim S100x1x1x4 ![0, 1, 2, 3] bcast_S1x1x1x4_S100x1x1x4_0_1_2_3
    (shapeCast S1x1x1x4 (fun i => FloatOps.ofBits .f32 (lit0 (S1x4.rowMajor i)) : S1x4.Idx → F .f32) shapeCasts_S1x4_S1x1x1x4)) shapeCasts_S100x1x1x4_S100x4⟩]
    concatenates_S8732x4_S100x4_S8832x4_d0

theorem V_v5 (c : Dev nD) : V m c main_v5 = shapeCast S4x69x128 (transpose S4x8832 [1, 0] (morePriors (m ((c : Thread nD τ).loc main_arg3))) transposes_S8832x4_S4x8832_1_0)
    shapeCasts_S4x8832_S4x69x128 := by sl_kernel_rfl
theorem V_v6 (c : Dev nD) : V m c main_v6 = extractStridedSlice S8x4 ![0, 0] (m ((c : Thread nD τ).loc main_arg3)) slices_S8732x4_S8x4_0_0 := by sl_kernel_rfl
theorem V_v7 (c : Dev nD) : V m c main_v7 = extractStridedSlice S128x8x4 ![0, 0, 0] (m ((c : Thread nD τ).loc main_arg0)) slices_S128x8732x4_S128x8x4_0_0_0 := by sl_kernel_rfl
theorem V_v8 (c : Dev nD) : V m c main_v8 = extractStridedSlice S128x8x2 ![0, 0, 0] (m ((c : Thread nD τ).loc main_arg1)) slices_S128x8732x2_S128x8x2_0_0_0 := by sl_kernel_rfl

theorem morePriors_at (Q : S8732x4.Idx → F .f32) (n : Fin 8732) (k : Fin 4) : morePriors Q (ix2 (⟨n.val, by omega⟩ : Fin 8832) k) = Q (ix2 n k) := by
  unfold morePriors
  refine concatenate_apply_piece _ _ _ (ix2 (⟨n.val, by omega⟩ : Fin 8832) k) 0 (by show 0 < 2; omega) S8732x4 Q rfl rfl 0 rfl (ix2 n k) ?_ (by show 0 + n.val = n.val; omega)
  intro b hb
  match b, hb with
  | ⟨0, _⟩, hb => exact absurd rfl hb
  | ⟨1, _⟩, _ => rfl

/-- The prior of a place, as the call is given it. -/
theorem V_v5_at (c : Dev nD) (n : Fin 8732) (k : Fin 4) :
    V m c main_v5 (ix3 k (⟨n.val / 128, by omega⟩ : Fin 69) (⟨n.val % 128, by omega⟩ : Fin 128)) = m ((c : Thread nD τ).loc main_arg3) (ix2 n k) := by
  rw [V_v5, shapeCast_apply _ _ (ix3 k (⟨n.val / 128, by omega⟩ : Fin 69) (⟨n.val % 128, by omega⟩ : Fin 128)) (ix2 k (⟨n.val, by omega⟩ : Fin 8832))
    ((Shape.rowMajor_val_two _).trans ((Shape.rowMajor_val_three _).trans (by
      show (k.val * 69 + n.val / 128) * 128 + n.val % 128 = k.val * 8832 + n.val
      omega)).symm)]
  rw [transpose_apply [1, 0] _ _ (ix2 k (⟨n.val, by omega⟩ : Fin 8832)) (ix2 (⟨n.val, by omega⟩ : Fin 8832) k) fun b => by
    match b with
    | ⟨0, _⟩ => rfl
    | ⟨1, _⟩ => rfl]
  exact morePriors_at _ n k

theorem V_v6_at (c : Dev nD) (p : Fin 8) (k : Fin 4) : V m c main_v6 (ix2 p k) = m ((c : Thread nD τ).loc main_arg3) (ix2 (prior p) k) := by
  rw [V_v6]
  exact extractStridedSlice_apply _ _ _ _ _ fun a => by
    match a with
    | ⟨0, _⟩ => show p.val = 0 + p.val; omega
    | ⟨1, _⟩ => show k.val = 0 + k.val; omega

theorem V_v7_at (c : Dev nD) (b : Fin 128) (p : Fin 8) (k : Fin 4) :
    V m c main_v7 (ix3 b p k) = m ((c : Thread nD τ).loc main_arg0) (ix3 b (p.castLE (by decide) : Fin 8732) k) := by
  rw [V_v7]
  exact extractStridedSlice_apply _ _ _ _ _ fun a => by
    match a with
    | ⟨0, _⟩ => show b.val = 0 + b.val; omega
    | ⟨1, _⟩ => show p.val = 0 + p.val; omega
    | ⟨2, _⟩ => show k.val = 0 + k.val; omega

theorem V_v8_at (c : Dev nD) (b : Fin 128) (p : Fin 8) (k : Fin 2) :
    V m c main_v8 (ix3 b p k) = m ((c : Thread nD τ).loc main_arg1) (ix3 b (p.castLE (by decide) : Fin 8732) k) := by
  rw [V_v8]
  exact extractStridedSlice_apply _ _ _ _ _ fun a => by
    match a with
    | ⟨0, _⟩ => show b.val = 0 + b.val; omega
    | ⟨1, _⟩ => show p.val = 0 + p.val; omega
    | ⟨2, _⟩ => show k.val = 0 + k.val; omega

end

end Cert.Proof.Pair

end
-- ==== Proof.PairRefer.lean ====
/- The matching's reference over the extended reals: its entries are the images' statistics too. -/
module

public import proofs.«01_k».proof.Proof.PairTools
public import proofs.«01_k».proof.Proof.Refer
public import proofs.«01_k».proof.Proof.Gen.MatchReferenceIdeal

@[expose] public section

noncomputable section

namespace Cert.Proof.Pair

open Idealize.ShloMosaic hiding ix1 ix2 ix3
open Cert.MatchReferenceIdeal Cert.MatchReferenceIdeal.Gen Cert.Proof.Mine
open ValueIdx (ix1 ix2 ix3)

/-! ## Arrays spread over images, objects and priors -/

def upB (x : S128x8x1.Idx → EReal) : S128x8x8732.Idx → EReal := broadcastInDim S128x8x8732 ![0, 1, 2] bcast_S128x8x1_S128x8x8732_0_1_2 x
def upP (x : S1x1x8732.Idx → EReal) : S128x8x8732.Idx → EReal := broadcastInDim S128x8x8732 ![0, 1, 2] bcast_S1x1x8732_S128x8x8732_0_1_2 x
def upO (x : S1x8x1.Idx → EReal) : S128x8x8732.Idx → EReal := broadcastInDim S128x8x8732 ![0, 1, 2] bcast_S1x8x1_S128x8x8732_0_1_2 x
def asB (x : S128x8.Idx → EReal) : S128x8x1.Idx → EReal := broadcastInDim S128x8x1 ![0, 1] bcast_S128x8_S128x8x1_0_1 x
def asP (x : S8732.Idx → EReal) : S1x1x8732.Idx → EReal := broadcastInDim S1x1x8732 ![2] bcast_S8732_S1x1x8732_2 x
def asO (x : S8.Idx → EReal) : S1x8x1.Idx → EReal := broadcastInDim S1x8x1 ![1] bcast_S8_S1x8x1_1 x
def upI (x : S128x8732.Idx → EReal) : S128x8x8732.Idx → EReal :=
  broadcastInDim S128x8x8732 ![0, 1, 2] bcast_S128x1x8732_S128x8x8732_0_1_2 (broadcastInDim S128x1x8732 ![0, 2] bcast_S128x8732_S128x1x8732_0_2 x)
def fill3 (w : BitVec 32) : S128x8x8732.Idx → EReal := broadcastInDim S128x8x8732 ![] bcast_S_S128x8x8732 (constant (F := Ideal) S_ .f32 w)
def fill2 (w : BitVec 32) : S128x8732.Idx → EReal := broadcastInDim S128x8732 ![] bcast_S_S128x8732 (constant (F := Ideal) S_ .f32 w)

theorem upB_at (x : S128x8x1.Idx → EReal) (b : Fin 128) (j : Fin 8) (n : Fin 8732) : upB x (ix3 b j n) = x (ix3 b j (0 : Fin 1)) := by
  unfold upB
  exact broadcastInDim_apply ![0, 1, 2] _ _ (ix3 b j n) (ix3 b j (0 : Fin 1)) fun a => by
    match a with
    | ⟨0, _⟩ => rfl
    | ⟨1, _⟩ => rfl
    | ⟨2, _⟩ => rfl
theorem upP_at (x : S1x1x8732.Idx → EReal) (b : Fin 128) (j : Fin 8) (n : Fin 8732) : upP x (ix3 b j n) = x (ix3 (0 : Fin 1) (0 : Fin 1) n) := by
  unfold upP
  exact broadcastInDim_apply ![0, 1, 2] _ _ (ix3 b j n) (ix3 (0 : Fin 1) (0 : Fin 1) n) fun a => by
    match a with
    | ⟨0, _⟩ => rfl
    | ⟨1, _⟩ => rfl
    | ⟨2, _⟩ => rfl
theorem upO_at (x : S1x8x1.Idx → EReal) (b : Fin 128) (j : Fin 8) (n : Fin 8732) : upO x (ix3 b j n) = x (ix3 (0 : Fin 1) j (0 : Fin 1)) := by
  unfold upO
  exact broadcastInDim_apply ![0, 1, 2] _ _ (ix3 b j n) (ix3 (0 : Fin 1) j (0 : Fin 1)) fun a => by
    match a with
    | ⟨0, _⟩ => rfl
    | ⟨1, _⟩ => rfl
    | ⟨2, _⟩ => rfl
theorem asB_at (x : S128x8.Idx → EReal) (b : Fin 128) (j : Fin 8) : asB x (ix3 b j (0 : Fin 1)) = x (ix2 b j) := by
  unfold asB
  exact broadcastInDim_apply ![0, 1] _ _ (ix3 b j (0 : Fin 1)) (ix2 b j) fun a => by
    match a with
    | ⟨0, _⟩ => rfl
    | ⟨1, _⟩ => rfl
theorem asP_at (x : S8732.Idx → EReal) (n : Fin 8732) : asP x (ix3 (0 : Fin 1) (0 : Fin 1) n) = x (ix1 n) := by
  unfold asP
  exact broadcastInDim_apply ![2] _ _ (ix3 (0 : Fin 1) (0 : Fin 1) n) (ix1 n) fun a => by
    match a with
    | ⟨0, _⟩ => rfl
theorem asO_at (x : S8.Idx → EReal) (j : Fin 8) : asO x (ix3 (0 : Fin 1) j (0 : Fin 1)) = x (ix1 j) := by
  unfold asO
  exact broadcastInDim_apply ![1] _ _ (ix3 (0 : Fin 1) j (0 : Fin 1)) (ix1 j) fun a => by
    match a with
    | ⟨0, _⟩ => rfl
theorem upI_at (x : S128x8732.Idx → EReal) (b : Fin 128) (j : Fin 8) (n : Fin 8732) : upI x (ix3 b j n) = x (ix2 b n) := by
  unfold upI
  rw [broadcastInDim_apply ![0, 1, 2] _ _ (ix3 b j n) (ix3 b (0 : Fin 1) n), broadcastInDim_apply ![0, 2] _ _ (ix3 b (0 : Fin 1) n) (ix2 b n)]
  · intro a
    match a with
    | ⟨0, _⟩ => rfl
    | ⟨1, _⟩ => rfl
  · intro a
    match a with
    | ⟨0, _⟩ => rfl
    | ⟨1, _⟩ => rfl
    | ⟨2, _⟩ => rfl
theorem fill3_at (w : BitVec 32) (i : S128x8x8732.Idx) : fill3 w i = Ideal.ofBits .f32 w := rfl
theorem fill2_at (w : BitVec 32) (i : S128x8732.Idx) : fill2 w i = Ideal.ofBits .f32 w := rfl

/-! ## The overlaps -/

theorem slB : ∀ k : Fin 4, S128x8x4.Slices ![0, 0, k.val] S128x8x1 := by decide
theorem slP : ∀ k : Fin 4, S8732x4.Slices ![0, k.val] S8732x1 := by decide

/-- The boxes' and the priors' coordinates. -/
def boxCol (B : S128x8x4.Idx → EReal) (k : Fin 4) : S128x8.Idx → EReal :=
  shapeCast S128x8 (extractStridedSlice S128x8x1 ![0, 0, k.val] B (slB k)) shapeCasts_S128x8x1_S128x8
def priCol (Q : S8732x4.Idx → EReal) (k : Fin 4) : S8732.Idx → EReal :=
  shapeCast S8732 (extractStridedSlice S8732x1 ![0, k.val] Q (slP k)) shapeCasts_S8732x1_S8732

theorem boxCol_at (B : S128x8x4.Idx → EReal) (k : Fin 4) (b : Fin 128) (j : Fin 8) : boxCol B k (ix2 b j) = B (ix3 b j k) := by
  unfold boxCol
  rw [shapeCast_apply _ _ (ix2 b j) (ix3 b j (0 : Fin 1)) (by
    rw [Shape.rowMajor_val_two, Shape.rowMajor_val_three]
    show (b.val * 8 + j.val) * 1 + 0 = b.val * 8 + j.val
    omega)]
  exact extractStridedSlice_apply _ _ _ (ix3 b j (0 : Fin 1)) (ix3 b j k) fun a => by
    match a with
    | ⟨0, _⟩ => exact (Nat.zero_add _).symm
    | ⟨1, _⟩ => exact (Nat.zero_add _).symm
    | ⟨2, _⟩ => rfl
theorem priCol_at (Q : S8732x4.Idx → EReal) (k : Fin 4) (n : Fin 8732) : priCol Q k (ix1 n) = Q (ix2 n k) := by
  unfold priCol
  rw [shapeCast_apply _ _ (ix1 n) (ix2 n (0 : Fin 1)) (by
    rw [rowMajor_val1, rowMajor_val2 _ 1 rfl]
    show n.val * 1 + 0 = n.val
    omega)]
  exact extractStridedSlice_apply _ _ _ (ix2 n (0 : Fin 1)) (ix2 n k) fun a => by
    match a with
    | ⟨0, _⟩ => exact (Nat.zero_add _).symm
    | ⟨1, _⟩ => rfl

def boxHalf (B : S128x8x4.Idx → EReal) (k : Fin 4) : S128x8.Idx → EReal :=
  Host.divf (F := Ideal) (φ := .f32) (boxCol B k) (broadcastInDim S128x8 ![] bcast_S_S128x8 (constant (F := Ideal) S_ .f32 0x40000000#32))
def priHalf (Q : S8732x4.Idx → EReal) (k : Fin 4) : S8732.Idx → EReal :=
  Host.divf (F := Ideal) (φ := .f32) (priCol Q k) (broadcastInDim S8732 ![] bcast_S_S8732 (constant (F := Ideal) S_ .f32 0x40000000#32))
def boxLo (B : S128x8x4.Idx → EReal) (k k' : Fin 4) : S128x8x1.Idx → EReal := asB (subf (F := Ideal) (φ := .f32) (boxCol B k) (boxHalf B k'))
def boxHi (B : S128x8x4.Idx → EReal) (k k' : Fin 4) : S128x8x1.Idx → EReal := asB (addf (F := Ideal) (φ := .f32) (boxCol B k) (boxHalf B k'))
def priLo (Q : S8732x4.Idx → EReal) (k k' : Fin 4) : S1x1x8732.Idx → EReal := asP (subf (F := Ideal) (φ := .f32) (priCol Q k) (priHalf Q k'))
def priHi (Q : S8732x4.Idx → EReal) (k k' : Fin 4) : S1x1x8732.Idx → EReal := asP (addf (F := Ideal) (φ := .f32) (priCol Q k) (priHalf Q k'))

theorem half_of (x : EReal) : Ideal.div x (Ideal.ofBits .f32 0x40000000#32) = x * ((1 / 2 : ℝ) : EReal) := by
  rw [f_two, div_real _ _ (by norm_num), one_div]
theorem boxLo_at (B : S128x8x4.Idx → EReal) (k k' : Fin 4) (b : Fin 128) (j : Fin 8) :
    boxLo B k k' (ix3 b j (0 : Fin 1)) = B (ix3 b j k) - B (ix3 b j k') * ((1 / 2 : ℝ) : EReal) := by
  unfold boxLo
  rw [asB_at, ← half_of, ← boxCol_at B k b j, ← boxCol_at B k' b j]
  rfl
theorem boxHi_at (B : S128x8x4.Idx → EReal) (k k' : Fin 4) (b : Fin 128) (j : Fin 8) :
    boxHi B k k' (ix3 b j (0 : Fin 1)) = B (ix3 b j k) + B (ix3 b j k') * ((1 / 2 : ℝ) : EReal) := by
  unfold boxHi
  rw [asB_at, ← half_of, ← boxCol_at B k b j, ← boxCol_at B k' b j]
  rfl
theorem priLo_at (Q : S8732x4.Idx → EReal) (k k' : Fin 4) (n : Fin 8732) :
    priLo Q k k' (ix3 (0 : Fin 1) (0 : Fin 1) n) = Q (ix2 n k) - Q (ix2 n k') * ((1 / 2 : ℝ) : EReal) := by
  unfold priLo
  rw [asP_at, ← half_of, ← priCol_at Q k n, ← priCol_at Q k' n]
  rfl
theorem priHi_at (Q : S8732x4.Idx → EReal) (k k' : Fin 4) (n : Fin 8732) :
    priHi Q k k' (ix3 (0 : Fin 1) (0 : Fin 1) n) = Q (ix2 n k) + Q (ix2 n k') * ((1 / 2 : ℝ) : EReal) := by
  unfold priHi
  rw [asP_at, ← half_of, ← priCol_at Q k n, ← priCol_at Q k' n]
  rfl

/-- How far boxes and priors overlap along one direction. -/
def alongR (B : S128x8x4.Idx → EReal) (Q : S8732x4.Idx → EReal) (k k' : Fin 4) : S128x8x8732.Idx → EReal :=
  maximumf (F := Ideal) (φ := .f32) (subf (F := Ideal) (φ := .f32) (minimumf (F := Ideal) (φ := .f32) (upB (boxHi B k k')) (upP (priHi Q k k')))
    (maximumf (F := Ideal) (φ := .f32) (upB (boxLo B k k')) (upP (priLo Q k k')))) (fill3 0x00000000#32)
def interR (B : S128x8x4.Idx → EReal) (Q : S8732x4.Idx → EReal) : S128x8x8732.Idx → EReal := mulf (F := Ideal) (φ := .f32) (alongR B Q 0 2) (alongR B Q 1 3)
def ovR (B : S128x8x4.Idx → EReal) (Q : S8732x4.Idx → EReal) : S128x8x8732.Idx → EReal :=
  Host.divf (F := Ideal) (φ := .f32) (interR B Q) (subf (F := Ideal) (φ := .f32) (addf (F := Ideal) (φ := .f32)
    (upB (mulf (F := Ideal) (φ := .f32) (subf (F := Ideal) (φ := .f32) (boxHi B 0 2) (boxLo B 0 2)) (subf (F := Ideal) (φ := .f32) (boxHi B 1 3) (boxLo B 1 3))))
    (upP (mulf (F := Ideal) (φ := .f32) (subf (F := Ideal) (φ := .f32) (priHi Q 0 2) (priLo Q 0 2)) (subf (F := Ideal) (φ := .f32) (priHi Q 1 3) (priLo Q 1 3))))) (interR B Q))

theorem alongR_at (B : S128x8x4.Idx → EReal) (Q : S8732x4.Idx → EReal) (k k' : Fin 4) (b : Fin 128) (j : Fin 8) (n : Fin 8732) :
    alongR B Q k k' (ix3 b j n)
      = max (min (Q (ix2 n k) + Q (ix2 n k') * ((1 / 2 : ℝ) : EReal)) (B (ix3 b j k) + B (ix3 b j k') * ((1 / 2 : ℝ) : EReal))
        - max (Q (ix2 n k) - Q (ix2 n k') * ((1 / 2 : ℝ) : EReal)) (B (ix3 b j k) - B (ix3 b j k') * ((1 / 2 : ℝ) : EReal))) 0 := by
  show max (min (upB (boxHi B k k') (ix3 b j n)) (upP (priHi Q k k') (ix3 b j n)) - max (upB (boxLo B k k') (ix3 b j n)) (upP (priLo Q k k') (ix3 b j n))) (Ideal.ofBits .f32 0x00000000#32) = _
  rw [upB_at, upB_at, upP_at, upP_at, boxHi_at, boxLo_at, priHi_at, priLo_at, f_zero, min_comm, max_comm (B (ix3 b j k) - _)]
theorem interR_at (B : S128x8x4.Idx → EReal) (Q : S8732x4.Idx → EReal) (b : Fin 128) (j : Fin 8) (n : Fin 8732) :
    interR B Q (ix3 b j n) = interE (fun k => Q (ix2 n k)) (fun k => B (ix3 b j k)) := by
  show alongR B Q 0 2 (ix3 b j n) * alongR B Q 1 3 (ix3 b j n) = _
  rw [alongR_at, alongR_at]
  rfl
theorem ovR_at (B : S128x8x4.Idx → EReal) (Q : S8732x4.Idx → EReal) (b : Fin 128) (j : Fin 8) (n : Fin 8732) :
    ovR B Q (ix3 b j n) = ovE (fun k => Q (ix2 n k)) (fun k => B (ix3 b j k)) := by
  show Ideal.div (interR B Q (ix3 b j n)) (upB _ (ix3 b j n) + upP _ (ix3 b j n) - interR B Q (ix3 b j n)) = _
  rw [upB_at, upP_at, interR_at]
  show Ideal.div _ ((boxHi B 0 2 (ix3 b j (0 : Fin 1)) - boxLo B 0 2 (ix3 b j (0 : Fin 1))) * (boxHi B 1 3 (ix3 b j (0 : Fin 1)) - boxLo B 1 3 (ix3 b j (0 : Fin 1)))
    + (priHi Q 0 2 (ix3 (0 : Fin 1) (0 : Fin 1) n) - priLo Q 0 2 (ix3 (0 : Fin 1) (0 : Fin 1) n)) * (priHi Q 1 3 (ix3 (0 : Fin 1) (0 : Fin 1) n) - priLo Q 1 3 (ix3 (0 : Fin 1) (0 : Fin 1) n)) - _) = _
  rw [boxHi_at, boxHi_at, boxLo_at, boxLo_at, priHi_at, priHi_at, priLo_at, priLo_at, add_comm (_ * _)]
  rfl

/-! ## The greatest and the least over the priors, and over the objects -/

theorem red2 : S128x8x8732.Reduces [2] S128x8 := by decide
theorem red1 : S128x8x8732.Reduces [1] S128x8732 := by decide
theorem lift2 (b : Fin 128) (j : Fin 8) (n : Fin 8732) : red2.lift (ix2 b j) n = ix3 b j n := funext fun a => by
  match a with
  | ⟨0, _⟩ => rfl
  | ⟨1, _⟩ => rfl
  | ⟨2, _⟩ => rfl
theorem liftJ (b : Fin 128) (n : Fin 8732) (j : Fin 8) : red1.lift (ix2 b n) j = ix3 b j n := funext fun a => by
  match a with
  | ⟨0, _⟩ => rfl
  | ⟨1, _⟩ => rfl
  | ⟨2, _⟩ => rfl

def topN (x : S128x8x8732.Idx → EReal) : S128x8.Idx → EReal :=
  Host.reduce (FloatOps.maximumf (F := Ideal) (φ := .f32)) x (constant (F := Ideal) S_ .f32 0xFF800000#32) reducesTo_S128x8x8732_S128x8_d2 h_S_
def lowN (x : S128x8x8732.Idx → EReal) : S128x8.Idx → EReal :=
  Host.reduce (FloatOps.minimumf (F := Ideal) (φ := .f32)) x (constant (F := Ideal) S_ .f32 0x7F800000#32) reducesTo_S128x8x8732_S128x8_d2 h_S_
def topJ (x : S128x8x8732.Idx → EReal) : S128x8732.Idx → EReal :=
  Host.reduce (FloatOps.maximumf (F := Ideal) (φ := .f32)) x (constant (F := Ideal) S_ .f32 0xFF800000#32) reducesTo_S128x8x8732_S128x8732_d1 h_S_
def lowJ (x : S128x8x8732.Idx → EReal) : S128x8732.Idx → EReal :=
  Host.reduce (FloatOps.minimumf (F := Ideal) (φ := .f32)) x (constant (F := Ideal) S_ .f32 0x7F800000#32) reducesTo_S128x8x8732_S128x8732_d1 h_S_

theorem fold_top {N : ℕ} (f : Fin N → EReal) (y : EReal) : (Finset.univ : Finset (Fin N)).fold max (Ideal.ofBits .f32 0xFF800000#32) f ≤ y ↔ ∀ n, f n ≤ y := by
  rw [Finset.fold_max_le, f_bot]
  exact ⟨fun h n => h.2 n (Finset.mem_univ _), fun h => ⟨bot_le, fun n _ => h n⟩⟩
theorem fold_low {N : ℕ} (f : Fin N → EReal) (y : EReal) : y ≤ (Finset.univ : Finset (Fin N)).fold min (Ideal.ofBits .f32 0x7F800000#32) f ↔ ∀ n, y ≤ f n := by
  rw [Finset.le_fold_min, f_top]
  exact ⟨fun h n => h.2 n (Finset.mem_univ _), fun h => ⟨le_top, fun n _ => h n⟩⟩

theorem topN_le (x : S128x8x8732.Idx → EReal) (b : Fin 128) (j : Fin 8) (y : EReal) : topN x (ix2 b j) ≤ y ↔ ∀ n, x (ix3 b j n) ≤ y := by
  unfold topN
  rw [Host.reduce_eq_fold_single _ x _ _ red2]
  refine (fold_top (fun n : Fin 8732 => x (red2.lift (ix2 b j) n)) y).trans (forall_congr' fun n => ?_)
  rw [lift2]
theorem le_lowN (x : S128x8x8732.Idx → EReal) (b : Fin 128) (j : Fin 8) (y : EReal) : y ≤ lowN x (ix2 b j) ↔ ∀ n, y ≤ x (ix3 b j n) := by
  unfold lowN
  rw [Host.reduce_eq_fold_single _ x _ _ red2]
  refine (fold_low (fun n : Fin 8732 => x (red2.lift (ix2 b j) n)) y).trans (forall_congr' fun n => ?_)
  rw [lift2]
theorem topJ_le (x : S128x8x8732.Idx → EReal) (b : Fin 128) (n : Fin 8732) (y : EReal) : topJ x (ix2 b n) ≤ y ↔ ∀ j, x (ix3 b j n) ≤ y := by
  unfold topJ
  rw [Host.reduce_eq_fold_single _ x _ _ red1]
  refine (fold_top (fun j : Fin 8 => x (red1.lift (ix2 b n) j)) y).trans (forall_congr' fun j => ?_)
  rw [liftJ]
theorem le_lowJ (x : S128x8x8732.Idx → EReal) (b : Fin 128) (n : Fin 8732) (y : EReal) : y ≤ lowJ x (ix2 b n) ↔ ∀ j, y ≤ x (ix3 b j n) := by
  unfold lowJ
  rw [Host.reduce_eq_fold_single _ x _ _ red1]
  refine (fold_low (fun j : Fin 8 => x (red1.lift (ix2 b n) j)) y).trans (forall_congr' fun j => ?_)
  rw [liftJ]

/-! ## The matching -/

section matching
variable (ov : S128x8x8732.Idx → EReal)

/-- The objects' and the priors' numbers. -/
def numO : S1x8x1.Idx → EReal := asO (sitofp (F := Ideal) .f32 (iotaInDim S8 32 0))
def numP : S1x1x8732.Idx → EReal := asP (sitofp (F := Ideal) .f32 (iotaInDim S8732 32 0))

theorem numO_at (b : Fin 128) (j : Fin 8) (n : Fin 8732) : upO numO (ix3 b j n) = ((j.val : ℝ) : EReal) := by
  rw [upO_at]
  unfold numO
  rw [asO_at]
  exact sitofp_ofNat (n := j.val) (by have := j.isLt; omega)
theorem numP_at (b : Fin 128) (j : Fin 8) (n : Fin 8732) : upP numP (ix3 b j n) = ((n.val : ℝ) : EReal) := by
  rw [upP_at]
  unfold numP
  rw [asP_at]
  exact sitofp_ofNat (n := n.val) (by have := n.isLt; omega)

theorem sel_at {s : Shape} (c : s.Idx → BitVec 1) (x y : s.Idx → EReal) (i : s.Idx) : select c x y i = if c i = 1#1 then x i else y i := rfl
theorem oeq_at {s : Shape} (x y : s.Idx → EReal) (i : s.Idx) : cmpf (F := Ideal) (φ := .f32) .oeq x y i = 1#1 ↔ x i = y i := cmp_oeq _ _
theorem oge_at {s : Shape} (x y : s.Idx → EReal) (i : s.Idx) : cmpf (F := Ideal) (φ := .f32) .oge x y i = 1#1 ↔ y i ≤ x i := cmp_oge _ _
theorem less_at {s : Shape} (x y : s.Idx → EReal) (i : s.Idx) : cmpf (F := Ideal) (φ := .f32) .olt x y i = 1#1 ↔ x i < y i := cmp_olt _ _

/-- Each object's first prior of its greatest overlap. -/
def givenR : S128x8.Idx → EReal := lowN (select (cmpf (F := Ideal) (φ := .f32) .oeq ov (upB (asB (topN ov)))) (upP numP) (fill3 0x46087000#32))
/-- The last object a prior is given to, −1 where there is none. -/
def lastR : S128x8732.Idx → EReal := topJ (select (cmpf (F := Ideal) (φ := .f32) .oeq (upB (asB (givenR ov))) (upP numP)) (upO numO) (fill3 0xBF800000#32))
/-- Each prior's first object of its greatest overlap. -/
def bestR : S128x8732.Idx → EReal := lowJ (select (cmpf (F := Ideal) (φ := .f32) .oeq ov (upI (topJ ov))) (upO numO) (fill3 0x41000000#32))
/-- Whether a prior's object is the one. -/
def chosenR : S128x8x8732.Idx → BitVec 1 :=
  cmpf (F := Ideal) (φ := .f32) .oeq (upI (select (cmpf (F := Ideal) (φ := .f32) .oge (lastR ov) (fill2 0x00000000#32)) (lastR ov) (bestR ov))) (upO numO)
/-- Whether an object has a prior. -/
def thereR : S128x8.Idx → EReal := topN (select (chosenR ov) (fill3 0x3F800000#32) (fill3 0x00000000#32))
/-- The positive ones, as ones among zeros. -/
def posM : S128x8732.Idx → EReal :=
  select (cmpf (F := Ideal) (φ := .f32) .olt (select (cmpf (F := Ideal) (φ := .f32) .oge (lastR ov) (fill2 0x00000000#32)) (fill2 0x3F800000#32) (topJ ov)) (fill2 0x3F000000#32)) (fill2 0x00000000#32)
    (pad S128x8732 ![0, 0] ![0, 8724] ![0, 0] (thereR ov) (sitofp (F := Ideal) .f32 (constantI S_ 32 0#32)) pads_S128x8_S128x8732_000_087240 h_S_)

/-- The overlaps of an image. -/
def imgOv (ov : S128x8x8732.Idx → EReal) (b : Fin 128) : Fin 8 → Fin 8732 → EReal := fun j n => ov (ix3 b j n)

theorem topN_ov (b : Fin 128) (j : Fin 8) : topN ov (ix2 b j) = imgOv ov b j (first (imgOv ov b j)) :=
  eq_greatest (fun n => ov (ix3 b j n)) _ _ (topN_le ov b j) (first (imgOv ov b j)) rfl fun n => le_first (imgOv ov b j) n
theorem topJ_ov (b : Fin 128) (n : Fin 8732) : topJ ov (ix2 b n) = imgOv ov b (first fun j => imgOv ov b j n) n :=
  eq_greatest (fun j => ov (ix3 b j n)) _ _ (topJ_le ov b n) (first fun j => imgOv ov b j n) rfl fun j => le_first (fun j => imgOv ov b j n) j

theorem givenR_at (b : Fin 128) (j : Fin 8) : givenR ov (ix2 b j) = (((first (imgOv ov b j)).val : ℝ) : EReal) := by
  have e : ∀ n, select (cmpf (F := Ideal) (φ := .f32) .oeq ov (upB (asB (topN ov)))) (upP numP) (fill3 0x46087000#32) (ix3 b j n)
      = if imgOv ov b j n = imgOv ov b j (first (imgOv ov b j)) then ((n.val : ℝ) : EReal) else ((8732 : ℝ) : EReal) := by
    intro n
    rw [sel_at, numP_at, fill3_at, f_8732]
    refine if_congr ?_ rfl rfl
    rw [oeq_at, upB_at, asB_at, topN_ov]
    exact Iff.rfl
  refine eq_least _ _ _ (le_lowN _ b j) (first (imgOv ov b j)) ((e _).trans (if_pos rfl)) fun n => ?_
  rw [e]
  split_ifs with h
  · rw [nat_le]
    exact first_le _ n h
  · rw [show ((8732 : ℝ)) = ((8732 : ℕ) : ℝ) by norm_num, nat_le]
    have := (first (imgOv ov b j)).isLt
    omega

open Classical in
theorem lastR_at (b : Fin 128) (n : Fin 8732) : lastR ov (ix2 b n) = if isGiven (imgOv ov b) n then (((objOf (imgOv ov b) n).val : ℝ) : EReal) else ((-1 : ℝ) : EReal) := by
  have e : ∀ j, select (cmpf (F := Ideal) (φ := .f32) .oeq (upB (asB (givenR ov))) (upP numP)) (upO numO) (fill3 0xBF800000#32) (ix3 b j n)
      = if first (imgOv ov b j) = n then ((j.val : ℝ) : EReal) else ((-1 : ℝ) : EReal) := by
    intro j
    rw [sel_at, numO_at, fill3_at, f_minus]
    refine if_congr ?_ rfl rfl
    rw [oeq_at, upB_at, asB_at, givenR_at, numP_at, nat_eq]
    exact ⟨fun h => Fin.ext h, fun h => congrArg Fin.val h⟩
  have hm : ∀ j : Fin 8, ((-1 : ℝ) : EReal) ≤ ((j.val : ℝ) : EReal) := fun j => by
    rw [EReal.coe_le_coe_iff]
    have : (0 : ℝ) ≤ (j.val : ℝ) := Nat.cast_nonneg _
    linarith
  by_cases h : isGiven (imgOv ov b) n
  · rw [if_pos h]
    have ho := objOf_given _ n h
    refine eq_greatest _ _ _ (topJ_le _ b n) (objOf (imgOv ov b) n) ((e _).trans (if_pos ho.1)) fun j => ?_
    rw [e]
    split_ifs with hj
    · rw [nat_le]
      exact ho.2 j hj
    · exact hm _
  · rw [if_neg h]
    exact eq_greatest _ _ _ (topJ_le _ b n) 0 ((e _).trans (if_neg fun q => h ⟨0, q⟩)) fun j => le_of_eq ((e j).trans (if_neg fun q => h ⟨j, q⟩))

theorem bestR_at (b : Fin 128) (n : Fin 8732) : bestR ov (ix2 b n) = (((first fun j => imgOv ov b j n).val : ℝ) : EReal) := by
  have e : ∀ j, select (cmpf (F := Ideal) (φ := .f32) .oeq ov (upI (topJ ov))) (upO numO) (fill3 0x41000000#32) (ix3 b j n)
      = if imgOv ov b j n = imgOv ov b (first fun j => imgOv ov b j n) n then ((j.val : ℝ) : EReal) else ((8 : ℝ) : EReal) := by
    intro j
    rw [sel_at, numO_at, fill3_at, f_eight]
    refine if_congr ?_ rfl rfl
    rw [oeq_at, upI_at, topJ_ov]
    exact Iff.rfl
  refine eq_least _ _ _ (le_lowJ _ b n) (first fun j => imgOv ov b j n) ((e _).trans (if_pos rfl)) fun j => ?_
  rw [e]
  split_ifs with h
  · rw [nat_le]
    exact first_le (fun j => imgOv ov b j n) j h
  · rw [show ((8 : ℝ)) = ((8 : ℕ) : ℝ) by norm_num, nat_le]
    have := (first fun j => imgOv ov b j n).isLt
    omega

theorem given_iff (b : Fin 128) (n : Fin 8732) : cmpf (F := Ideal) (φ := .f32) .oge (lastR ov) (fill2 0x00000000#32) (ix2 b n) = 1#1 ↔ isGiven (imgOv ov b) n := by
  classical
  rw [oge_at, fill2_at, f_zero, lastR_at]
  by_cases h : isGiven (imgOv ov b) n
  · rw [if_pos h]
    refine ⟨fun _ => h, fun _ => ?_⟩
    rw [show (0 : EReal) = ((0 : ℝ) : EReal) from rfl, EReal.coe_le_coe_iff]
    exact Nat.cast_nonneg _
  · rw [if_neg h]
    refine ⟨fun q => ?_, fun q => absurd q h⟩
    rw [show (0 : EReal) = ((0 : ℝ) : EReal) from rfl, EReal.coe_le_coe_iff] at q
    norm_num at q

theorem chosenR_at (b : Fin 128) (j : Fin 8) (n : Fin 8732) : chosenR ov (ix3 b j n) = 1#1 ↔ objOf (imgOv ov b) n = j := by
  classical
  have e : select (cmpf (F := Ideal) (φ := .f32) .oge (lastR ov) (fill2 0x00000000#32)) (lastR ov) (bestR ov) (ix2 b n) = (((objOf (imgOv ov b) n).val : ℝ) : EReal) := by
    rw [sel_at]
    by_cases h : isGiven (imgOv ov b) n
    · rw [if_pos ((given_iff ov b n).mpr h), lastR_at, if_pos h]
    · rw [if_neg fun q => h ((given_iff ov b n).mp q), bestR_at, objOf_free _ n h]
  unfold chosenR
  rw [oeq_at, upI_at, e, numO_at, nat_eq]
  exact ⟨fun h => Fin.ext h, fun h => congrArg Fin.val h⟩

open Classical in
theorem thereR_at (b : Fin 128) (j : Fin 8) : thereR ov (ix2 b j) = if isThere (imgOv ov b) j then 1 else 0 := by
  have e : ∀ n, select (chosenR ov) (fill3 0x3F800000#32) (fill3 0x00000000#32) (ix3 b j n) = if objOf (imgOv ov b) n = j then (1 : EReal) else 0 := by
    intro n
    rw [sel_at, fill3_at, fill3_at, f_one, f_zero]
    exact if_congr (chosenR_at ov b j n) rfl rfl
  by_cases h : isThere (imgOv ov b) j
  · rw [if_pos h]
    obtain ⟨n, hn⟩ := h
    refine eq_greatest _ _ _ (topN_le _ b j) n ((e n).trans (if_pos hn)) fun k => ?_
    rw [e]
    split_ifs
    · exact le_refl _
    · exact zero_le_one
  · rw [if_neg h]
    exact eq_greatest _ _ _ (topN_le _ b j) 0 ((e 0).trans (if_neg fun q => h ⟨0, q⟩)) fun n => le_of_eq ((e n).trans (if_neg fun q => h ⟨n, q⟩))

theorem posM_sel (b : Fin 128) (n : Fin 8732) : posM ov (ix2 b n) = if ovlOf (imgOv ov b) n < ((1 / 2 : ℝ) : EReal) then 0
    else pad S128x8732 ![0, 0] ![0, 8724] ![0, 0] (thereR ov) (sitofp (F := Ideal) .f32 (constantI S_ 32 0#32)) pads_S128x8_S128x8732_000_087240 h_S_ (ix2 b n) := by
  classical
  have e : select (cmpf (F := Ideal) (φ := .f32) .oge (lastR ov) (fill2 0x00000000#32)) (fill2 0x3F800000#32) (topJ ov) (ix2 b n) = ovlOf (imgOv ov b) n := by
    unfold ovlOf
    rw [sel_at, fill2_at 0x3F800000#32, f_one, topJ_ov]
    exact if_congr (given_iff ov b n) rfl rfl
  unfold posM
  rw [sel_at, fill2_at 0x00000000#32 (ix2 b n), f_zero]
  refine if_congr ?_ rfl rfl
  rw [less_at, e, fill2_at, f_half]

open Classical in
theorem posM_at (b : Fin 128) (p : Fin 8) : posM ov (ix2 b (p.castLE (by decide))) = if isPos (imgOv ov b) p then 1 else 0 := by
  rw [posM_sel, pad_apply_of_inside _ _ _ _ _ _ _ _ (ix2 b p) fun a => by
    match a with
    | ⟨0, _⟩ => show b.val = 0 + b.val * (0 + 1); omega
    | ⟨1, _⟩ => show p.val = 0 + p.val * (0 + 1); omega, thereR_at]
  by_cases h : ((1 / 2 : ℝ) : EReal) ≤ ovlOf (imgOv ov b) (p.castLE (by decide))
  · rw [if_neg (not_lt.mpr h)]
    exact if_congr ⟨fun q => ⟨h, q⟩, fun q => q.2⟩ rfl rfl
  · rw [if_pos (not_le.mp h), if_neg fun q => h q.1]
theorem posM_out (b : Fin 128) (n : Fin 8732) (hn : 8 ≤ n.val) : posM ov (ix2 b n) = 0 := by
  rw [posM_sel, pad_apply_of_not_inside _ _ _ _ _ _ _ _ (1 : Fin 2) fun hh => by
    have h3 := hh.2.2
    have h4 : (n.val - 0) / (0 + 1) < 8 := h3
    omega]
  refine (ite_eq_left_iff.mpr fun _ => ?_)
  refine (sitofp_ofNat (n := 0) (by decide)).trans ?_
  rw [Nat.cast_zero, EReal.coe_zero]

/-- The sum over the priors. -/
def sumR (x : S128x8732.Idx → EReal) : S128.Idx → EReal :=
  Host.reduceAdd (F := Ideal) (φ := .f32) x (constant (F := Ideal) S_ .f32 0x00000000#32) reducesTo_S128x8732_S128_d1 h_S_
theorem sumR_at (x : S128x8732.Idx → EReal) (b : Fin 128) : sumR x (ix1 b) = ∑ n : Fin 8732, x (ix2 b n) := by
  refine (Ideal.hostReduceAdd_r2_a1 reducesTo_S128x8732_S128_d1 _ _ (ix1 b)).trans ?_
  exact (congrArg₂ (fun a s : EReal => a + s) f_zero (Finset.sum_congr rfl fun n _ => rfl)).trans (zero_add _)
theorem sum_weighted (x : S128x8732.Idx → EReal) (w : Fin 8 → EReal) (b : Fin 128) (h : ∀ p : Fin 8, x (ix2 b (p.castLE (by decide))) = w p) :
    sumR (mulf (F := Ideal) (φ := .f32) x (posM ov)) (ix1 b) = sumPos (imgOv ov b) w := by
  classical
  have e : ∀ n, mulf (F := Ideal) (φ := .f32) x (posM ov) (ix2 b n) = x (ix2 b n) * posM ov (ix2 b n) := fun n => mul_at _ _ _
  rw [sumR_at, sum_priors _ fun n hn => (e n).trans (by rw [posM_out ov b n hn, mul_zero])]
  unfold sumPos
  refine Finset.sum_congr rfl fun p _ => ?_
  rw [e, posM_at, h]
  split_ifs
  · exact mul_one _
  · exact mul_zero _
theorem sum_count (b : Fin 128) : sumR (posM ov) (ix1 b) = sumPos (imgOv ov b) fun _ => 1 := by
  rw [sumR_at, sum_priors _ fun n hn => posM_out ov b n hn]
  unfold sumPos
  exact Finset.sum_congr rfl fun p _ => posM_at ov b p

end matching

end Cert.Proof.Pair

end
-- ==== Proof.PairStat.lean ====
/- The statistics of the matching's reference over the extended reals, and its result. -/
module

public import proofs.«01_k».proof.Proof.PairRefer
public import proofs.«01_k».proof.Proof.Gen.MatchReferenceIdeal.Run

@[expose] public section

noncomputable section

namespace Cert.Proof.Pair

open Idealize.ShloMosaic hiding ix1 ix2 ix3
open Idealize.ShloMosaic.Tactic Idealize.SL.Sem
open Cert.MatchReferenceIdeal Cert.MatchReferenceIdeal.Gen Cert.Proof.Mine
open ValueIdx (ix1 ix2 ix3)

/-! ## The offsets -/

theorem slA : ∀ k : Fin 4, S128x8732x4.Slices ![0, 0, k.val] S128x8732x1 := by decide
def locCol (A : S128x8732x4.Idx → EReal) (k : Fin 4) : S128x8732.Idx → EReal :=
  shapeCast S128x8732 (extractStridedSlice S128x8732x1 ![0, 0, k.val] A (slA k)) shapeCasts_S128x8732x1_S128x8732
theorem locCol_at (A : S128x8732x4.Idx → EReal) (k : Fin 4) (b : Fin 128) (n : Fin 8732) : locCol A k (ix2 b n) = A (ix3 b n k) := by
  unfold locCol
  rw [shapeCast_apply _ _ (ix2 b n) (ix3 b n (0 : Fin 1)) (by
    rw [Shape.rowMajor_val_two, Shape.rowMajor_val_three]
    show (b.val * 8732 + n.val) * 1 + 0 = b.val * 8732 + n.val
    omega)]
  exact extractStridedSlice_apply _ _ _ (ix3 b n (0 : Fin 1)) (ix3 b n k) fun a => by
    match a with
    | ⟨0, _⟩ => exact (Nat.zero_add _).symm
    | ⟨1, _⟩ => exact (Nat.zero_add _).symm
    | ⟨2, _⟩ => rfl

/-- A coordinate of each prior's object. -/
def boxOf (ov : S128x8x8732.Idx → EReal) (B : S128x8x4.Idx → EReal) (k : Fin 4) : S128x8732.Idx → EReal :=
  Host.reduceAdd (F := Ideal) (φ := .f32) (select (chosenR ov) (upB (asB (boxCol B k))) (fill3 0x00000000#32)) (constant (F := Ideal) S_ .f32 0x00000000#32)
    reducesTo_S128x8x8732_S128x8732_d1 h_S_
theorem boxOf_at (ov : S128x8x8732.Idx → EReal) (B : S128x8x4.Idx → EReal) (k : Fin 4) (b : Fin 128) (n : Fin 8732) :
    boxOf ov B k (ix2 b n) = B (ix3 b (objOf (imgOv ov b) n) k) := by
  have e : ∀ j, select (chosenR ov) (upB (asB (boxCol B k))) (fill3 0x00000000#32) (ix3 b j n) = if objOf (imgOv ov b) n = j then B (ix3 b j k) else 0 := by
    intro j
    rw [sel_at, upB_at, asB_at, boxCol_at, fill3_at, f_zero]
    exact if_congr (chosenR_at ov b j n) rfl rfl
  unfold boxOf
  refine (Ideal.hostReduceAdd_r3_a1 reducesTo_S128x8x8732_S128x8732_d1 _ _ (ix2 b n)).trans ?_
  refine (congrArg₂ (fun a s : EReal => a + s) f_zero (Finset.sum_congr rfl fun j _ => e j)).trans ?_
  rw [zero_add, Finset.sum_ite_eq, if_pos (Finset.mem_univ _)]

def asRowP (y : S8732.Idx → EReal) : S1x8732.Idx → EReal := broadcastInDim S1x8732 ![1] bcast_S8732_S1x8732_1 y
def wideP (z : S1x8732.Idx → EReal) : S128x8732.Idx → EReal := broadcastInDim S128x8732 ![0, 1] bcast_S1x8732_S128x8732_0_1 z
theorem asRowP_at (y : S8732.Idx → EReal) (n : Fin 8732) : asRowP y (ix2 (0 : Fin 1) n) = y (ix1 n) := by
  unfold asRowP
  exact broadcastInDim_apply ![1] _ _ (ix2 (0 : Fin 1) n) (ix1 n) fun a => by
    match a with
    | ⟨0, _⟩ => rfl
theorem wideP_at (z : S1x8732.Idx → EReal) (b : Fin 128) (n : Fin 8732) : wideP z (ix2 b n) = z (ix2 (0 : Fin 1) n) := by
  unfold wideP
  exact broadcastInDim_apply ![0, 1] _ _ (ix2 b n) (ix2 (0 : Fin 1) n) fun a => by
    match a with
    | ⟨0, _⟩ => rfl
    | ⟨1, _⟩ => rfl

/-- How far the location's centre lies, and its size. -/
def farR (ov : S128x8x8732.Idx → EReal) (A : S128x8732x4.Idx → EReal) (B : S128x8x4.Idx → EReal) (Q : S8732x4.Idx → EReal) (k k' : Fin 4) : S128x8732.Idx → EReal :=
  Host.absf (F := Ideal) (φ := .f32) (subf (F := Ideal) (φ := .f32) (locCol A k) (Host.divf (F := Ideal) (φ := .f32)
    (subf (F := Ideal) (φ := .f32) (boxOf ov B k) (wideP (asRowP (priCol Q k))))
    (wideP (Host.divf (F := Ideal) (φ := .f32) (asRowP (priCol Q k')) (broadcastInDim S1x8732 ![] bcast_S_S1x8732 (constant (F := Ideal) S_ .f32 0x41200000#32))))))
def sizeR (ov : S128x8x8732.Idx → EReal) (A : S128x8732x4.Idx → EReal) (B : S128x8x4.Idx → EReal) (Q : S8732x4.Idx → EReal) (k : Fin 4) : S128x8732.Idx → EReal :=
  Host.absf (F := Ideal) (φ := .f32) (subf (F := Ideal) (φ := .f32) (locCol A k) (mulf (F := Ideal) (φ := .f32) (Host.log (F := Ideal) (φ := .f32)
    (Host.divf (F := Ideal) (φ := .f32) (boxOf ov B k) (wideP (asRowP (priCol Q k))))) (fill2 0x40A00000#32)))
def offR (ov : S128x8x8732.Idx → EReal) (A : S128x8732x4.Idx → EReal) (B : S128x8x4.Idx → EReal) (Q : S8732x4.Idx → EReal) : S128x8732.Idx → EReal :=
  addf (F := Ideal) (φ := .f32) (addf (F := Ideal) (φ := .f32) (addf (F := Ideal) (φ := .f32) (farR ov A B Q 0 2) (farR ov A B Q 1 3)) (sizeR ov A B Q 2)) (sizeR ov A B Q 3)

theorem abs_at {s : Shape} (a : s.Idx → EReal) (i : s.Idx) : Host.absf (F := Ideal) (φ := .f32) a i = absE (a i) := rfl
theorem add_at {s : Shape} (a b : s.Idx → EReal) (i : s.Idx) : addf (F := Ideal) (φ := .f32) a b i = a i + b i := rfl
theorem ten_at (i : S1x8732.Idx) : broadcastInDim S1x8732 ![] bcast_S_S1x8732 (constant (F := Ideal) S_ .f32 0x41200000#32) i = Ideal.ofBits .f32 0x41200000#32 := rfl

theorem farR_at (ov : S128x8x8732.Idx → EReal) (A : S128x8732x4.Idx → EReal) (B : S128x8x4.Idx → EReal) (Q : S8732x4.Idx → EReal) (k k' : Fin 4) (b : Fin 128) (n : Fin 8732) :
    farR ov A B Q k k' (ix2 b n) = absE (A (ix3 b n k) - Ideal.div (B (ix3 b (objOf (imgOv ov b) n) k) - Q (ix2 n k)) (Ideal.div (Q (ix2 n k')) ((10 : ℝ) : EReal))) := by
  unfold farR
  rw [abs_at, sub_at, div_at, sub_at, wideP_at, wideP_at, div_at, asRowP_at, asRowP_at, priCol_at, priCol_at, boxOf_at, locCol_at, ten_at, f_ten]
theorem sizeR_at (ov : S128x8x8732.Idx → EReal) (A : S128x8732x4.Idx → EReal) (B : S128x8x4.Idx → EReal) (Q : S8732x4.Idx → EReal) (k : Fin 4) (b : Fin 128) (n : Fin 8732) :
    sizeR ov A B Q k (ix2 b n) = absE (A (ix3 b n k) - Ideal.log (Ideal.div (B (ix3 b (objOf (imgOv ov b) n) k)) (Q (ix2 n k))) * ((5 : ℝ) : EReal)) := by
  unfold sizeR
  rw [abs_at, sub_at, mul_at, log_at, div_at, wideP_at, asRowP_at, priCol_at, boxOf_at, locCol_at, fill2_at, f_five]
theorem offR_at (ov : S128x8x8732.Idx → EReal) (A : S128x8732x4.Idx → EReal) (B : S128x8x4.Idx → EReal) (Q : S8732x4.Idx → EReal) (b : Fin 128) (n : Fin 8732) :
    offR ov A B Q (ix2 b n) = offE (fun k => Q (ix2 n k)) (fun k => B (ix3 b (objOf (imgOv ov b) n) k)) (fun k => A (ix3 b n k)) := by
  unfold offR
  rw [add_at, add_at, add_at, farR_at, farR_at, sizeR_at, sizeR_at]
  rfl

/-! ## The losses -/

/-- The second score of every prior. -/
def secondOf (Z : S128x8732x2.Idx → EReal) : S128x8732.Idx → EReal :=
  shapeCast S128x8732 (extractStridedSlice S128x8732x1 ![0, 0, 1] Z slices_S128x8732x2_S128x8732x1_0_0_1) shapeCasts_S128x8732x1_S128x8732
theorem secondOf_at (Z : S128x8732x2.Idx → EReal) (b : Fin 128) (n : Fin 8732) : secondOf Z (ix2 b n) = Z (ix3 b n (1 : Fin 2)) := by
  unfold secondOf
  rw [shapeCast_apply _ _ (ix2 b n) (ix3 b n (0 : Fin 1)) (by
    rw [Shape.rowMajor_val_two, Shape.rowMajor_val_three]
    show (b.val * 8732 + n.val) * 1 + 0 = b.val * 8732 + n.val
    omega)]
  exact extractStridedSlice_apply _ _ _ (ix3 b n (0 : Fin 1)) (ix3 b n (1 : Fin 2)) fun a => by
    match a with
    | ⟨0, _⟩ => exact (Nat.zero_add _).symm
    | ⟨1, _⟩ => exact (Nat.zero_add _).symm
    | ⟨2, _⟩ => rfl

/-- The reference's loss of every prior as a positive. -/
def lossP (X : S128x8732x2.Idx → EReal) : S128x8732.Idx → EReal :=
  Host.negf (F := Ideal) (φ := .f32) (secondOf (subf (F := Ideal) (φ := .f32) (lessTop X) (bothLog (sumExp (lessTop X)))))
theorem lossP_at (X : S128x8732x2.Idx → EReal) (hX : ∀ i, X i ≠ ⊤ ∧ X i ≠ ⊥) (b : Fin 128) (n : Fin 8732) :
    lossP X (ix2 b n) = confE fun k => X (ix3 b n k) := by
  obtain ⟨m, hm⟩ := topR_real X hX b n
  have hl : ∀ k : Fin 2, lessTop X (ix3 b n k) = (((X (ix3 b n k)).toReal : ℝ) : EReal) - (m : EReal) := by
    intro k
    unfold lessTop
    rw [sub_at, both_at, hm, EReal.coe_toReal (hX _).1 (hX _).2]
  have e : confE (fun k => X (ix3 b n k)) = ((soft ((X (ix3 b n (0 : Fin 2))).toReal - (X (ix3 b n (1 : Fin 2))).toReal) : ℝ) : EReal) := by
    rw [← conf_kernel, EReal.coe_toReal (hX _).1 (hX _).2, EReal.coe_toReal (hX _).1 (hX _).2]
    rfl
  unfold lossP
  rw [neg_at, secondOf_at, sub_at, bothLog_at, sumExp_at, hl, hl, e, add_comm (Ideal.exp _)]
  exact soft_reference _ _ m

/-! ## The words -/

/-- The powers of two. -/
def pow2 : S1x8.Idx → EReal := fun i => FloatOps.ofBits (F := Ideal) .f32 (lit0 (S1x8.rowMajor i))
theorem pow2_at (p : Fin 8) : pow2 (ix2 (0 : Fin 1) p) = ((2 ^ p.val : ℝ) : EReal) := powR_at p

/-- The word of every image. -/
def wordR (ov : S128x8x8732.Idx → EReal) : S128.Idx → EReal :=
  Host.reduceAdd (F := Ideal) (φ := .f32) (mulf (F := Ideal) (φ := .f32) (extractStridedSlice S128x8 ![0, 0] (posM ov) slices_S128x8732_S128x8_0_0)
    (broadcastInDim S128x8 ![0, 1] bcast_S1x8_S128x8_0_1 pow2)) (constant (F := Ideal) S_ .f32 0x00000000#32) reducesTo_S128x8_S128_d1 h_S_
theorem wordR_at (ov : S128x8x8732.Idx → EReal) (b : Fin 128) : wordR ov (ix1 b) = sumPos (imgOv ov b) fun p => ((2 ^ p.val : ℝ) : EReal) := by
  classical
  have e : ∀ p : Fin 8, mulf (F := Ideal) (φ := .f32) (extractStridedSlice S128x8 ![0, 0] (posM ov) slices_S128x8732_S128x8_0_0)
      (broadcastInDim S128x8 ![0, 1] bcast_S1x8_S128x8_0_1 pow2) (ix2 b p) = if isPos (imgOv ov b) p then ((2 ^ p.val : ℝ) : EReal) else 0 := by
    intro p
    rw [mul_at, broadcastInDim_apply ![0, 1] _ _ (ix2 b p) (ix2 (0 : Fin 1) p) (fun a => by
      match a with
      | ⟨0, _⟩ => rfl
      | ⟨1, _⟩ => rfl), pow2_at, extractStridedSlice_apply _ _ _ (ix2 b p) (ix2 b (p.castLE (by decide) : Fin 8732)) (fun a => by
      match a with
      | ⟨0, _⟩ => exact (Nat.zero_add _).symm
      | ⟨1, _⟩ => exact (Nat.zero_add _).symm), posM_at]
    split_ifs
    · exact one_mul _
    · exact zero_mul _
  unfold wordR
  refine (Ideal.hostReduceAdd_r2_a1 reducesTo_S128x8_S128_d1 _ _ (ix1 b)).trans ?_
  exact (congrArg₂ (fun a s : EReal => a + s) f_zero (Finset.sum_congr rfl fun p _ => e p)).trans (zero_add _)

/-! ## The result -/

/-- A number of every image as a column. -/
def asCol (y : S128.Idx → EReal) : S128x1.Idx → EReal := broadcastInDim S128x1 ![0] bcast_S128_S128x1_0 y
theorem asCol_img (y : S128.Idx → EReal) (b : Fin 128) : asCol y (ix2 b (0 : Fin 1)) = y (ix1 b) := by
  unfold asCol
  exact broadcastInDim_apply ![0] _ _ (ix2 b (0 : Fin 1)) (ix1 b) fun a => by
    match a with
    | ⟨0, _⟩ => rfl

/-- Four columns side by side. -/
def fourR (y0 y1 y2 y3 : S128.Idx → EReal) : S128x4.Idx → EReal :=
  concatenate S128x4 1 [⟨S128x1, asCol y0⟩, ⟨S128x1, asCol y1⟩, ⟨S128x1, asCol y2⟩, ⟨S128x1, asCol y3⟩] concatenates_S128x1_S128x1_S128x1_S128x1_S128x4_d1
theorem fourR_at (y0 y1 y2 y3 : S128.Idx → EReal) (b : Fin 128) (c : Fin 4) : fourR y0 y1 y2 y3 (ix2 b c) = (![y0, y1, y2, y3] : Fin 4 → S128.Idx → EReal) c (ix1 b) := by
  refine Eq.trans ?_ (asCol_img _ b)
  unfold fourR
  refine concatenate_apply_piece _ _ _ (ix2 b c) c.val (by show c.val < 4; exact c.isLt) S128x1 (asCol ((![y0, y1, y2, y3] : Fin 4 → S128.Idx → EReal) c)) ?_ rfl c.val ?_ (ix2 b (0 : Fin 1)) ?_ rfl
  · fin_cases c <;> rfl
  · fin_cases c <;> rfl
  · intro a ha
    match a, ha with
    | ⟨0, _⟩, _ => rfl
    | ⟨1, _⟩, ha => exact absurd rfl ha

/-- The reference's result. -/
def resultR (A : S128x8732x4.Idx → EReal) (X : S128x8732x2.Idx → EReal) (B : S128x8x4.Idx → EReal) (Q : S8732x4.Idx → EReal) : S128x128.Idx → EReal :=
  pad S128x128 ![0, 0] ![0, 124] ![0, 0]
    (fourR (sumR (posM (ovR B Q))) (sumR (mulf (F := Ideal) (φ := .f32) (offR (ovR B Q) A B Q) (posM (ovR B Q)))) (sumR (mulf (F := Ideal) (φ := .f32) (lossP X) (posM (ovR B Q)))) (wordR (ovR B Q)))
    (sitofp (F := Ideal) .f32 (constantI S_ 32 0#32)) pads_S128x4_S128x128_000_01240 h_S_

/-- THE REFERENCE'S RESULT, READ: its first four columns are the images' statistics, the others zero. -/
theorem resultR_at (A : S128x8732x4.Idx → EReal) (X : S128x8732x2.Idx → EReal) (hX : ∀ i, X i ≠ ⊤ ∧ X i ≠ ⊥) (B : S128x8x4.Idx → EReal) (Q : S8732x4.Idx → EReal) (b c : Fin 128) :
    resultR A X B Q (ix2 b c) = if h : c.val < 4 then statE (fun n k => Q (ix2 n k)) (fun j k => B (ix3 b j k)) (fun p k => A (ix3 b (p.castLE (by decide)) k))
      (fun p k => X (ix3 b (p.castLE (by decide)) k)) ⟨c.val, h⟩ else 0 := by
  have ho : imgOv (ovR B Q) b = fun j n => ovE (fun k => Q (ix2 n k)) (fun k => B (ix3 b j k)) := funext fun j => funext fun n => ovR_at B Q b j n
  unfold resultR
  by_cases h : c.val < 4
  · rw [dif_pos h, pad_apply_of_inside _ _ _ _ _ _ _ _ (ix2 b (⟨c.val, h⟩ : Fin 4)) fun a => by
      match a with
      | ⟨0, _⟩ => show b.val = 0 + b.val * (0 + 1); omega
      | ⟨1, _⟩ => show c.val = 0 + c.val * (0 + 1); omega, fourR_at]
    generalize (⟨c.val, h⟩ : Fin 4) = d
    unfold statE
    match d with
    | 0 => exact (sum_count _ b).trans (by rw [ho]; rfl)
    | 1 => exact (sum_weighted _ _ _ b fun p => offR_at _ A B Q b _).trans (by rw [ho]; rfl)
    | 2 => exact (sum_weighted _ _ _ b fun p => lossP_at X hX b _).trans (by rw [ho]; rfl)
    | 3 => exact (wordR_at _ b).trans (by rw [ho]; rfl)
  · rw [dif_neg h, pad_apply_of_not_inside _ _ _ _ _ _ _ _ (1 : Fin 2) fun hh => by
      have h3 := hh.2.2
      have h4 : (c.val - 0) / (0 + 1) < 4 := h3
      omega]
    refine (sitofp_ofNat (n := 0) (by decide)).trans ?_
    rw [Nat.cast_zero, EReal.coe_zero]

set_option maxHeartbeats 100000000 in
set_option maxRecDepth 100000 in
/-- THE REFERENCE'S RUN: it ends with that result, its arguments unchanged. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v208) = resultR (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Cert.MatchReferenceIdeal.Value.run (F := Ideal) m ρ)
  sl_kernel_rfl

end Cert.Proof.Pair

end
-- ==== Proof.PairClaims.lean ====
/- The matching's frames, and what its precondition says. -/
module

public import proofs.«01_k».proof.Defs
public import proofs.«01_k».proof.Proof.PairStat
public import proofs.«01_k».proof.Proof.Equal
public import proofs.«01_k».proof.Proof.Gen.Match
public import proofs.«01_k».proof.Proof.Gen.Match.Frame
public import proofs.«01_k».proof.Proof.Gen.MatchIdeal
public import proofs.«01_k».proof.Proof.Gen.MatchIdeal.Frame
public import Idealize.ShloMosaic.Lib.Tactic

@[expose] public section

noncomputable section

namespace Cert.Proof.Pair

open Idealize.ShloMosaic hiding ix1 ix2 ix3
open Idealize.SL.Sem Idealize.ShloMosaic.Tactic
open Cert.Proof.Mine
open ValueIdx (ix1 ix2 ix3)

/-- The side conditions of the precondition's operations. -/
theorem proper_facts : Cert.Pre_proper.Facts where
  bcast_S_S128x8732x2 := by decide
  reducesTo_S128x8732x2_S_d0_1_2 := by decide
  h_S_ := by decide
  slices_S128x8x4_S128x8x1_0_0_0 := by decide
  shapeCasts_S128x8x1_S128x8 := Cert.MatchReferenceIdeal.Gen.shapeCasts_S128x8x1_S128x8
  slices_S128x8x4_S128x8x1_0_0_1 := by decide
  slices_S128x8x4_S128x8x1_0_0_2 := by decide
  slices_S128x8x4_S128x8x1_0_0_3 := by decide
  bcast_S_S128x8 := by decide
  bcast_S128x8_S128x8x1_0_1 := by decide
  slices_S8732x4_S8732x1_0_0 := by decide
  shapeCasts_S8732x1_S8732 := Cert.MatchReferenceIdeal.Gen.shapeCasts_S8732x1_S8732
  slices_S8732x4_S8732x1_0_1 := by decide
  slices_S8732x4_S8732x1_0_2 := by decide
  slices_S8732x4_S8732x1_0_3 := by decide
  bcast_S_S8732 := by decide
  bcast_S8732_S1x1x8732_2 := by decide
  bcast_S128x8x1_S128x8x8732_0_1_2 := by decide
  bcast_S1x1x8732_S128x8x8732_0_1_2 := by decide
  bcast_S_S128x8x8732 := by decide
  reducesTo_S128x8x8732_S_d0_1_2 := by decide

/-- Whether all overlaps are above minus one. -/
def preOver (B : Cert.MatchReferenceIdeal.S128x8x4.Idx → EReal) (Q : Cert.MatchReferenceIdeal.S8732x4.Idx → EReal) : Cert.Pre_proper.S_.Idx → BitVec 1 :=
  Host.reduce IntOp.andi (cmpf (F := Ideal) (φ := .f32) .ogt (ovR B Q) (fill3 0xBF800000#32))
    (constantI Cert.Pre_proper.S_ 1 1#1) proper_facts.reducesTo_S128x8x8732_S_d0_1_2 proper_facts.h_S_

set_option maxRecDepth 100000 in
/-- THE PRECONDITION, as the two together. -/
theorem proper_eq (A : Cert.MatchReferenceIdeal.S128x8732x4.Idx → EReal) (X : Cert.MatchReferenceIdeal.S128x8732x2.Idx → EReal)
    (B : Cert.MatchReferenceIdeal.S128x8x4.Idx → EReal) (Q : Cert.MatchReferenceIdeal.S8732x4.Idx → EReal) :
    @Cert.Pre_proper.fn proper_facts Ideal _ A X B Q = andi (preFinite X) (preOver B Q) := by sl_kernel_rfl

/-- The precondition says that all scores are finite, and that all overlaps are above minus one. -/
theorem proper_of (A : Cert.MatchReferenceIdeal.S128x8732x4.Idx → EReal) (X : Cert.MatchReferenceIdeal.S128x8732x2.Idx → EReal)
    (B : Cert.MatchReferenceIdeal.S128x8x4.Idx → EReal) (Q : Cert.MatchReferenceIdeal.S8732x4.Idx → EReal)
    (h : @Cert.Pre_proper.fn proper_facts Ideal _ A X B Q = fun _ => 1#1) :
    (∀ i, X i ≠ ⊤ ∧ X i ≠ ⊥) ∧ ∀ b j n, ((-1 : ℝ) : EReal) < ovE (fun k => Q (ix2 n k)) (fun k => B (ix3 b j k)) := by
  rw [proper_eq] at h
  have h2 : ∀ p q : BitVec 1, p &&& q = 1#1 → p = 1#1 ∧ q = 1#1 := by decide
  have h3 : ∀ i, preFinite X i = 1#1 ∧ preOver B Q i = 1#1 := fun i => h2 _ _ (congrFun h i)
  refine ⟨finite_of X (funext fun i => (h3 i).1), fun b j n => ?_⟩
  have h4 := reduce_and _ _ proper_facts.reducesTo_S128x8x8732_S_d0_1_2 proper_facts.h_S_ (funext fun i => (h3 i).2) (ix3 b j n)
  have h5 : Ideal.cmp .ogt (ovR B Q (ix3 b j n)) (fill3 0xBF800000#32 (ix3 b j n)) = 1#1 := h4
  have h6 := ogt_lt h5
  rw [ovR_at, fill3_at, f_minus] at h6
  exact h6

/-! ## The frames -/

/-- The matching over bit patterns ends, its arguments unchanged and every counter at zero. -/
theorem frame_match : Cert.quiescent_Match := fun m ρ _ => Cert.Match.Gen.frame (F := Bits) m ρ

/-- The matching over the extended reals ends, its arguments unchanged and every counter at zero. -/
theorem frame_match_ideal : Cert.quiescent_MatchIdeal := fun m ρ _ => Cert.MatchIdeal.Gen.frame (F := Ideal) m ρ

/-- The same under the precondition. -/
theorem frame_match_proper : @Cert.quiescent_MatchIdeal_pre_proper Cert.MatchIdeal.Gen.facts proper_facts :=
  fun m ρ _ => Cert.MatchIdeal.Gen.frame (F := Ideal) m ρ

/-- The matching's reference ends, its arguments unchanged and every counter at zero. -/
theorem frame_match_reference : Cert.quiescent_MatchReferenceIdeal := fun m ρ _ =>
  (θ_run Cert.MatchReferenceIdeal.defs _ _).mono (fun r h => ⟨fun c => (h c).2, sem_eq_zero_of_no_sems (by decide) r.2⟩)
    (Cert.MatchReferenceIdeal.Value.run (F := Ideal) m ρ)

/-- The same under the precondition. -/
theorem frame_match_reference_proper : @Cert.quiescent_MatchReferenceIdeal_pre_proper Cert.MatchReferenceIdeal.Gen.facts proper_facts :=
  fun m ρ _ => frame_match_reference m ρ trivial

/-- The idealized matching is the matching's own text. -/
theorem preserves_match : Cert.preserves_Match_MatchIdeal := trivial

end Cert.Proof.Pair

end
-- ==== Proof.PairEqual.lean ====
/- The matching's result is its reference's: on finite scores, with all overlaps above minus one, both programs
   end with the same statistics of every image. -/
module

public import proofs.«01_k».proof.Proof.PairBlock
public import proofs.«01_k».proof.Proof.PairClaims

@[expose] public section

noncomputable section

namespace Cert.Proof.Pair

open Idealize.ShloMosaic hiding ix1 ix2 ix3
open Idealize.SL.Sem Idealize.ShloMosaic.TcCoe
open Cert.MatchIdeal Cert.MatchIdeal.Gen Cert.Proof.Mine
open ValueIdx (ix1 ix2 ix3)

variable (m : (ℓ : Loc nD τ sig) → Buf (Elt Ideal) ℓ)

/-- An entry of the call's result is the statistic of its image, or nothing. -/
theorem entry_at (c : Dev nD)
    (hov : ∀ (b : Fin 128) (j : Fin 8) (n : Fin 8732), ((-1 : ℝ) : EReal) < ovE (fun k => m ((c : Thread nD τ).loc main_arg3) (ix2 n k)) (fun k => m ((c : Thread nD τ).loc main_arg2) (ix3 b j k)))
    (t : Fin cfg0.N) (g : Fin 16) (l : Fin 128) :
    ((dats m 0 c).arrAt 5 cfg0.N : S128x128.Idx → EReal) (ix2 (imgOf t g) l)
      = if h : l.val < 4 then statE (fun n k => m ((c : Thread nD τ).loc main_arg3) (ix2 n k)) (fun j k => m ((c : Thread nD τ).loc main_arg2) (ix3 (imgOf t g) j k))
          (fun p k => m ((c : Thread nD τ).loc main_arg0) (ix3 (imgOf t g) (p.castLE (by decide) : Fin 8732) k))
          (fun p k => m ((c : Thread nD τ).loc main_arg1) (ix3 (imgOf t g) (p.castLE (by decide) : Fin 8732) k)) ⟨l.val, h⟩ else 0 := by
  have hP : ∀ (n : Fin 8732) (k : Fin 4), readP (ms0_0 t) (hs0_0 t) (iblk m c 0 t) k (place n) = m ((c : Thread nD τ).loc main_arg3) (ix2 n k) := fun n k =>
    ((readP_at _ _ _ k _ _).trans (blk0 m c t k _ _)).trans (V_v5_at m c n k)
  have hq : ∀ (p : Fin 8) (k : Fin 4), readQ (ms0_1 t) (hs0_1 t) (iblk m c 1 t) p k = m ((c : Thread nD τ).loc main_arg3) (ix2 (prior p) k) := fun p k =>
    ((readQ_at _ _ _ p k).trans (blk1 m c t p k)).trans (V_v6_at m c p k)
  have hb : readB (ms0_2 t) (hs0_2 t) (iblk m c 2 t) g = fun j k => m ((c : Thread nD τ).loc main_arg2) (ix3 (imgOf t g) j k) := funext fun j => funext fun k =>
    ((readB_at _ _ _ g j k).trans (blk2 m c t g j k)).trans (congrFun (V_main_arg2 m c) _)
  have hl : readB (ms0_3 t) (hs0_3 t) (iblk m c 3 t) g = fun p k => m ((c : Thread nD τ).loc main_arg0) (ix3 (imgOf t g) (p.castLE (by decide) : Fin 8732) k) := funext fun p => funext fun k =>
    ((readB_at _ _ _ g p k).trans (blk3 m c t g p k)).trans (V_v7_at m c _ p k)
  have hs : readS (ms0_4 t) (hs0_4 t) (iblk m c 4 t) g = fun p k => m ((c : Thread nD τ).loc main_arg1) (ix3 (imgOf t g) (p.castLE (by decide) : Fin 8732) k) := funext fun p => funext fun k =>
    ((readS_at _ _ _ g p k).trans (blk4 m c t g p k)).trans (V_v8_at m c _ p k)
  rw [result_at, block_at _ _ _ _ _ (fun n k => m ((c : Thread nD τ).loc main_arg3) (ix2 n k)) hP hq g (fun j n => by rw [hb]; exact hov (imgOf t g) j n) l, hb, hl, hs]

/-- THE CALL'S RESULT IS THE REFERENCE'S. -/
theorem result_eq (c : Dev nD) (hX : ∀ i, m ((c : Thread nD τ).loc main_arg1) i ≠ (⊤ : EReal) ∧ m ((c : Thread nD τ).loc main_arg1) i ≠ (⊥ : EReal))
    (hov : ∀ (b : Fin 128) (j : Fin 8) (n : Fin 8732), ((-1 : ℝ) : EReal) < ovE (fun k => m ((c : Thread nD τ).loc main_arg3) (ix2 n k)) (fun k => m ((c : Thread nD τ).loc main_arg2) (ix3 b j k))) :
    (dats m 0 c).arrAt 5 cfg0.N = resultR (m ((c : Thread nD τ).loc main_arg0)) (m ((c : Thread nD τ).loc main_arg1)) (m ((c : Thread nD τ).loc main_arg2)) (m ((c : Thread nD τ).loc main_arg3)) := by
  funext i
  have ei : ∀ i : S128x128.Idx, i = ix2 (imgOf ⟨(i 0).val / 16, by have h := (i 0).isLt; show _ < 8; have h' : (i 0).val < 128 := h; omega⟩ ⟨(i 0).val % 16, by omega⟩) (i 1) := fun i => funext fun a => by
    match a with
    | ⟨0, _⟩ => exact Fin.ext (by show (i 0).val = 16 * ((i 0).val / 16) + (i 0).val % 16; omega)
    | ⟨1, _⟩ => rfl
  rw [ei i]
  exact (entry_at m c hov _ _ _).trans (resultR_at _ _ hX _ _ _ _).symm

/-- THE MATCHING COMPUTES ITS REFERENCE. -/
theorem algebraic_match : @Cert.algebraic_MatchIdeal_MatchReferenceIdeal_pre_proper Cert.MatchIdeal.Gen.facts Cert.MatchReferenceIdeal.Gen.facts proper_facts := by
  intro m ρ m' ρ' hpre hm
  refine ⟨fun c => resultR (m ((c.tc : Thread nD τ).loc main_arg0)) (m ((c.tc : Thread nD τ).loc main_arg1)) (m ((c.tc : Thread nD τ).loc main_arg2)) (m ((c.tc : Thread nD τ).loc main_arg3)), ?_, ?_⟩
  · refine (θ_run (defs (F := Ideal)) _ _).mono (fun r h c => ⟨(h c).1.trans ?_, (h c).2⟩) (Cert.MatchIdeal.Value.run_blocks (F := Ideal) m ρ)
    have hp := proper_of _ _ _ _ (hpre c)
    exact result_eq m c hp.1 hp.2
  · refine (θ_run (Cert.MatchReferenceIdeal.defs (F := Ideal)) _ _).mono (fun r h c => ⟨(h c).1.trans ?_, (h c).2⟩) (run_reference m' ρ')
    rw [(hm c).1, (hm c).2.1, (hm c).2.2.1, (hm c).2.2.2]

end Cert.Proof.Pair

end
-- ==== Proof.lean ====
/- The claim, from the programs' runs. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.Match
public import proofs.«01_k».proof.Proof.Gen.Match.Skeleton
public import proofs.«01_k».proof.Proof.Gen.Match.Frame
public import proofs.«01_k».proof.Proof.Gen.MatchIdeal
public import proofs.«01_k».proof.Proof.Gen.MatchIdeal.Skeleton
public import proofs.«01_k».proof.Proof.Gen.MatchIdeal.Frame
public import proofs.«01_k».proof.Proof.Gen.MatchIdeal.Value
public import proofs.«01_k».proof.Proof.Gen.MatchReferenceIdeal.Run
public import proofs.«01_k».proof.Proof.Equal
public import proofs.«01_k».proof.Proof.PairEqual
public import Idealize.ShloMosaic.Adequacy
public import Idealize.ShloMosaic.Init

@[expose] public section

noncomputable section

namespace Cert.Proof

open Idealize.ShloMosaic Idealize.SL.Sem Cert.Kernel

/-- What is certified, put together. -/
theorem claim : Cert.Claim := ⟨Cert.Kernel.Gen.facts, Cert.KernelIdeal.Gen.facts, Cert.ReferenceIdeal.Gen.facts,
  Cert.Match.Gen.facts, Cert.MatchIdeal.Gen.facts, Cert.MatchReferenceIdeal.Gen.facts, Mine.ranked_facts, Pair.proper_facts,
  Mine.frame_kernel, Mine.frame_ideal, Mine.frame_ideal_ranked, Mine.frame_reference, Mine.frame_reference_ranked,
  Pair.frame_match, Pair.frame_match_ideal, Pair.frame_match_proper, Pair.frame_match_reference, Pair.frame_match_reference_proper,
  Mine.preserves, Mine.algebraic, Pair.preserves_match, Pair.algebraic_match⟩

end Cert.Proof

end
